-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_planned : Cert.Pre_planned.Facts] (m : (ℓ : Loc Cert.Kernel3.nD Cert.Kernel3.τ Cert.Kernel3.sig) → Buf (Elt Bits) ℓ) : Prop :=
  ∀ c : Dev Cert.Kernel3.nD,
    (Cert.Pre_planned.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_planned : Cert.Pre_planned.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_planned.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_planned [hPre_planned : Cert.Pre_planned.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_planned.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] [hPre_planned : Cert.Pre_planned.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_planned : Cert.Pre_planned.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_planned [hReference3Ideal : Cert.Reference3Ideal.Facts] [hPre_planned : Cert.Pre_planned.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_planned m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  IdealRules.named_const.Statement Cert.KernelIdeal.κ "decay0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "decay1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "decay2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "decay3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] [hPre_planned : Cert.Pre_planned.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v109) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_planned : Cert.Pre_planned.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_planned := hPre_planned)
    ∧ quiescent_Kernel3Ideal (hKernel3Ideal := hKernel3Ideal) (hPre_planned := hPre_planned)
    ∧ quiescent_Reference3Ideal (hReference3Ideal := hReference3Ideal)
    ∧ quiescent_Reference3Ideal_pre_planned (hReference3Ideal := hReference3Ideal) (hPre_planned := hPre_planned)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_planned := hPre_planned)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S32768x6144 : Shape := ⟨2, ![32768, 6144]⟩
abbrev S_ : Shape := ⟨0, ![]⟩

class Facts : Prop where
  bitsLt_bf16_f32 : FTy.bits .bf16 < FTy.bits .f32
  bcast_S_S32768x6144 : S_.BroadcastsInDim S32768x6144 (![] : Fin 0 → Fin S32768x6144.rank)
  reducesTo_S32768x6144_S_d0_1 : S32768x6144.ReducesTo [0, 1] S_
  h_S_ : 0 < S_.numel

variable [Facts]

def fn {F : FTy → Type} [FloatOps F] (main_arg0 : FVec F S32768x6144 .bf16) : IVec S_ 1 :=
  let main_v0 : FVec F S32768x6144 .f32 := (extf .f32 · bitsLt_bf16_f32) main_arg0
  let main_v1 : FVec F S32768x6144 .f32 := Host.absf main_v0
  let main_cst : FVec F S_ .f32 := constant S_ .f32 0x7F800000#32
  let main_v2 : FVec F S32768x6144 .f32 := broadcastInDim S32768x6144 ![] bcast_S_S32768x6144 main_cst
  let main_v3 : IVec S32768x6144 1 := cmpf .olt main_v1 main_v2
  let main_c : IVec S_ 1 := constantI S_ 1 1#1
  let main_v4 : IVec S_ 1 := (fun x v => Host.reduce IntOp.andi x v reducesTo_S32768x6144_S_d0_1 h_S_) main_v3 main_c
  main_v4
-- ==== Pre_planned.lean ====
abbrev S4x288 : Shape := ⟨2, ![4, 288]⟩
abbrev S147456x1024 : Shape := ⟨2, ![147456, 1024]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S1x288 : Shape := ⟨2, ![1, 288]⟩
abbrev S288 : Shape := ⟨1, ![288]⟩
abbrev S_ : Shape := ⟨0, ![]⟩
abbrev S287 : Shape := ⟨1, ![287]⟩
abbrev S1 : Shape := ⟨1, ![1]⟩

class Facts : Prop where
  slices_S4x288_S1x288_0_0 : S4x288.Slices ![0, 0] S1x288
  shapeCasts_S1x288_S288 : S1x288.ShapeCasts S288
  slices_S4x288_S1x288_1_0 : S4x288.Slices ![1, 0] S1x288
  slices_S4x288_S1x288_2_0 : S4x288.Slices ![2, 0] S1x288
  slices_S4x288_S1x288_3_0 : S4x288.Slices ![3, 0] S1x288
  bcast_S_S288 : S_.BroadcastsInDim S288 (![] : Fin 0 → Fin S288.rank)
  slices_S288_S287_1 : S288.Slices ![1] S287
  slices_S288_S287_0 : S288.Slices ![0] S287
  bcast_S_S287 : S_.BroadcastsInDim S287 (![] : Fin 0 → Fin S287.rank)
  slices_S288_S1_287 : S288.Slices ![287] S1
  bcast_S_S1 : S_.BroadcastsInDim S1 (![] : Fin 0 → Fin S1.rank)
  reducesTo_S288_S_d0 : S288.ReducesTo [0] S_
  h_S_ : 0 < S_.numel
  reducesTo_S287_S_d0 : S287.ReducesTo [0] S_
  reducesTo_S1_S_d0 : S1.ReducesTo [0] S_

variable [Facts]

def fn_where {F : FTy → Type} [FloatOps F] (arg0 : IVec S287 1) (arg1 : IVec S287 1) (arg2 : IVec S287 1) : IVec S287 1 :=
  let v0 : IVec S287 1 := select arg0 arg1 arg2
  v0

def fn_part3 {F : FTy → Type} [FloatOps F] (main_v5 : IVec S288 32) (main_v26 : IVec S288 1) (main_v61 : IVec S287 1) (main_v62 : IVec S1 1) : IVec S_ 1 :=
  let main_v63 : IVec S1 1 := noti main_v62
  let main_v64 : IVec S1 32 := (extractStridedSlice S1 ![287] · slices_S288_S1_287) main_v5
  let main_c_8 : IVec S_ 32 := constantI S_ 32 4294967295#32
  let main_v65 : IVec S1 32 := broadcastInDim S1 ![] bcast_S_S1 main_c_8
  let main_v66 : IVec S1 1 := cmpi .eq main_v64 main_v65
  let main_v67 : IVec S1 1 := ori main_v63 main_v66
  let main_c_9 : IVec S_ 1 := constantI S_ 1 1#1
  let main_v68 : IVec S_ 1 := (fun x v => Host.reduce IntOp.andi x v reducesTo_S288_S_d0 h_S_) main_v26 main_c_9
  let main_c_10 : IVec S_ 1 := constantI S_ 1 1#1
  let main_v69 : IVec S_ 1 := (fun x v => Host.reduce IntOp.andi x v reducesTo_S287_S_d0 h_S_) main_v61 main_c_10
  let main_v70 : IVec S_ 1 := andi main_v68 main_v69
  let main_c_11 : IVec S_ 1 := constantI S_ 1 1#1
  let main_v71 : IVec S_ 1 := (fun x v => Host.reduce IntOp.andi x v reducesTo_S1_S_d0 h_S_) main_v67 main_c_11
  let main_v72 : IVec S_ 1 := andi main_v70 main_v71
  main_v72

def fn_part2 {F : FTy → Type} [FloatOps F] (main_v1 : IVec S288 32) (main_v5 : IVec S288 32) (main_v7 : IVec S288 32) (main_v9 : IVec S288 1) (main_v26 : IVec S288 1) (main_v37 : IVec S287 1) (main_v40 : IVec S287 1) : IVec S_ 1 :=
  let main_v41 : IVec S287 32 := (extractStridedSlice S287 ![1] · slices_S288_S287_1) main_v1
  let main_v42 : IVec S287 32 := (extractStridedSlice S287 ![0] · slices_S288_S287_0) main_v1
  let main_v43 : IVec S287 1 := cmpi .ne main_v41 main_v42
  let main_v44 : IVec S287 1 := andi main_v40 main_v43
  let main_v45 : IVec S287 32 := (extractStridedSlice S287 ![1] · slices_S288_S287_1) main_v7
  let main_v46 : IVec S287 32 := (extractStridedSlice S287 ![0] · slices_S288_S287_0) main_v7
  let main_c_6 : IVec S_ 32 := constantI S_ 32 1#32
  let main_v47 : IVec S287 32 := broadcastInDim S287 ![] bcast_S_S287 main_c_6
  let main_v48 : IVec S287 32 := subi main_v47 main_v46
  let main_v49 : IVec S287 1 := cmpi .eq main_v45 main_v48
  let main_v50 : IVec S287 1 := andi main_v44 main_v49
  let main_v51 : IVec S287 1 := (extractStridedSlice S287 ![1] · slices_S288_S287_1) main_v9
  let main_v52 : IVec S287 1 := (extractStridedSlice S287 ![0] · slices_S288_S287_0) main_v9
  let main_v53 : IVec S287 1 := ori main_v37 main_v50
  let main_v54 : IVec S287 1 := andi main_v52 main_v53
  let main_v55 : IVec S287 1 := (extractStridedSlice S287 ![0] · slices_S288_S287_0) main_v9
  let main_v56 : IVec S287 1 := noti main_v55
  let main_v57 : IVec S287 32 := (extractStridedSlice S287 ![0] · slices_S288_S287_0) main_v5
  let main_c_7 : IVec S_ 32 := constantI S_ 32 4294967295#32
  let main_v58 : IVec S287 32 := broadcastInDim S287 ![] bcast_S_S287 main_c_7
  let main_v59 : IVec S287 1 := cmpi .eq main_v57 main_v58
  let main_v60 : IVec S287 1 := ori main_v56 main_v59
  let main_v61 : IVec S287 1 := fn_where (F := F) main_v51 main_v54 main_v60
  let main_v62 : IVec S1 1 := (extractStridedSlice S1 ![287] · slices_S288_S1_287) main_v9
  fn_part3 (F := F) main_v5 main_v26 main_v61 main_v62

def fn_part1 {F : FTy → Type} [FloatOps F] (main_v1 : IVec S288 32) (main_v5 : IVec S288 32) (main_v7 : IVec S288 32) (main_v9 : IVec S288 1) (main_v17 : IVec S288 1) (main_v18 : IVec S288 32) : IVec S_ 1 :=
  let main_v19 : IVec S288 1 := cmpi .slt main_v5 main_v18
  let main_v20 : IVec S288 1 := andi main_v17 main_v19
  let main_c_4 : IVec S_ 32 := constantI S_ 32 0#32
  let main_v21 : IVec S288 32 := broadcastInDim S288 ![] bcast_S_S288 main_c_4
  let main_v22 : IVec S288 1 := cmpi .sge main_v7 main_v21
  let main_v23 : IVec S288 1 := andi main_v20 main_v22
  let main_c_5 : IVec S_ 32 := constantI S_ 32 1#32
  let main_v24 : IVec S288 32 := broadcastInDim S288 ![] bcast_S_S288 main_c_5
  let main_v25 : IVec S288 1 := cmpi .sle main_v7 main_v24
  let main_v26 : IVec S288 1 := andi main_v23 main_v25
  let main_v27 : IVec S287 32 := (extractStridedSlice S287 ![1] · slices_S288_S287_1) main_v1
  let main_v28 : IVec S287 32 := (extractStridedSlice S287 ![0] · slices_S288_S287_0) main_v1
  let main_v29 : IVec S287 1 := cmpi .eq main_v27 main_v28
  let main_v30 : IVec S287 32 := (extractStridedSlice S287 ![1] · slices_S288_S287_1) main_v5
  let main_v31 : IVec S287 32 := (extractStridedSlice S287 ![0] · slices_S288_S287_0) main_v5
  let main_v32 : IVec S287 1 := cmpi .eq main_v30 main_v31
  let main_v33 : IVec S287 1 := andi main_v29 main_v32
  let main_v34 : IVec S287 32 := (extractStridedSlice S287 ![1] · slices_S288_S287_1) main_v7
  let main_v35 : IVec S287 32 := (extractStridedSlice S287 ![0] · slices_S288_S287_0) main_v7
  let main_v36 : IVec S287 1 := cmpi .eq main_v34 main_v35
  let main_v37 : IVec S287 1 := andi main_v33 main_v36
  let main_v38 : IVec S287 32 := (extractStridedSlice S287 ![1] · slices_S288_S287_1) main_v1
  let main_v39 : IVec S287 32 := (extractStridedSlice S287 ![0] · slices_S288_S287_0) main_v5
  let main_v40 : IVec S287 1 := cmpi .eq main_v38 main_v39
  fn_part2 (F := F) main_v1 main_v5 main_v7 main_v9 main_v26 main_v37 main_v40

def fn {F : FTy → Type} [FloatOps F] (main_arg0 : IVec S4x288 32) (main_arg1 : FVec F S147456x1024 .f32) (main_arg2 : FVec F S2x32x1024x2048 .f32) (main_arg3 : FVec F S2x32x2048 .f32) (main_arg4 : FVec F S2x32x1024x1024 .f32) (main_arg5 : FVec F S2x32x1024 .f32) : IVec S_ 1 :=
  let main_v0 : IVec S1x288 32 := (extractStridedSlice S1x288 ![0, 0] · slices_S4x288_S1x288_0_0) main_arg0
  let main_v1 : IVec S288 32 := shapeCast S288 main_v0 shapeCasts_S1x288_S288
  let main_v2 : IVec S1x288 32 := (extractStridedSlice S1x288 ![1, 0] · slices_S4x288_S1x288_1_0) main_arg0
  let main_v3 : IVec S288 32 := shapeCast S288 main_v2 shapeCasts_S1x288_S288
  let main_v4 : IVec S1x288 32 := (extractStridedSlice S1x288 ![2, 0] · slices_S4x288_S1x288_2_0) main_arg0
  let main_v5 : IVec S288 32 := shapeCast S288 main_v4 shapeCasts_S1x288_S288
  let main_v6 : IVec S1x288 32 := (extractStridedSlice S1x288 ![3, 0] · slices_S4x288_S1x288_3_0) main_arg0
  let main_v7 : IVec S288 32 := shapeCast S288 main_v6 shapeCasts_S1x288_S288
  let main_c : IVec S_ 32 := constantI S_ 32 0#32
  let main_v8 : IVec S288 32 := broadcastInDim S288 ![] bcast_S_S288 main_c
  let main_v9 : IVec S288 1 := cmpi .sgt main_v3 main_v8
  let main_c_0 : IVec S_ 32 := constantI S_ 32 0#32
  let main_v10 : IVec S288 32 := broadcastInDim S288 ![] bcast_S_S288 main_c_0
  let main_v11 : IVec S288 1 := cmpi .sge main_v1 main_v10
  let main_c_1 : IVec S_ 32 := constantI S_ 32 32#32
  let main_v12 : IVec S288 32 := broadcastInDim S288 ![] bcast_S_S288 main_c_1
  let main_v13 : IVec S288 1 := cmpi .slt main_v1 main_v12
  let main_v14 : IVec S288 1 := andi main_v11 main_v13
  let main_c_2 : IVec S_ 32 := constantI S_ 32 4294967295#32
  let main_v15 : IVec S288 32 := broadcastInDim S288 ![] bcast_S_S288 main_c_2
  let main_v16 : IVec S288 1 := cmpi .sge main_v5 main_v15
  let main_v17 : IVec S288 1 := andi main_v14 main_v16
  let main_c_3 : IVec S_ 32 := constantI S_ 32 32#32
  let main_v18 : IVec S288 32 := broadcastInDim S288 ![] bcast_S_S288 main_c_3
  fn_part1 (F := F) main_v1 main_v5 main_v7 main_v9 main_v17 main_v18
-- ==== Kernel.lean ====
abbrev S32768x6144 : Shape := ⟨2, ![32768, 6144]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S32768x2048 : Shape := ⟨2, ![32768, 2048]⟩
abbrev S256x1024 : Shape := ⟨2, ![256, 1024]⟩
abbrev S256x2048 : Shape := ⟨2, ![256, 2048]⟩
abbrev S4x256x512 : Shape := ⟨3, ![4, 256, 512]⟩
abbrev S256x512 : Shape := ⟨2, ![256, 512]⟩
abbrev S1x256x512 : Shape := ⟨3, ![1, 256, 512]⟩
abbrev S1x256x1 : Shape := ⟨3, ![1, 256, 1]⟩

abbrev nBuf : Space → Nat
  | .hbm => 53
  | .vmem => 14
  | .smem => 0
  | _ => 0

abbrev bufTy : (tb : Table) → Fin (tcTables nBuf tb) → BufTy
  | .hbm, ⟨0, _⟩ => ⟨S32768x6144, .bf16⟩
  | .hbm, ⟨1, _⟩ => ⟨S4, .f32⟩
  | .hbm, ⟨2, _⟩ => ⟨S4, .f32⟩
  | .hbm, ⟨3, _⟩ => ⟨S256, .f32⟩
  | .hbm, ⟨4, _⟩ => ⟨S256x1, .f32⟩
  | .hbm, ⟨5, _⟩ => ⟨S1x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S_, .f32⟩
  | .hbm, ⟨10, _⟩ => ⟨S256x256, .f32⟩
  | .hbm, ⟨11, _⟩ => ⟨S256x256, .i1⟩
  | .hbm, ⟨12, _⟩ => ⟨S4x1x1, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S1x256x256, .f32⟩
  | .hbm, ⟨17, _⟩ => ⟨S4x256x256, .f32⟩
  | .hbm, ⟨18, _⟩ => ⟨S4x256x256, .f32⟩
  | .hbm, ⟨19, _⟩ => ⟨S4x256x256, .f32⟩
  | .hbm, ⟨20, _⟩ => ⟨S4x256x256, .f32⟩
  | .hbm, ⟨21, _⟩ => ⟨S_, .f32⟩
  | .hbm, ⟨22, _⟩ => ⟨S_, .f32⟩
  | .hbm, ⟨23, _⟩ => ⟨S4x256x256, .i1⟩
  | .hbm, ⟨24, _⟩ => ⟨S4x256x256, .f32⟩
  | .hbm, ⟨25, _⟩ => ⟨S4x256x256, .f32⟩
  | .hbm, ⟨26, _⟩ => ⟨S_, .f32⟩
  | .hbm, ⟨27, _⟩ => ⟨S4x256x256, .f32⟩
  | .hbm, ⟨28, _⟩ => ⟨S4x256x256, .f32⟩
  | .hbm, ⟨29, _⟩ => ⟨S4x1, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S1x256, .f32⟩
  | .hbm, ⟨34, _⟩ => ⟨S4x256, .f32⟩
  | .hbm, ⟨35, _⟩ => ⟨S4x256, .f32⟩
  | .hbm, ⟨36, _⟩ => ⟨S4x256, .f32⟩
  | .hbm, ⟨37, _⟩ => ⟨S4x256, .f32⟩
  | .hbm, ⟨38, _⟩ => ⟨S4x256x1, .f32⟩
  | .hbm, ⟨39, _⟩ => ⟨S4x1, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S4x256, .f32⟩
  | .hbm, ⟨45, _⟩ => ⟨S4x256, .f32⟩
  | .hbm, ⟨46, _⟩ => ⟨S4x256, .f32⟩
  | .hbm, ⟨47, _⟩ => ⟨S4x256, .f32⟩
  | .hbm, ⟨48, _⟩ => ⟨S4x256x1, .f32⟩
  | .hbm, ⟨49, _⟩ => ⟨S_, .f32⟩
  | .hbm, ⟨50, _⟩ => ⟨S4x256x1, .f32⟩
  | .hbm, ⟨51, _⟩ => ⟨S4x256x1, .f32⟩
  | .hbm, ⟨52, _⟩ => ⟨S32768x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S4x256x256, .f32⟩
  | .local _ .vmem, ⟨9, _⟩ => ⟨S4x256x1, .f32⟩
  | .local _ .vmem, ⟨10, _⟩ => ⟨S4x256x1, .f32⟩
  | .local _ .vmem, ⟨11, _⟩ => ⟨S256x2048, .bf16⟩
  | .local _ .vmem, ⟨12, _⟩ => ⟨S256x2048, .bf16⟩
  | .local _ .vmem, ⟨13, _⟩ => ⟨S4x256x512, .f32⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "decay0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "decay1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "decay2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "decay3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | _ => none
-- ==== ReferenceIdeal.lean ====
abbrev S32768x6144 : Shape := ⟨2, ![32768, 6144]⟩
abbrev S4x8192x6144 : Shape := ⟨3, ![4, 8192, 6144]⟩
abbrev S4x8192x1024 : Shape := ⟨3, ![4, 8192, 1024]⟩
abbrev S4x8192x2048 : Shape := ⟨3, ![4, 8192, 2048]⟩
abbrev S4x64x128x4x256 : Shape := ⟨5, ![4, 64, 128, 4, 256]⟩
abbrev S64x4x4x128x256 : Shape := ⟨5, ![64, 4, 4, 128, 256]⟩
abbrev S_ : Shape := ⟨0, ![]⟩
abbrev S4x64x128x4x512 : Shape := ⟨5, ![4, 64, 128, 4, 512]⟩
abbrev S64x4x4x128x512 : Shape := ⟨5, ![64, 4, 4, 128, 512]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x4x256x512 : Shape := ⟨4, ![4, 4, 256, 512]⟩
abbrev S1x4x4x128x256 : Shape := ⟨5, ![1, 4, 4, 128, 256]⟩
abbrev S4x4x128x256 : Shape := ⟨4, ![4, 4, 128, 256]⟩
abbrev S1x4x4x128x512 : Shape := ⟨5, ![1, 4, 4, 128, 512]⟩
abbrev S4x4x128x512 : Shape := ⟨4, ![4, 4, 128, 512]⟩
abbrev S4x4x128x128 : Shape := ⟨4, ![4, 4, 128, 128]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S4x8192x4x512 : Shape := ⟨4, ![4, 8192, 4, 512]⟩
abbrev S4x8192x4 : Shape := ⟨3, ![4, 8192, 4]⟩
abbrev S4x8192x4x1 : Shape := ⟨4, ![4, 8192, 4, 1]⟩
abbrev S32768x2048 : Shape := ⟨2, ![32768, 2048]⟩

abbrev nBuf : Space → Nat
  | .hbm => 178
  | .vmem => 0
  | .smem => 0
  | _ => 0

abbrev hbmTy0_0 (i : Nat) : BufTy := match i % 128 with
  | 0 => ⟨S32768x6144, .bf16⟩
  | 1 => ⟨S32768x6144, .f32⟩
  | 2 => ⟨S4x8192x6144, .f32⟩
  | 3 => ⟨S4x8192x1024, .f32⟩
  | 4 => ⟨S4x8192x1024, .f32⟩
  | 5 => ⟨S4x8192x2048, .f32⟩
  | 6 => ⟨S4x8192x2048, .f32⟩
  | 7 => ⟨S4x64x128x4x256, .f32⟩
  | 8 => ⟨S64x4x4x128x256, .f32⟩
  | 9 => ⟨S4x64x128x4x256, .f32⟩
  | 10 => ⟨S64x4x4x128x256, .f32⟩
  | 11 => ⟨S_, .f32⟩
  | 12 => ⟨S64x4x4x128x256, .f32⟩
  | 13 => ⟨S64x4x4x128x256, .f32⟩
  | 14 => ⟨S4x64x128x4x512, .f32⟩
  | 15 => ⟨S64x4x4x128x512, .f32⟩
  | 16 => ⟨S4, .f32⟩
  | 17 => ⟨S_, .f32⟩
  | 18 => ⟨S4, .f32⟩
  | 19 => ⟨S4, .f32⟩
  | 20 => ⟨S_, .f32⟩
  | 21 => ⟨S4, .f32⟩
  | 22 => ⟨S4, .f32⟩
  | 23 => ⟨S_, .f32⟩
  | 24 => ⟨S4, .f32⟩
  | 25 => ⟨S4, .f32⟩
  | 26 => ⟨S4, .f32⟩
  | 27 => ⟨S128, .f32⟩
  | 28 => ⟨S128x1, .f32⟩
  | 29 => ⟨S1x128, .f32⟩
  | 30 => ⟨S128x128, .f32⟩
  | 31 => ⟨S128x128, .f32⟩
  | 32 => ⟨S128x128, .f32⟩
  | 33 => ⟨S_, .f32⟩
  | 34 => ⟨S128x128, .f32⟩
  | 35 => ⟨S128x128, .i1⟩
  | 36 => ⟨S4x1x1, .f32⟩
  | 37 => ⟨S_, .f32⟩
  | 38 => ⟨S128x128, .f32⟩
  | 39 => ⟨S128x128, .f32⟩
  | 40 => ⟨S1x128x128, .f32⟩
  | 41 => ⟨S4x128x128, .f32⟩
  | 42 => ⟨S4x128x128, .f32⟩
  | 43 => ⟨S4x128x128, .f32⟩
  | 44 => ⟨S4x128x128, .f32⟩
  | 45 => ⟨S_, .f32⟩
  | 46 => ⟨S_, .f32⟩
  | 47 => ⟨S4x128x128, .i1⟩
  | 48 => ⟨S4x128x128, .f32⟩
  | 49 => ⟨S4x128x128, .f32⟩
  | 50 => ⟨S4x1, .f32⟩
  | 51 => ⟨S_, .f32⟩
  | 52 => ⟨S128, .f32⟩
  | 53 => ⟨S128, .f32⟩
  | 54 => ⟨S1x128, .f32⟩
  | 55 => ⟨S4x128, .f32⟩
  | 56 => ⟨S4x128, .f32⟩
  | 57 => ⟨S4x128, .f32⟩
  | 58 => ⟨S4x128, .f32⟩
  | 59 => ⟨S4x128x1, .f32⟩
  | 60 => ⟨S4x1, .f32⟩
  | 61 => ⟨S_, .f32⟩
  | 62 => ⟨S128, .f32⟩
  | 63 => ⟨S128, .f32⟩
  | 64 => ⟨S1x128, .f32⟩
  | 65 => ⟨S4x128, .f32⟩
  | 66 => ⟨S4x128, .f32⟩
  | 67 => ⟨S4x128, .f32⟩
  | 68 => ⟨S4x128, .f32⟩
  | 69 => ⟨S4x128x1, .f32⟩
  | 70 => ⟨S_, .f32⟩
  | 71 => ⟨S4, .f32⟩
  | 72 => ⟨S4, .f32⟩
  | 73 => ⟨S4, .f32⟩
  | 74 => ⟨S4x1x1, .f32⟩
  | 75 => ⟨S_, .f32⟩
  | 76 => ⟨S4x4x256x512, .f32⟩
  | 77 => ⟨S_, .f32⟩
  | 78 => ⟨S64x4x4x128x512, .f32⟩
  | 79 => ⟨S_, .i32⟩
  | 80 => ⟨S64x4x4x128x256, .f32⟩
  | 81 => ⟨S64x4x4x128x256, .f32⟩
  | 82 => ⟨S64x4x4x128x512, .f32⟩
  | 83 => ⟨S4x128x128, .f32⟩
  | 84 => ⟨S4x128x1, .f32⟩
  | 85 => ⟨S4x1x1, .f32⟩
  | 86 => ⟨S4x128x1, .f32⟩
  | 87 => ⟨S_, .i32⟩
  | 88 => ⟨S4x4x256x512, .f32⟩
  | 89 => ⟨S64x4x4x128x512, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S1x4x4x128x256, .f32⟩
  | 97 => ⟨S4x4x128x256, .f32⟩
  | 98 => ⟨S_, .i32⟩
  | 99 => ⟨S_, .i32⟩
  | 100 => ⟨S_, .i32⟩
  | 101 => ⟨S_, .i32⟩
  | 102 => ⟨S1x4x4x128x256, .f32⟩
  | 103 => ⟨S4x4x128x256, .f32⟩
  | 104 => ⟨S_, .i32⟩
  | 105 => ⟨S_, .i32⟩
  | 106 => ⟨S_, .i32⟩
  | 107 => ⟨S_, .i32⟩
  | 108 => ⟨S1x4x4x128x512, .f32⟩
  | 109 => ⟨S4x4x128x512, .f32⟩
  | 110 => ⟨S4x4x128x128, .f32⟩
  | 111 => ⟨S1x4x128x128, .f32⟩
  | 112 => ⟨S4x4x128x128, .f32⟩
  | 113 => ⟨S4x4x128x128, .f32⟩
  | 114 => ⟨S4x4x128x512, .f32⟩
  | 115 => ⟨S1x4x128x1, .f32⟩
  | 116 => ⟨S4x4x128x256, .f32⟩
  | 117 => ⟨S4x4x128x256, .f32⟩
  | 118 => ⟨S4x4x128x512, .f32⟩
  | 119 => ⟨S4x4x128x512, .f32⟩
  | 120 => ⟨S1x4x1x1, .f32⟩
  | 121 => ⟨S4x4x256x512, .f32⟩
  | 122 => ⟨S4x4x256x512, .f32⟩
  | 123 => ⟨S1x4x128x1, .f32⟩
  | 124 => ⟨S4x4x128x256, .f32⟩
  | 125 => ⟨S4x4x128x256, .f32⟩
  | 126 => ⟨S4x4x256x512, .f32⟩
  | 127 => ⟨S4x4x256x512, .f32⟩
  | _ => ⟨S32768x6144, .bf16⟩

abbrev hbmTy0_1 (i : Nat) : BufTy := match i % 128 with
  | 0 => ⟨S1x4x4x128x512, .f32⟩
  | 1 => ⟨S_, .i32⟩
  | 2 => ⟨S_, .i32⟩
  | 3 => ⟨S_, .i32⟩
  | 4 => ⟨S_, .i32⟩
  | 5 => ⟨S64x4x4x128x512, .f32⟩
  | 6 => ⟨S_, .i32⟩
  | 7 => ⟨S_, .i32⟩
  | 8 => ⟨S4x64x128x4x512, .f32⟩
  | 9 => ⟨S4x8192x4x512, .f32⟩
  | 10 => ⟨S_, .f32⟩
  | 11 => ⟨S4x8192x4, .f32⟩
  | 12 => ⟨S4x8192x4x1, .f32⟩
  | 13 => ⟨S_, .f32⟩
  | 14 => ⟨S4x8192x4x1, .f32⟩
  | 15 => ⟨S4x8192x4x1, .f32⟩
  | 16 => ⟨S4x8192x4x512, .f32⟩
  | 17 => ⟨S4x8192x4x512, .f32⟩
  | 18 => ⟨S4x8192x4x512, .f32⟩
  | 19 => ⟨S_, .f32⟩
  | 20 => ⟨S4x8192x4, .f32⟩
  | 21 => ⟨S4x8192x4x1, .f32⟩
  | 22 => ⟨S_, .f32⟩
  | 23 => ⟨S4x8192x4x1, .f32⟩
  | 24 => ⟨S4x8192x4x1, .f32⟩
  | 25 => ⟨S_, .f32⟩
  | 26 => ⟨S4x8192x4x1, .f32⟩
  | 27 => ⟨S4x8192x4x1, .f32⟩
  | 28 => ⟨S4x8192x4x1, .f32⟩
  | 29 => ⟨S4x8192x4x512, .f32⟩
  | 30 => ⟨S4x8192x4x512, .f32⟩
  | 31 => ⟨S4x8192x2048, .f32⟩
  | 32 => ⟨S32768x6144, .f32⟩
  | 33 => ⟨S4x8192x6144, .f32⟩
  | 34 => ⟨S4x8192x1024, .f32⟩
  | 35 => ⟨S4x8192x1024, .f32⟩
  | 36 => ⟨S4x8192x2048, .f32⟩
  | 37 => ⟨S4x8192x2048, .f32⟩
  | 38 => ⟨S4x8192x2048, .f32⟩
  | 39 => ⟨S4x8192x2048, .f32⟩
  | 40 => ⟨S_, .f32⟩
  | 41 => ⟨S4x8192x2048, .f32⟩
  | 42 => ⟨S4x8192x2048, .f32⟩
  | 43 => ⟨S_, .f32⟩
  | 44 => ⟨S4x8192x2048, .f32⟩
  | 45 => ⟨S4x8192x2048, .f32⟩
  | 46 => ⟨S4x8192x2048, .f32⟩
  | 47 => ⟨S4x8192x2048, .f32⟩
  | 48 => ⟨S32768x2048, .f32⟩
  | 49 => ⟨S32768x2048, .bf16⟩
  | _ => ⟨S32768x6144, .bf16⟩

abbrev hbmTy (i : Nat) : BufTy := match i / 128 with
  | 0 => hbmTy0_0 i
  | 1 => hbmTy0_1 i
  | _ => ⟨S32768x6144, .bf16⟩

abbrev bufTy : (tb : Table) → Fin (tcTables nBuf tb) → BufTy
  | .hbm, ⟨i, _⟩ => hbmTy i
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_v16 : Ref sig .tc := ⟨.hbm, 19, rfl⟩
abbrev main_cst_1 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_3 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_4 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_9 : Ref sig .tc := ⟨.hbm, 75, rfl⟩
abbrev main_v61 : Ref sig .tc := ⟨.hbm, 76, rfl⟩
abbrev main_cst_10 : Ref sig .tc := ⟨.hbm, 77, rfl⟩
abbrev main_v62 : Ref sig .tc := ⟨.hbm, 78, rfl⟩
abbrev main_c : Ref sig .tc := ⟨.hbm, 79, rfl⟩
abbrev main_v63_0 : Ref sig .tc := ⟨.hbm, 80, rfl⟩
abbrev main_v63_1 : Ref sig .tc := ⟨.hbm, 81, rfl⟩
abbrev main_v63_2 : Ref sig .tc := ⟨.hbm, 82, rfl⟩
abbrev main_v63_3 : Ref sig .tc := ⟨.hbm, 83, rfl⟩
abbrev main_v63_4 : Ref sig .tc := ⟨.hbm, 84, rfl⟩
abbrev main_v63_5 : Ref sig .tc := ⟨.hbm, 85, rfl⟩
abbrev main_v63_6 : Ref sig .tc := ⟨.hbm, 86, rfl⟩
abbrev main_v63_7 : Ref sig .tc := ⟨.hbm, 87, rfl⟩
abbrev main_v63_8 : Ref sig .tc := ⟨.hbm, 88, rfl⟩
abbrev main_v63_9 : Ref sig .tc := ⟨.hbm, 89, rfl⟩
abbrev main_while0c_c_25 : Ref sig .tc := ⟨.hbm, 90, rfl⟩
abbrev main_while0c_v93 : Ref sig .tc := ⟨.hbm, 91, rfl⟩
abbrev main_while0b_call1_c : Ref sig .tc := ⟨.hbm, 92, rfl⟩
abbrev main_while0b_call1_c_0 : Ref sig .tc := ⟨.hbm, 93, rfl⟩
abbrev main_while0b_call1_c_1 : Ref sig .tc := ⟨.hbm, 94, rfl⟩
abbrev main_while0b_call1_c_2 : Ref sig .tc := ⟨.hbm, 95, rfl⟩
abbrev main_while0b_call1_v0 : Ref sig .tc := ⟨.hbm, 96, rfl⟩
abbrev main_while0b_v93 : Ref sig .tc := ⟨.hbm, 97, rfl⟩
abbrev main_while0b_call2_c : Ref sig .tc := ⟨.hbm, 98, rfl⟩
abbrev main_while0b_call2_c_0 : Ref sig .tc := ⟨.hbm, 99, rfl⟩
abbrev main_while0b_call2_c_1 : Ref sig .tc := ⟨.hbm, 100, rfl⟩
abbrev main_while0b_call2_c_2 : Ref sig .tc := ⟨.hbm, 101, rfl⟩
abbrev main_while0b_call2_v0 : Ref sig .tc := ⟨.hbm, 102, rfl⟩
abbrev main_while0b_v94 : Ref sig .tc := ⟨.hbm, 103, rfl⟩
abbrev main_while0b_call3_c : Ref sig .tc := ⟨.hbm, 104, rfl⟩
abbrev main_while0b_call3_c_0 : Ref sig .tc := ⟨.hbm, 105, rfl⟩
abbrev main_while0b_call3_c_1 : Ref sig .tc := ⟨.hbm, 106, rfl⟩
abbrev main_while0b_call3_c_2 : Ref sig .tc := ⟨.hbm, 107, rfl⟩
abbrev main_while0b_call3_v0 : Ref sig .tc := ⟨.hbm, 108, rfl⟩
abbrev main_while0b_v95 : Ref sig .tc := ⟨.hbm, 109, rfl⟩
abbrev main_while0b_v96 : Ref sig .tc := ⟨.hbm, 110, rfl⟩
abbrev main_while0b_v97 : Ref sig .tc := ⟨.hbm, 111, rfl⟩
abbrev main_while0b_v98 : Ref sig .tc := ⟨.hbm, 112, rfl⟩
abbrev main_while0b_v99 : Ref sig .tc := ⟨.hbm, 113, rfl⟩
abbrev main_while0b_v100 : Ref sig .tc := ⟨.hbm, 114, rfl⟩
abbrev main_while0b_v101 : Ref sig .tc := ⟨.hbm, 115, rfl⟩
abbrev main_while0b_v102 : Ref sig .tc := ⟨.hbm, 116, rfl⟩
abbrev main_while0b_v103 : Ref sig .tc := ⟨.hbm, 117, rfl⟩
abbrev main_while0b_v104 : Ref sig .tc := ⟨.hbm, 118, rfl⟩
abbrev main_while0b_v105 : Ref sig .tc := ⟨.hbm, 119, rfl⟩
abbrev main_while0b_v106 : Ref sig .tc := ⟨.hbm, 120, rfl⟩
abbrev main_while0b_v107 : Ref sig .tc := ⟨.hbm, 121, rfl⟩
abbrev main_while0b_v108 : Ref sig .tc := ⟨.hbm, 122, rfl⟩
abbrev main_while0b_v109 : Ref sig .tc := ⟨.hbm, 123, rfl⟩
abbrev main_while0b_v110 : Ref sig .tc := ⟨.hbm, 124, rfl⟩
abbrev main_while0b_v111 : Ref sig .tc := ⟨.hbm, 125, rfl⟩
abbrev main_while0b_v112 : Ref sig .tc := ⟨.hbm, 126, rfl⟩
abbrev main_while0b_v113 : Ref sig .tc := ⟨.hbm, 127, rfl⟩
abbrev main_while0b_call4_v0 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_call4_c_1 : Ref sig .tc := ⟨.hbm, 131, rfl⟩
abbrev main_while0b_call4_c_2 : Ref sig .tc := ⟨.hbm, 132, rfl⟩
abbrev main_while0b_v114 : Ref sig .tc := ⟨.hbm, 133, rfl⟩
abbrev main_while0b_c_25 : Ref sig .tc := ⟨.hbm, 134, rfl⟩
abbrev main_while0b_v115 : Ref sig .tc := ⟨.hbm, 135, rfl⟩
abbrev main_v64 : Ref sig .tc := ⟨.hbm, 136, rfl⟩
abbrev main_v65 : Ref sig .tc := ⟨.hbm, 137, rfl⟩
abbrev main_cst_11 : Ref sig .tc := ⟨.hbm, 138, rfl⟩
abbrev main_v66 : Ref sig .tc := ⟨.hbm, 139, rfl⟩
abbrev main_v67 : Ref sig .tc := ⟨.hbm, 140, rfl⟩
abbrev main_cst_12 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_cst_13 : Ref sig .tc := ⟨.hbm, 147, rfl⟩
abbrev main_v73 : Ref sig .tc := ⟨.hbm, 148, rfl⟩
abbrev main_v74 : Ref sig .tc := ⟨.hbm, 149, rfl⟩
abbrev main_cst_14 : Ref sig .tc := ⟨.hbm, 150, rfl⟩
abbrev main_v75 : Ref sig .tc := ⟨.hbm, 151, rfl⟩
abbrev main_v76 : Ref sig .tc := ⟨.hbm, 152, rfl⟩
abbrev main_cst_15 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_call5_v0 : Ref sig .tc := ⟨.hbm, 166, rfl⟩
abbrev main_call5_v1 : Ref sig .tc := ⟨.hbm, 167, rfl⟩
abbrev main_call5_cst : Ref sig .tc := ⟨.hbm, 168, rfl⟩
abbrev main_call5_v2 : Ref sig .tc := ⟨.hbm, 169, rfl⟩
abbrev main_call5_v3 : Ref sig .tc := ⟨.hbm, 170, rfl⟩
abbrev main_call5_cst_0 : Ref sig .tc := ⟨.hbm, 171, rfl⟩
abbrev main_call5_v4 : Ref sig .tc := ⟨.hbm, 172, rfl⟩
abbrev main_call5_v5 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x8192x1024 : Shape := ⟨3, ![4, 8192, 1024]⟩
abbrev S1x1024x6144 : Shape := ⟨3, ![1, 1024, 6144]⟩
abbrev S32768x1024 : Shape := ⟨2, ![32768, 1024]⟩
abbrev S1024x6144 : Shape := ⟨2, ![1024, 6144]⟩
abbrev S_ : Shape := ⟨0, ![]⟩
abbrev S1x6144 : Shape := ⟨2, ![1, 6144]⟩
abbrev S32768x6144 : Shape := ⟨2, ![32768, 6144]⟩
abbrev S512x1024 : Shape := ⟨2, ![512, 1024]⟩
abbrev S512x6144 : Shape := ⟨2, ![512, 6144]⟩
abbrev S1024x1536 : Shape := ⟨2, ![1024, 1536]⟩
abbrev S512x1536 : Shape := ⟨2, ![512, 1536]⟩
abbrev S1x1536 : Shape := ⟨2, ![1, 1536]⟩

abbrev nBuf : Space → Nat
  | .hbm => 8
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S1x1024x6144, .f32⟩
  | .hbm, ⟨2, _⟩ => ⟨S32768x1024, .f32⟩
  | .hbm, ⟨3, _⟩ => ⟨S1024x6144, .f32⟩
  | .hbm, ⟨4, _⟩ => ⟨S1024x6144, .bf16⟩
  | .hbm, ⟨5, _⟩ => ⟨S_, .f32⟩
  | .hbm, ⟨6, _⟩ => ⟨S1x6144, .f32⟩
  | .hbm, ⟨7, _⟩ => ⟨S32768x6144, .bf16⟩
  | .local _ .vmem, ⟨0, _⟩ => ⟨S512x1024, .f32⟩
  | .local _ .vmem, ⟨1, _⟩ => ⟨S512x1024, .f32⟩
  | .local _ .vmem, ⟨2, _⟩ => ⟨S1024x6144, .bf16⟩
  | .local _ .vmem, ⟨3, _⟩ => ⟨S1x6144, .f32⟩
  | .local _ .vmem, ⟨4, _⟩ => ⟨S512x6144, .bf16⟩
  | .local _ .vmem, ⟨5, _⟩ => ⟨S512x6144, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S4x8192x1024 : Shape := ⟨3, ![4, 8192, 1024]⟩
abbrev S1x1024x6144 : Shape := ⟨3, ![1, 1024, 6144]⟩
abbrev S1024x6144 : Shape := ⟨2, ![1024, 6144]⟩
abbrev S4x8192x6144 : Shape := ⟨3, ![4, 8192, 6144]⟩
abbrev S32768x6144 : Shape := ⟨2, ![32768, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024x6144, .f32⟩
  | .hbm, ⟨2, _⟩ => ⟨S1024x6144, .f32⟩
  | .hbm, ⟨3, _⟩ => ⟨S4x8192x6144, .f32⟩
  | .hbm, ⟨4, _⟩ => ⟨S32768x6144, .f32⟩
  | .hbm, ⟨5, _⟩ => ⟨S32768x6144, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S4x288 : Shape := ⟨2, ![4, 288]⟩
abbrev S147456x1024 : Shape := ⟨2, ![147456, 1024]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S1179648x128 : Shape := ⟨2, ![1179648, 128]⟩
abbrev S2x32x1x2048 : Shape := ⟨4, ![2, 32, 1, 2048]⟩
abbrev S2x32x1x1024 : Shape := ⟨4, ![2, 32, 1, 1024]⟩
abbrev S4096x128 : Shape := ⟨2, ![4096, 128]⟩
abbrev S1x1x1x2048 : Shape := ⟨4, ![1, 1, 1, 2048]⟩
abbrev S1x1 : Shape := ⟨2, ![1, 1]⟩
abbrev S1x1x1x1024 : Shape := ⟨4, ![1, 1, 1, 1024]⟩
abbrev S2x1024x2048 : Shape := ⟨3, ![2, 1024, 2048]⟩
abbrev S2x1024x1024 : Shape := ⟨3, ![2, 1024, 1024]⟩
abbrev S1024x2048 : Shape := ⟨2, ![1024, 2048]⟩
abbrev S1024x1024 : Shape := ⟨2, ![1024, 1024]⟩
abbrev S2x2 : Shape := ⟨2, ![2, 2]⟩
abbrev S_ : Shape := ⟨0, ![]⟩
abbrev S1x1024x2048 : Shape := ⟨3, ![1, 1024, 2048]⟩
abbrev S1x1x1024x2048 : Shape := ⟨4, ![1, 1, 1024, 2048]⟩
abbrev S1x1024x1024 : Shape := ⟨3, ![1, 1024, 1024]⟩
abbrev S1x1x1024x1024 : Shape := ⟨4, ![1, 1, 1024, 1024]⟩
abbrev S2048x128 : Shape := ⟨2, ![2048, 128]⟩
abbrev S256x128 : Shape := ⟨2, ![256, 128]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 9
  | .vmem => 12
  | .smem => 1
  | _ => 0

abbrev bufTy : (tb : Table) → Fin (tcTables nBuf tb) → BufTy
  | .hbm, ⟨0, _⟩ => ⟨S147456x1024, .f32⟩
  | .hbm, ⟨1, _⟩ => ⟨S2x32x1024x2048, .f32⟩
  | .hbm, ⟨2, _⟩ => ⟨S2x32x2048, .f32⟩
  | .hbm, ⟨3, _⟩ => ⟨S2x32x1024x1024, .f32⟩
  | .hbm, ⟨4, _⟩ => ⟨S2x32x1024, .f32⟩
  | .hbm, ⟨5, _⟩ => ⟨S1179648x128, .f32⟩
  | .hbm, ⟨6, _⟩ => ⟨S2x32x1x2048, .f32⟩
  | .hbm, ⟨7, _⟩ => ⟨S2x32x1x1024, .f32⟩
  | .hbm, ⟨8, _⟩ => ⟨S1179648x128, .f32⟩
  | .local _ .vmem, ⟨0, _⟩ => ⟨S4096x128, .f32⟩
  | .local _ .vmem, ⟨1, _⟩ => ⟨S4096x128, .f32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x1x1024, .f32⟩
  | .local _ .vmem, ⟨5, _⟩ => ⟨S1x1x1x1024, .f32⟩
  | .local _ .vmem, ⟨6, _⟩ => ⟨S4096x128, .f32⟩
  | .local _ .vmem, ⟨7, _⟩ => ⟨S4096x128, .f32⟩
  | .local _ .vmem, ⟨8, _⟩ => ⟨S2x1024x2048, .f32⟩
  | .local _ .vmem, ⟨9, _⟩ => ⟨S2x1024x1024, .f32⟩
  | .local _ .vmem, ⟨10, _⟩ => ⟨S1024x2048, .bf16⟩
  | .local _ .vmem, ⟨11, _⟩ => ⟨S1024x1024, .bf16⟩
  | .local _ .smem, ⟨0, _⟩ => ⟨S4x288, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![288], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v2 : Index := Scalar.indexCast arg0
  ![1, v2.toNat]
def k0_off3 (i : grid0.Coords) : Fin 2 → Nat :=
  let c2 : Index := 2#32
  let arg0 : BitVec 32 := BitVec.ofNat 32 (i 0).val
  let v4 : Index := Scalar.indexCast arg0
  ![2, v4.toNat]
def k0_off4 (i : grid0.Coords) : Fin 2 → Nat :=
  let c3 : Index := 3#32
  let arg0 : BitVec 32 := BitVec.ofNat 32 (i 0).val
  let v6 : Index := Scalar.indexCast arg0
  ![3, v6.toNat]
def k0_off5 (i : grid0.Coords) : Fin 2 → Nat :=
  let c0_2 : Index := 0#32
  let arg0 : BitVec 32 := BitVec.ofNat 32 (i 0).val
  let c1_i32 : BitVec 32 := 1#32
  let v10 : BitVec 32 := Scalar.subi arg0 c1_i32
  let c0_i32_1 : BitVec 32 := 0#32
  let v11 : BitVec 32 := Scalar.maxsi v10 c0_i32_1
  let v12 : Index := Scalar.indexCast v11
  ![0, v12.toNat]
def k0_cond2 (i : grid0.Coords) : BitVec 1 :=
  let arg0 : BitVec 32 := BitVec.ofNat 32 (i 0).val
  let c0_i32_9 : BitVec 32 := 0#32
  let v30 : BitVec 1 := Scalar.cmpi .eq arg0 c0_i32_9
  let v31 : BitVec 32 := Scalar.extui v30
  let c0_i32_10 : BitVec 32 := 0#32
  let v32 : BitVec 1 := Scalar.cmpi .ne v31 c0_i32_10
  v32

def k0_off6 (v7 : BitVec 32) : Fin 2 → Nat :=
  let c0_i32_34 : BitVec 32 := 0#32
  ![0, v7.toNat]
def k0_cond1 (i : grid0.Coords) (v1 : BitVec 32) (v3 : BitVec 32) (v13 : BitVec 32) : BitVec 1 :=
  let c0_i32 : BitVec 32 := 0#32
  let v8 : BitVec 1 := Scalar.cmpi .sgt v3 c0_i32
  let arg0 : BitVec 32 := BitVec.ofNat 32 (i 0).val
  let c0_i32_0 : BitVec 32 := 0#32
  let v9 : BitVec 1 := Scalar.cmpi .eq arg0 c0_i32_0
  let v14 : BitVec 1 := Scalar.cmpi .ne v1 v13
  let v15 : BitVec 1 := Scalar.ori v9 v14
  let v16 : BitVec 1 := Scalar.andi v8 v15
  let v17 : BitVec 32 := Scalar.extui v16
  let c0_i32_3 : BitVec 32 := 0#32
  let v18 : BitVec 1 := Scalar.cmpi .ne v17 c0_i32_3
  v18

def k0_off7 (v7 : BitVec 32) : Fin 3 → Nat :=
  let c0_i32_35 : BitVec 32 := 0#32
  let c0_i32_36 : BitVec 32 := 0#32
  ![v7.toNat, 0, 0]
def k0_off8 (v1 : BitVec 32) : Fin 4 → Nat :=
  let c0_i32_33 : BitVec 32 := 0#32
  let c0_i32_37 : BitVec 32 := 0#32
  let c0_i32_38 : BitVec 32 := 0#32
  ![0, v1.toNat, 0, 0]
def k0_off9 (v7 : BitVec 32) : Fin 2 → Nat :=
  let c1_i32_40 : BitVec 32 := 1#32
  ![1, v7.toNat]
def k0_off10 (v7 : BitVec 32) : Fin 3 → Nat :=
  let c0_i32_41 : BitVec 32 := 0#32
  let c0_i32_42 : BitVec 32 := 0#32
  ![v7.toNat, 0, 0]
def k0_off11 (v1 : BitVec 32) : Fin 4 → Nat :=
  let c0_i32_39 : BitVec 32 := 0#32
  let c0_i32_43 : BitVec 32 := 0#32
  let c0_i32_44 : BitVec 32 := 0#32
  ![0, v1.toNat, 0, 0]
def k0_off12 (v7 : BitVec 32) : Fin 2 → Nat :=
  let c0_i32_35 : BitVec 32 := 0#32
  let c1_i32_33 : BitVec 32 := 1#32
  let v62 : BitVec 32 := Scalar.subi c1_i32_33 v7
  ![0, v62.toNat]
def k0_cond3 (v5 : BitVec 32) : BitVec 1 :=
  let c0_i32_11 : BitVec 32 := 0#32
  let v33 : BitVec 1 := Scalar.cmpi .sge v5 c0_i32_11
  let v34 : BitVec 32 := Scalar.extui v33
  let c0_i32_12 : BitVec 32 := 0#32
  let v35 : BitVec 1 := Scalar.cmpi .ne v34 c0_i32_12
  v35

def k0_off13 (v7 : BitVec 32) : Fin 3 → Nat :=
  let c1_i32_33 : BitVec 32 := 1#32
  let v62 : BitVec 32 := Scalar.subi c1_i32_33 v7
  let c0_i32_36 : BitVec 32 := 0#32
  let c0_i32_37 : BitVec 32 := 0#32
  ![v62.toNat, 0, 0]
def k0_off14 (v5 : BitVec 32) : Fin 4 → Nat :=
  let c0_i32_34 : BitVec 32 := 0#32
  let c0_i32_38 : BitVec 32 := 0#32
  let c0_i32_39 : BitVec 32 := 0#32
  ![0, v5.toNat, 0, 0]
def k0_off15 (v7 : BitVec 32) : Fin 2 → Nat :=
  let c1_i32_41 : BitVec 32 := 1#32
  let c1_i32_33 : BitVec 32 := 1#32
  let v62 : BitVec 32 := Scalar.subi c1_i32_33 v7
  ![1, v62.toNat]
def k0_off16 (v7 : BitVec 32) : Fin 3 → Nat :=
  let c1_i32_33 : BitVec 32 := 1#32
  let v62 : BitVec 32 := Scalar.subi c1_i32_33 v7
  let c0_i32_42 : BitVec 32 := 0#32
  let c0_i32_43 : BitVec 32 := 0#32
  ![v62.toNat, 0, 0]
def k0_off17 (v5 : BitVec 32) : Fin 4 → Nat :=
  let c0_i32_40 : BitVec 32 := 0#32
  let c0_i32_44 : BitVec 32 := 0#32
  let c0_i32_45 : BitVec 32 := 0#32
  ![0, v5.toNat, 0, 0]
def k0_off18 (v7 : BitVec 32) : Fin 2 → Nat :=
  let c0_i32_14 : BitVec 32 := 0#32
  ![0, v7.toNat]
def k0_off19 (v7 : BitVec 32) : Fin 3 → Nat :=
  let c0_i32_15 : BitVec 32 := 0#32
  let c0_i32_16 : BitVec 32 := 0#32
  ![v7.toNat, 0, 0]
def k0_off20 (v1 : BitVec 32) : Fin 4 → Nat :=
  let c0_i32_13 : BitVec 32 := 0#32
  let c0_i32_17 : BitVec 32 := 0#32
  let c0_i32_18 : BitVec 32 := 0#32
  ![0, v1.toNat, 0, 0]
def k0_off21 (v7 : BitVec 32) : Fin 2 → Nat :=
  let c1_i32_20 : BitVec 32 := 1#32
  ![1, v7.toNat]
def k0_off22 (v7 : BitVec 32) : Fin 3 → Nat :=
  let c0_i32_21 : BitVec 32 := 0#32
  let c0_i32_22 : BitVec 32 := 0#32
  ![v7.toNat, 0, 0]
def k0_off23 (v1 : BitVec 32) : Fin 4 → Nat :=
  let c0_i32_19 : BitVec 32 := 0#32
  let c0_i32_23 : BitVec 32 := 0#32
  let c0_i32_24 : BitVec 32 := 0#32
  ![0, v1.toNat, 0, 0]
def k0_off24 (v7 : BitVec 32) : Fin 3 → Nat :=
  let v48 : Index := Scalar.indexCast v7
  let c0_25 : Index := 0#32
  let c0_26 : Index := 0#32
  ![v48.toNat, 0, 0]
def k0_off25 (v7 : BitVec 32) : Fin 3 → Nat :=
  let v55 : Index := Scalar.indexCast v7
  let c0_29 : Index := 0#32
  let c0_30 : Index := 0#32
  ![v55.toNat, 0, 0]

def k0_chk1 (i : grid0.Coords) (v1 : BitVec 32) (v3 : BitVec 32) (v5 : BitVec 32) (v7 : BitVec 32) (v13 : BitVec 32) : Prop :=
  (∀ (k0_h1 : k0_cond1 i v1 v3 v13 = 1#1), ∀ (k0_h2 : k0_cond2 i = 1#1), ∀ a, (k0_off6 v7) a + S1x1.size a ≤ S2x2.size a) ∧
  (∀ (k0_h1 : k0_cond1 i v1 v3 v13 = 1#1), ∀ (k0_h2 : k0_cond2 i = 1#1), ∀ a, (k0_off7 v7) a + S1x1024x2048.size a ≤ S2x1024x2048.size a) ∧
  (∀ (k0_h1 : k0_cond1 i v1 v3 v13 = 1#1), ∀ (k0_h2 : k0_cond2 i = 1#1), ∀ a, (k0_off8 v1) a + S1x1x1024x2048.size a ≤ S2x32x1024x2048.size a) ∧
  (∀ (k0_h1 : k0_cond1 i v1 v3 v13 = 1#1), ∀ (k0_h2 : k0_cond2 i = 1#1), ∀ a, (k0_off9 v7) a + S1x1.size a ≤ S2x2.size a) ∧
  (∀ (k0_h1 : k0_cond1 i v1 v3 v13 = 1#1), ∀ (k0_h2 : k0_cond2 i = 1#1), ∀ a, (k0_off10 v7) a + S1x1024x1024.size a ≤ S2x1024x1024.size a) ∧
  (∀ (k0_h1 : k0_cond1 i v1 v3 v13 = 1#1), ∀ (k0_h2 : k0_cond2 i = 1#1), ∀ a, (k0_off11 v1) a + S1x1x1024x1024.size a ≤ S2x32x1024x1024.size a) ∧
  (∀ (k0_h1 : k0_cond1 i v1 v3 v13 = 1#1), ∀ (k0_h3 : k0_cond3 v5 = 1#1), ∀ a, (k0_off12 v7) a + S1x1.size a ≤ S2x2.size a) ∧
  (∀ (k0_h1 : k0_cond1 i v1 v3 v13 = 1#1), ∀ (k0_h3 : k0_cond3 v5 = 1#1), ∀ a, (k0_off13 v7) a + S1x1024x2048.size a ≤ S2x1024x2048.size a) ∧
  (∀ (k0_h1 : k0_cond1 i v1 v3 v13 = 1#1), ∀ (k0_h3 : k0_cond3 v5 = 1#1), ∀ a, (k0_off14 v5) a + S1x1x1024x2048.size a ≤ S2x32x1024x2048.size a) ∧
  (∀ (k0_h1 : k0_cond1 i v1 v3 v13 = 1#1), ∀ (k0_h3 : k0_cond3 v5 = 1#1), ∀ a, (k0_off15 v7) a + S1x1.size a ≤ S2x2.size a) ∧
  (∀ (k0_h1 : k0_cond1 i v1 v3 v13 = 1#1), ∀ (k0_h3 : k0_cond3 v5 = 1#1), ∀ a, (k0_off16 v7) a + S1x1024x1024.size a ≤ S2x1024x1024.size a) ∧
  (∀ (k0_h1 : k0_cond1 i v1 v3 v13 = 1#1), ∀ (k0_h3 : k0_cond3 v5 = 1#1), ∀ a, (k0_off17 v5) a + S1x1x1024x1024.size a ≤ S2x32x1024x1024.size a) ∧
  (∀ (k0_h1 : k0_cond1 i v1 v3 v13 = 1#1), ∀ a, (k0_off18 v7) a + S1x1.size a ≤ S2x2.size a) ∧
  (∀ (k0_h1 : k0_cond1 i v1 v3 v13 = 1#1), ∀ a, (k0_off19 v7) a + S1x1024x2048.size a ≤ S2x1024x2048.size a) ∧
  (∀ (k0_h1 : k0_cond1 i v1 v3 v13 = 1#1), ∀ a, (k0_off20 v1) a + S1x1x1024x2048.size a ≤ S2x32x1024x2048.size a) ∧
  (∀ (k0_h1 : k0_cond1 i v1 v3 v13 = 1#1), ∀ a, (k0_off21 v7) a + S1x1.size a ≤ S2x2.size a) ∧
  (∀ (k0_h1 : k0_cond1 i v1 v3 v13 = 1#1), ∀ a, (k0_off22 v7) a + S1x1024x1024.size a ≤ S2x1024x1024.size a) ∧
  (∀ (k0_h1 : k0_cond1 i v1 v3 v13 = 1#1), ∀ a, (k0_off23 v1) a + S1x1x1024x1024.size a ≤ S2x32x1024x1024.size a) ∧
  (∀ (k0_h1 : k0_cond1 i v1 v3 v13 = 1#1), ∀ a, (k0_off24 v7) a + S1x1024x2048.size a ≤ S2x1024x2048.size a) ∧
  (∀ (k0_h1 : k0_cond1 i v1 v3 v13 = 1#1), ∀ a, (k0_off25 v7) a + S1x1024x1024.size a ≤ S2x1024x1024.size a)
theorem k0_off6_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ (k0_h2 : k0_cond2 i = 1#1), ∀ a, (k0_off6 v7) a + S1x1.size a ≤ S2x2.size a := fun i v1 v3 v5 v7 v13 k0_hw1 k0_h1 k0_h2 => k0_hw1.1 k0_h1 k0_h2
theorem k0_off7_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ (k0_h2 : k0_cond2 i = 1#1), ∀ a, (k0_off7 v7) a + S1x1024x2048.size a ≤ S2x1024x2048.size a := fun i v1 v3 v5 v7 v13 k0_hw1 k0_h1 k0_h2 => k0_hw1.2.1 k0_h1 k0_h2
theorem k0_off8_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ (k0_h2 : k0_cond2 i = 1#1), ∀ a, (k0_off8 v1) a + S1x1x1024x2048.size a ≤ S2x32x1024x2048.size a := fun i v1 v3 v5 v7 v13 k0_hw1 k0_h1 k0_h2 => k0_hw1.2.2.1 k0_h1 k0_h2
theorem k0_off9_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ (k0_h2 : k0_cond2 i = 1#1), ∀ a, (k0_off9 v7) a + S1x1.size a ≤ S2x2.size a := fun i v1 v3 v5 v7 v13 k0_hw1 k0_h1 k0_h2 => k0_hw1.2.2.2.1 k0_h1 k0_h2
theorem k0_off10_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ (k0_h2 : k0_cond2 i = 1#1), ∀ a, (k0_off10 v7) a + S1x1024x1024.size a ≤ S2x1024x1024.size a := fun i v1 v3 v5 v7 v13 k0_hw1 k0_h1 k0_h2 => k0_hw1.2.2.2.2.1 k0_h1 k0_h2
theorem k0_off11_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ (k0_h2 : k0_cond2 i = 1#1), ∀ a, (k0_off11 v1) a + S1x1x1024x1024.size a ≤ S2x32x1024x1024.size a := fun i v1 v3 v5 v7 v13 k0_hw1 k0_h1 k0_h2 => k0_hw1.2.2.2.2.2.1 k0_h1 k0_h2
theorem k0_off12_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ (k0_h3 : k0_cond3 v5 = 1#1), ∀ a, (k0_off12 v7) a + S1x1.size a ≤ S2x2.size a := fun i v1 v3 v5 v7 v13 k0_hw1 k0_h1 k0_h3 => k0_hw1.2.2.2.2.2.2.1 k0_h1 k0_h3
theorem k0_off13_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ (k0_h3 : k0_cond3 v5 = 1#1), ∀ a, (k0_off13 v7) a + S1x1024x2048.size a ≤ S2x1024x2048.size a := fun i v1 v3 v5 v7 v13 k0_hw1 k0_h1 k0_h3 => k0_hw1.2.2.2.2.2.2.2.1 k0_h1 k0_h3
theorem k0_off14_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ (k0_h3 : k0_cond3 v5 = 1#1), ∀ a, (k0_off14 v5) a + S1x1x1024x2048.size a ≤ S2x32x1024x2048.size a := fun i v1 v3 v5 v7 v13 k0_hw1 k0_h1 k0_h3 => k0_hw1.2.2.2.2.2.2.2.2.1 k0_h1 k0_h3
theorem k0_off15_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ (k0_h3 : k0_cond3 v5 = 1#1), ∀ a, (k0_off15 v7) a + S1x1.size a ≤ S2x2.size a := fun i v1 v3 v5 v7 v13 k0_hw1 k0_h1 k0_h3 => k0_hw1.2.2.2.2.2.2.2.2.2.1 k0_h1 k0_h3
theorem k0_off16_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ (k0_h3 : k0_cond3 v5 = 1#1), ∀ a, (k0_off16 v7) a + S1x1024x1024.size a ≤ S2x1024x1024.size a := fun i v1 v3 v5 v7 v13 k0_hw1 k0_h1 k0_h3 => k0_hw1.2.2.2.2.2.2.2.2.2.2.1 k0_h1 k0_h3
theorem k0_off17_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ (k0_h3 : k0_cond3 v5 = 1#1), ∀ a, (k0_off17 v5) a + S1x1x1024x1024.size a ≤ S2x32x1024x1024.size a := fun i v1 v3 v5 v7 v13 k0_hw1 k0_h1 k0_h3 => k0_hw1.2.2.2.2.2.2.2.2.2.2.2.1 k0_h1 k0_h3
theorem k0_off18_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ a, (k0_off18 v7) a + S1x1.size a ≤ S2x2.size a := fun i v1 v3 v5 v7 v13 k0_hw1 k0_h1 => k0_hw1.2.2.2.2.2.2.2.2.2.2.2.2.1 k0_h1
theorem k0_off19_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ a, (k0_off19 v7) a + S1x1024x2048.size a ≤ S2x1024x2048.size a := fun i v1 v3 v5 v7 v13 k0_hw1 k0_h1 => k0_hw1.2.2.2.2.2.2.2.2.2.2.2.2.2.1 k0_h1
theorem k0_off20_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ a, (k0_off20 v1) a + S1x1x1024x2048.size a ≤ S2x32x1024x2048.size a := fun i v1 v3 v5 v7 v13 k0_hw1 k0_h1 => k0_hw1.2.2.2.2.2.2.2.2.2.2.2.2.2.2.1 k0_h1
theorem k0_off21_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ a, (k0_off21 v7) a + S1x1.size a ≤ S2x2.size a := fun i v1 v3 v5 v7 v13 k0_hw1 k0_h1 => k0_hw1.2.2.2.2.2.2.2.2.2.2.2.2.2.2.2.1 k0_h1
theorem k0_off22_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ a, (k0_off22 v7) a + S1x1024x1024.size a ≤ S2x1024x1024.size a := fun i v1 v3 v5 v7 v13 k0_hw1 k0_h1 => k0_hw1.2.2.2.2.2.2.2.2.2.2.2.2.2.2.2.2.1 k0_h1
theorem k0_off23_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ a, (k0_off23 v1) a + S1x1x1024x1024.size a ≤ S2x32x1024x1024.size a := fun i v1 v3 v5 v7 v13 k0_hw1 k0_h1 => k0_hw1.2.2.2.2.2.2.2.2.2.2.2.2.2.2.2.2.2.1 k0_h1
theorem k0_off24_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ a, (k0_off24 v7) a + S1x1024x2048.size a ≤ S2x1024x2048.size a := fun i v1 v3 v5 v7 v13 k0_hw1 k0_h1 => k0_hw1.2.2.2.2.2.2.2.2.2.2.2.2.2.2.2.2.2.2.1 k0_h1
theorem k0_off25_inb : ∀ (i : grid0.Coords) (v1 : BitVec 32) (v3 : BitVec 32) (v5 : BitVec 32) (v7 : BitVec 32) (v13 : BitVec 32) (k0_hw1 : k0_chk1 i v1 v3 v5 v7 v13), ∀ (k0_h1 : k0_cond1 i v1 v3 v13 = 1#1), ∀ a, (k0_off25 v7) a + S1x1024x1024.size a ≤ S2x1024x1024.size a := fun i v1 v3 v5 v7 v13 k0_hw1 k0_h1 => k0_hw1.2.2.2.2.2.2.2.2.2.2.2.2.2.2.2.2.2.2.2 k0_h1

def k0_cond4 (v3 : BitVec 32) : BitVec 1 :=
  let c0_i32 : BitVec 32 := 0#32
  let v8 : BitVec 1 := Scalar.cmpi .sgt v3 c0_i32
  let v19 : BitVec 32 := Scalar.extui v8
  let c0_i32_4 : BitVec 32 := 0#32
  let v20 : BitVec 1 := Scalar.cmpi .ne v19 c0_i32_4
  v20

def k0_cond5 (v3 : BitVec 32) : BitVec 1 :=
  let c256_i32 : BitVec 32 := 256#32
  let v21 : BitVec 1 := Scalar.cmpi .sgt v3 c256_i32
  let v22 : BitVec 32 := Scalar.extui v21
  let c0_i32_5 : BitVec 32 := 0#32
  let v23 : BitVec 1 := Scalar.cmpi .ne v22 c0_i32_5
  v23

def k0_cond6 (v3 : BitVec 32) : BitVec 1 :=
  let c0_i32 : BitVec 32 := 0#32
  let v8 : BitVec 1 := Scalar.cmpi .sgt v3 c0_i32
  let v_true : BitVec 1 := 1#1
  let v24 : BitVec 1 := Scalar.xori v8 v_true
  let v25 : BitVec 32 := Scalar.extui v24
  let c0_i32_6 : BitVec 32 := 0#32
  let v26 : BitVec 1 := Scalar.cmpi .ne v25 c0_i32_6
  v26

def k0_cond7 (v3 : BitVec 32) : BitVec 1 :=
  let c256_i32_7 : BitVec 32 := 256#32
  let v27 : BitVec 1 := Scalar.cmpi .sle v3 c256_i32_7
  let v28 : BitVec 32 := Scalar.extui v27
  let c0_i32_8 : BitVec 32 := 0#32
  let v29 : BitVec 1 := Scalar.cmpi .ne v28 c0_i32_8
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1x1.size a ≤ S4x288.size a) (numel1_S1x1 : S1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let v1 : BitVec 32 := pf.at 0 (Rect.unit (s := S4x288) ![0, v0.toNat] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1x1.size a ≤ S4x288.size a) (numel1_S1x1 : S1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let v1 : BitVec 32 := pf.at 0 (Rect.unit (s := S4x288) ![0, v0.toNat] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S4x288 : Shape := ⟨2, ![4, 288]⟩
abbrev S147456x1024 : Shape := ⟨2, ![147456, 1024]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S1x32x1024x2048 : Shape := ⟨4, ![1, 32, 1024, 2048]⟩
abbrev S32x1024x2048 : Shape := ⟨3, ![32, 1024, 2048]⟩
abbrev S1x32x2048 : Shape := ⟨3, ![1, 32, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S1x32x1024 : Shape := ⟨3, ![1, 32, 1024]⟩
abbrev S32x1024 : Shape := ⟨2, ![32, 1024]⟩
abbrev S288x512x1024 : Shape := ⟨3, ![288, 512, 1024]⟩
abbrev S1x288 : Shape := ⟨2, ![1, 288]⟩
abbrev S288 : Shape := ⟨1, ![288]⟩
abbrev S_ : Shape := ⟨0, ![]⟩
abbrev S288x1 : Shape := ⟨2, ![288, 1]⟩
abbrev S288x3 : Shape := ⟨2, ![288, 3]⟩
abbrev S288x1x1024x2048 : Shape := ⟨4, ![288, 1, 1024, 2048]⟩
abbrev S288x1024x2048 : Shape := ⟨3, ![288, 1024, 2048]⟩
abbrev S288x512x2048 : Shape := ⟨3, ![288, 512, 2048]⟩
abbrev S288x2 : Shape := ⟨2, ![288, 2]⟩
abbrev S288x1x2048 : Shape := ⟨3, ![288, 1, 2048]⟩
abbrev S288x2048 : Shape := ⟨2, ![288, 2048]⟩
abbrev S288x1x1024x1024 : Shape := ⟨4, ![288, 1, 1024, 1024]⟩
abbrev S288x1024x1024 : Shape := ⟨3, ![288, 1024, 1024]⟩
abbrev S288x1x1024 : Shape := ⟨3, ![288, 1, 1024]⟩
abbrev S288x1024 : Shape := ⟨2, ![288, 1024]⟩
abbrev S512 : Shape := ⟨1, ![512]⟩
abbrev S1x512 : Shape := ⟨2, ![1, 512]⟩
abbrev S288x512 : Shape := ⟨2, ![288, 512]⟩
abbrev S288x512x1 : Shape := ⟨3, ![288, 512, 1]⟩
abbrev S1179648x128 : Shape := ⟨2, ![1179648, 128]⟩

abbrev nBuf : Space → Nat
  | .hbm => 188
  | .vmem => 0
  | .smem => 0
  | _ => 0

abbrev hbmTy0_0 (i : Nat) : BufTy := match i % 128 with
  | 0 => ⟨S4x288, .i32⟩
  | 1 => ⟨S147456x1024, .f32⟩
  | 2 => ⟨S2x32x1024x2048, .f32⟩
  | 3 => ⟨S2x32x2048, .f32⟩
  | 4 => ⟨S2x32x1024x1024, .f32⟩
  | 5 => ⟨S2x32x1024, .f32⟩
  | 6 => ⟨S1x32x1024x2048, .f32⟩
  | 7 => ⟨S32x1024x2048, .f32⟩
  | 8 => ⟨S1x32x2048, .f32⟩
  | 9 => ⟨S32x2048, .f32⟩
  | 10 => ⟨S1x32x1024x1024, .f32⟩
  | 11 => ⟨S32x1024x1024, .f32⟩
  | 12 => ⟨S1x32x1024, .f32⟩
  | 13 => ⟨S32x1024, .f32⟩
  | 14 => ⟨S288x512x1024, .f32⟩
  | 15 => ⟨S1x288, .i32⟩
  | 16 => ⟨S288, .i32⟩
  | 17 => ⟨S_, .i32⟩
  | 18 => ⟨S288, .i32⟩
  | 19 => ⟨S288, .i1⟩
  | 20 => ⟨S_, .i32⟩
  | 21 => ⟨S288, .i32⟩
  | 22 => ⟨S288, .i32⟩
  | 23 => ⟨S288, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S288x1, .i32⟩
  | 41 => ⟨S288x1, .i32⟩
  | 42 => ⟨S288x1, .i32⟩
  | 43 => ⟨S288x3, .i32⟩
  | 44 => ⟨S288x1x1024x2048, .f32⟩
  | 45 => ⟨S288x1024x2048, .f32⟩
  | 46 => ⟨S288x512x2048, .f32⟩
  | 47 => ⟨S_, .i32⟩
  | 48 => ⟨S288, .i32⟩
  | 49 => ⟨S288, .i1⟩
  | 50 => ⟨S_, .i32⟩
  | 51 => ⟨S288, .i32⟩
  | 52 => ⟨S288, .i32⟩
  | 53 => ⟨S288, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S288x1, .i32⟩
  | 63 => ⟨S288x1, .i32⟩
  | 64 => ⟨S288x2, .i32⟩
  | 65 => ⟨S288x1x2048, .f32⟩
  | 66 => ⟨S288x2048, .f32⟩
  | 67 => ⟨S288x1x2048, .f32⟩
  | 68 => ⟨S288x512x2048, .f32⟩
  | 69 => ⟨S288x512x2048, .f32⟩
  | 70 => ⟨S288x512x1024, .f32⟩
  | 71 => ⟨S_, .f32⟩
  | 72 => ⟨S288x512x1024, .f32⟩
  | 73 => ⟨S288x512x1024, .f32⟩
  | 74 => ⟨S288x512x1024, .f32⟩
  | 75 => ⟨S_, .f32⟩
  | 76 => ⟨S_, .f32⟩
  | 77 => ⟨S_, .f32⟩
  | 78 => ⟨S288x512x1024, .f32⟩
  | 79 => ⟨S288x512x1024, .f32⟩
  | 80 => ⟨S_, .f32⟩
  | 81 => ⟨S288x512x1024, .f32⟩
  | 82 => ⟨S288x512x1024, .f32⟩
  | 83 => ⟨S_, .f32⟩
  | 84 => ⟨S288x512x1024, .f32⟩
  | 85 => ⟨S288x512x1024, .f32⟩
  | 86 => ⟨S288x512x1024, .f32⟩
  | 87 => ⟨S288x512x1024, .f32⟩
  | 88 => ⟨S_, .f32⟩
  | 89 => ⟨S288x512x1024, .f32⟩
  | 90 => ⟨S288x512x1024, .f32⟩
  | 91 => ⟨S_, .f32⟩
  | 92 => ⟨S288x512x1024, .f32⟩
  | 93 => ⟨S288x512x1024, .f32⟩
  | 94 => ⟨S288x512x1024, .f32⟩
  | 95 => ⟨S_, .f32⟩
  | 96 => ⟨S288x512x1024, .f32⟩
  | 97 => ⟨S288x512x1024, .f32⟩
  | 98 => ⟨S288x512x1024, .f32⟩
  | 99 => ⟨S_, .i32⟩
  | 100 => ⟨S288, .i32⟩
  | 101 => ⟨S288, .i1⟩
  | 102 => ⟨S_, .i32⟩
  | 103 => ⟨S288, .i32⟩
  | 104 => ⟨S288, .i32⟩
  | 105 => ⟨S288, .i32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S288x1, .i32⟩
  | 123 => ⟨S288x1, .i32⟩
  | 124 => ⟨S288x1, .i32⟩
  | 125 => ⟨S288x3, .i32⟩
  | 126 => ⟨S288x1x1024x1024, .f32⟩
  | 127 => ⟨S288x1024x1024, .f32⟩
  | _ => ⟨S4x288, .i32⟩

abbrev hbmTy0_1 (i : Nat) : BufTy := match i % 128 with
  | 0 => ⟨S288x512x1024, .f32⟩
  | 1 => ⟨S_, .i32⟩
  | 2 => ⟨S288, .i32⟩
  | 3 => ⟨S288, .i1⟩
  | 4 => ⟨S_, .i32⟩
  | 5 => ⟨S288, .i32⟩
  | 6 => ⟨S288, .i32⟩
  | 7 => ⟨S288, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S288x1, .i32⟩
  | 17 => ⟨S288x1, .i32⟩
  | 18 => ⟨S288x2, .i32⟩
  | 19 => ⟨S288x1x1024, .f32⟩
  | 20 => ⟨S288x1024, .f32⟩
  | 21 => ⟨S288x1x1024, .f32⟩
  | 22 => ⟨S288x512x1024, .f32⟩
  | 23 => ⟨S288x512x1024, .f32⟩
  | 24 => ⟨S512, .i32⟩
  | 25 => ⟨S_, .i32⟩
  | 26 => ⟨S_, .i32⟩
  | 27 => ⟨S512, .i32⟩
  | 28 => ⟨S512, .i32⟩
  | 29 => ⟨S512, .i32⟩
  | 30 => ⟨S_, .i32⟩
  | 31 => ⟨S512, .i32⟩
  | 32 => ⟨S512, .i1⟩
  | 33 => ⟨S512, .i32⟩
  | 34 => ⟨S512, .i32⟩
  | 35 => ⟨S_, .i32⟩
  | 36 => ⟨S512, .i32⟩
  | 37 => ⟨S512, .i1⟩
  | 38 => ⟨S512, .i1⟩
  | 39 => ⟨S_, .i32⟩
  | 40 => ⟨S512, .i32⟩
  | 41 => ⟨S512, .i32⟩
  | 42 => ⟨S512, .i32⟩
  | 43 => ⟨S_, .i32⟩
  | 44 => ⟨S512, .i32⟩
  | 45 => ⟨S512, .i32⟩
  | 46 => ⟨S1x512, .i32⟩
  | 47 => ⟨S1x288, .i32⟩
  | 48 => ⟨S288, .i32⟩
  | 49 => ⟨S288x1, .i32⟩
  | 50 => ⟨S288x512, .i32⟩
  | 51 => ⟨S288x512, .i32⟩
  | 52 => ⟨S288x512, .i1⟩
  | 53 => ⟨S288x512x1, .i1⟩
  | 54 => ⟨S_, .f32⟩
  | 55 => ⟨S_, .f32⟩
  | 56 => ⟨S288x512x1024, .i1⟩
  | 57 => ⟨S288x512x1024, .f32⟩
  | 58 => ⟨S288x512x1024, .f32⟩
  | 59 => ⟨S1179648x128, .f32⟩
  | _ => ⟨S4x288, .i32⟩

abbrev hbmTy (i : Nat) : BufTy := match i / 128 with
  | 0 => hbmTy0_0 i
  | 1 => hbmTy0_1 i
  | _ => ⟨S4x288, .i32⟩

abbrev bufTy : (tb : Table) → Fin (tcTables nBuf tb) → BufTy
  | .hbm, ⟨i, _⟩ => hbmTy i
  | _, _ => ⟨S4x288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_c_2 : Ref sig .tc := ⟨.hbm, 25, rfl⟩
abbrev main_v16 : Ref sig .tc := ⟨.hbm, 26, rfl⟩
abbrev main_c_3 : Ref sig .tc := ⟨.hbm, 27, rfl⟩
abbrev main_c_4 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_c_6 : Ref sig .tc := ⟨.hbm, 32, rfl⟩
abbrev main_c_7 : Ref sig .tc := ⟨.hbm, 33, rfl⟩
abbrev main_v19 : Ref sig .tc := ⟨.hbm, 34, rfl⟩
abbrev main_c_8 : Ref sig .tc := ⟨.hbm, 35, rfl⟩
abbrev main_c_9 : Ref sig .tc := ⟨.hbm, 36, rfl⟩
abbrev main_v20 : Ref sig .tc := ⟨.hbm, 37, rfl⟩
abbrev main_c_10 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_11 : Ref sig .tc := ⟨.hbm, 47, rfl⟩
abbrev main_v29 : Ref sig .tc := ⟨.hbm, 48, rfl⟩
abbrev main_v30 : Ref sig .tc := ⟨.hbm, 49, rfl⟩
abbrev main_c_12 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_13 : Ref sig .tc := ⟨.hbm, 54, rfl⟩
abbrev main_c_14 : Ref sig .tc := ⟨.hbm, 55, rfl⟩
abbrev main_v34 : Ref sig .tc := ⟨.hbm, 56, rfl⟩
abbrev main_c_15 : Ref sig .tc := ⟨.hbm, 57, rfl⟩
abbrev main_c_16 : Ref sig .tc := ⟨.hbm, 58, rfl⟩
abbrev main_v35 : Ref sig .tc := ⟨.hbm, 59, rfl⟩
abbrev main_c_17 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_18 : Ref sig .tc := ⟨.hbm, 75, rfl⟩
abbrev main_cst_19 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_v49 : Ref sig .tc := ⟨.hbm, 82, rfl⟩
abbrev main_cst_20 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_21 : Ref sig .tc := ⟨.hbm, 88, rfl⟩
abbrev main_v54 : Ref sig .tc := ⟨.hbm, 89, rfl⟩
abbrev main_v55 : Ref sig .tc := ⟨.hbm, 90, rfl⟩
abbrev main_cst_22 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_23 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_24 : Ref sig .tc := ⟨.hbm, 99, rfl⟩
abbrev main_v62 : Ref sig .tc := ⟨.hbm, 100, rfl⟩
abbrev main_v63 : Ref sig .tc := ⟨.hbm, 101, rfl⟩
abbrev main_c_25 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_26 : Ref sig .tc := ⟨.hbm, 106, rfl⟩
abbrev main_c_27 : Ref sig .tc := ⟨.hbm, 107, rfl⟩
abbrev main_v67 : Ref sig .tc := ⟨.hbm, 108, rfl⟩
abbrev main_c_28 : Ref sig .tc := ⟨.hbm, 109, rfl⟩
abbrev main_c_29 : Ref sig .tc := ⟨.hbm, 110, rfl⟩
abbrev main_v68 : Ref sig .tc := ⟨.hbm, 111, rfl⟩
abbrev main_c_30 : Ref sig .tc := ⟨.hbm, 112, rfl⟩
abbrev main_v69 : Ref sig .tc := ⟨.hbm, 113, rfl⟩
abbrev main_c_31 : Ref sig .tc := ⟨.hbm, 114, rfl⟩
abbrev main_c_32 : Ref sig .tc := ⟨.hbm, 115, rfl⟩
abbrev main_v70 : Ref sig .tc := ⟨.hbm, 116, rfl⟩
abbrev main_c_33 : Ref sig .tc := ⟨.hbm, 117, rfl⟩
abbrev main_c_34 : Ref sig .tc := ⟨.hbm, 118, rfl⟩
abbrev main_v71 : Ref sig .tc := ⟨.hbm, 119, rfl⟩
abbrev main_c_35 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_c_36 : Ref sig .tc := ⟨.hbm, 129, rfl⟩
abbrev main_v80 : Ref sig .tc := ⟨.hbm, 130, rfl⟩
abbrev main_v81 : Ref sig .tc := ⟨.hbm, 131, rfl⟩
abbrev main_c_37 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_c_38 : Ref sig .tc := ⟨.hbm, 136, rfl⟩
abbrev main_c_39 : Ref sig .tc := ⟨.hbm, 137, rfl⟩
abbrev main_v85 : Ref sig .tc := ⟨.hbm, 138, rfl⟩
abbrev main_c_40 : Ref sig .tc := ⟨.hbm, 139, rfl⟩
abbrev main_c_41 : Ref sig .tc := ⟨.hbm, 140, rfl⟩
abbrev main_v86 : Ref sig .tc := ⟨.hbm, 141, rfl⟩
abbrev main_c_42 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_c_43 : Ref sig .tc := ⟨.hbm, 153, rfl⟩
abbrev main_call1_v0 : Ref sig .tc := ⟨.hbm, 154, rfl⟩
abbrev main_call1_v1 : Ref sig .tc := ⟨.hbm, 155, rfl⟩
abbrev main_call1_v2 : Ref sig .tc := ⟨.hbm, 156, rfl⟩
abbrev main_call1_v3 : Ref sig .tc := ⟨.hbm, 157, rfl⟩
abbrev main_call1_v4 : Ref sig .tc := ⟨.hbm, 158, rfl⟩
abbrev main_call1_v5 : Ref sig .tc := ⟨.hbm, 159, rfl⟩
abbrev main_call1_v6 : Ref sig .tc := ⟨.hbm, 160, rfl⟩
abbrev main_call1_v7 : Ref sig .tc := ⟨.hbm, 161, rfl⟩
abbrev main_call1_v8 : Ref sig .tc := ⟨.hbm, 162, rfl⟩
abbrev main_call1_c : Ref sig .tc := ⟨.hbm, 163, rfl⟩
abbrev main_call1_v9 : Ref sig .tc := ⟨.hbm, 164, rfl⟩
abbrev main_call1_v10 : Ref sig .tc := ⟨.hbm, 165, rfl⟩
abbrev main_call1_v11 : Ref sig .tc := ⟨.hbm, 166, rfl⟩
abbrev main_call1_c_0 : Ref sig .tc := ⟨.hbm, 167, rfl⟩
abbrev main_call1_v12 : Ref sig .tc := ⟨.hbm, 168, rfl⟩
abbrev main_call1_v13 : Ref sig .tc := ⟨.hbm, 169, rfl⟩
abbrev main_v97 : Ref sig .tc := ⟨.hbm, 170, rfl⟩
abbrev main_c_44 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_cst_45 : Ref sig .tc := ⟨.hbm, 182, rfl⟩
abbrev main_call2_v0 : Ref sig .tc := ⟨.hbm, 183, rfl⟩
abbrev main_call2_v1 : Ref sig .tc := ⟨.hbm, 184, rfl⟩
abbrev main_call2_v2 : Ref sig .tc := ⟨.hbm, 185, rfl⟩
abbrev main_v108 : Ref sig .tc := ⟨.hbm, 186, rfl⟩
abbrev main_v109 : Ref sig .tc := ⟨.hbm, 187, rfl⟩

abbrev nD : Nat := 1
abbrev τ : Topo := Topo.v7x

variable {F : FTy → Type} [FloatOps F]
-- ==== Kernel4.lean ====
abbrev S32768x2048 : Shape := ⟨2, ![32768, 2048]⟩
abbrev S1x2048x1024 : Shape := ⟨3, ![1, 2048, 1024]⟩
abbrev S4x8192x1024 : Shape := ⟨3, ![4, 8192, 1024]⟩
abbrev S2x1024 : Shape := ⟨2, ![2, 1024]⟩
abbrev S32768x1024 : Shape := ⟨2, ![32768, 1024]⟩
abbrev S2048x1024 : Shape := ⟨2, ![2048, 1024]⟩
abbrev S_ : Shape := ⟨0, ![]⟩
abbrev S1x1024 : Shape := ⟨2, ![1, 1024]⟩
abbrev S1024 : Shape := ⟨1, ![1024]⟩
abbrev S512x2048 : Shape := ⟨2, ![512, 2048]⟩
abbrev S512x1024 : Shape := ⟨2, ![512, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S1x2048x1024, .f32⟩
  | .hbm, ⟨2, _⟩ => ⟨S4x8192x1024, .f32⟩
  | .hbm, ⟨3, _⟩ => ⟨S2x1024, .f32⟩
  | .hbm, ⟨4, _⟩ => ⟨S2x1024, .f32⟩
  | .hbm, ⟨5, _⟩ => ⟨S32768x1024, .f32⟩
  | .hbm, ⟨6, _⟩ => ⟨S2048x1024, .f32⟩
  | .hbm, ⟨7, _⟩ => ⟨S2048x1024, .bf16⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S32768x2048 : Shape := ⟨2, ![32768, 2048]⟩
abbrev S1x2048x1024 : Shape := ⟨3, ![1, 2048, 1024]⟩
abbrev S4x8192x1024 : Shape := ⟨3, ![4, 8192, 1024]⟩
abbrev S2x1024 : Shape := ⟨2, ![2, 1024]⟩
abbrev S32768x1024 : Shape := ⟨2, ![32768, 1024]⟩
abbrev S_ : Shape := ⟨0, ![]⟩
abbrev S2048x1024 : Shape := ⟨2, ![2048, 1024]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩

abbrev nBuf : Space → Nat
  | .hbm => 44
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x1024, .f32⟩
  | .hbm, ⟨2, _⟩ => ⟨S4x8192x1024, .f32⟩
  | .hbm, ⟨3, _⟩ => ⟨S2x1024, .f32⟩
  | .hbm, ⟨4, _⟩ => ⟨S2x1024, .f32⟩
  | .hbm, ⟨5, _⟩ => ⟨S32768x1024, .f32⟩
  | .hbm, ⟨6, _⟩ => ⟨S_, .f32⟩
  | .hbm, ⟨7, _⟩ => ⟨S32768x1024, .f32⟩
  | .hbm, ⟨8, _⟩ => ⟨S32768x1024, .f32⟩
  | .hbm, ⟨9, _⟩ => ⟨S32768x2048, .f32⟩
  | .hbm, ⟨10, _⟩ => ⟨S2048x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S32768x1024, .f32⟩
  | .hbm, ⟨43, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel5.lean ====
abbrev S4x8192x1024 : Shape := ⟨3, ![4, 8192, 1024]⟩
abbrev S1x1024x1280 : Shape := ⟨3, ![1, 1024, 1280]⟩
abbrev S1x1280 : Shape := ⟨2, ![1, 1280]⟩
abbrev S32768x1024 : Shape := ⟨2, ![32768, 1024]⟩
abbrev S1024x1280 : Shape := ⟨2, ![1024, 1280]⟩
abbrev S1280 : Shape := ⟨1, ![1280]⟩
abbrev S32768x1280 : Shape := ⟨2, ![32768, 1280]⟩
abbrev S512x1024 : Shape := ⟨2, ![512, 1024]⟩
abbrev S512x1280 : Shape := ⟨2, ![512, 1280]⟩

abbrev nBuf : Space → Nat
  | .hbm => 9
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S1x1024x1280, .f32⟩
  | .hbm, ⟨2, _⟩ => ⟨S1x1280, .f32⟩
  | .hbm, ⟨3, _⟩ => ⟨S32768x1024, .f32⟩
  | .hbm, ⟨4, _⟩ => ⟨S1024x1280, .f32⟩
  | .hbm, ⟨5, _⟩ => ⟨S1024x1280, .bf16⟩
  | .hbm, ⟨6, _⟩ => ⟨S1280, .f32⟩
  | .hbm, ⟨7, _⟩ => ⟨S1x1280, .f32⟩
  | .hbm, ⟨8, _⟩ => ⟨S32768x1280, .bf16⟩
  | .local _ .vmem, ⟨0, _⟩ => ⟨S512x1024, .f32⟩
  | .local _ .vmem, ⟨1, _⟩ => ⟨S512x1024, .f32⟩
  | .local _ .vmem, ⟨2, _⟩ => ⟨S1024x1280, .bf16⟩
  | .local _ .vmem, ⟨3, _⟩ => ⟨S1x1280, .f32⟩
  | .local _ .vmem, ⟨4, _⟩ => ⟨S512x1280, .bf16⟩
  | .local _ .vmem, ⟨5, _⟩ => ⟨S512x1280, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x8192x1024 : Shape := ⟨3, ![4, 8192, 1024]⟩
abbrev S1x1024x1280 : Shape := ⟨3, ![1, 1024, 1280]⟩
abbrev S1x1280 : Shape := ⟨2, ![1, 1280]⟩
abbrev S1024x1280 : Shape := ⟨2, ![1024, 1280]⟩
abbrev S4x8192x1280 : Shape := ⟨3, ![4, 8192, 1280]⟩
abbrev S1280 : Shape := ⟨1, ![1280]⟩
abbrev S1x1x1280 : Shape := ⟨3, ![1, 1, 1280]⟩
abbrev S32768x1280 : Shape := ⟨2, ![32768, 1280]⟩

abbrev nBuf : Space → Nat
  | .hbm => 11
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024x1280, .f32⟩
  | .hbm, ⟨2, _⟩ => ⟨S1x1280, .f32⟩
  | .hbm, ⟨3, _⟩ => ⟨S1024x1280, .f32⟩
  | .hbm, ⟨4, _⟩ => ⟨S4x8192x1280, .f32⟩
  | .hbm, ⟨5, _⟩ => ⟨S1280, .f32⟩
  | .hbm, ⟨6, _⟩ => ⟨S1x1x1280, .f32⟩
  | .hbm, ⟨7, _⟩ => ⟨S4x8192x1280, .f32⟩
  | .hbm, ⟨8, _⟩ => ⟨S4x8192x1280, .f32⟩
  | .hbm, ⟨9, _⟩ => ⟨S32768x1280, .f32⟩
  | .hbm, ⟨10, _⟩ => ⟨S32768x1280, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S32768x1024 : Shape := ⟨2, ![32768, 1024]⟩
abbrev S1x1024x1024 : Shape := ⟨3, ![1, 1024, 1024]⟩
abbrev S1x1024 : Shape := ⟨2, ![1, 1024]⟩
abbrev S4x8192x1024 : Shape := ⟨3, ![4, 8192, 1024]⟩
abbrev S2x1024 : Shape := ⟨2, ![2, 1024]⟩
abbrev S1024x1024 : Shape := ⟨2, ![1024, 1024]⟩
abbrev S1024 : Shape := ⟨1, ![1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 18
  | .vmem => 10
  | .smem => 0
  | _ => 0

abbrev bufTy : (tb : Table) → Fin (tcTables nBuf tb) → BufTy
  | .hbm, ⟨0, _⟩ => ⟨S32768x1024, .bf16⟩
  | .hbm, ⟨1, _⟩ => ⟨S1x1024x1024, .f32⟩
  | .hbm, ⟨2, _⟩ => ⟨S1x1024, .f32⟩
  | .hbm, ⟨3, _⟩ => ⟨S4x8192x1024, .f32⟩
  | .hbm, ⟨4, _⟩ => ⟨S2x1024, .f32⟩
  | .hbm, ⟨5, _⟩ => ⟨S2x1024, .f32⟩
  | .hbm, ⟨6, _⟩ => ⟨S32768x1024, .f32⟩
  | .hbm, ⟨7, _⟩ => ⟨S1024x1024, .f32⟩
  | .hbm, ⟨8, _⟩ => ⟨S1024x1024, .bf16⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S32768x1024 : Shape := ⟨2, ![32768, 1024]⟩
abbrev S1x1024x1024 : Shape := ⟨3, ![1, 1024, 1024]⟩
abbrev S1x1024 : Shape := ⟨2, ![1, 1024]⟩
abbrev S4x8192x1024 : Shape := ⟨3, ![4, 8192, 1024]⟩
abbrev S2x1024 : Shape := ⟨2, ![2, 1024]⟩
abbrev S_ : Shape := ⟨0, ![]⟩
abbrev S1024x1024 : Shape := ⟨2, ![1024, 1024]⟩
abbrev S1024 : Shape := ⟨1, ![1024]⟩
abbrev S32768 : Shape := ⟨1, ![32768]⟩
abbrev S32768x1 : Shape := ⟨2, ![32768, 1]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1x1024x1024, .f32⟩
  | .hbm, ⟨2, _⟩ => ⟨S1x1024, .f32⟩
  | .hbm, ⟨3, _⟩ => ⟨S4x8192x1024, .f32⟩
  | .hbm, ⟨4, _⟩ => ⟨S2x1024, .f32⟩
  | .hbm, ⟨5, _⟩ => ⟨S2x1024, .f32⟩
  | .hbm, ⟨6, _⟩ => ⟨S32768x1024, .f32⟩
  | .hbm, ⟨7, _⟩ => ⟨S_, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S1024x1024, .f32⟩
  | .hbm, ⟨12, _⟩ => ⟨S32768x1024, .f32⟩
  | .hbm, ⟨13, _⟩ => ⟨S1024, .f32⟩
  | .hbm, ⟨14, _⟩ => ⟨S1x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S32768x1024, .f32⟩
  | .hbm, ⟨43, _⟩ => ⟨S32768x1024, .f32⟩
  | .hbm, ⟨44, _⟩ => ⟨S1x1024, .f32⟩
  | .hbm, ⟨45, _⟩ => ⟨S1024, .f32⟩
  | .hbm, ⟨46, _⟩ => ⟨S1x1024, .f32⟩
  | .hbm, ⟨47, _⟩ => ⟨S32768x1024, .f32⟩
  | .hbm, ⟨48, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.RefRun.lean ====
/- The reference's run, read as its loop's states. A valuation HOLDS a state when the loop's buffers contain that
   state's fields, the set-up constants and the trip's number; one trip keeps holding, with the state stepped. So the
   result is read off the state after the last trip. -/
module

public import proofs.«01_k».proof.Proof.Gen.ReferenceIdeal.Run
public import proofs.«01_k».proof.Proof.Gen.ReferenceIdeal.Step

@[expose] public section

noncomputable section

namespace Cert.ReferenceIdeal.LoopRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop's buffers contain the state `s`, the constants made before the loop and the trip's number `j`. -/
structure Holding (W : Valuation τ sig (Elt F)) (s : State F) (j : ℕ) : Prop where
  state : W (Proc.devRef .tc main_v63_8) = s.main_v63_8
  outs : W (Proc.devRef .tc main_v63_9) = s.main_v63_9
  qs : W (Proc.devRef .tc main_v63_0) = s.main_v63_0
  ks : W (Proc.devRef .tc main_v63_1) = s.main_v63_1
  vs : W (Proc.devRef .tc main_v63_2) = s.main_v63_2
  trip : W (Proc.devRef .tc main_v63_7) = constantI S_ 32 (BitVec.ofNat 32 j)
  mask : W (Proc.devRef .tc main_v63_3) = Step.K_main_v38 (F := F)
  qdecay : W (Proc.devRef .tc main_v63_4) = Step.K_main_v47 (F := F)
  cdecay : W (Proc.devRef .tc main_v63_5) = Step.K_main_v60 (F := F)
  kdecay : W (Proc.devRef .tc main_v63_6) = Step.K_main_v56 (F := F)

variable {W : Valuation τ sig (Elt F)} {s : State F} {j : ℕ}

set_option maxRecDepth 8192 in
/-- The trip's chunk of queries is the step's. -/
theorem qslice (h : Holding W s j) : res_main_while0b_v93 W = Step.b5 j s := by
  unfold res_main_while0b_v93
  rw [h.qs, h.trip]
  rfl

set_option maxRecDepth 8192 in
/-- The trip's chunk of keys is the step's. -/
theorem kslice (h : Holding W s j) : res_main_while0b_v94 W = Step.b11 j s := by
  unfold res_main_while0b_v94
  rw [h.ks, h.trip]
  rfl

set_option maxRecDepth 8192 in
/-- The trip's chunk of values is the step's. -/
theorem vslice (h : Holding W s j) : res_main_while0b_v95 W = Step.b17 j s := by
  unfold res_main_while0b_v95
  rw [h.vs, h.trip]
  rfl

set_option maxRecDepth 8192 in
/-- The carried state after the trip is the step's. -/
theorem state_step (h : Holding W s j) : step_main_v63_8 W = Step.b35 j s := by
  unfold step_main_v63_8
  rw [kslice h, vslice h, h.state, h.cdecay, h.kdecay]
  rfl

set_option maxRecDepth 8192 in
/-- The outputs after the trip are the step's. -/
theorem outs_step (h : Holding W s j) : step_main_v63_9 W = Step.b41 j s := by
  unfold step_main_v63_9
  rw [qslice h, kslice h, vslice h, h.outs, h.state, h.mask, h.qdecay, h.trip]
  rfl

/-- The trip's number after the trip. -/
theorem trip_step (h : Holding W s j) : step_main_v63_7 W = constantI S_ 32 (BitVec.ofNat 32 (j + 1)) := by
  unfold step_main_v63_7
  rw [h.trip]
  funext i
  show BitVec.ofNat 32 j + 1#32 = BitVec.ofNat 32 (j + 1)
  rw [BitVec.ofNat_add]

/-- One trip keeps holding, the state stepped. -/
theorem Holding.next (h : Holding W s j) : Holding (STEP W) (step j s) (j + 1) where
  state := (STEP_main_v63_8 W).trans (state_step h)
  outs := (STEP_main_v63_9 W).trans (outs_step h)
  trip := (STEP_main_v63_7 W).trans (trip_step h)
  qs := (STEP_main_v63_0 W).trans h.qs
  ks := (STEP_main_v63_1 W).trans h.ks
  vs := (STEP_main_v63_2 W).trans h.vs
  mask := (STEP_main_v63_3 W).trans h.mask
  qdecay := (STEP_main_v63_4 W).trans h.qdecay
  cdecay := (STEP_main_v63_5 W).trans h.cdecay
  kdecay := (STEP_main_v63_6 W).trans h.kdecay

variable (m : (ℓ : Loc nD τ sig) → Buf (Elt F) ℓ) (c : Dev nD)

/-- The states of the loop run on the argument `x`, from the initial one. -/
def states (x : (⟨S32768x6144, .bf16⟩ : BufTy).Contents (Elt F)) : ℕ → State F
  | 0 => init x
  | n + 1 => step n (states x n)

set_option maxRecDepth 65536 in
set_option maxHeartbeats 500000 in
/-- What the operations before the loop leave holds the initial state. -/
theorem entry : Holding (entryContents preI m c) (init (m ((c.tc : Thread nD τ).loc main_arg0))) 0 := by
  constructor <;> (simp only [entryContents, afterL_cons, afterL_nil]; after_reads_simp) <;> rfl

/-- After `k` trips the buffers hold state number `k`. -/
theorem holding (k : ℕ) :
    Holding (STEP^[k] (entryContents preI m c)) (states (m ((c.tc : Thread nD τ).loc main_arg0)) k) k := by
  induction k with
  | zero => exact entry m c
  | succ k ih => rw [Function.iterate_succ_apply']; exact ih.next

set_option maxRecDepth 8192 in
/-- Every execution of the reference ends with its result read off state number 64, the argument unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v92)
          = Step.R_main_v92 (states (m ((c.tc : Thread nD τ).loc main_arg0)) 64) (m ((c.tc : Thread nD τ).loc main_arg0))
      ∧ r.2.mem ((c.tc : Thread nD τ).loc main_arg0) = m ((c.tc : Thread nD τ).loc main_arg0) :=
  (θ_run defs _ _).mono (fun r h c => ⟨(h c).1.trans (by
      have hk := holding m c 64
      unfold out_main_v92 Step.R_main_v92
      rw [hk.outs, iter_main_arg0 m c 64]
      try rfl), (h c).2⟩) (Value.run m ρ)

end Cert.ReferenceIdeal.LoopRun

end
-- ==== Proof.Finite.lean ====
/- The precondition read at an entry: where `finite` answers one, every entry of the projection is a real. -/
module

public import proofs.«01_k».proof.Pre_finite
public import Idealize.ShloMosaic.Lib.Pointwise
public import Idealize.ShloMosaic.Lib.ReduceAll

@[expose] public section

noncomputable section

namespace Cert.Pre_finite

open Idealize.ShloMosaic Idealize.ShloMosaic.Tactic

/-- The side conditions of the precondition's operations. -/
theorem facts : Facts := ⟨by decide, by decide, by decide, by decide⟩

theorem word_inf : Ideal.ofBits .f32 0x7F800000#32 = ⊤ := by
  simp [Ideal.ofBits, Ideal.ieee]

/-- An entry of a projection that passes `finite` is neither infinity. -/
theorem entry [Facts] (x : FVec Ideal S32768x6144 .bf16) (h : fn (F := Ideal) x = fun _ => 1#1) (i : S32768x6144.Idx) :
    x i ≠ ⊥ ∧ x i ≠ ⊤ := by
  have : Subsingleton S_.Idx := ⟨fun a b => funext fun k => k.elim0⟩
  have h1 := Host.reduce_andi_all _ _ _ _ _ (congrFun h ix0) i
  have h2 : max (x i) (-(x i)) < ⊤ := by
    rw [← word_inf]
    by_contra hn
    refine absurd h1 ?_
    show ¬ BitVec.ofBool (decide (max (x i) (-(x i)) < Ideal.ofBits .f32 0x7F800000#32)) = 1#1
    rw [decide_eq_false hn]; decide
  exact ⟨fun hb => by rw [hb] at h2; simp at h2, fun ht => by rw [ht] at h2; simp at h2⟩

end Cert.Pre_finite
end
-- ==== Proof.Kblk.lean ====
/- One grid point of the retention kernel, read at an index: what its case terms leave in the carried state and in the
   output block, as extended-real formulas of the point's input blocks and of the state it starts from. -/
module

public import proofs.«01_k».proof.Proof.Gen.KernelIdeal.Value
public import Idealize.ShloMosaic.Lib.Pointwise
public import Idealize.ShloMosaic.Lib.Pipeline.Value
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Tactic

/-! ## The per-head payloads, once for the four heads -/

section Payloads
variable {F : FTy → Type} [FloatOps F] [Named F]

/-- A head's state after the point: the state scaled by the chunk's decay, plus the decayed keys against the values. -/
def headState (w : F .f32) (k : Vec F S256x256 .bf16) (v : Vec F S256x512 .bf16) (kd : Vec F S1x256x1 .f32)
    (s : Vec F S1x256x512 .f32) : FVec F S1x256x512 .f32 :=
  shapeCast S1x256x512
    (addf (mulf (shapeCast S256x512 s shapeCasts_S1x256x512_S256x512) (broadcast S256x512 w))
      (matmul dot_S256x256_S256x512_S256x512_0_0_1_1_n_n none
        (truncf .bf16 (mulf (extf .f32 k bitsLt_bf16_f32)
          (broadcastTo S256x256 (shapeCast S256x1 kd shapeCasts_S1x256x1_S256x1) broadcasts_S256x1_S256x256)) bitsLt_bf16_f32)
        v (constant S256x512 .f32 0x00000000#32)))
    shapeCasts_S256x512_S1x256x512

/-- A head's output before normalization: masked scores against the values, plus the queries against the state, decayed. -/
def headRaw (q k : Vec F S256x256 .bf16) (v : Vec F S256x512 .bf16) (d : Vec F S1x256x256 .f32) (qd : Vec F S1x256x1 .f32)
    (s : Vec F S1x256x512 .f32) : FVec F S256x512 .f32 :=
  addf
    (matmul dot_S256x256_S256x512_S256x512_1_0_0_1_n_n none
      (truncf .bf16 (mulf (matmul dot_S256x256_S256x256_S256x256_1_1_0_0_n_n none q k (constant S256x256 .f32 0x00000000#32))
        (shapeCast S256x256 d shapeCasts_S1x256x256_S256x256)) bitsLt_bf16_f32)
      v (constant S256x512 .f32 0x00000000#32))
    (mulf
      (matmul dot_S256x256_S256x512_S256x512_1_0_0_1_n_n none q
        (truncf .bf16 (shapeCast S256x512 s shapeCasts_S1x256x512_S256x512) bitsLt_bf16_f32) (constant S256x512 .f32 0x00000000#32))
      (broadcastTo S256x512 (shapeCast S256x1 qd shapeCasts_S1x256x1_S256x1) broadcasts_S256x1_S256x512))

/-- A row minus its mean. -/
def centred (o : FVec F S256x512 .f32) : FVec F S256x512 .f32 :=
  subf o (broadcastTo S256x512
    (divf (shapeCast S256x1 (multiReduction .add [1] S256 o 0x00000000#32 reduces_S256x512_S256 (.inl rfl) rfl) shapeCasts_S256_S256x1)
      (broadcast S256x1 (Scalar.ofBits .f32 0x44000000#32))) broadcasts_S256x1_S256x512)

/-- A head's output block: the row normalized, times the gate `g / (1 + exp (0 - g))`. -/
def headNorm (o : FVec F S256x512 .f32) (g : Vec F S256x512 .bf16) : FVec F S256x512 .bf16 :=
  truncf .bf16
    (mulf
      (divf (extf .f32 g bitsLt_bf16_f32)
        (addf (broadcast S256x512 (Scalar.ofBits .f32 0x3F800000#32))
          (exp (subf (broadcast S256x512 (Scalar.ofBits .f32 0x00000000#32)) (extf .f32 g bitsLt_bf16_f32)))))
      (mulf (centred o)
        (broadcastTo S256x512
          (rsqrt (addf
            (divf (shapeCast S256x1 (multiReduction .add [1] S256 (mulf (centred o) (centred o)) 0x00000000#32 reduces_S256x512_S256
              (.inl rfl) rfl) shapeCasts_S256_S256x1) (broadcast S256x1 (Scalar.ofBits .f32 0x44000000#32)))
            (broadcast S256x1 (Scalar.ofBits .f32 0x358637BD#32)))) broadcasts_S256x1_S256x512)))
    bitsLt_bf16_f32

end Payloads

/-! ## The formulas, over the extended reals -/

/-- The decay of the carried state over a chunk, head by head: the named constants. -/
def dec (h : Fin 4) : EReal := match h with
  | ⟨0, _⟩ => Named.named (F := Ideal) κ "decay0" (φ := .f32) 0x399ACCA1#32
  | ⟨1, _⟩ => Named.named (F := Ideal) κ "decay1" (φ := .f32) 0x3C9160A5#32
  | ⟨2, _⟩ => Named.named (F := Ideal) κ "decay2" (φ := .f32) 0x3E097FCE#32
  | ⟨3, _⟩ => Named.named (F := Ideal) κ "decay3" (φ := .f32) 0x3EBBFC5D#32

/-- Column `d` of head `h` among the four heads' 256 columns each. -/
abbrev cq (h : Fin 4) (d : Fin 256) : Fin 1024 := ⟨256 * h.val + d.val, by omega⟩
/-- Column `e` of head `h` among the four heads' 512 columns each. -/
abbrev cv (h : Fin 4) (e : Fin 512) : Fin 2048 := ⟨512 * h.val + e.val, by omega⟩

/-- The state after a point, at head `h`. -/
def stF (x1 : Vec Ideal S256x1024 .bf16) (x2 : Vec Ideal S256x2048 .bf16) (x6 : Vec Ideal S4x256x1 .f32)
    (xs : Vec Ideal S4x256x512 .f32) (h : Fin 4) (d : Fin 256) (e : Fin 512) : EReal :=
  xs (ix3 h d e) * dec h + ∑ r : Fin 256, x1 (ix2 r (cq h d)) * x6 (ix3 h r 0) * x2 (ix2 r (cv h e))

/-- The output before normalization, at head `h`. -/
def rawF (x0 x1 : Vec Ideal S256x1024 .bf16) (x2 : Vec Ideal S256x2048 .bf16) (x4 : Vec Ideal S4x256x256 .f32)
    (x5 : Vec Ideal S4x256x1 .f32) (xs : Vec Ideal S4x256x512 .f32) (h : Fin 4) (r : Fin 256) (e : Fin 512) : EReal :=
  (∑ r' : Fin 256, (∑ d : Fin 256, x0 (ix2 r (cq h d)) * x1 (ix2 r' (cq h d))) * x4 (ix3 h r r') * x2 (ix2 r' (cv h e)))
    + (∑ d : Fin 256, x0 (ix2 r (cq h d)) * xs (ix3 h d e)) * x5 (ix3 h r 0)

/-- A row of 512 normalized: minus its mean, over the square root of its variance plus the floor. -/
def normF (o : Fin 512 → EReal) (e : Fin 512) : EReal :=
  (o e - Ideal.div (∑ i, o i) (Ideal.ofBits .f32 0x44000000#32))
    * Ideal.rsqrt (Ideal.div (∑ j, (o j - Ideal.div (∑ i, o i) (Ideal.ofBits .f32 0x44000000#32))
        * (o j - Ideal.div (∑ i, o i) (Ideal.ofBits .f32 0x44000000#32))) (Ideal.ofBits .f32 0x44000000#32)
      + Ideal.ofBits .f32 0x358637BD#32)

/-- The gate. -/
def gateF (g : EReal) : EReal := Ideal.div g (1 + Ideal.exp (0 - g))

/-- `headState` at an index. -/
theorem headState_apply (w : Ideal .f32) (k : Vec Ideal S256x256 .bf16) (v : Vec Ideal S256x512 .bf16) (kd : Vec Ideal S1x256x1 .f32)
    (s : Vec Ideal S1x256x512 .f32) (d : Fin 256) (e : Fin 512) :
    headState w k v kd s (ix3 0 d e)
      = s (ix3 0 d e) * w + ∑ r : Fin 256, k (ix2 r d) * kd (ix3 0 r 0) * v (ix2 r e) := by
  pointwise [headState]

/-- `headRaw` at an index. -/
theorem headRaw_apply (q k : Vec Ideal S256x256 .bf16) (v : Vec Ideal S256x512 .bf16) (dm : Vec Ideal S1x256x256 .f32)
    (qd : Vec Ideal S1x256x1 .f32) (s : Vec Ideal S1x256x512 .f32) (r : Fin 256) (e : Fin 512) :
    headRaw q k v dm qd s (ix2 r e)
      = (∑ r' : Fin 256, (∑ d : Fin 256, q (ix2 r d) * k (ix2 r' d)) * dm (ix3 0 r r') * v (ix2 r' e))
        + (∑ d : Fin 256, q (ix2 r d) * s (ix3 0 d e)) * qd (ix3 0 r 0) := by
  pointwise [headRaw]

/-- `headNorm` at an index. -/
theorem headNorm_apply (o : FVec Ideal S256x512 .f32) (g : Vec Ideal S256x512 .bf16) (r : Fin 256) (e : Fin 512) :
    headNorm o g (ix2 r e) = gateF (g (ix2 r e)) * normF (fun e => o (ix2 r e)) e := by
  unfold gateF normF
  pointwise [headNorm, centred]

/-! ## Loads and stores of one head, at an index -/

/-- A load of a head's columns of the queries or keys. -/
theorem ld_q (x : Vec Ideal S256x1024 .bf16) (o : Nat) (h : Fin 4) (ho : o = 256 * h.val) (inb) (r d : Fin 256) :
    View.ld x (Rect.unit (s := S256x1024) ![0, o] ![256, 256] inb) (ix2 r d : S256x256.Idx) = x (ix2 r (cq h d)) :=
  View.ld_unit_apply_of x _ _ inb _ _ (fun a => by subst ho; fin_cases a <;> simp [cq])

/-- A load of a head's columns of the values or gates. -/
theorem ld_v (x : Vec Ideal S256x2048 .bf16) (o : Nat) (h : Fin 4) (ho : o = 512 * h.val) (inb) (r : Fin 256) (e : Fin 512) :
    View.ld x (Rect.unit (s := S256x2048) ![0, o] ![256, 512] inb) (ix2 r e : S256x512.Idx) = x (ix2 r (cv h e)) :=
  View.ld_unit_apply_of x _ _ inb _ _ (fun a => by subst ho; fin_cases a <;> simp [cv])

/-- A load of a head's mask. -/
theorem ld_m (x : Vec Ideal S4x256x256 .f32) (o : Nat) (h : Fin 4) (ho : o = h.val) (inb) (r s : Fin 256) :
    View.ld x (Rect.unit (s := S4x256x256) ![o, 0, 0] ![1, 256, 256] inb) (ix3 0 r s : S1x256x256.Idx) = x (ix3 h r s) :=
  View.ld_unit_apply_of x _ _ inb _ _ (fun a => by subst ho; fin_cases a <;> simp)

/-- A load of a head's row factors. -/
theorem ld_d (x : Vec Ideal S4x256x1 .f32) (o : Nat) (h : Fin 4) (ho : o = h.val) (inb) (r : Fin 256) :
    View.ld x (Rect.unit (s := S4x256x1) ![o, 0, 0] ![1, 256, 1] inb) (ix3 0 r 0 : S1x256x1.Idx) = x (ix3 h r 0) :=
  View.ld_unit_apply_of x _ _ inb _ _ (fun a => by subst ho; fin_cases a <;> simp)

/-- A load of a head's state. -/
theorem ld_s (x : Vec Ideal S4x256x512 .f32) (o : Nat) (h : Fin 4) (ho : o = h.val) (inb) (d : Fin 256) (e : Fin 512) :
    View.ld x (Rect.unit (s := S4x256x512) ![o, 0, 0] ![1, 256, 512] inb) (ix3 0 d e : S1x256x512.Idx) = x (ix3 h d e) :=
  View.ld_unit_apply_of x _ _ inb _ _ (fun a => by subst ho; fin_cases a <;> simp)

/-- The last store of a head's state is what is read there. -/
theorem canon_s_hit (o : Nat) (h : Fin 4) (ho : o = h.val) (inb) (w : Vec Ideal S1x256x512 .f32)
    (L : List (View.Piece (Elt Ideal) S4x256x512 .f32)) (d : Fin 256) (e : Fin 512) :
    View.canon ((⟨Rect.unit (s := S4x256x512) ![o, 0, 0] ![1, 256, 512] inb, w⟩ : View.Piece (Elt Ideal) S4x256x512 .f32) :: L)
      (ix3 h d e) = w (ix3 0 d e) := by
  have hi : (ix3 h d e : S4x256x512.Idx) = (Rect.unit (s := S4x256x512) ![o, 0, 0] ![1, 256, 512] inb).emb (ix3 0 d e) := by
    funext a; apply Fin.ext; rw [Rect.emb_apply]; subst ho; fin_cases a <;> simp
  rw [hi]; exact View.canon_cons_emb _ _ _ _

/-- A store of another head's state is not read. -/
theorem canon_s_miss (o : Nat) (h : Fin 4) (ho : o ≠ h.val) (inb) (w : Vec Ideal S1x256x512 .f32)
    (L : List (View.Piece (Elt Ideal) S4x256x512 .f32)) (d : Fin 256) (e : Fin 512) :
    View.canon ((⟨Rect.unit (s := S4x256x512) ![o, 0, 0] ![1, 256, 512] inb, w⟩ : View.Piece (Elt Ideal) S4x256x512 .f32) :: L)
      (ix3 h d e) = View.canon L (ix3 h d e) := by
  refine View.canon_cons_of_not_mem _ _ fun hm => ho ?_
  have := (Rect.mem_set_unit (inb := inb)).mp hm (0 : Fin 3)
  simp at this; omega

/-- The state just cleared is zero everywhere. -/
theorem canon_s_zero (inb) (h : Fin 4) (d : Fin 256) (e : Fin 512) :
    View.canon [(⟨Rect.unit (s := S4x256x512) ![0, 0, 0] ![4, 256, 512] inb, (shapeCast S4x256x512 (broadcast S4x256x512 (FloatOps.ofBits (F := Ideal) .f32 0x00000000#32)) shapeCasts_S4x256x512_S4x256x512)⟩ : View.Piece (Elt Ideal) S4x256x512 .f32)]
      (ix3 h d e) = 0 := by
  have := View.canon_cons_unit_zero (Val := Elt Ideal) (S := S4x256x512) (e := .f32) (off := ![0, 0, 0])
    (by funext a; fin_cases a <;> rfl) inb ((shapeCast S4x256x512 (broadcast S4x256x512 (FloatOps.ofBits (F := Ideal) .f32 0x00000000#32)) shapeCasts_S4x256x512_S4x256x512)) []
  rw [show View.canon [(⟨Rect.unit (s := S4x256x512) ![0, 0, 0] ![4, 256, 512] inb, (shapeCast S4x256x512 (broadcast S4x256x512 (FloatOps.ofBits (F := Ideal) .f32 0x00000000#32)) shapeCasts_S4x256x512_S4x256x512)⟩ : View.Piece (Elt Ideal) S4x256x512 .f32)] = (shapeCast S4x256x512 (broadcast S4x256x512 (FloatOps.ofBits (F := Ideal) .f32 0x00000000#32)) shapeCasts_S4x256x512_S4x256x512) from this]
  pointwise []

/-- A read of a head's state after some stores is the canon of the stores there. -/
theorem readCov_s {sp κ'} (v : View sig κ' sp S4x256x512 .f32) (L : List (View.Piece (Elt Ideal) S4x256x512 .f32))
    (hL : ∃ (inb : _) (w : _), (⟨Rect.unit (s := S4x256x512) ![0, 0, 0] ![4, 256, 512] inb, w⟩ : View.Piece (Elt Ideal) S4x256x512 .f32) ∈ L)
    (o : Nat) (h : Fin 4) (ho : o = h.val) (inb) (d : Fin 256) (e : Fin 512) :
    v.readCov L (Rect.unit (s := S4x256x512) ![o, 0, 0] ![1, 256, 512] inb).toLoadRect (ix3 0 d e : S1x256x512.Idx) = View.canon L (ix3 h d e) := by
  have hcov : ∀ y, ∃ p ∈ L, y ∈ p.1.set := fun y => by
    obtain ⟨inb', w, hm⟩ := hL
    exact ⟨_, hm, View.mem_set_unit_zero (S := S4x256x512) (by funext a; fin_cases a <;> rfl) inb' y⟩
  rw [View.readCov_eq_canon_ld v L _ hcov]
  exact ld_s _ o h ho inb d e

/-- The last store of a head's output columns is what is read there. -/
theorem canon_o_hit (o : Nat) (h : Fin 4) (ho : o = 512 * h.val) (inb) (w : Vec Ideal S256x512 .bf16)
    (L : List (View.Piece (Elt Ideal) S256x2048 .bf16)) (r : Fin 256) (e : Fin 512) :
    View.canon ((⟨Rect.unit (s := S256x2048) ![0, o] ![256, 512] inb, w⟩ : View.Piece (Elt Ideal) S256x2048 .bf16) :: L)
      (ix2 r (cv h e)) = w (ix2 r e) := by
  have hi : (ix2 r (cv h e) : S256x2048.Idx) = (Rect.unit (s := S256x2048) ![0, o] ![256, 512] inb).emb (ix2 r e) := by
    funext a; apply Fin.ext; rw [Rect.emb_apply]; subst ho; fin_cases a <;> simp [cv]
  rw [hi]; exact View.canon_cons_emb _ _ _ _

/-- A store of another head's output columns is not read. -/
theorem canon_o_miss (o : Nat) (h : Fin 4) (ho : o + 512 ≤ 512 * h.val ∨ 512 * h.val + 512 ≤ o) (inb) (w : Vec Ideal S256x512 .bf16)
    (L : List (View.Piece (Elt Ideal) S256x2048 .bf16)) (r : Fin 256) (e : Fin 512) :
    View.canon ((⟨Rect.unit (s := S256x2048) ![0, o] ![256, 512] inb, w⟩ : View.Piece (Elt Ideal) S256x2048 .bf16) :: L)
      (ix2 r (cv h e)) = View.canon L (ix2 r (cv h e)) := by
  refine View.canon_cons_of_not_mem _ _ fun hm => ?_
  have := (Rect.mem_set_unit (inb := inb)).mp hm (1 : Fin 2)
  simp [cv] at this; omega

/-! ## The case terms -/

/-- The four heads. -/
theorem four : ∀ h : Fin 4, h = 0 ∨ h = 1 ∨ h = 2 ∨ h = 3 := by decide

section Case
variable (c : Dev nD) (t : grid0.Coords)
  (m0 : Memref sig .tc .vmem S256x1024 .bf16) (h0 : m0.IsWhole) (m1 : Memref sig .tc .vmem S256x1024 .bf16) (h1 : m1.IsWhole)
  (m2 : Memref sig .tc .vmem S256x2048 .bf16) (h2 : m2.IsWhole) (m3 : Memref sig .tc .vmem S256x2048 .bf16) (h3 : m3.IsWhole)
  (m4 : Memref sig .tc .vmem S4x256x256 .f32) (h4 : m4.IsWhole) (m5 : Memref sig .tc .vmem S4x256x1 .f32) (h5 : m5.IsWhole)
  (m6 : Memref sig .tc .vmem S4x256x1 .f32) (h6 : m6.IsWhole) (m7 : Memref sig .tc .vmem S256x2048 .bf16) (h7 : m7.IsWhole)
  (m8 : Memref sig .tc .vmem S4x256x512 .f32) (h8 : m8.IsWhole)
  (x0 x1 : Vec Ideal S256x1024 .bf16) (x2 x3 : Vec Ideal S256x2048 .bf16) (x4 : Vec Ideal S4x256x256 .f32)
  (x5 x6 : Vec Ideal S4x256x1 .f32) (xs : Vec Ideal S4x256x512 .f32)

/-- The state after a point, from the state `xs`. -/
theorem sout_B (hc : ¬cond0_0 t) (h : Fin 4) (d : Fin 256) (e : Fin 512) :
    sout0_B_0 (F := Ideal) c t m0 h0 m1 h1 m2 h2 m3 h3 m4 h4 m5 h5 m6 h6 m7 h7 m8 h8 hc x0 x1 x2 x3 x4 x5 x6 xs (ix3 h d e) = stF x1 x2 x6 xs h d e := by
  unfold sout0_B_0
  rw [View.read_writes_eq_canon _ _ _ (scover0_B_0 c _ _ _ _ _ _ _ _ _ _ _ _ _ _ _ _ _ _ _ _ _ _ _ _ _ _ _ _ )]
  unfold kernelRun0_B; dsimp only; sl_unfold_words
  simp only [View.readAt_eq_ld, h0.read_unread, h1.read_unread, h2.read_unread, h3.read_unread, h4.read_unread, h5.read_unread, h6.read_unread, h7.read_unread, h8.read_unread]
  rcases four h with rfl | rfl | rfl | rfl
  · rw [canon_s_miss 3 0 (by decide)]; rw [canon_s_miss 2 0 (by decide)]; rw [canon_s_miss 1 0 (by decide)]; rw [canon_s_hit 0 0 rfl]
    refine (headState_apply (dec 0) _ _ _ _ d e).trans ?_
    refine congrArg₂ (· + ·) (congrArg (· * dec 0) ?_) (Finset.sum_congr rfl fun r _ => by
      rw [ld_q _ 0 0 rfl, ld_v _ 0 0 rfl, ld_d _ 0 0 rfl])
    rw [ld_s _ 0 0 rfl]
  · rw [canon_s_miss 3 1 (by decide)]; rw [canon_s_miss 2 1 (by decide)]; rw [canon_s_hit 1 1 rfl]
    refine (headState_apply (dec 1) _ _ _ _ d e).trans ?_
    refine congrArg₂ (· + ·) (congrArg (· * dec 1) ?_) (Finset.sum_congr rfl fun r _ => by
      rw [ld_q _ 256 1 rfl, ld_v _ 512 1 rfl, ld_d _ 1 1 rfl])
    rw [ld_s _ 1 1 rfl]
  · rw [canon_s_miss 3 2 (by decide)]; rw [canon_s_hit 2 2 rfl]
    refine (headState_apply (dec 2) _ _ _ _ d e).trans ?_
    refine congrArg₂ (· + ·) (congrArg (· * dec 2) ?_) (Finset.sum_congr rfl fun r _ => by
      rw [ld_q _ 512 2 rfl, ld_v _ 1024 2 rfl, ld_d _ 2 2 rfl])
    rw [ld_s _ 2 2 rfl]
  · rw [canon_s_hit 3 3 rfl]
    refine (headState_apply (dec 3) _ _ _ _ d e).trans ?_
    refine congrArg₂ (· + ·) (congrArg (· * dec 3) ?_) (Finset.sum_congr rfl fun r _ => by
      rw [ld_q _ 768 3 rfl, ld_v _ 1536 3 rfl, ld_d _ 3 3 rfl])
    rw [ld_s _ 3 3 rfl]

/-- The output block of a point, from the state `xs`. -/
theorem out_B (hc : ¬cond0_0 t) (h : Fin 4) (r : Fin 256) (e : Fin 512) :
    out0_B_7 (F := Ideal) c t m0 h0 m1 h1 m2 h2 m3 h3 m4 h4 m5 h5 m6 h6 m7 h7 m8 h8 hc x0 x1 x2 x3 x4 x5 x6 xs (ix2 r (cv h e))
      = gateF (x3 (ix2 r (cv h e))) * normF (fun e => rawF x0 x1 x2 x4 x5 xs h r e) e := by
  unfold out0_B_7
  rw [View.read_writes_eq_canon _ _ _ (cover0_B_7 c _ _ _ _ _ _ _ _ _ _ _ _ _ _ _ _ _ _ _ _ _ _ _ _ _ _ _ _ )]
  unfold kernelRun0_B; dsimp only; sl_unfold_words
  simp only [View.readAt_eq_ld, h0.read_unread, h1.read_unread, h2.read_unread, h3.read_unread, h4.read_unread, h5.read_unread, h6.read_unread, h7.read_unread, h8.read_unread]
  rcases four h with rfl | rfl | rfl | rfl
  · rw [canon_o_miss 1536 0 (by decide)]; rw [canon_o_miss 1024 0 (by decide)]; rw [canon_o_miss 512 0 (by decide)]; rw [canon_o_hit 0 0 rfl]
    refine (headNorm_apply (headRaw (View.ld x0 (Rect.unit (s := S256x1024) ![0, 0] ![256, 256] inb_S256x1024_S256x256_0_0))
      (View.ld x1 (Rect.unit (s := S256x1024) ![0, 0] ![256, 256] inb_S256x1024_S256x256_0_0))
      (View.ld x2 (Rect.unit (s := S256x2048) ![0, 0] ![256, 512] inb_S256x2048_S256x512_0_0))
      (View.ld x4 (Rect.unit (s := S4x256x256) ![0, 0, 0] ![1, 256, 256] inb_S4x256x256_S1x256x256_0_0_0))
      (View.ld x5 (Rect.unit (s := S4x256x1) ![0, 0, 0] ![1, 256, 1] inb_S4x256x1_S1x256x1_0_0_0)) _)
      (View.ld x3 (Rect.unit (s := S256x2048) ![0, 0] ![256, 512] inb_S256x2048_S256x512_0_0)) r e).trans ?_
    refine congrArg₂ (· * ·) (congrArg gateF (ld_v _ 0 0 rfl _ _ _)) (congrArg (fun o => normF o e) (funext fun e => ?_))
    refine (headRaw_apply _ _ _ _ _ _ _ _).trans ?_
    refine congrArg₂ (· + ·) (Finset.sum_congr rfl fun s _ => ?_)
      (congrArg₂ (· * ·) (Finset.sum_congr rfl fun d _ => ?_) (ld_d _ 0 0 rfl _ _))
    · rw [ld_v _ 0 0 rfl, ld_m _ 0 0 rfl]
      refine congrArg (fun z => z * _ * _) (Finset.sum_congr rfl fun d _ => ?_)
      rw [ld_q _ 0 0 rfl, ld_q _ 0 0 rfl]
    · rw [ld_q _ 0 0 rfl]
      rw [ld_s _ 0 0 rfl]
  · rw [canon_o_miss 1536 1 (by decide)]; rw [canon_o_miss 1024 1 (by decide)]; rw [canon_o_hit 512 1 rfl]
    refine (headNorm_apply (headRaw (View.ld x0 (Rect.unit (s := S256x1024) ![0, 256] ![256, 256] inb_S256x1024_S256x256_0_256))
      (View.ld x1 (Rect.unit (s := S256x1024) ![0, 256] ![256, 256] inb_S256x1024_S256x256_0_256))
      (View.ld x2 (Rect.unit (s := S256x2048) ![0, 512] ![256, 512] inb_S256x2048_S256x512_0_512))
      (View.ld x4 (Rect.unit (s := S4x256x256) ![1, 0, 0] ![1, 256, 256] inb_S4x256x256_S1x256x256_1_0_0))
      (View.ld x5 (Rect.unit (s := S4x256x1) ![1, 0, 0] ![1, 256, 1] inb_S4x256x1_S1x256x1_1_0_0)) _)
      (View.ld x3 (Rect.unit (s := S256x2048) ![0, 512] ![256, 512] inb_S256x2048_S256x512_0_512)) r e).trans ?_
    refine congrArg₂ (· * ·) (congrArg gateF (ld_v _ 512 1 rfl _ _ _)) (congrArg (fun o => normF o e) (funext fun e => ?_))
    refine (headRaw_apply _ _ _ _ _ _ _ _).trans ?_
    refine congrArg₂ (· + ·) (Finset.sum_congr rfl fun s _ => ?_)
      (congrArg₂ (· * ·) (Finset.sum_congr rfl fun d _ => ?_) (ld_d _ 1 1 rfl _ _))
    · rw [ld_v _ 512 1 rfl, ld_m _ 1 1 rfl]
      refine congrArg (fun z => z * _ * _) (Finset.sum_congr rfl fun d _ => ?_)
      rw [ld_q _ 256 1 rfl, ld_q _ 256 1 rfl]
    · rw [ld_q _ 256 1 rfl]
      rw [ld_s _ 1 1 rfl]
  · rw [canon_o_miss 1536 2 (by decide)]; rw [canon_o_hit 1024 2 rfl]
    refine (headNorm_apply (headRaw (View.ld x0 (Rect.unit (s := S256x1024) ![0, 512] ![256, 256] inb_S256x1024_S256x256_0_512))
      (View.ld x1 (Rect.unit (s := S256x1024) ![0, 512] ![256, 256] inb_S256x1024_S256x256_0_512))
      (View.ld x2 (Rect.unit (s := S256x2048) ![0, 1024] ![256, 512] inb_S256x2048_S256x512_0_1024))
      (View.ld x4 (Rect.unit (s := S4x256x256) ![2, 0, 0] ![1, 256, 256] inb_S4x256x256_S1x256x256_2_0_0))
      (View.ld x5 (Rect.unit (s := S4x256x1) ![2, 0, 0] ![1, 256, 1] inb_S4x256x1_S1x256x1_2_0_0)) _)
      (View.ld x3 (Rect.unit (s := S256x2048) ![0, 1024] ![256, 512] inb_S256x2048_S256x512_0_1024)) r e).trans ?_
    refine congrArg₂ (· * ·) (congrArg gateF (ld_v _ 1024 2 rfl _ _ _)) (congrArg (fun o => normF o e) (funext fun e => ?_))
    refine (headRaw_apply _ _ _ _ _ _ _ _).trans ?_
    refine congrArg₂ (· + ·) (Finset.sum_congr rfl fun s _ => ?_)
      (congrArg₂ (· * ·) (Finset.sum_congr rfl fun d _ => ?_) (ld_d _ 2 2 rfl _ _))
    · rw [ld_v _ 1024 2 rfl, ld_m _ 2 2 rfl]
      refine congrArg (fun z => z * _ * _) (Finset.sum_congr rfl fun d _ => ?_)
      rw [ld_q _ 512 2 rfl, ld_q _ 512 2 rfl]
    · rw [ld_q _ 512 2 rfl]
      rw [ld_s _ 2 2 rfl]
  · rw [canon_o_hit 1536 3 rfl]
    refine (headNorm_apply (headRaw (View.ld x0 (Rect.unit (s := S256x1024) ![0, 768] ![256, 256] inb_S256x1024_S256x256_0_768))
      (View.ld x1 (Rect.unit (s := S256x1024) ![0, 768] ![256, 256] inb_S256x1024_S256x256_0_768))
      (View.ld x2 (Rect.unit (s := S256x2048) ![0, 1536] ![256, 512] inb_S256x2048_S256x512_0_1536))
      (View.ld x4 (Rect.unit (s := S4x256x256) ![3, 0, 0] ![1, 256, 256] inb_S4x256x256_S1x256x256_3_0_0))
      (View.ld x5 (Rect.unit (s := S4x256x1) ![3, 0, 0] ![1, 256, 1] inb_S4x256x1_S1x256x1_3_0_0)) _)
      (View.ld x3 (Rect.unit (s := S256x2048) ![0, 1536] ![256, 512] inb_S256x2048_S256x512_0_1536)) r e).trans ?_
    refine congrArg₂ (· * ·) (congrArg gateF (ld_v _ 1536 3 rfl _ _ _)) (congrArg (fun o => normF o e) (funext fun e => ?_))
    refine (headRaw_apply _ _ _ _ _ _ _ _).trans ?_
    refine congrArg₂ (· + ·) (Finset.sum_congr rfl fun s _ => ?_)
      (congrArg₂ (· * ·) (Finset.sum_congr rfl fun d _ => ?_) (ld_d _ 3 3 rfl _ _))
    · rw [ld_v _ 1536 3 rfl, ld_m _ 3 3 rfl]
      refine congrArg (fun z => z * _ * _) (Finset.sum_congr rfl fun d _ => ?_)
      rw [ld_q _ 768 3 rfl, ld_q _ 768 3 rfl]
    · rw [ld_q _ 768 3 rfl]
      rw [ld_s _ 3 3 rfl]
/-- The state after a point, from the cleared state. -/
theorem sout_A (hc : cond0_0 t) (h : Fin 4) (d : Fin 256) (e : Fin 512) :
    sout0_A_0 (F := Ideal) c t m0 h0 m1 h1 m2 h2 m3 h3 m4 h4 m5 h5 m6 h6 m7 h7 m8 h8 hc x0 x1 x2 x3 x4 x5 x6 (ix3 h d e) = stF x1 x2 x6 (fun _ => 0) h d e := by
  unfold sout0_A_0
  rw [View.read_writes_eq_canon _ _ _ (scover0_A_0 c _ _ _ _ _ _ _ _ _ _ _ _ _ _ _ _ _ _ _ _ _ _ _ _ _ _ _ )]
  unfold kernelRun0_A; dsimp only; sl_unfold_words
  simp only [View.readAt_eq_ld, h0.read_unread, h1.read_unread, h2.read_unread, h3.read_unread, h4.read_unread, h5.read_unread, h6.read_unread, h7.read_unread, h8.read_unread]
  rcases four h with rfl | rfl | rfl | rfl
  · rw [canon_s_miss 3 0 (by decide)]; rw [canon_s_miss 2 0 (by decide)]; rw [canon_s_miss 1 0 (by decide)]; rw [canon_s_hit 0 0 rfl]
    refine (headState_apply (dec 0) _ _ _ _ d e).trans ?_
    refine congrArg₂ (· + ·) (congrArg (· * dec 0) ?_) (Finset.sum_congr rfl fun r _ => by
      rw [ld_q _ 0 0 rfl, ld_v _ 0 0 rfl, ld_d _ 0 0 rfl])
    rw [readCov_s _ _ ⟨_, _, List.mem_of_getLast? rfl⟩ 0 0 rfl]
    erw [canon_s_zero]
  · rw [canon_s_miss 3 1 (by decide)]; rw [canon_s_miss 2 1 (by decide)]; rw [canon_s_hit 1 1 rfl]
    refine (headState_apply (dec 1) _ _ _ _ d e).trans ?_
    refine congrArg₂ (· + ·) (congrArg (· * dec 1) ?_) (Finset.sum_congr rfl fun r _ => by
      rw [ld_q _ 256 1 rfl, ld_v _ 512 1 rfl, ld_d _ 1 1 rfl])
    rw [readCov_s _ _ ⟨_, _, List.mem_of_getLast? rfl⟩ 1 1 rfl]
    rw [canon_s_miss 0 1 (by decide)]; erw [canon_s_zero]
  · rw [canon_s_miss 3 2 (by decide)]; rw [canon_s_hit 2 2 rfl]
    refine (headState_apply (dec 2) _ _ _ _ d e).trans ?_
    refine congrArg₂ (· + ·) (congrArg (· * dec 2) ?_) (Finset.sum_congr rfl fun r _ => by
      rw [ld_q _ 512 2 rfl, ld_v _ 1024 2 rfl, ld_d _ 2 2 rfl])
    rw [readCov_s _ _ ⟨_, _, List.mem_of_getLast? rfl⟩ 2 2 rfl]
    rw [canon_s_miss 1 2 (by decide)]; rw [canon_s_miss 0 2 (by decide)]; erw [canon_s_zero]
  · rw [canon_s_hit 3 3 rfl]
    refine (headState_apply (dec 3) _ _ _ _ d e).trans ?_
    refine congrArg₂ (· + ·) (congrArg (· * dec 3) ?_) (Finset.sum_congr rfl fun r _ => by
      rw [ld_q _ 768 3 rfl, ld_v _ 1536 3 rfl, ld_d _ 3 3 rfl])
    rw [readCov_s _ _ ⟨_, _, List.mem_of_getLast? rfl⟩ 3 3 rfl]
    rw [canon_s_miss 2 3 (by decide)]; rw [canon_s_miss 1 3 (by decide)]; rw [canon_s_miss 0 3 (by decide)]; erw [canon_s_zero]

/-- The output block of a point, from the cleared state. -/
theorem out_A (hc : cond0_0 t) (h : Fin 4) (r : Fin 256) (e : Fin 512) :
    out0_A_7 (F := Ideal) c t m0 h0 m1 h1 m2 h2 m3 h3 m4 h4 m5 h5 m6 h6 m7 h7 m8 h8 hc x0 x1 x2 x3 x4 x5 x6 (ix2 r (cv h e))
      = gateF (x3 (ix2 r (cv h e))) * normF (fun e => rawF x0 x1 x2 x4 x5 (fun _ => 0) h r e) e := by
  unfold out0_A_7
  rw [View.read_writes_eq_canon _ _ _ (cover0_A_7 c _ _ _ _ _ _ _ _ _ _ _ _ _ _ _ _ _ _ _ _ _ _ _ _ _ _ _ )]
  unfold kernelRun0_A; dsimp only; sl_unfold_words
  simp only [View.readAt_eq_ld, h0.read_unread, h1.read_unread, h2.read_unread, h3.read_unread, h4.read_unread, h5.read_unread, h6.read_unread, h7.read_unread, h8.read_unread]
  rcases four h with rfl | rfl | rfl | rfl
  · rw [canon_o_miss 1536 0 (by decide)]; rw [canon_o_miss 1024 0 (by decide)]; rw [canon_o_miss 512 0 (by decide)]; rw [canon_o_hit 0 0 rfl]
    refine (headNorm_apply (headRaw (View.ld x0 (Rect.unit (s := S256x1024) ![0, 0] ![256, 256] inb_S256x1024_S256x256_0_0))
      (View.ld x1 (Rect.unit (s := S256x1024) ![0, 0] ![256, 256] inb_S256x1024_S256x256_0_0))
      (View.ld x2 (Rect.unit (s := S256x2048) ![0, 0] ![256, 512] inb_S256x2048_S256x512_0_0))
      (View.ld x4 (Rect.unit (s := S4x256x256) ![0, 0, 0] ![1, 256, 256] inb_S4x256x256_S1x256x256_0_0_0))
      (View.ld x5 (Rect.unit (s := S4x256x1) ![0, 0, 0] ![1, 256, 1] inb_S4x256x1_S1x256x1_0_0_0)) _)
      (View.ld x3 (Rect.unit (s := S256x2048) ![0, 0] ![256, 512] inb_S256x2048_S256x512_0_0)) r e).trans ?_
    refine congrArg₂ (· * ·) (congrArg gateF (ld_v _ 0 0 rfl _ _ _)) (congrArg (fun o => normF o e) (funext fun e => ?_))
    refine (headRaw_apply _ _ _ _ _ _ _ _).trans ?_
    refine congrArg₂ (· + ·) (Finset.sum_congr rfl fun s _ => ?_)
      (congrArg₂ (· * ·) (Finset.sum_congr rfl fun d _ => ?_) (ld_d _ 0 0 rfl _ _))
    · rw [ld_v _ 0 0 rfl, ld_m _ 0 0 rfl]
      refine congrArg (fun z => z * _ * _) (Finset.sum_congr rfl fun d _ => ?_)
      rw [ld_q _ 0 0 rfl, ld_q _ 0 0 rfl]
    · rw [ld_q _ 0 0 rfl]
      rw [readCov_s _ _ ⟨_, _, List.mem_of_getLast? rfl⟩ 0 0 rfl, canon_s_zero]
  · rw [canon_o_miss 1536 1 (by decide)]; rw [canon_o_miss 1024 1 (by decide)]; rw [canon_o_hit 512 1 rfl]
    refine (headNorm_apply (headRaw (View.ld x0 (Rect.unit (s := S256x1024) ![0, 256] ![256, 256] inb_S256x1024_S256x256_0_256))
      (View.ld x1 (Rect.unit (s := S256x1024) ![0, 256] ![256, 256] inb_S256x1024_S256x256_0_256))
      (View.ld x2 (Rect.unit (s := S256x2048) ![0, 512] ![256, 512] inb_S256x2048_S256x512_0_512))
      (View.ld x4 (Rect.unit (s := S4x256x256) ![1, 0, 0] ![1, 256, 256] inb_S4x256x256_S1x256x256_1_0_0))
      (View.ld x5 (Rect.unit (s := S4x256x1) ![1, 0, 0] ![1, 256, 1] inb_S4x256x1_S1x256x1_1_0_0)) _)
      (View.ld x3 (Rect.unit (s := S256x2048) ![0, 512] ![256, 512] inb_S256x2048_S256x512_0_512)) r e).trans ?_
    refine congrArg₂ (· * ·) (congrArg gateF (ld_v _ 512 1 rfl _ _ _)) (congrArg (fun o => normF o e) (funext fun e => ?_))
    refine (headRaw_apply _ _ _ _ _ _ _ _).trans ?_
    refine congrArg₂ (· + ·) (Finset.sum_congr rfl fun s _ => ?_)
      (congrArg₂ (· * ·) (Finset.sum_congr rfl fun d _ => ?_) (ld_d _ 1 1 rfl _ _))
    · rw [ld_v _ 512 1 rfl, ld_m _ 1 1 rfl]
      refine congrArg (fun z => z * _ * _) (Finset.sum_congr rfl fun d _ => ?_)
      rw [ld_q _ 256 1 rfl, ld_q _ 256 1 rfl]
    · rw [ld_q _ 256 1 rfl]
      rw [readCov_s _ _ ⟨_, _, List.mem_of_getLast? rfl⟩ 1 1 rfl, canon_s_zero]
  · rw [canon_o_miss 1536 2 (by decide)]; rw [canon_o_hit 1024 2 rfl]
    refine (headNorm_apply (headRaw (View.ld x0 (Rect.unit (s := S256x1024) ![0, 512] ![256, 256] inb_S256x1024_S256x256_0_512))
      (View.ld x1 (Rect.unit (s := S256x1024) ![0, 512] ![256, 256] inb_S256x1024_S256x256_0_512))
      (View.ld x2 (Rect.unit (s := S256x2048) ![0, 1024] ![256, 512] inb_S256x2048_S256x512_0_1024))
      (View.ld x4 (Rect.unit (s := S4x256x256) ![2, 0, 0] ![1, 256, 256] inb_S4x256x256_S1x256x256_2_0_0))
      (View.ld x5 (Rect.unit (s := S4x256x1) ![2, 0, 0] ![1, 256, 1] inb_S4x256x1_S1x256x1_2_0_0)) _)
      (View.ld x3 (Rect.unit (s := S256x2048) ![0, 1024] ![256, 512] inb_S256x2048_S256x512_0_1024)) r e).trans ?_
    refine congrArg₂ (· * ·) (congrArg gateF (ld_v _ 1024 2 rfl _ _ _)) (congrArg (fun o => normF o e) (funext fun e => ?_))
    refine (headRaw_apply _ _ _ _ _ _ _ _).trans ?_
    refine congrArg₂ (· + ·) (Finset.sum_congr rfl fun s _ => ?_)
      (congrArg₂ (· * ·) (Finset.sum_congr rfl fun d _ => ?_) (ld_d _ 2 2 rfl _ _))
    · rw [ld_v _ 1024 2 rfl, ld_m _ 2 2 rfl]
      refine congrArg (fun z => z * _ * _) (Finset.sum_congr rfl fun d _ => ?_)
      rw [ld_q _ 512 2 rfl, ld_q _ 512 2 rfl]
    · rw [ld_q _ 512 2 rfl]
      rw [readCov_s _ _ ⟨_, _, List.mem_of_getLast? rfl⟩ 2 2 rfl, canon_s_zero]
  · rw [canon_o_hit 1536 3 rfl]
    refine (headNorm_apply (headRaw (View.ld x0 (Rect.unit (s := S256x1024) ![0, 768] ![256, 256] inb_S256x1024_S256x256_0_768))
      (View.ld x1 (Rect.unit (s := S256x1024) ![0, 768] ![256, 256] inb_S256x1024_S256x256_0_768))
      (View.ld x2 (Rect.unit (s := S256x2048) ![0, 1536] ![256, 512] inb_S256x2048_S256x512_0_1536))
      (View.ld x4 (Rect.unit (s := S4x256x256) ![3, 0, 0] ![1, 256, 256] inb_S4x256x256_S1x256x256_3_0_0))
      (View.ld x5 (Rect.unit (s := S4x256x1) ![3, 0, 0] ![1, 256, 1] inb_S4x256x1_S1x256x1_3_0_0)) _)
      (View.ld x3 (Rect.unit (s := S256x2048) ![0, 1536] ![256, 512] inb_S256x2048_S256x512_0_1536)) r e).trans ?_
    refine congrArg₂ (· * ·) (congrArg gateF (ld_v _ 1536 3 rfl _ _ _)) (congrArg (fun o => normF o e) (funext fun e => ?_))
    refine (headRaw_apply _ _ _ _ _ _ _ _).trans ?_
    refine congrArg₂ (· + ·) (Finset.sum_congr rfl fun s _ => ?_)
      (congrArg₂ (· * ·) (Finset.sum_congr rfl fun d _ => ?_) (ld_d _ 3 3 rfl _ _))
    · rw [ld_v _ 1536 3 rfl, ld_m _ 3 3 rfl]
      refine congrArg (fun z => z * _ * _) (Finset.sum_congr rfl fun d _ => ?_)
      rw [ld_q _ 768 3 rfl, ld_q _ 768 3 rfl]
    · rw [ld_q _ 768 3 rfl]
      rw [readCov_s _ _ ⟨_, _, List.mem_of_getLast? rfl⟩ 3 3 rfl, canon_s_zero]

end Case

end Cert.KernelIdeal.Block

end
-- ==== Proof.RetMath.lean ====
/- Retention over the reals: the chunked recurrence and the sum over all earlier positions it computes, for any chunk
   length, with its form over the extended reals; and the decays as powers. -/
module

public import Idealize.ShloMosaic.Lib.IdealHost
public import Idealize.ShloMosaic.Lib.Pointwise

@[expose] public section

noncomputable section

namespace Cert.Retention

open Idealize.ShloMosaic
open scoped BigOperators

/-! ## The decays -/

/-- Head `h`'s decay. -/
def gam (h : Fin 4) : ℝ := 1 - (1 / 2) ^ (5 + h.val)

theorem gam_pos (h : Fin 4) : 0 < gam h := by
  fin_cases h <;> norm_num [gam]

/-- The exponential of a natural multiple of the logarithm is the power. -/
theorem exp_log_mul {g : ℝ} (hg : 0 < g) (n : ℕ) :
    Ideal.exp (Ideal.log (g : EReal) * ((n : ℝ) : EReal)) = ((g ^ n : ℝ) : EReal) := by
  rw [Ideal.log_coe, if_neg (not_le.mpr hg), ← EReal.coe_mul, Ideal.exp_coe, mul_comm, Real.exp_nat_mul, Real.exp_log hg]

/-- A sum of reals, over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The recurrence -/

section
variable {D : ℕ} (g : ℝ) (q k : ℕ → Fin D → ℝ) (v : ℕ → ℝ)

/-- The state after `n` positions (one key column, one value column): the positions' products, decayed to position `n - 1`. -/
def state (n : ℕ) (d : Fin D) : ℝ := ∑ u ∈ Finset.range n, g ^ (n - 1 - u) * k u d * v u

/-- The output at position `s`: over the positions up to it, the scores decayed, against the values. -/
def out (s : ℕ) : ℝ := ∑ u ∈ Finset.range (s + 1), g ^ (s - u) * (∑ d, q s d * k u d) * v u

theorem state_zero (d : Fin D) : state g k v 0 d = 0 := by simp [state]

/-- The state over one more chunk of `c` positions. -/
theorem state_step (c n : ℕ) (d : Fin D) :
    state g k v (n + c) d = state g k v n d * g ^ c + ∑ r : Fin c, k (n + r) d * g ^ (c - 1 - r.val) * v (n + r) := by
  unfold state
  rw [Finset.sum_range_add, Finset.sum_range (n := c), Finset.sum_mul]
  congr 1
  · refine Finset.sum_congr rfl fun u hu => ?_
    have hu := Finset.mem_range.mp hu
    rw [show n + c - 1 - u = (n - 1 - u) + c by omega, pow_add]; ring
  · refine Finset.sum_congr rfl fun r _ => ?_
    rw [show n + c - 1 - (n + r.val) = c - 1 - r.val by omega]; ring

/-- The output inside a chunk: the chunk's own positions up to it, and the state before the chunk. -/
theorem out_chunk (c n : ℕ) (r : Fin c) :
    out g q k v (n + r)
      = (∑ u : Fin c, (∑ d, q (n + r) d * k (n + u) d) * (if u.val ≤ r.val then g ^ (r.val - u.val) else 0) * v (n + u))
        + (∑ d, q (n + r) d * state g k v n d) * g ^ (r.val + 1) := by
  unfold out state
  rw [show n + r.val + 1 = n + (r.val + 1) by omega, Finset.sum_range_add, add_comm]
  congr 1
  · have : ∀ u : Fin c, (∑ d, q (n + r) d * k (n + u) d) * (if u.val ≤ r.val then g ^ (r.val - u.val) else 0) * v (n + u)
        = (fun u : ℕ => if u ∈ Finset.range (r.val + 1) then g ^ (r.val - u) * (∑ d, q (n + r) d * k (n + u) d) * v (n + u) else 0) u.val := by
      intro u
      by_cases hu : u.val ≤ r.val
      · simp only [hu, if_true, Finset.mem_range, Nat.lt_succ_of_le hu]; ring
      · have : ¬ u.val < r.val + 1 := by omega
        simp only [hu, if_false, Finset.mem_range, this]; ring
    rw [Finset.sum_congr rfl fun u _ => this u, ← Finset.sum_range (f := fun u : ℕ => if u ∈ Finset.range (r.val + 1) then
      g ^ (r.val - u) * (∑ d, q (n + r) d * k (n + u) d) * v (n + u) else 0), Finset.sum_ite_mem,
      Finset.inter_eq_right.mpr (Finset.range_subset_range.mpr (by omega : r.val + 1 ≤ c))]
    refine Finset.sum_congr rfl fun u _ => ?_
    rw [show n + r.val - (n + u) = r.val - u by omega]
  · simp only [Finset.mul_sum, Finset.sum_mul]
    rw [Finset.sum_comm]
    refine Finset.sum_congr rfl fun d _ => Finset.sum_congr rfl fun u hu => ?_
    have hu := Finset.mem_range.mp hu
    rw [show n + r.val - u = (n - 1 - u) + (r.val + 1) by omega, pow_add]; ring

end

/-! ## The retention of a projection -/

/-- A projection: for each of 4 batches of 8192 positions a row of 6144 columns, head by head the queries (256 columns
    each), the keys (256 each), the values (512 each) and the gates (512 each). -/
abbrev Proj : Type := (⟨2, ![32768, 6144]⟩ : Shape).Idx → EReal

/-- The projection's entry as a real, at natural coordinates. -/
def rd (x : Proj) (i j : ℕ) : ℝ := if h : i < 32768 ∧ j < 6144 then (x (ix2 ⟨i, h.1⟩ ⟨j, h.2⟩)).toReal else 0

/-- Where the projection is finite its entries are those reals. -/
theorem rd_eq {x : Proj} (hx : ∀ i, x i ≠ ⊥ ∧ x i ≠ ⊤) (i : Fin 32768) (j : Fin 6144) (i' j' : ℕ) (hi : i.val = i') (hj : j.val = j') :
    x (ix2 i j) = ((rd x i' j' : ℝ) : EReal) := by
  subst hi; subst hj
  rw [rd, dif_pos ⟨i.isLt, j.isLt⟩]
  exact (EReal.coe_toReal (hx _).2 (hx _).1).symm

/-- Batch `b`'s head `h`: queries, scaled keys and values at a position. -/
def qry (x : Proj) (b : ℕ) (h : Fin 4) (u : ℕ) (d : Fin 256) : ℝ := rd x (8192 * b + u) (256 * h.val + d.val)
def key (x : Proj) (b : ℕ) (h : Fin 4) (u : ℕ) (d : Fin 256) : ℝ := rd x (8192 * b + u) (1024 + 256 * h.val + d.val) * (1 / 16)
def val (x : Proj) (b : ℕ) (h : Fin 4) (e : Fin 512) (u : ℕ) : ℝ := rd x (8192 * b + u) (2048 + 512 * h.val + e.val)

/-- The retention's state after `n` positions of batch `b`, at head `h`. -/
def retState (x : Proj) (b : ℕ) (h : Fin 4) (n : ℕ) (d : Fin 256) (e : Fin 512) : ℝ := state (gam h) (key x b h) (val x b h e) n d

/-- The retention's output at position `s` of batch `b`, at head `h`. -/
def retOut (x : Proj) (b : ℕ) (h : Fin 4) (s : ℕ) (e : Fin 512) : ℝ := out (gam h) (qry x b h) (key x b h) (val x b h e) s

end Cert.Retention

end
-- ==== Proof.Ktab.lean ====
/- The kernel's decays: the three tables the host code before the launch leaves, and the decay of the carried state, at
   an index, as powers of the heads' decays. -/
module

public import proofs.«01_k».proof.Proof.Kblk
public import proofs.«01_k».proof.Proof.RetMath
public import Idealize.ShloMosaic.Lib.Claim

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Tactic Cert.Retention

/-! ## The tables as functions of nothing -/

section
variable {F : FTy → Type} [FloatOps F] [Named F]

/-- The logarithms of the four decays. -/
def lg : FVec F S4 .f32 := Host.log (fun i => FloatOps.ofBits .f32 (lit0 (S4.rowMajor i)))

/-- The positions in a chunk. -/
def pos : FVec F S256 .f32 := sitofp .f32 (iotaInDim S256 32 0)

/-- Row position minus column position. -/
def rel : FVec F S256x256 .f32 :=
  subf (broadcastInDim S256x256 ![0, 1] bcast_S256x1_S256x256_0_1 (broadcastInDim S256x1 ![0] bcast_S256_S256x1_0 pos))
    (broadcastInDim S256x256 ![0, 1] bcast_S1x256_S256x256_0_1 (broadcastInDim S1x256 ![1] bcast_S256_S1x256_1 pos))

/-- The mask: a sixteenth of the decay from column to row, zero above the diagonal. -/
def tabM : FVec F S4x256x256 .f32 :=
  mulf
    (select
      (broadcastInDim S4x256x256 ![1, 2] bcast_S256x256_S4x256x256_1_2
        (cmpf .oge (rel (F := F)) (broadcastInDim S256x256 ![] bcast_S_S256x256 (constant S_ .f32 0x00000000#32))))
      (Host.exp (mulf
        (broadcastInDim S4x256x256 ![0, 1, 2] bcast_S4x1x1_S4x256x256_0_1_2 (broadcastInDim S4x1x1 ![0] bcast_S4_S4x1x1_0 lg))
        (broadcastInDim S4x256x256 ![0, 1, 2] bcast_S1x256x256_S4x256x256_0_1_2
          (broadcastInDim S1x256x256 ![1, 2] bcast_S256x256_S1x256x256_1_2
            (maximumf rel (broadcastInDim S256x256 ![] bcast_S_S256x256 (constant S_ .f32 0x00000000#32)))))))
      (broadcastInDim S4x256x256 ![] bcast_S_S4x256x256 (constant S_ .f32 0x00000000#32)))
    (broadcastInDim S4x256x256 ![] bcast_S_S4x256x256 (constant S_ .f32 0x3D800000#32))

/-- The queries' decay from the state before the chunk. -/
def tabQ : FVec F S4x256x1 .f32 :=
  broadcastInDim S4x256x1 ![0, 1] bcast_S4x256_S4x256x1_0_1
    (Host.exp (mulf
      (broadcastInDim S4x256 ![0, 1] bcast_S4x1_S4x256_0_1 (broadcastInDim S4x1 ![0] bcast_S4_S4x1_0 lg))
      (broadcastInDim S4x256 ![0, 1] bcast_S1x256_S4x256_0_1
        (broadcastInDim S1x256 ![1] bcast_S256_S1x256_1
          (addf pos (broadcastInDim S256 ![] bcast_S_S256 (constant S_ .f32 0x3F800000#32)))))))

/-- The keys' decay to the state after the chunk, a sixteenth of it. -/
def tabK : FVec F S4x256x1 .f32 :=
  mulf
    (broadcastInDim S4x256x1 ![0, 1] bcast_S4x256_S4x256x1_0_1
      (Host.exp (mulf
        (broadcastInDim S4x256 ![0, 1] bcast_S4x1_S4x256_0_1 (broadcastInDim S4x1 ![0] bcast_S4_S4x1_0 lg))
        (broadcastInDim S4x256 ![0, 1] bcast_S1x256_S4x256_0_1
          (broadcastInDim S1x256 ![1] bcast_S256_S1x256_1
            (subf (broadcastInDim S256 ![] bcast_S_S256 (constant S_ .f32 0x437F0000#32)) pos))))))
    (broadcastInDim S4x256x1 ![] bcast_S_S4x256x1 (constant S_ .f32 0x3D800000#32))

variable (m : (ℓ : Loc nD τ sig) → Buf (Elt F) ℓ)

/-- What the launch finds in the mask's array. -/
theorem V_v19 (c : Dev nD) : V m c main_v19 = tabM := by
  unfold V hostOps0 hostOps0_1 hostOps0_2
  simp only [List.flatten_cons, List.flatten_nil, List.append_nil, List.cons_append, List.nil_append]
  after_results
  rfl

/-- What the launch finds in the queries' decay's array. -/
theorem V_v28 (c : Dev nD) : V m c main_v28 = tabQ := by
  unfold V hostOps0 hostOps0_1 hostOps0_2
  simp only [List.flatten_cons, List.flatten_nil, List.append_nil, List.cons_append, List.nil_append]
  after_results
  rfl

/-- What the launch finds in the keys' decay's array. -/
theorem V_v39 (c : Dev nD) : V m c main_v39 = tabK := by
  unfold V hostOps0 hostOps0_1 hostOps0_2
  simp only [List.flatten_cons, List.flatten_nil, List.append_nil, List.cons_append, List.nil_append]
  after_results
  rfl

end

/-! ## The tables at an index, over the extended reals -/

/-- The word of one sixteenth. -/
theorem ofBits_sixteenth : Ideal.ofBits .f32 0x3D800000#32 = ((1 / 16 : ℝ) : EReal) := by
  simp [Ideal.ofBits, Ideal.ieee, -EReal.coe_mul]; norm_num

/-- The word of 255. -/
theorem ofBits_255 : Ideal.ofBits .f32 0x437F0000#32 = ((255 : ℝ) : EReal) := by
  simp [Ideal.ofBits, Ideal.ieee, -EReal.coe_mul]; norm_num

/-- The literal decays are the heads' decays. -/
theorem lit_gam (h : Fin 4) : Ideal.ofBits .f32 (lit0 h) = (gam h : EReal) := by
  fin_cases h <;> simp [lit0, Ideal.ofBits, Ideal.ieee, -EReal.coe_mul, gam, ← EReal.coe_one, ← EReal.coe_sub] <;> norm_num

/-- A position below 256 as a signed word is itself. -/
theorem toInt_pos (r : Fin 256) : (BitVec.ofNat 32 r.val).toInt = (r.val : ℤ) := by
  rw [BitVec.toInt_eq_toNat_of_lt]
  · simp; omega
  · simp; omega

/-- The logarithm table. -/
theorem lg_apply (h : Fin 4) : lg (F := Ideal) (ix1 h) = Ideal.log (gam h : EReal) := by
  rw [← lit_gam]
  pointwise [lg]
  rw [show S4.rowMajor (ix1 h) = h from Fin.ext (Shape.rowMajor_val_one (ix1 h))]

/-- The position table. -/
theorem pos_apply (r : Fin 256) : pos (F := Ideal) (ix1 r) = ((r.val : ℝ) : EReal) := by
  pointwise [pos]
  show (((BitVec.ofNat 32 r.val).toInt : ℝ) : EReal) = _
  rw [toInt_pos]; norm_num

/-- The relative position. -/
theorem rel_apply (r s : Fin 256) : rel (F := Ideal) (ix2 r s) = (((r.val : ℝ) - (s.val : ℝ) : ℝ) : EReal) := by
  pointwise [rel]
  rw [pos_apply, pos_apply, EReal.coe_sub]

/-- The queries' decay. -/
theorem tabQ_apply (h : Fin 4) (r : Fin 256) : tabQ (F := Ideal) (ix3 h r 0) = ((gam h ^ (r.val + 1) : ℝ) : EReal) := by
  pointwise [tabQ]
  rw [lg_apply, pos_apply, ← EReal.coe_one, ← EReal.coe_add, ← Nat.cast_succ, exp_log_mul (gam_pos h)]

/-- The keys' decay. -/
theorem tabK_apply (h : Fin 4) (r : Fin 256) : tabK (F := Ideal) (ix3 h r 0) = ((gam h ^ (255 - r.val) * (1 / 16) : ℝ) : EReal) := by
  pointwise [tabK]
  rw [lg_apply, pos_apply, ofBits_sixteenth, ofBits_255, ← EReal.coe_sub,
    show (255 : ℝ) - (r.val : ℝ) = ((255 - r.val : ℕ) : ℝ) by rw [Nat.cast_sub (by omega)]; norm_num,
    exp_log_mul (gam_pos h), EReal.coe_mul]

/-- The mask. -/
theorem tabM_apply (h : Fin 4) (r s : Fin 256) : tabM (F := Ideal) (ix3 h r s)
    = (((if s.val ≤ r.val then gam h ^ (r.val - s.val) else 0) * (1 / 16) : ℝ) : EReal) := by
  pointwise [tabM]
  rw [rel_apply, lg_apply, ofBits_sixteenth, EReal.coe_mul]
  by_cases hsr : s.val ≤ r.val
  · have hc : (r.val : ℝ) - (s.val : ℝ) = ((r.val - s.val : ℕ) : ℝ) := (Nat.cast_sub hsr).symm
    have h0 : (0 : EReal) ≤ (((r.val - s.val : ℕ) : ℝ) : EReal) := by
      rw [← EReal.coe_zero, EReal.coe_le_coe_iff]; exact Nat.cast_nonneg _
    rw [hc, if_pos h0, if_pos hsr, max_eq_left h0, exp_log_mul (gam_pos h)]
  · have h0 : ¬ (0 : EReal) ≤ (((r.val : ℝ) - (s.val : ℝ) : ℝ) : EReal) := by
      rw [← EReal.coe_zero, EReal.coe_le_coe_iff, sub_nonneg, Nat.cast_le]; exact hsr
    rw [if_neg h0, if_neg hsr, EReal.coe_zero]

/-- The carried state's decay. -/
theorem dec_eq (h : Fin 4) : dec h = ((gam h ^ 256 : ℝ) : EReal) := by
  rcases four h with rfl | rfl | rfl | rfl
  all_goals
    show ((_ : ℝ) : EReal) = _
    refine congrArg _ ?_
    norm_num [gam]

end Cert.KernelIdeal.Block
end
-- ==== Proof.Kfold.lean ====
/- The kernel's run over the grid: the carried state and the output block after each point, and the result array, as
   the retention of the projection. -/
module

public import proofs.«01_k».proof.Proof.Ktab

@[expose] public section

set_option maxRecDepth 16384

noncomputable section

namespace Cert.KernelIdeal.Block

open Cert.KernelIdeal Cert.KernelIdeal.Gen Cert.KernelIdeal.Value Idealize.ShloMosaic Idealize.ShloMosaic.TcCoe Idealize.SL.Sem
open Idealize.ShloMosaic.Tactic Cert.Retention

variable (m : (ℓ : Loc nD τ sig) → Buf (Elt Ideal) ℓ) (c : Dev nD)

/-- The launch's projection. -/
abbrev proj : Vec Ideal S32768x6144 .bf16 := m ((c : Thread nD τ).loc main_arg0)

/-! ## The input blocks -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 1 :=
  (by decide +kernel : ∀ t : Fin grid0.N, win0_1.index t (0 : Fin 2) = t.val ∧ win0_1.index t (1 : Fin 2) = 1)
theorem idx2 : ∀ t : Fin cfg0.N, win0_2.index t (0 : Fin 2) = t.val ∧ win0_2.index t (1 : Fin 2) = 1 :=
  (by decide +kernel : ∀ t : Fin grid0.N, win0_2.index t (0 : Fin 2) = t.val ∧ win0_2.index t (1 : Fin 2) = 1)
theorem idx3 : ∀ t : Fin cfg0.N, win0_3.index t (0 : Fin 2) = t.val ∧ win0_3.index t (1 : Fin 2) = 2 :=
  (by decide +kernel : ∀ t : Fin grid0.N, win0_3.index t (0 : Fin 2) = t.val ∧ win0_3.index t (1 : Fin 2) = 2)
theorem ptN (t : Fin cfg0.N) : t.val < 128 := lt_of_lt_of_eq t.isLt N_0

/-- A point's block of the queries. -/
theorem blk0 (t : Fin cfg0.N) (r : Fin 256) (j : Fin 1024) :
    (iblk m c 0 t : Vec Ideal S256x1024 .bf16) (ix2 r j)
      = proj m c (ix2 ⟨256 * t.val + r.val, by have := ptN t; omega⟩ ⟨j.val, by omega⟩) := by
  show V m c main_arg0 (((cfg0.win 0).blk t).view.emb (ix2 r j)) = _
  rw [V_main_arg0]
  refine congrArg (m ((c : Thread nD τ).loc main_arg0)) (funext fun a => Fin.ext ?_)
  obtain ⟨e0, e1⟩ := idx0 t
  match a with
  | ⟨0, _⟩ => show win0_0.index t (0 : Fin 2) * 256 + 1 * r.val = 256 * t.val + r.val; omega
  | ⟨1, _⟩ => show win0_0.index t (1 : Fin 2) * 1024 + 1 * j.val = j.val; omega

/-- A point's block of the keys. -/
theorem blk1 (t : Fin cfg0.N) (r : Fin 256) (j : Fin 1024) :
    (iblk m c 1 t : Vec Ideal S256x1024 .bf16) (ix2 r j)
      = proj m c (ix2 ⟨256 * t.val + r.val, by have := ptN t; omega⟩ ⟨1024 + j.val, by omega⟩) := by
  show V m c main_arg0 (((cfg0.win 1).blk t).view.emb (ix2 r j)) = _
  rw [V_main_arg0]
  refine congrArg (m ((c : Thread nD τ).loc main_arg0)) (funext fun a => Fin.ext ?_)
  obtain ⟨e0, e1⟩ := idx1 t
  match a with
  | ⟨0, _⟩ => show win0_1.index t (0 : Fin 2) * 256 + 1 * r.val = 256 * t.val + r.val; omega
  | ⟨1, _⟩ => show win0_1.index t (1 : Fin 2) * 1024 + 1 * j.val = 1024 + j.val; omega

/-- A point's block of the values. -/
theorem blk2 (t : Fin cfg0.N) (r : Fin 256) (j : Fin 2048) :
    (iblk m c 2 t : Vec Ideal S256x2048 .bf16) (ix2 r j)
      = proj m c (ix2 ⟨256 * t.val + r.val, by have := ptN t; omega⟩ ⟨2048 + j.val, by omega⟩) := by
  show V m c main_arg0 (((cfg0.win 2).blk t).view.emb (ix2 r j)) = _
  rw [V_main_arg0]
  refine congrArg (m ((c : Thread nD τ).loc main_arg0)) (funext fun a => Fin.ext ?_)
  obtain ⟨e0, e1⟩ := idx2 t
  match a with
  | ⟨0, _⟩ => show win0_2.index t (0 : Fin 2) * 256 + 1 * r.val = 256 * t.val + r.val; omega
  | ⟨1, _⟩ => show win0_2.index t (1 : Fin 2) * 2048 + 1 * j.val = 2048 + j.val; omega

/-- A point's block of the gates. -/
theorem blk3 (t : Fin cfg0.N) (r : Fin 256) (j : Fin 2048) :
    (iblk m c 3 t : Vec Ideal S256x2048 .bf16) (ix2 r j)
      = proj m c (ix2 ⟨256 * t.val + r.val, by have := ptN t; omega⟩ ⟨4096 + j.val, by omega⟩) := by
  show V m c main_arg0 (((cfg0.win 3).blk t).view.emb (ix2 r j)) = _
  rw [V_main_arg0]
  refine congrArg (m ((c : Thread nD τ).loc main_arg0)) (funext fun a => Fin.ext ?_)
  obtain ⟨e0, e1⟩ := idx3 t
  match a with
  | ⟨0, _⟩ => show win0_3.index t (0 : Fin 2) * 256 + 1 * r.val = 256 * t.val + r.val; omega
  | ⟨1, _⟩ => show win0_3.index t (1 : Fin 2) * 2048 + 1 * j.val = 4096 + j.val; omega

/-- Every point's block of the mask is the whole table. -/
theorem blk4 (t : Fin cfg0.N) : (iblk m c 4 t : Vec Ideal S4x256x256 .f32) = tabM (F := Ideal) := by
  funext y
  show V m c main_v19 (((cfg0.win 4).blk t).view.emb y) = _
  rw [V_v19]
  refine congrArg (tabM (F := Ideal)) (funext fun a => Fin.ext ?_)
  match a with
  | ⟨0, _⟩ => show 0 * 4 + 1 * (y 0).val = (y 0).val; omega
  | ⟨1, _⟩ => show 0 * 256 + 1 * (y 1).val = (y 1).val; omega
  | ⟨2, _⟩ => show 0 * 256 + 1 * (y 2).val = (y 2).val; omega

/-- Every point's block of the queries' decay is the whole table. -/
theorem blk5 (t : Fin cfg0.N) : (iblk m c 5 t : Vec Ideal S4x256x1 .f32) = tabQ (F := Ideal) := by
  funext y
  show V m c main_v28 (((cfg0.win 5).blk t).view.emb y) = _
  rw [V_v28]
  refine congrArg (tabQ (F := Ideal)) (funext fun a => Fin.ext ?_)
  match a with
  | ⟨0, _⟩ => show 0 * 4 + 1 * (y 0).val = (y 0).val; omega
  | ⟨1, _⟩ => show 0 * 256 + 1 * (y 1).val = (y 1).val; omega
  | ⟨2, _⟩ => show 0 * 1 + 1 * (y 2).val = (y 2).val; omega

/-- Every point's block of the keys' decay is the whole table. -/
theorem blk6 (t : Fin cfg0.N) : (iblk m c 6 t : Vec Ideal S4x256x1 .f32) = tabK (F := Ideal) := by
  funext y
  show V m c main_v39 (((cfg0.win 6).blk t).view.emb y) = _
  rw [V_v39]
  refine congrArg (tabK (F := Ideal)) (funext fun a => Fin.ext ?_)
  match a with
  | ⟨0, _⟩ => show 0 * 4 + 1 * (y 0).val = (y 0).val; omega
  | ⟨1, _⟩ => show 0 * 256 + 1 * (y 1).val = (y 1).val; omega
  | ⟨2, _⟩ => show 0 * 1 + 1 * (y 2).val = (y 2).val; omega

/-! ## One point, from a state of reals -/

section
variable {m c} (hx : ∀ i, proj m c i ≠ ⊥ ∧ proj m c i ≠ ⊤) (t : Fin cfg0.N) (b n : ℕ) (hb : 32 * b + n = t.val)
  (xs : Vec Ideal S4x256x512 .f32) (hs : ∀ h d e, xs (ix3 h d e) = ((retState (proj m c) b h (256 * n) d e : ℝ) : EReal))
include hx hb hs

/-- The state after a point. -/
theorem st_point (h : Fin 4) (d : Fin 256) (e : Fin 512) :
    stF (iblk m c 1 t) (iblk m c 2 t) (iblk m c 6 t) xs h d e
      = ((retState (proj m c) b h (256 * n + 256) d e : ℝ) : EReal) := by
  unfold stF
  rw [hs, dec_eq, blk6, retState, retState, state_step, EReal.coe_add, EReal.coe_mul, coe_sum]
  refine congrArg₂ (· + ·) rfl (Finset.sum_congr rfl fun r _ => ?_)
  rw [blk1, blk2, tabK_apply, rd_eq hx _ _ (8192 * b + (256 * n + r.val)) (1024 + 256 * h.val + d.val) (by simp; omega) (by simp; omega),
    rd_eq hx _ _ (8192 * b + (256 * n + r.val)) (2048 + 512 * h.val + e.val) (by simp; omega) (by simp; omega),
    ← EReal.coe_mul, ← EReal.coe_mul]
  refine congrArg _ ?_
  unfold key val
  rw [show 256 - 1 - r.val = 255 - r.val by omega]
  ring

/-- The output before normalization at a point. -/
theorem raw_point (h : Fin 4) (r : Fin 256) (e : Fin 512) :
    rawF (iblk m c 0 t) (iblk m c 1 t) (iblk m c 2 t) (iblk m c 4 t) (iblk m c 5 t) xs h r e
      = ((retOut (proj m c) b h (256 * n + r.val) e : ℝ) : EReal) := by
  unfold rawF
  rw [blk4, blk5, tabQ_apply, retOut, out_chunk _ _ _ _ 256 (256 * n) r, EReal.coe_add, EReal.coe_mul, coe_sum, coe_sum]
  have hq : ∀ d : Fin 256, (iblk m c 0 t : Vec Ideal S256x1024 .bf16) (ix2 r (cq h d)) = ((qry (proj m c) b h (256 * n + r.val) d : ℝ) : EReal) :=
    fun d => by rw [blk0, rd_eq hx _ _ (8192 * b + (256 * n + r.val)) (256 * h.val + d.val) (by simp; omega) (by simp)]; rfl
  refine congrArg₂ (· + ·) (Finset.sum_congr rfl fun s _ => ?_) (congrArg (· * _) (Finset.sum_congr rfl fun d _ => ?_))
  · rw [blk2, tabM_apply, rd_eq hx _ _ (8192 * b + (256 * n + s.val)) (2048 + 512 * h.val + e.val) (by simp; omega) (by simp; omega)]
    have : ∀ d : Fin 256, @HMul.hMul EReal EReal EReal instHMul ((iblk m c 0 t : Vec Ideal S256x1024 .bf16) (ix2 r (cq h d))) ((iblk m c 1 t : Vec Ideal S256x1024 .bf16) (ix2 s (cq h d)))
        = ((qry (proj m c) b h (256 * n + r.val) d * rd (proj m c) (8192 * b + (256 * n + s.val)) (1024 + 256 * h.val + d.val) : ℝ) : EReal) := fun d => by
      rw [hq, blk1, rd_eq hx _ _ (8192 * b + (256 * n + s.val)) (1024 + 256 * h.val + d.val) (by simp; omega) (by simp; omega), EReal.coe_mul]
    rw [Finset.sum_congr rfl fun d _ => this d, ← coe_sum, ← EReal.coe_mul, ← EReal.coe_mul]
    refine congrArg _ ?_
    unfold key val
    simp only [← mul_assoc, ← Finset.sum_mul]
    ring
  · rw [hq, hs, ← EReal.coe_mul]; rfl

end

/-! ## The fold over the points -/

/-- A point's state, its gated output, from a predecessor's state of reals or from a batch's first point. -/
theorem point (hx : ∀ i, proj m c i ≠ ⊥ ∧ proj m c i ≠ ⊤) (t : Fin cfg0.N)
    (hp : ∀ (_ : ¬t.val % 32 = 0) (h : Fin 4) (d : Fin 256) (e : Fin 512),
      (outsAt0 m c (t.val - 1) (by omega)).2 (ix3 h d e) = ((retState (proj m c) (t.val / 32) h (256 * (t.val % 32)) d e : ℝ) : EReal)) :
    (∀ (h : Fin 4) (d : Fin 256) (e : Fin 512),
      (outsAt0 m c t.val t.isLt).2 (ix3 h d e) = ((retState (proj m c) (t.val / 32) h (256 * (t.val % 32) + 256) d e : ℝ) : EReal))
    ∧ ∀ (h : Fin 4) (r : Fin 256) (e : Fin 512),
      (outsAt0 m c t.val t.isLt).1 (ix2 r (cv h e))
        = gateF (proj m c (ix2 ⟨256 * t.val + r.val, by have := ptN t; omega⟩ ⟨4096 + (512 * h.val + e.val), by omega⟩))
          * normF (fun e => ((retOut (proj m c) (t.val / 32) h (256 * (t.val % 32) + r.val) e : ℝ) : EReal)) e := by
  have hb : 32 * (t.val / 32) + t.val % 32 = t.val := Nat.div_add_mod _ _
  by_cases h0 : t.val % 32 = 0
  · have hs : ∀ (h : Fin 4) (d : Fin 256) (e : Fin 512), (fun _ => 0 : Vec Ideal S4x256x512 .f32) (ix3 h d e)
        = ((retState (proj m c) (t.val / 32) h (256 * (t.val % 32)) d e : ℝ) : EReal) := fun h d e => by
      rw [h0, retState, state_zero]; rfl
    rw [outsAt0_A m c t h0]
    refine ⟨fun h d e => ?_, fun h r e => ?_⟩
    · dsimp only
      rw [sout_A (hc := (hcond0_0 t).mpr h0)]
      exact st_point hx t _ _ hb _ hs h d e
    · dsimp only
      rw [out_A (hc := (hcond0_0 t).mpr h0), blk3]
      exact congrArg₂ (· * ·) rfl (congrArg (normF · e) (funext fun e => raw_point hx t _ _ hb _ hs h r e))
  · rw [outsAt0_B m c t h0]
    refine ⟨fun h d e => ?_, fun h r e => ?_⟩
    · dsimp only
      rw [sout_B (hc := fun h => h0 ((hcond0_0 t).mp h))]
      exact st_point hx t _ _ hb _ (hp h0) h d e
    · dsimp only
      rw [out_B (hc := fun h => h0 ((hcond0_0 t).mp h)), blk3]
      exact congrArg₂ (· * ·) rfl (congrArg (normF · e) (funext fun e => raw_point hx t _ _ hb _ (hp h0) h r e))

/-- The carried state after a point. -/
theorem state_at (hx : ∀ i, proj m c i ≠ ⊥ ∧ proj m c i ≠ ⊤) : ∀ (t : ℕ) (ht : t < cfg0.N) (h : Fin 4) (d : Fin 256) (e : Fin 512),
    (outsAt0 m c t ht).2 (ix3 h d e) = ((retState (proj m c) (t / 32) h (256 * (t % 32) + 256) d e : ℝ) : EReal) := by
  intro t
  induction t with
  | zero => exact fun ht => (point m c hx ⟨0, ht⟩ fun h0 => absurd rfl h0).1
  | succ t ih =>
    refine fun ht => (point m c hx ⟨t + 1, ht⟩ fun h0 h d e => ?_).1
    refine (ih (Nat.lt_of_succ_lt ht) h d e).trans ?_
    have h0' : ¬(t + 1) % 32 = 0 := h0
    show _ = ((retState (proj m c) ((t + 1) / 32) h (256 * ((t + 1) % 32)) d e : ℝ) : EReal)
    rw [show (t + 1) / 32 = t / 32 by omega, show 256 * ((t + 1) % 32) = 256 * (t % 32) + 256 by omega]

/-- The output block after a point. -/
theorem out_at (hx : ∀ i, proj m c i ≠ ⊥ ∧ proj m c i ≠ ⊤) (t : Fin cfg0.N) (h : Fin 4) (r : Fin 256) (e : Fin 512) :
    (outsAt0 m c t.val t.isLt).1 (ix2 r (cv h e))
      = gateF (proj m c (ix2 ⟨256 * t.val + r.val, by have := ptN t; omega⟩ ⟨4096 + (512 * h.val + e.val), by omega⟩))
        * normF (fun e => ((retOut (proj m c) (t.val / 32) h (256 * (t.val % 32) + r.val) e : ℝ) : EReal)) e := by
  refine (point m c hx t fun h0 h d e => ?_).2 h r e
  refine (state_at m c hx (t.val - 1) _ h d e).trans ?_
  rw [show (t.val - 1) / 32 = t.val / 32 by omega, show 256 * ((t.val - 1) % 32) + 256 = 256 * (t.val % 32) by omega]

/-- The result array, at row `i` and column `512 h + e`. -/
theorem result (hx : ∀ i, proj m c i ≠ ⊥ ∧ proj m c i ≠ ⊤) (i : Fin 32768) (h : Fin 4) (e : Fin 512) :
    (G7 m c : Vec Ideal S32768x2048 .bf16) (ix2 i (cv h e))
      = gateF (proj m c (ix2 i ⟨4096 + (512 * h.val + e.val), by omega⟩))
        * normF (fun e => ((retOut (proj m c) (i.val / 8192) h (i.val % 8192) e : ℝ) : EReal)) e := by
  have ht : i.val / 256 < cfg0.N := lt_of_lt_of_eq (by omega) N_0.symm
  have hp : pt7Of (ix2 i (cv h e)) = i.val / 256 := by
    show 1 * (i.val / 256 - 0) + 1 * ((512 * h.val + e.val) / 2048 - 0) = _
    omega
  have hl : loc7Of (ix2 i (cv h e)) = ix2 ⟨i.val % 256, Nat.mod_lt _ (by decide)⟩ (cv h e) := by
    funext a
    match a with
    | ⟨0, _⟩ => rfl
    | ⟨1, _⟩ => exact Fin.ext (Nat.mod_eq_of_lt (cv h e).isLt)
  show (G7 m c (ix2 i (cv h e)) : EReal) = _
  unfold G7
  rw [dif_pos (by rw [hp]; exact ht), hl, fold0_congr m c _ _ (i.val / 256) (by omega) hp, ← outsAt0_sweep m c _ ht]
  refine (out_at m c hx ⟨i.val / 256, ht⟩ h ⟨i.val % 256, Nat.mod_lt _ (by decide)⟩ e).trans ?_
  have h1 : 256 * (i.val / 256) + i.val % 256 = i.val := Nat.div_add_mod _ _
  have h2 : i.val / 256 / 32 = i.val / 8192 := by omega
  have h3 : 256 * (i.val / 256 % 32) + i.val % 256 = i.val % 8192 := by omega
  simp only [h1, h2, h3]

end Cert.KernelIdeal.Block
end
-- ==== Proof.RefTab.lean ====
/- The reference's decay tables and its chunks of the projection, read at an index. -/
module

public import proofs.«01_k».proof.Proof.RefRun
public import proofs.«01_k».proof.Proof.RetMath
public import Idealize.ShloMosaic.Lib.Pointwise
public import Idealize.ShloMosaic.Lib.DynamicIndex
public import Idealize.ShloMosaic.Lib.WordCmp

@[expose] public section

set_option maxRecDepth 16384

noncomputable section

namespace Cert.ReferenceIdeal.Chunk

open Cert.ReferenceIdeal Cert.ReferenceIdeal.Gen Cert.ReferenceIdeal.Step Idealize.ShloMosaic Cert.Retention
open Idealize.ShloMosaic.Tactic

/-! ## The decay tables -/

theorem word_16th : Ideal.ofBits .f32 0x3D800000#32 = ((1 / 16 : ℝ) : EReal) := by
  simp [Ideal.ofBits, Ideal.ieee, -EReal.coe_mul]; norm_num
theorem word_127 : Ideal.ofBits .f32 0x42FE0000#32 = ((127 : ℝ) : EReal) := by
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num
theorem word_2 : Ideal.ofBits .f32 0x40000000#32 = ((2 : ℝ) : EReal) := by
  simp [Ideal.ofBits, Ideal.ieee, -EReal.coe_mul]; norm_num
theorem word_neg5 : Ideal.ofBits .f32 0xC0A00000#32 = ((-5 : ℝ) : EReal) := by
  simp [Ideal.ofBits, Ideal.ieee, -EReal.coe_mul]; norm_num

theorem ofBits_zero : Ideal.ofBits .f32 0x00000000#32 = 0 := by
  simp [Ideal.ofBits, Ideal.ieee]

theorem int_of_word (n : ℕ) (h : n < 1024) : (BitVec.ofNat 32 n).toInt = (n : ℤ) := toInt_ofNat_of_lt (by omega)

/-- The heads' numbers. -/
theorem heads_apply (h : Fin 4) : K_main_v14 (F := Ideal) (ix1 h) = ((h.val : ℝ) : EReal) := by
  pointwise [K_main_v14]
  show (((BitVec.ofNat 32 h.val).toInt : ℝ) : EReal) = _
  rw [int_of_word _ (by omega)]; norm_num

/-- The positions in a chunk. -/
theorem places_apply (r : Fin 128) : K_main_v22 (F := Ideal) (ix1 r) = ((r.val : ℝ) : EReal) := by
  pointwise [K_main_v22]
  show (((BitVec.ofNat 32 r.val).toInt : ℝ) : EReal) = _
  rw [int_of_word _ (by omega)]; norm_num

/-- The logarithm of a head's decay `1 - 2 ^ (-5 - h)`. -/
theorem log_apply (h : Fin 4) : K_main_v21 (F := Ideal) (ix1 h) = Ideal.log (gam h : EReal) := by
  pointwise [K_main_v21, K_main_v20, K_main_v19, K_main_v18, K_main_v17, K_main_v16, K_main_v15, K_main_cst_0, K_main_cst_1, K_main_cst_2]
  rw [heads_apply, word_2, word_neg5, ← EReal.coe_sub, Ideal.pow_coe_coe, ← EReal.coe_one, ← EReal.coe_sub]
  have : Real.rpow 2 (-5 - (h.val : ℝ)) = (1 / 2 : ℝ) ^ (5 + h.val) := by
    show (2 : ℝ) ^ (-5 - (h.val : ℝ)) = _
    rw [show (-5 - (h.val : ℝ)) = -((5 + h.val : ℕ) : ℝ) by push_cast; ring, Real.rpow_neg (by norm_num), Real.rpow_natCast]
    simp
  rw [this]; rfl

/-- The decay of the state a query sees. -/
theorem qdec_apply (h : Fin 4) (r : Fin 128) : K_main_v47 (F := Ideal) (ix3 h r 0) = ((gam h ^ (r.val + 1) : ℝ) : EReal) := by
  pointwise [K_main_v47, K_main_v46, K_main_v45, K_main_v44, K_main_v43, K_main_v42, K_main_v41, K_main_v40, K_main_v39, K_main_cst_6]
  rw [log_apply, places_apply, ← EReal.coe_one, ← EReal.coe_add, ← Nat.cast_succ, exp_log_mul (gam_pos h)]

/-- The decay of a key to its chunk's end. -/
theorem kdec_apply (h : Fin 4) (r : Fin 128) : K_main_v56 (F := Ideal) (ix3 h r 0) = ((gam h ^ (127 - r.val) : ℝ) : EReal) := by
  pointwise [K_main_v56, K_main_v55, K_main_v54, K_main_v53, K_main_v52, K_main_v51, K_main_v50, K_main_v49, K_main_v48, K_main_cst_7]
  rw [log_apply, places_apply, word_127, ← EReal.coe_sub,
    show (127 : ℝ) - (r.val : ℝ) = ((127 - r.val : ℕ) : ℝ) by rw [Nat.cast_sub (by omega)]; norm_num, exp_log_mul (gam_pos h)]

/-- The decay over a chunk. -/
theorem cdec_apply (h : Fin 4) : K_main_v60 (F := Ideal) (ix3 h 0 0) = ((gam h ^ 128 : ℝ) : EReal) := by
  pointwise [K_main_v60, K_main_v59, K_main_v58, K_main_v57, K_main_cst_8]
  rw [log_apply, word_128, show (128 : ℝ) = ((128 : ℕ) : ℝ) by norm_num, exp_log_mul (gam_pos h)]

/-- The difference of two places. -/
theorem diff_apply (r s : Fin 128) : K_main_v27 (F := Ideal) (ix2 r s) = (((r.val : ℝ) - (s.val : ℝ) : ℝ) : EReal) := by
  pointwise [K_main_v27, K_main_v26, K_main_v25, K_main_v24, K_main_v23]
  rw [places_apply, places_apply, EReal.coe_sub]

/-- The decay mask. -/
theorem mask_apply (h : Fin 4) (r s : Fin 128) : K_main_v38 (F := Ideal) (ix3 h r s)
    = ((if s.val ≤ r.val then gam h ^ (r.val - s.val) else 0 : ℝ) : EReal) := by
  pointwise [K_main_v38, K_main_v37, K_main_v36, K_main_v35, K_main_v34, K_main_v33, K_main_v32, K_main_v31, K_main_v30, K_main_v29, K_main_v28, K_main_call0_v0, K_main_call0_v1, K_main_call0_v2, K_main_cst_3, K_main_cst_4, K_main_cst_5]
  rw [diff_apply, log_apply]
  by_cases hsr : s.val ≤ r.val
  · have hc : (r.val : ℝ) - (s.val : ℝ) = ((r.val - s.val : ℕ) : ℝ) := (Nat.cast_sub hsr).symm
    have h0 : (0 : EReal) ≤ (((r.val - s.val : ℕ) : ℝ) : EReal) := by
      rw [← EReal.coe_zero, EReal.coe_le_coe_iff]; exact Nat.cast_nonneg _
    rw [hc, if_pos h0, if_pos hsr, max_eq_left h0, exp_log_mul (gam_pos h)]
  · have h0 : ¬ (0 : EReal) ≤ (((r.val : ℝ) - (s.val : ℝ) : ℝ) : EReal) := by
      rw [← EReal.coe_zero, EReal.coe_le_coe_iff, sub_nonneg, Nat.cast_le]; exact hsr
    rw [if_neg h0, if_neg hsr, EReal.coe_zero]
    exact ofBits_zero

/-! ## The chunks of the projection -/

section
variable {x : Proj} (hx : ∀ i, x i ≠ ⊥ ∧ x i ≠ ⊤) (j : Fin 64) (b h : Fin 4) (r : Fin 128)
include hx

/-- A chunk's query. -/
theorem q_apply (d : Fin 256) : A_main_v7 (F := Ideal) x (ix5 j b h r d) = ((qry x b.val h (128 * j.val + r.val) d : ℝ) : EReal) := by
  pointwise [A_main_v7, A_main_v6, A_main_v2, A_main_v1, A_main_v0]
  refine rd_eq hx _ _ _ _ ?_ ?_
  · simp; omega
  · simp; omega

/-- A chunk's key, scaled. -/
theorem k_apply (d : Fin 256) : A_main_v11 (F := Ideal) x (ix5 j b h r d) = ((key x b.val h (128 * j.val + r.val) d : ℝ) : EReal) := by
  pointwise [A_main_v11, A_main_v9, A_main_v8, A_main_v3, A_main_v1, A_main_v0, K_main_v10, K_main_cst]
  rw [word_16th, key, EReal.coe_mul]
  refine congrArg (· * _) (rd_eq hx _ _ _ _ ?_ ?_)
  · simp; omega
  · simp; omega

/-- A chunk's value. -/
theorem v_apply (e : Fin 512) : A_main_v13 (F := Ideal) x (ix5 j b h r e) = ((val x b.val h e (128 * j.val + r.val) : ℝ) : EReal) := by
  pointwise [A_main_v13, A_main_v12, A_main_v4, A_main_v1, A_main_v0]
  refine rd_eq hx _ _ _ _ ?_ ?_
  · simp; omega
  · simp; omega
end

/-! ## One trip's reads -/

section
variable (j : Fin 64) (s : State Ideal) (b h : Fin 4) (r : Fin 128)

theorem b5_apply (d : Fin 256) : b5 j.val s (ix4 b h r d) = s.main_v63_0 (ix5 j b h r d) := by
  have e : b4 j.val s = extractStridedSlice S1x4x4x128x256 ![j.val, 0, 0, 0, 0] s.main_v63_0
      ⟨rfl, fun a => by have := j.isLt; fin_cases a <;> simp [S1x4x4x128x256, S64x4x4x128x256] <;> omega⟩ :=
    Host.dynamicSlice_eq_extractStridedSlice _ _ _ _ _ _ fun a => by
      fin_cases a
      · exact int_of_word _ (by omega)
      all_goals rfl
  unfold b5; rw [e]
  pointwise

theorem b11_apply (d : Fin 256) : b11 j.val s (ix4 b h r d) = s.main_v63_1 (ix5 j b h r d) := by
  have e : b10 j.val s = extractStridedSlice S1x4x4x128x256 ![j.val, 0, 0, 0, 0] s.main_v63_1
      ⟨rfl, fun a => by have := j.isLt; fin_cases a <;> simp [S1x4x4x128x256, S64x4x4x128x256] <;> omega⟩ :=
    Host.dynamicSlice_eq_extractStridedSlice _ _ _ _ _ _ fun a => by
      fin_cases a
      · exact int_of_word _ (by omega)
      all_goals rfl
  unfold b11; rw [e]
  pointwise

theorem b17_apply (e : Fin 512) : b17 j.val s (ix4 b h r e) = s.main_v63_2 (ix5 j b h r e) := by
  have e : b16 j.val s = extractStridedSlice S1x4x4x128x512 ![j.val, 0, 0, 0, 0] s.main_v63_2
      ⟨rfl, fun a => by have := j.isLt; fin_cases a <;> simp [S1x4x4x128x512, S64x4x4x128x512] <;> omega⟩ :=
    Host.dynamicSlice_eq_extractStridedSlice _ _ _ _ _ _ fun a => by
      fin_cases a
      · exact int_of_word _ (by omega)
      all_goals rfl
  unfold b17; rw [e]
  pointwise

theorem b41_apply (i : Fin 64) (e : Fin 512) :
    b41 j.val s (ix5 i b h r e) = if i = j then b27 j.val s (ix4 b h r e) else s.main_v63_9 (ix5 i b h r e) := by
  have e : b41 j.val s = updateSlice s.main_v63_9 (b36 j.val s) ![j.val, 0, 0, 0, 0]
      ⟨rfl, fun a => by have := j.isLt; fin_cases a <;> simp [S1x4x4x128x512, S64x4x4x128x512] <;> omega⟩ :=
    WordCmp.dynamicUpdateSlice_eq_update _ _ _ _ _ _ fun a => by
      fin_cases a
      · exact int_of_word _ (by omega)
      all_goals rfl
  rw [e]
  unfold updateSlice
  by_cases hij : i = j
  · subst hij
    rw [if_pos rfl, dif_pos]
    · pointwise [b36]
    · intro a; fin_cases a <;> simp [S1x4x4x128x512]
  · rw [if_neg hij, dif_neg]
    intro hin
    have := hin 0
    simp [S1x4x4x128x512] at this
    exact hij (Fin.ext (by omega))

/-! ## One trip -/

/-- The state after a trip, at an index. -/
theorem b35_apply (d : Fin 256) (e : Fin 512) : b35 j.val s (ix4 b h d e)
    = s.main_v63_8 (ix4 b h d e) * K_main_v60 (F := Ideal) (ix3 h 0 0)
      + ∑ r : Fin 128, b11 j.val s (ix4 b h r d) * K_main_v56 (F := Ideal) (ix3 h r 0) * b17 j.val s (ix4 b h r e) := by
  pointwise [b35, b34, b33, b32, b31, b30, b29, b28]

/-- The trip's outputs before normalization, at an index. -/
theorem b27_apply (e : Fin 512) : b27 j.val s (ix4 b h r e)
    = (∑ u : Fin 128, (∑ d : Fin 256, b5 j.val s (ix4 b h r d) * b11 j.val s (ix4 b h u d)) * K_main_v38 (F := Ideal) (ix3 h r u) * b17 j.val s (ix4 b h u e))
      + ∑ d : Fin 256, b5 j.val s (ix4 b h r d) * K_main_v47 (F := Ideal) (ix3 h r 0) * s.main_v63_8 (ix4 b h d e) := by
  pointwise [b27, b26, b25, b24, b23, b22, b21, b20, b19, b18]
end

end Cert.ReferenceIdeal.Chunk
end
-- ==== Proof.RefFold.lean ====
/- The reference's loop: its state and outputs after any number of trips are the retention of the projection, and so is
   its result. -/
module

public import proofs.«01_k».proof.Proof.RefTab
public import proofs.«01_k».proof.Proof.Kblk
public import Idealize.ShloMosaic.Lib.IdealHost

@[expose] public section

set_option maxRecDepth 16384

noncomputable section

namespace Cert.ReferenceIdeal.Chunk

open Cert.ReferenceIdeal Cert.ReferenceIdeal.Gen Cert.ReferenceIdeal.Step Idealize.ShloMosaic Cert.Retention
open Cert.ReferenceIdeal.LoopRun (states)
open Idealize.ShloMosaic.Tactic

variable {x : Proj}

theorem states_q (n : ℕ) : (states (F := Ideal) x n).main_v63_0 = A_main_v7 (F := Ideal) x := by
  induction n with
  | zero => rfl
  | succ n ih => exact ih
theorem states_k (n : ℕ) : (states (F := Ideal) x n).main_v63_1 = A_main_v11 (F := Ideal) x := by
  induction n with
  | zero => rfl
  | succ n ih => exact ih
theorem states_v (n : ℕ) : (states (F := Ideal) x n).main_v63_2 = A_main_v13 (F := Ideal) x := by
  induction n with
  | zero => rfl
  | succ n ih => exact ih

/-- The carried state after `n` trips. -/
theorem state_apply (hx : ∀ i, x i ≠ ⊥ ∧ x i ≠ ⊤) (b h : Fin 4) (d : Fin 256) (e : Fin 512) : ∀ n : ℕ, n ≤ 64 →
    (states (F := Ideal) x n).main_v63_8 (ix4 b h d e) = ((retState x b.val h (128 * n) d e : ℝ) : EReal) := by
  intro n
  induction n with
  | zero =>
    intro _
    show K_main_v61 (F := Ideal) (ix4 b h d e) = _
    rw [retState, state_zero]
    pointwise [K_main_v61, K_main_cst_9]
    rfl
  | succ n ih =>
    intro hn
    have hj : n < 64 := hn
    refine (b35_apply ⟨n, hj⟩ (states x n) b h d e).trans ?_
    rw [ih (by omega), cdec_apply, show 128 * (n + 1) = 128 * n + 128 from rfl, retState, retState, state_step, EReal.coe_add, EReal.coe_mul, coe_sum]
    refine congrArg₂ (· + ·) rfl (Finset.sum_congr rfl fun r _ => ?_)
    rw [b11_apply, b17_apply, states_k, states_v, k_apply hx, v_apply hx, kdec_apply, ← EReal.coe_mul, ← EReal.coe_mul]

/-- A trip's outputs before normalization. -/
theorem out_apply (hx : ∀ i, x i ≠ ⊥ ∧ x i ≠ ⊤) (j : Fin 64) (b h : Fin 4) (r : Fin 128) (e : Fin 512) :
    b27 j.val (states (F := Ideal) x j.val) (ix4 b h r e) = ((retOut x b.val h (128 * j.val + r.val) e : ℝ) : EReal) := by
  rw [b27_apply, retOut, out_chunk _ _ _ _ 128 (128 * j.val) r, EReal.coe_add, Finset.sum_mul, coe_sum, coe_sum]
  refine congrArg₂ (· + ·) (Finset.sum_congr rfl fun u _ => ?_) (Finset.sum_congr rfl fun d _ => ?_)
  · rw [mask_apply, b17_apply, states_v, v_apply hx, EReal.coe_mul, EReal.coe_mul, coe_sum]
    refine congrArg (· * _) (congrArg (· * _) (Finset.sum_congr rfl fun d _ => ?_))
    rw [b5_apply, b11_apply, states_q, states_k, q_apply hx, k_apply hx, EReal.coe_mul]
  · rw [b5_apply, states_q, q_apply hx, qdec_apply, state_apply hx b h d e j.val (by omega), ← EReal.coe_mul, ← EReal.coe_mul, retState]
    refine congrArg _ ?_
    ring

/-- The outputs before normalization after `n` trips, at a chunk already made. -/
theorem outs_apply (hx : ∀ i, x i ≠ ⊥ ∧ x i ≠ ⊤) (i : Fin 64) (b h : Fin 4) (r : Fin 128) (e : Fin 512) : ∀ n : ℕ, n ≤ 64 → i.val < n →
    (states (F := Ideal) x n).main_v63_9 (ix5 i b h r e) = ((retOut x b.val h (128 * i.val + r.val) e : ℝ) : EReal) := by
  intro n
  induction n with
  | zero => intro _ h0; exact absurd h0 (Nat.not_lt_zero _)
  | succ n ih =>
    intro hn hi
    refine (b41_apply ⟨n, hn⟩ (states x n) b h r i e).trans ?_
    by_cases hin : i = ⟨n, hn⟩
    · subst hin
      rw [if_pos rfl]
      exact out_apply hx ⟨n, hn⟩ b h r e
    · rw [if_neg hin]
      exact ih (by omega) (by have : i.val ≠ n := fun h => hin (Fin.ext h); omega)

open Cert.KernelIdeal.Block (normF gateF)

/-- The reference's gate is the kernel's. -/
theorem gate_eq (g : EReal) : g * Ideal.div 1 (1 + Ideal.exp (-g)) = gateF g := by
  unfold gateF
  rw [zero_sub (G := EReal)]
  refine Ideal.mul_one_div (ne_of_gt (lt_of_lt_of_le zero_lt_one (le_add_of_nonneg_right ?_)))
  induction -g with
  | bot => exact le_rfl
  | top => exact le_top
  | coe r => exact EReal.coe_nonneg.mpr (Real.exp_pos r).le

/-- The outputs of all chunks, by batch, position and head. -/
def outs (o : FVec Ideal S64x4x4x128x512 .f32) : FVec Ideal S4x8192x4x512 .f32 :=
  shapeCast _ (transpose S4x64x128x4x512 [1, 0, 3, 2, 4] o transposes_S64x4x4x128x512_S4x64x128x4x512_1_0_3_2_4) shapeCasts_S4x64x128x4x512_S4x8192x4x512

/-- Rows less their means. -/
def less (o : FVec Ideal S4x8192x4x512 .f32) : FVec Ideal S4x8192x4x512 .f32 :=
  subf o (broadcastInDim S4x8192x4x512 ![0, 1, 2, 3] bcast_S4x8192x4x1_S4x8192x4x512_0_1_2_3 (Host.divf (broadcastInDim S4x8192x4x1 ![0, 1, 2] bcast_S4x8192x4_S4x8192x4x1_0_1_2 (Host.reduceAdd o (constant S_ .f32 0x00000000#32) reducesTo_S4x8192x4x512_S4x8192x4_d3 h_S_)) (broadcastInDim S4x8192x4x1 ![] bcast_S_S4x8192x4x1 (constant S_ .f32 0x44000000#32))))

/-- Rows normalized. -/
def normed (o : FVec Ideal S4x8192x4x512 .f32) : FVec Ideal S4x8192x4x512 .f32 :=
  mulf (less o) (broadcastInDim S4x8192x4x512 ![0, 1, 2, 3] bcast_S4x8192x4x1_S4x8192x4x512_0_1_2_3 (Host.rsqrt (addf (Host.divf (broadcastInDim S4x8192x4x1 ![0, 1, 2] bcast_S4x8192x4_S4x8192x4x1_0_1_2 (Host.reduceAdd (mulf (less o) (less o)) (constant S_ .f32 0x00000000#32) reducesTo_S4x8192x4x512_S4x8192x4_d3 h_S_)) (broadcastInDim S4x8192x4x1 ![] bcast_S_S4x8192x4x1 (constant S_ .f32 0x44000000#32))) (broadcastInDim S4x8192x4x1 ![] bcast_S_S4x8192x4x1 (constant S_ .f32 0x358637BD#32)))))

/-- The gates, by batch and position. -/
def gates (x : FVec Ideal S32768x6144 .bf16) : FVec Ideal S4x8192x2048 .f32 :=
  extractStridedSlice S4x8192x2048 ![0, 0, 4096] (shapeCast _ (extf .f32 x bitsLt_bf16_f32) shapeCasts_S32768x6144_S4x8192x6144) slices_S4x8192x6144_S4x8192x2048_0_0_4096

/-- The gate's factor. -/
def gated (g : FVec Ideal S4x8192x2048 .f32) : FVec Ideal S4x8192x2048 .f32 :=
  mulf g (Host.divf (broadcastInDim S4x8192x2048 ![] bcast_S_S4x8192x2048 (constant S_ .f32 0x3F800000#32)) (addf (broadcastInDim S4x8192x2048 ![] bcast_S_S4x8192x2048 (constant S_ .f32 0x3F800000#32)) (Host.exp (Host.negf g))))

theorem tail_eq (s : State Ideal) (x : FVec Ideal S32768x6144 .bf16) : R_main_v92 (F := Ideal) s x
    = truncf .bf16 (shapeCast _ (mulf (gated (gates x)) (shapeCast _ (normed (outs s.main_v63_9)) shapeCasts_S4x8192x4x512_S4x8192x2048)) shapeCasts_S4x8192x2048_S32768x2048) bitsLt_bf16_f32 := rfl

theorem outs_at (o : FVec Ideal S64x4x4x128x512 .f32) (b : Fin 4) (s : Fin 8192) (h : Fin 4) (e : Fin 512) :
    outs o (ix4 b s h e) = o (ix5 ⟨s.val / 128, by omega⟩ b h ⟨s.val % 128, by omega⟩ e) := by
  pointwise [outs]

theorem less_at (o : FVec Ideal S4x8192x4x512 .f32) (b : Fin 4) (s : Fin 8192) (h : Fin 4) (e : Fin 512) :
    less o (ix4 b s h e) = o (ix4 b s h e) - Ideal.div (∑ e, o (ix4 b s h e)) (Ideal.ofBits .f32 0x44000000#32) := by
  pointwise [less]

theorem normed_at (o : FVec Ideal S4x8192x4x512 .f32) (b : Fin 4) (s : Fin 8192) (h : Fin 4) (e : Fin 512) :
    normed o (ix4 b s h e) = normF (fun e => o (ix4 b s h e)) e := by
  unfold normF
  simp only [← less_at]
  pointwise [normed]

theorem gates_at (x : FVec Ideal S32768x6144 .bf16) (b : Fin 4) (s : Fin 8192) (j : Fin 2048) :
    gates x (ix3 b s j) = x (ix2 ⟨8192 * b.val + s.val, by omega⟩ ⟨4096 + j.val, by omega⟩) := by
  pointwise [gates]
  exact congrArg (fun i => x (ix2 i _)) (Fin.ext (by show b.val * 8192 + s.val = 8192 * b.val + s.val; omega))

theorem gated_at (g : FVec Ideal S4x8192x2048 .f32) (b : Fin 4) (s : Fin 8192) (j : Fin 2048) :
    gated g (ix3 b s j) = gateF (g (ix3 b s j)) := by
  rw [← gate_eq]
  pointwise [gated]

theorem round_at (y : FVec Ideal S32768x2048 .f32) (i : Fin 32768) (j : Fin 2048) :
    truncf .bf16 y bitsLt_bf16_f32 (ix2 i j) = y (ix2 i j) := by
  pointwise

theorem rows_at (y : FVec Ideal S4x8192x2048 .f32) (i : Fin 32768) (j : Fin 2048) :
    (shapeCast S32768x2048 y shapeCasts_S4x8192x2048_S32768x2048) (ix2 i j) = y (ix3 ⟨i.val / 8192, by omega⟩ ⟨i.val % 8192, by omega⟩ j) := by
  pointwise

theorem heads_at (y : FVec Ideal S4x8192x4x512 .f32) (b : Fin 4) (s : Fin 8192) (h : Fin 4) (e : Fin 512) :
    (shapeCast S4x8192x2048 y shapeCasts_S4x8192x4x512_S4x8192x2048) (ix3 b s (⟨512 * h.val + e.val, by omega⟩ : Fin 2048)) = y (ix4 b s h e) := by
  pointwise

/-- The reference's result at row `i` and column `512 h + e`. -/
theorem result (hx : ∀ i, x i ≠ ⊥ ∧ x i ≠ ⊤) (i : Fin 32768) (h : Fin 4) (e : Fin 512) :
    R_main_v92 (F := Ideal) (states x 64) x (ix2 i (⟨512 * h.val + e.val, by omega⟩ : Fin 2048))
      = gateF (x (ix2 i ⟨4096 + (512 * h.val + e.val), by omega⟩))
        * normF (fun e => ((retOut x (i.val / 8192) h (i.val % 8192) e : ℝ) : EReal)) e := by
  rw [tail_eq]
  refine (round_at _ i _).trans ((rows_at _ i _).trans ?_)
  refine congrArg₂ (· * ·) ((gated_at _ _ _ _).trans ?_) ((heads_at _ _ _ h e).trans ((normed_at _ _ _ _ _).trans (congrArg (normF · e) (funext fun e => ?_))))
  · rw [gates_at]
    refine congrArg (fun i => gateF (x (ix2 i _))) (Fin.ext ?_)
    exact Nat.div_add_mod _ _
  · rw [outs_at, outs_apply hx _ _ _ _ _ 64 le_rfl (Fin.isLt _)]
    simp only [Nat.div_add_mod]

end Cert.ReferenceIdeal.Chunk
end
-- ==== Proof.Compare.lean ====
/- The kernel's result array is the reference's. -/
module

public import proofs.«01_k».proof.Proof.Kfold
public import proofs.«01_k».proof.Proof.RefFold

@[expose] public section

noncomputable section

namespace Cert.Retention

open Idealize.ShloMosaic Idealize.ShloMosaic.TcCoe Idealize.SL.Sem

/-- On a device whose projection is of reals, the array the kernel ends with is the reference's result of that projection. -/
theorem same (m : (ℓ : Loc Cert.KernelIdeal.nD Cert.KernelIdeal.τ Cert.KernelIdeal.sig) → Buf (Elt Ideal) ℓ) (c : Dev Cert.KernelIdeal.nD)
    (hx : ∀ i, Cert.KernelIdeal.Block.proj m c i ≠ ⊥ ∧ Cert.KernelIdeal.Block.proj m c i ≠ ⊤) :
    (Cert.KernelIdeal.Value.G7 m c : Vec Ideal Cert.KernelIdeal.S32768x2048 .bf16)
      = Cert.ReferenceIdeal.Step.R_main_v92 (F := Ideal) (Cert.ReferenceIdeal.LoopRun.states (Cert.KernelIdeal.Block.proj m c) 64) (Cert.KernelIdeal.Block.proj m c) := by
  refine funext fun (i : Cert.KernelIdeal.S32768x2048.Idx) => ?_
  have hb : (i 1).val < 2048 := (i 1).isLt
  have hi : i = ix2 (i 0) (⟨512 * ((i 1).val / 512) + (i 1).val % 512, by omega⟩ : Fin 2048) := by
    funext a
    match a with
    | ⟨0, _⟩ => rfl
    | ⟨1, _⟩ => exact Fin.ext (Nat.div_add_mod _ _).symm
  rw [hi]
  exact (Cert.KernelIdeal.Block.result m c hx (i 0) ⟨(i 1).val / 512, by omega⟩ ⟨(i 1).val % 512, by omega⟩).trans
    (Cert.ReferenceIdeal.Chunk.result hx (i 0) ⟨(i 1).val / 512, by omega⟩ ⟨(i 1).val % 512, by omega⟩).symm

end Cert.Retention
end
-- ==== Proof.Proj.lean ====
/- The retention's projection: each grid point's block of rows, in four groups of 1536 columns, is the product of the
   tokens and the weights; so is the reference's result. -/
module

public import proofs.«01_k».proof.Proof.Gen.Kernel2Ideal.Value
public import proofs.«01_k».proof.Proof.Gen.Reference2Ideal.Run
public import Idealize.ShloMosaic.Lib.Pointwise
public import Idealize.ShloMosaic.Lib.Pipeline.Value
public import Idealize.ShloMosaic.Lib.Pipeline.ValueKit

@[expose] public section

set_option maxRecDepth 16384

noncomputable section

namespace Cert.Kernel2Ideal.Block

open Cert.Kernel2Ideal Cert.Kernel2Ideal.Gen Cert.Kernel2Ideal.Value Idealize.ShloMosaic Idealize.ShloMosaic.TcCoe Idealize.SL.Sem
open Idealize.ShloMosaic.Tactic

/-- A group of columns: the rows against the group's weights, plus the group's bias. -/
def cols {F : FTy → Type} [FloatOps F] (x : Vec F S512x1024 .f32) (w : Vec F S1024x1536 .bf16) (b : Vec F S1x1536 .f32) :
    FVec F S512x1536 .bf16 := k0_pay3 x w b

theorem cols_apply (x : Vec Ideal S512x1024 .f32) (w : Vec Ideal S1024x1536 .bf16) (b : Vec Ideal S1x1536 .f32)
    (r : Fin 512) (e : Fin 1536) :
    cols x w b (ix2 r e) = (∑ k : Fin 1024, x (ix2 r k) * w (ix2 k e)) + b (ix2 0 e) := by
  pointwise [cols, k0_pay3, k0_pay2]

/-- Column `e` of group `q`. -/
def cg (q : Fin 4) (e : Fin 1536) : Fin 6144 := ⟨1536 * q.val + e.val, by omega⟩

theorem ld_x (x : Vec Ideal S512x1024 .f32) (inb) (r : Fin 512) (k : Fin 1024) :
    View.ld x (Rect.unit (s := S512x1024) ![0, 0] ![512, 1024] inb) (ix2 r k : S512x1024.Idx) = x (ix2 r k) :=
  View.ld_unit_apply_of x _ _ inb _ _ (fun a => by fin_cases a <;> simp)
theorem ld_w (x : Vec Ideal S1024x6144 .bf16) (o : Nat) (q : Fin 4) (ho : o = 1536 * q.val) (inb) (k : Fin 1024) (e : Fin 1536) :
    View.ld x (Rect.unit (s := S1024x6144) ![0, o] ![1024, 1536] inb) (ix2 k e : S1024x1536.Idx) = x (ix2 k (cg q e)) :=
  View.ld_unit_apply_of x _ _ inb _ _ (fun a => by subst ho; fin_cases a <;> simp [cg])
theorem ld_b (x : Vec Ideal S1x6144 .f32) (o : Nat) (q : Fin 4) (ho : o = 1536 * q.val) (inb) (e : Fin 1536) :
    View.ld x (Rect.unit (s := S1x6144) ![0, o] ![1, 1536] inb) (ix2 0 e : S1x1536.Idx) = x (ix2 0 (cg q e)) :=
  View.ld_unit_apply_of x _ _ inb _ _ (fun a => by subst ho; fin_cases a <;> simp [cg])

theorem canon_hit (o : Nat) (q : Fin 4) (ho : o = 1536 * q.val) (inb) (w : Vec Ideal S512x1536 .bf16)
    (L : List (View.Piece (Elt Ideal) S512x6144 .bf16)) (r : Fin 512) (e : Fin 1536) :
    View.canon ((⟨Rect.unit (s := S512x6144) ![0, o] ![512, 1536] inb, w⟩ : View.Piece (Elt Ideal) S512x6144 .bf16) :: L)
      (ix2 r (cg q e)) = w (ix2 r e) := by
  have hi : (ix2 r (cg q e) : S512x6144.Idx) = (Rect.unit (s := S512x6144) ![0, o] ![512, 1536] inb).emb (ix2 r e) := by
    funext a; apply Fin.ext; rw [Rect.emb_apply]; subst ho; fin_cases a <;> simp [cg]
  rw [hi]; exact View.canon_cons_emb _ _ _ _

theorem canon_miss (o : Nat) (q : Fin 4) (ho : o + 1536 ≤ 1536 * q.val ∨ 1536 * q.val + 1536 ≤ o) (inb) (w : Vec Ideal S512x1536 .bf16)
    (L : List (View.Piece (Elt Ideal) S512x6144 .bf16)) (r : Fin 512) (e : Fin 1536) :
    View.canon ((⟨Rect.unit (s := S512x6144) ![0, o] ![512, 1536] inb, w⟩ : View.Piece (Elt Ideal) S512x6144 .bf16) :: L)
      (ix2 r (cg q e)) = View.canon L (ix2 r (cg q e)) := by
  refine View.canon_cons_of_not_mem _ _ fun hm => ?_
  have := (Rect.mem_set_unit (inb := inb)).mp hm (1 : Fin 2)
  simp [cg] at this; omega

theorem four : ∀ h : Fin 4, h = 0 ∨ h = 1 ∨ h = 2 ∨ h = 3 := by decide

theorem group (x : Vec Ideal S512x1024 .f32) (w : Vec Ideal S1024x6144 .bf16) (b : Vec Ideal S1x6144 .f32)
    (o : Nat) (q : Fin 4) (ho : o = 1536 * q.val) (i0 i1 i2) (r : Fin 512) (e : Fin 1536) :
    cols (View.ld x (Rect.unit (s := S512x1024) ![0, 0] ![512, 1024] i0)) (View.ld w (Rect.unit (s := S1024x6144) ![0, o] ![1024, 1536] i1))
        (View.ld b (Rect.unit (s := S1x6144) ![0, o] ![1, 1536] i2)) (ix2 r e)
      = (∑ k : Fin 1024, x (ix2 r k) * w (ix2 k (cg q e))) + b (ix2 0 (cg q e)) := by
  refine (cols_apply _ _ _ r e).trans (congrArg₂ (· + ·) (Finset.sum_congr rfl fun k _ => ?_) (ld_b _ o q ho _ e))
  rw [ld_x, ld_w _ o q ho]

/-- A point's output block. -/
theorem out_apply (x : Vec Ideal S512x1024 .f32) (w : Vec Ideal S1024x6144 .bf16) (b : Vec Ideal S1x6144 .f32)
    (r : Fin 512) (q : Fin 4) (e : Fin 1536) :
    out0_3 x w b (ix2 r (cg q e)) = (∑ k : Fin 1024, x (ix2 r k) * w (ix2 k (cg q e))) + b (ix2 0 (cg q e)) := by
  unfold out0_3
  rcases four q with rfl | rfl | rfl | rfl
  · rw [canon_miss 4608 0 (by decide)]; rw [canon_miss 3072 0 (by decide)]; rw [canon_miss 1536 0 (by decide)]; rw [canon_hit 0 0 rfl]
    exact group x w b 0 0 rfl _ _ _ r e
  · rw [canon_miss 4608 1 (by decide)]; rw [canon_miss 3072 1 (by decide)]; rw [canon_hit 1536 1 rfl]
    exact group x w b 1536 1 rfl _ _ _ r e
  · rw [canon_miss 4608 2 (by decide)]; rw [canon_hit 3072 2 rfl]
    exact group x w b 3072 2 rfl _ _ _ r e
  · rw [canon_hit 4608 3 rfl]
    exact group x w b 4608 3 rfl _ _ _ r e

variable (m : (ℓ : Loc nD τ sig) → Buf (Elt Ideal) ℓ) (c : Dev nD)

/-- The launch's tokens and weights. -/
abbrev toks : Vec Ideal S4x8192x1024 .f32 := m ((c : Thread nD τ).loc main_arg0)
abbrev wts : Vec Ideal S1x1024x6144 .f32 := m ((c : Thread nD τ).loc main_arg1)

def rows {F : FTy → Type} (x : Vec F S4x8192x1024 .f32) : Vec F S32768x1024 .f32 := shapeCast S32768x1024 x shapeCasts_S4x8192x1024_S32768x1024
def mat {F : FTy → Type} [FloatOps F] (w : FVec F S1x1024x6144 .f32) : FVec F S1024x6144 .bf16 :=
  truncf .bf16 (shapeCast S1024x6144 w shapeCasts_S1x1024x6144_S1024x6144) bitsLt_bf16_f32
def bias {F : FTy → Type} [FloatOps F] : FVec F S1x6144 .f32 := broadcastInDim S1x6144 ![] bcast_S_S1x6144 (constant S_ .f32 0x00000000#32)

theorem V_v0 : V m c main_v0 = rows (toks m c) := by
  unfold V hostOps0
  simp only [List.flatten_cons, List.flatten_nil, List.append_nil, List.cons_append, List.nil_append]
  after_results
  rfl
theorem V_v2 : V m c main_v2 = mat (F := Ideal) (wts m c) := by
  unfold V hostOps0
  simp only [List.flatten_cons, List.flatten_nil, List.append_nil, List.cons_append, List.nil_append]
  after_results
  rfl
theorem V_v3 : V m c main_v3 = bias (F := Ideal) := by
  unfold V hostOps0
  simp only [List.flatten_cons, List.flatten_nil, List.append_nil, List.cons_append, List.nil_append]
  after_results
  rfl

theorem mat_apply (w : Vec Ideal S1x1024x6144 .f32) (k : Fin 1024) (e : Fin 6144) : mat (F := Ideal) w (ix2 k e) = w (ix3 0 k e) := by
  pointwise [mat]
theorem bias_apply (e : Fin 6144) : bias (F := Ideal) (ix2 0 e) = 0 := by
  pointwise [bias]
theorem rows_apply (x : Vec Ideal S4x8192x1024 .f32) (i : Fin 32768) (k : Fin 1024) :
    rows x (ix2 i k) = x (ix3 ⟨i.val / 8192, by omega⟩ ⟨i.val % 8192, Nat.mod_lt _ (by decide)⟩ k) := by
  pointwise [rows]

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem flush3 : ∀ t : Fin cfg0.N, (cfg0.win 3).flush t = true :=
  (by decide +kernel : ∀ t : Fin grid0.N, win0_3.flush t = true)
theorem ptN (t : Fin cfg0.N) : t.val < 64 := lt_of_lt_of_eq t.isLt N_0

theorem blk0 (t : Fin cfg0.N) (r : Fin 512) (k : Fin 1024) :
    (iblk m c 0 t : Vec Ideal S512x1024 .f32) (ix2 r k)
      = rows (toks m c) (ix2 ⟨512 * t.val + r.val, by have := ptN t; omega⟩ k) := by
  show V m c main_v0 (((cfg0.win 0).blk t).view.emb (ix2 r k)) = _
  rw [V_v0]
  refine congrArg (rows (toks m c)) (funext fun a => Fin.ext ?_)
  obtain ⟨e0, e1⟩ := idx0 t
  match a with
  | ⟨0, _⟩ => show win0_0.index t (0 : Fin 2) * 512 + 1 * r.val = 512 * t.val + r.val; omega
  | ⟨1, _⟩ => show win0_0.index t (1 : Fin 2) * 1024 + 1 * k.val = k.val; omega
theorem blk1 (t : Fin cfg0.N) : (iblk m c 1 t : Vec Ideal S1024x6144 .bf16) = mat (F := Ideal) (wts m c) := by
  funext y
  show V m c main_v2 (((cfg0.win 1).blk t).view.emb y) = _
  rw [V_v2]
  refine congrArg (mat (F := Ideal) (wts m c)) (funext fun a => Fin.ext ?_)
  match a with
  | ⟨0, _⟩ => show 0 * 1024 + 1 * (y 0).val = (y 0).val; omega
  | ⟨1, _⟩ => show 0 * 6144 + 1 * (y 1).val = (y 1).val; omega
theorem blk2 (t : Fin cfg0.N) : (iblk m c 2 t : Vec Ideal S1x6144 .f32) = bias (F := Ideal) := by
  funext y
  show V m c main_v3 (((cfg0.win 2).blk t).view.emb y) = _
  rw [V_v3]
  refine congrArg (bias (F := Ideal)) (funext fun a => Fin.ext ?_)
  match a with
  | ⟨0, _⟩ => show 0 * 1 + 1 * (y 0).val = (y 0).val; omega
  | ⟨1, _⟩ => show 0 * 6144 + 1 * (y 1).val = (y 1).val; omega

/-- The product of the tokens and the weights, at row `i` and column `j`. -/
def prod (x : Vec Ideal S4x8192x1024 .f32) (w : Vec Ideal S1x1024x6144 .f32) (i : Fin 32768) (j : Fin 6144) : EReal :=
  ∑ k : Fin 1024, @HMul.hMul EReal EReal EReal instHMul
    (x (ix3 ⟨i.val / 8192, by omega⟩ ⟨i.val % 8192, Nat.mod_lt _ (by decide)⟩ k)) (w (ix3 0 k j))

/-- The result array of the launch. -/
theorem result (i : Fin 32768) (j : Fin 6144) :
    ((dats m 0 c).arrAt 3 cfg0.N : Vec Ideal S32768x6144 .bf16) (ix2 i j) = prod (toks m c) (wts m c) i j := by
  have ht : i.val / 512 < cfg0.N := lt_of_lt_of_eq (by omega) N_0.symm
  have hr : i.val % 512 < 512 := Nat.mod_lt _ (by decide)
  have hq : j.val / 1536 < 4 := by omega
  have he : j.val % 1536 < 1536 := Nat.mod_lt _ (by decide)
  have hj : j = cg ⟨_, hq⟩ ⟨_, he⟩ := Fin.ext (Nat.div_add_mod _ _).symm
  have h := congrFun ((blocks3 m c ⟨_, ht⟩ (flush3 _)).trans (flushed3 m c ⟨_, ht⟩)) (ix2 ⟨_, hr⟩ j)
  obtain ⟨e0, e1⟩ := idx3 ⟨_, ht⟩
  have hi : ((cfg0.win 3).blk ⟨_, ht⟩).view.emb (ix2 ⟨_, hr⟩ j) = (ix2 i j : S32768x6144.Idx) := by
    funext a; apply Fin.ext
    match a with
    | ⟨0, _⟩ => show win0_3.index ⟨_, ht⟩ (0 : Fin 2) * 512 + 1 * (i.val % 512) = i.val; rw [e0]; show i.val / 512 * 512 + 1 * (i.val % 512) = i.val; omega
    | ⟨1, _⟩ => show win0_3.index ⟨_, ht⟩ (1 : Fin 2) * 6144 + 1 * j.val = j.val; rw [e1]; omega
  have h2 : (dats m 0 c).arrAt 3 cfg0.N (((cfg0.win 3).blk ⟨_, ht⟩).view.emb (ix2 ⟨_, hr⟩ j))
      = out0_3 (iblk m c 0 ⟨_, ht⟩) (iblk m c 1 ⟨_, ht⟩) (iblk m c 2 ⟨_, ht⟩) (ix2 ⟨_, hr⟩ j) := h
  rw [hi] at h2
  refine h2.trans ?_
  rw [hj]
  refine (out_apply _ _ _ _ _ _).trans ?_
  rw [← hj, blk1, blk2, bias_apply]
  refine (add_zero (M := EReal) _).trans (Finset.sum_congr rfl fun k _ => ?_)
  rw [blk0, mat_apply, rows_apply]
  have h1 : 512 * (i.val / 512) + i.val % 512 = i.val := Nat.div_add_mod _ _
  simp only [h1]

end Cert.Kernel2Ideal.Block

namespace Cert.Reference2Ideal.Block

open Cert.Reference2Ideal Cert.Reference2Ideal.Gen Idealize.ShloMosaic Idealize.ShloMosaic.Tactic

/-- The reference's result. -/
def out {F : FTy → Type} [FloatOps F] (x : FVec F S4x8192x1024 .f32) (w : FVec F S1x1024x6144 .f32) : FVec F S32768x6144 .bf16 :=
  truncf .bf16 (shapeCast S32768x6144 (Host.dotGeneral dot_S4x8192x1024_S1024x6144_S4x8192x6144_2_0_01_1_n_n none x
    (shapeCast S1024x6144 w shapeCasts_S1x1024x6144_S1024x6144)) shapeCasts_S4x8192x6144_S32768x6144) bitsLt_bf16_f32

theorem out_apply (x : Vec Ideal S4x8192x1024 .f32) (w : Vec Ideal S1x1024x6144 .f32) (i : Fin 32768) (j : Fin 6144) :
    out (F := Ideal) x w (ix2 i j) = Cert.Kernel2Ideal.Block.prod x w i j := by
  unfold Cert.Kernel2Ideal.Block.prod
  pointwise [out]

/-- The launch's result array is the reference's. -/
theorem same (m : (ℓ : Loc Cert.Kernel2Ideal.nD Cert.Kernel2Ideal.τ Cert.Kernel2Ideal.sig) → Buf (Elt Ideal) ℓ) (c : Dev Cert.Kernel2Ideal.nD) :
    ((Cert.Kernel2Ideal.Gen.dats m 0 c).arrAt 3 Cert.Kernel2Ideal.cfg0.N : Vec Ideal S32768x6144 .bf16)
      = out (F := Ideal) (Cert.Kernel2Ideal.Block.toks m c) (Cert.Kernel2Ideal.Block.wts m c) := by
  refine funext fun (i : S32768x6144.Idx) => ?_
  have hi : i = ix2 (i 0) (i 1) := by
    funext a
    match a with
    | ⟨0, _⟩ => rfl
    | ⟨1, _⟩ => rfl
  rw [hi]
  exact (Cert.Kernel2Ideal.Block.result m c _ _).trans (out_apply _ _ _ _).symm

end Cert.Reference2Ideal.Block

end
-- ==== Proof.OutProj.lean ====
/- The layer norm of the first layer's residual: each grid point's block of rows, in two halves, is the norm of the
   residual plus the output product; so is the reference's result. -/
module

public import proofs.«01_k».proof.Proof.Gen.Kernel4Ideal.Value
public import proofs.«01_k».proof.Proof.Gen.Reference4Ideal.Run
public import Idealize.ShloMosaic.Lib.Pointwise
public import Idealize.ShloMosaic.Lib.Pipeline.Value
public import Idealize.ShloMosaic.Lib.Pipeline.ValueKit

@[expose] public section

set_option maxRecDepth 16384

noncomputable section

namespace Cert.LayerNorm

open Idealize.ShloMosaic

/-- A row of 1024 normalized: minus its mean, over the square root of its variance plus the floor. -/
def layerNorm (o : Fin 1024 → EReal) (e : Fin 1024) : EReal :=
  (o e - Ideal.div (∑ i, o i) (Ideal.ofBits .f32 0x44800000#32))
    * Ideal.rsqrt (Ideal.div (∑ j, (o j - Ideal.div (∑ i, o i) (Ideal.ofBits .f32 0x44800000#32))
        * (o j - Ideal.div (∑ i, o i) (Ideal.ofBits .f32 0x44800000#32))) (Ideal.ofBits .f32 0x44800000#32)
      + Ideal.ofBits .f32 0x3727C5AC#32)

end Cert.LayerNorm

namespace Cert.Kernel4Ideal.Block

open Cert.Kernel4Ideal Cert.Kernel4Ideal.Gen Cert.Kernel4Ideal.Value Idealize.ShloMosaic Idealize.ShloMosaic.TcCoe Idealize.SL.Sem
open Idealize.ShloMosaic.Tactic Cert.LayerNorm

section Payloads
variable {F : FTy → Type} [FloatOps F]

/-- A half block's residual: the scaled tokens plus the output product and its bias. -/
def resid (v0 : Vec F S256x2048 .bf16) (v1 : Vec F S2048x1024 .bf16) (v4 : Vec F S1x1024 .f32) (v8 : Vec F S256x1024 .f32) : FVec F S256x1024 .f32 :=
  have v2 : FVec F S2048x1024 .bf16 := shapeCast S2048x1024 v1 shapeCasts_S2048x1024_S2048x1024
  have cst : FVec F S256x1024 .f32 := constant S256x1024 .f32 0x00000000#32
  have v3 : FVec F S256x1024 .f32 := matmul dot_S256x2048_S2048x1024_S256x1024_1_0_0_1_n_n none v0 v2 cst
  have v5 : FVec F S1x1024 .f32 := shapeCast S1x1024 v4 shapeCasts_S1x1024_S1x1024
  have v6 : FVec F S256x1024 .f32 := broadcastTo S256x1024 v5 broadcasts_S1x1024_S256x1024
  have v7 : FVec F S256x1024 .f32 := addf v3 v6
  have v9 : FVec F S256x1024 .f32 := shapeCast S256x1024 v8 shapeCasts_S256x1024_S256x1024
  have cst_7 : F .f32 := Scalar.ofBits .f32 0x3FB504F3#32
  have v10 : FVec F S256x1024 .f32 := broadcast S256x1024 cst_7
  have v11 : FVec F S256x1024 .f32 := mulf v10 v9
  addf v11 v7

/-- A half block normalized, scaled and shifted. -/
def normed (v12 : FVec F S256x1024 .f32) (v13 v15 : Vec F S1x1024 .f32) : FVec F S256x1024 .f32 :=
  have v14 : FVec F S1x1024 .f32 := shapeCast S1x1024 v13 shapeCasts_S1x1024_S1x1024
  have v16 : FVec F S1x1024 .f32 := shapeCast S1x1024 v15 shapeCasts_S1x1024_S1x1024
  have v17 : FVec F S256 .f32 := multiReduction .add [1] S256 v12 0x00000000#32 reduces_S256x1024_S256 (.inl rfl) rfl
  have v18 : FVec F S256x1 .f32 := shapeCast S256x1 v17 shapeCasts_S256_S256x1
  have cst_13 : F .f32 := Scalar.ofBits .f32 0x44800000#32
  have v19 : FVec F S256x1 .f32 := broadcast S256x1 cst_13
  have v20 : FVec F S256x1 .f32 := divf v18 v19
  have v21 : FVec F S256x1024 .f32 := broadcastTo S256x1024 v20 broadcasts_S256x1_S256x1024
  have v22 : FVec F S256x1024 .f32 := subf v12 v21
  have v23 : FVec F S256x1024 .f32 := mulf v22 v22
  have v24 : FVec F S256 .f32 := multiReduction .add [1] S256 v23 0x00000000#32 reduces_S256x1024_S256 (.inl rfl) rfl
  have v25 : FVec F S256x1 .f32 := shapeCast S256x1 v24 shapeCasts_S256_S256x1
  have cst_15 : F .f32 := Scalar.ofBits .f32 0x44800000#32
  have v26 : FVec F S256x1 .f32 := broadcast S256x1 cst_15
  have v27 : FVec F S256x1 .f32 := divf v25 v26
  have cst_16 : F .f32 := Scalar.ofBits .f32 0x3727C5AC#32
  have v28 : FVec F S256x1 .f32 := broadcast S256x1 cst_16
  have v29 : FVec F S256x1 .f32 := addf v27 v28
  have v30 : FVec F S256x1 .f32 := rsqrt v29
  have v31 : FVec F S256x1024 .f32 := broadcastTo S256x1024 v30 broadcasts_S256x1_S256x1024
  have v32 : FVec F S256x1024 .f32 := mulf v22 v31
  have v33 : FVec F S256x1024 .f32 := broadcastTo S256x1024 v14 broadcasts_S1x1024_S256x1024
  have v34 : FVec F S256x1024 .f32 := mulf v32 v33
  have v35 : FVec F S256x1024 .f32 := broadcastTo S256x1024 v16 broadcasts_S1x1024_S256x1024
  have v36 : FVec F S256x1024 .f32 := addf v34 v35
  v36

theorem pay1_eq (v0 : Vec F S256x2048 .bf16) (v1 : Vec F S2048x1024 .bf16) (v4 : Vec F S1x1024 .f32) (v8 : Vec F S256x1024 .f32)
    (v13 v15 : Vec F S1x1024 .f32) : k0_pay1 v0 v1 v4 v8 v13 v15 = normed (resid v0 v1 v4 v8) v13 v15 := rfl
theorem pay2_eq (v0 : Vec F S256x2048 .bf16) (v1 : Vec F S2048x1024 .bf16) (v4 : Vec F S1x1024 .f32) (v8 : Vec F S256x1024 .f32)
    (v13 v15 : Vec F S1x1024 .f32) : k0_pay2 v0 v1 v4 v8 v13 v15 = normed (resid v0 v1 v4 v8) v13 v15 := rfl

end Payloads

theorem resid_apply (a : Vec Ideal S256x2048 .bf16) (w : Vec Ideal S2048x1024 .bf16) (b : Vec Ideal S1x1024 .f32) (x : Vec Ideal S256x1024 .f32)
    (r : Fin 256) (e : Fin 1024) :
    resid a w b x (ix2 r e) = Ideal.ofBits .f32 0x3FB504F3#32 * x (ix2 r e) + ((∑ k : Fin 2048, a (ix2 r k) * w (ix2 k e)) + b (ix2 0 e)) := by
  pointwise [resid]

theorem normed_apply (y : FVec Ideal S256x1024 .f32) (g b : Vec Ideal S1x1024 .f32) (r : Fin 256) (e : Fin 1024) :
    normed y g b (ix2 r e) = layerNorm (fun e => y (ix2 r e)) e * g (ix2 0 e) + b (ix2 0 e) := by
  unfold layerNorm
  pointwise [normed]

/-- Row `r` of half `q`. -/
def rg (q : Fin 2) (r : Fin 256) : Fin 512 := ⟨256 * q.val + r.val, by omega⟩

theorem ld_a (x : Vec Ideal S512x2048 .bf16) (o : Nat) (q : Fin 2) (ho : o = 256 * q.val) (inb) (r : Fin 256) (k : Fin 2048) :
    View.ld x (Rect.unit (s := S512x2048) ![o, 0] ![256, 2048] inb) (ix2 r k : S256x2048.Idx) = x (ix2 (rg q r) k) :=
  View.ld_unit_apply_of x _ _ inb _ _ (fun a => by subst ho; fin_cases a <;> simp [rg])
theorem ld_x (x : Vec Ideal S512x1024 .f32) (o : Nat) (q : Fin 2) (ho : o = 256 * q.val) (inb) (r : Fin 256) (k : Fin 1024) :
    View.ld x (Rect.unit (s := S512x1024) ![o, 0] ![256, 1024] inb) (ix2 r k : S256x1024.Idx) = x (ix2 (rg q r) k) :=
  View.ld_unit_apply_of x _ _ inb _ _ (fun a => by subst ho; fin_cases a <;> simp [rg])
theorem ld_w (x : Vec Ideal S2048x1024 .bf16) (inb) (k : Fin 2048) (e : Fin 1024) :
    View.ld x (Rect.unit (s := S2048x1024) ![0, 0] ![2048, 1024] inb) (ix2 k e : S2048x1024.Idx) = x (ix2 k e) :=
  View.ld_unit_apply_of x _ _ inb _ _ (fun a => by fin_cases a <;> simp)
theorem ld_b (x : Vec Ideal S1x1024 .f32) (inb) (e : Fin 1024) :
    View.ld x (Rect.unit (s := S1x1024) ![0, 0] ![1, 1024] inb) (ix2 0 e : S1x1024.Idx) = x (ix2 0 e) :=
  View.ld_unit_apply_of x _ _ inb _ _ (fun a => by fin_cases a <;> simp)

theorem canon_hit (o : Nat) (q : Fin 2) (ho : o = 256 * q.val) (inb) (w : Vec Ideal S256x1024 .f32)
    (L : List (View.Piece (Elt Ideal) S512x1024 .f32)) (r : Fin 256) (e : Fin 1024) :
    View.canon ((⟨Rect.unit (s := S512x1024) ![o, 0] ![256, 1024] inb, w⟩ : View.Piece (Elt Ideal) S512x1024 .f32) :: L)
      (ix2 (rg q r) e) = w (ix2 r e) := by
  have hi : (ix2 (rg q r) e : S512x1024.Idx) = (Rect.unit (s := S512x1024) ![o, 0] ![256, 1024] inb).emb (ix2 r e) := by
    funext a; apply Fin.ext; rw [Rect.emb_apply]; subst ho; fin_cases a <;> simp [rg]
  rw [hi]; exact View.canon_cons_emb _ _ _ _

theorem canon_miss (o : Nat) (q : Fin 2) (ho : o + 256 ≤ 256 * q.val ∨ 256 * q.val + 256 ≤ o) (inb) (w : Vec Ideal S256x1024 .f32)
    (L : List (View.Piece (Elt Ideal) S512x1024 .f32)) (r : Fin 256) (e : Fin 1024) :
    View.canon ((⟨Rect.unit (s := S512x1024) ![o, 0] ![256, 1024] inb, w⟩ : View.Piece (Elt Ideal) S512x1024 .f32) :: L)
      (ix2 (rg q r) e) = View.canon L (ix2 (rg q r) e) := by
  refine View.canon_cons_of_not_mem _ _ fun hm => ?_
  have := (Rect.mem_set_unit (inb := inb)).mp hm (0 : Fin 2)
  simp [rg] at this; omega

/-- The residual at a row of a block. -/
def residF (a : Vec Ideal S512x2048 .bf16) (w : Vec Ideal S2048x1024 .bf16) (b : Vec Ideal S1x1024 .f32) (x : Vec Ideal S512x1024 .f32)
    (i : Fin 512) (e : Fin 1024) : EReal :=
  Ideal.ofBits .f32 0x3FB504F3#32 * x (ix2 i e) + ((∑ k : Fin 2048, a (ix2 i k) * w (ix2 k e)) + b (ix2 0 e))

theorem half (a : Vec Ideal S512x2048 .bf16) (w : Vec Ideal S2048x1024 .bf16) (b : Vec Ideal S1x1024 .f32) (x : Vec Ideal S512x1024 .f32)
    (g s : Vec Ideal S1x1024 .f32) (o : Nat) (q : Fin 2) (ho : o = 256 * q.val) (i0 i1 i2 i3) (r : Fin 256) (e : Fin 1024) :
    normed (resid (View.ld a (Rect.unit (s := S512x2048) ![o, 0] ![256, 2048] i0)) (View.ld w (Rect.unit (s := S2048x1024) ![0, 0] ![2048, 1024] i1))
        (View.ld b (Rect.unit (s := S1x1024) ![0, 0] ![1, 1024] i2)) (View.ld x (Rect.unit (s := S512x1024) ![o, 0] ![256, 1024] i3)))
        (View.ld g (Rect.unit (s := S1x1024) ![0, 0] ![1, 1024] i2)) (View.ld s (Rect.unit (s := S1x1024) ![0, 0] ![1, 1024] i2)) (ix2 r e)
      = layerNorm (fun e => residF a w b x (rg q r) e) e * g (ix2 0 e) + s (ix2 0 e) := by
  refine (normed_apply _ _ _ r e).trans (congrArg₂ (· + ·) (congrArg₂ (· * ·) (congrArg (layerNorm · e) (funext fun e => ?_)) (ld_b _ _ e)) (ld_b _ _ e))
  refine (resid_apply _ _ _ _ r e).trans (congrArg₂ (· + ·) (congrArg (_ * ·) (ld_x _ o q ho _ _ _))
    (congrArg₂ (· + ·) (Finset.sum_congr rfl fun k _ => ?_) (ld_b _ _ e)))
  rw [ld_a _ o q ho, ld_w]

theorem two : ∀ h : Fin 2, h = 0 ∨ h = 1 := by decide

/-- A point's output block. -/
theorem out_apply (a : Vec Ideal S512x2048 .bf16) (w : Vec Ideal S2048x1024 .bf16) (b : Vec Ideal S1x1024 .f32) (x : Vec Ideal S512x1024 .f32)
    (g s : Vec Ideal S1x1024 .f32) (q : Fin 2) (r : Fin 256) (e : Fin 1024) :
    out0_6 a w b x g s (ix2 (rg q r) e) = layerNorm (fun e => residF a w b x (rg q r) e) e * g (ix2 0 e) + s (ix2 0 e) := by
  unfold out0_6
  rw [pay1_eq, pay2_eq]
  rcases two q with rfl | rfl
  · rw [canon_miss 256 0 (by decide)]; rw [canon_hit 0 0 rfl]
    exact half a w b x g s 0 0 rfl _ _ _ _ r e
  · rw [canon_hit 256 1 rfl]
    exact half a w b x g s 256 1 rfl _ _ _ _ r e

variable (m : (ℓ : Loc nD τ sig) → Buf (Elt Ideal) ℓ) (c : Dev nD)

/-- The launch's arrays: the mixer's output, the output weights, the tokens, the norm's scale and shift. -/
abbrev mixed : Vec Ideal S32768x2048 .bf16 := m ((c : Thread nD τ).loc main_arg0)
abbrev wts : Vec Ideal S1x2048x1024 .f32 := m ((c : Thread nD τ).loc main_arg1)
abbrev toks : Vec Ideal S4x8192x1024 .f32 := m ((c : Thread nD τ).loc main_arg2)
abbrev gain : Vec Ideal S2x1024 .f32 := m ((c : Thread nD τ).loc main_arg3)
abbrev shift : Vec Ideal S2x1024 .f32 := m ((c : Thread nD τ).loc main_arg4)

def rows {F : FTy → Type} (x : Vec F S4x8192x1024 .f32) : Vec F S32768x1024 .f32 := shapeCast S32768x1024 x shapeCasts_S4x8192x1024_S32768x1024
def mat {F : FTy → Type} [FloatOps F] (w : FVec F S1x2048x1024 .f32) : FVec F S2048x1024 .bf16 :=
  truncf .bf16 (shapeCast S2048x1024 w shapeCasts_S1x2048x1024_S2048x1024) bitsLt_bf16_f32
def bias {F : FTy → Type} [FloatOps F] : FVec F S1x1024 .f32 := broadcastInDim S1x1024 ![] bcast_S_S1x1024 (constant S_ .f32 0x00000000#32)
def vec {F : FTy → Type} (g : Vec F S2x1024 .f32) : Vec F S1x1024 .f32 :=
  shapeCast S1x1024 (shapeCast S1024 (extractStridedSlice S1x1024 ![0, 0] g slices_S2x1024_S1x1024_0_0) shapeCasts_S1x1024_S1024) shapeCasts_S1024_S1x1024

theorem V_v0 : V m c main_v0 = rows (toks m c) := by
  unfold V hostOps0
  simp only [List.flatten_cons, List.flatten_nil, List.append_nil, List.cons_append, List.nil_append]
  after_results
  rfl
theorem V_v2 : V m c main_v2 = mat (F := Ideal) (wts m c) := by
  unfold V hostOps0
  simp only [List.flatten_cons, List.flatten_nil, List.append_nil, List.cons_append, List.nil_append]
  after_results
  rfl
theorem V_v3 : V m c main_v3 = bias (F := Ideal) := by
  unfold V hostOps0
  simp only [List.flatten_cons, List.flatten_nil, List.append_nil, List.cons_append, List.nil_append]
  after_results
  rfl
theorem V_v6 : V m c main_v6 = vec (gain m c) := by
  unfold V hostOps0
  simp only [List.flatten_cons, List.flatten_nil, List.append_nil, List.cons_append, List.nil_append]
  after_results
  rfl
theorem V_v9 : V m c main_v9 = vec (shift m c) := by
  unfold V hostOps0
  simp only [List.flatten_cons, List.flatten_nil, List.append_nil, List.cons_append, List.nil_append]
  after_results
  rfl

theorem mat_apply (w : Vec Ideal S1x2048x1024 .f32) (k : Fin 2048) (e : Fin 1024) : mat (F := Ideal) w (ix2 k e) = w (ix3 0 k e) := by
  pointwise [mat]
theorem bias_apply (e : Fin 1024) : bias (F := Ideal) (ix2 0 e) = 0 := by
  pointwise [bias]
theorem vec_apply (g : Vec Ideal S2x1024 .f32) (e : Fin 1024) : vec g (ix2 0 e) = g (ix2 0 e) := by
  pointwise [vec]
theorem rows_apply (x : Vec Ideal S4x8192x1024 .f32) (i : Fin 32768) (k : Fin 1024) :
    rows x (ix2 i k) = x (ix3 ⟨i.val / 8192, by omega⟩ ⟨i.val % 8192, Nat.mod_lt _ (by decide)⟩ k) := by
  pointwise [rows]

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem flush6 : ∀ t : Fin cfg0.N, (cfg0.win 6).flush t = true :=
  (by decide +kernel : ∀ t : Fin grid0.N, win0_6.flush t = true)
theorem ptN (t : Fin cfg0.N) : t.val < 64 := lt_of_lt_of_eq t.isLt N_0

theorem blk0 (t : Fin cfg0.N) (r : Fin 512) (k : Fin 2048) :
    (iblk m c 0 t : Vec Ideal S512x2048 .bf16) (ix2 r k)
      = mixed m c (ix2 ⟨512 * t.val + r.val, by have := ptN t; omega⟩ k) := by
  show V m c main_arg0 (((cfg0.win 0).blk t).view.emb (ix2 r k)) = _
  rw [V_main_arg0]
  refine congrArg (mixed m c) (funext fun a => Fin.ext ?_)
  obtain ⟨e0, e1⟩ := idx0 t
  match a with
  | ⟨0, _⟩ => show win0_0.index t (0 : Fin 2) * 512 + 1 * r.val = 512 * t.val + r.val; omega
  | ⟨1, _⟩ => show win0_0.index t (1 : Fin 2) * 2048 + 1 * k.val = k.val; omega
theorem blk3 (t : Fin cfg0.N) (r : Fin 512) (k : Fin 1024) :
    (iblk m c 3 t : Vec Ideal S512x1024 .f32) (ix2 r k)
      = rows (toks m c) (ix2 ⟨512 * t.val + r.val, by have := ptN t; omega⟩ k) := by
  show V m c main_v0 (((cfg0.win 3).blk t).view.emb (ix2 r k)) = _
  rw [V_v0]
  refine congrArg (rows (toks m c)) (funext fun a => Fin.ext ?_)
  obtain ⟨e0, e1⟩ := idx3 t
  match a with
  | ⟨0, _⟩ => show win0_3.index t (0 : Fin 2) * 512 + 1 * r.val = 512 * t.val + r.val; omega
  | ⟨1, _⟩ => show win0_3.index t (1 : Fin 2) * 1024 + 1 * k.val = k.val; omega
theorem blk1 (t : Fin cfg0.N) : (iblk m c 1 t : Vec Ideal S2048x1024 .bf16) = mat (F := Ideal) (wts m c) := by
  funext y
  show V m c main_v2 (((cfg0.win 1).blk t).view.emb y) = _
  rw [V_v2]
  refine congrArg (mat (F := Ideal) (wts m c)) (funext fun a => Fin.ext ?_)
  match a with
  | ⟨0, _⟩ => show 0 * 2048 + 1 * (y 0).val = (y 0).val; omega
  | ⟨1, _⟩ => show 0 * 1024 + 1 * (y 1).val = (y 1).val; omega
theorem blk2 (t : Fin cfg0.N) : (iblk m c 2 t : Vec Ideal S1x1024 .f32) = bias (F := Ideal) := by
  funext y
  show V m c main_v3 (((cfg0.win 2).blk t).view.emb y) = _
  rw [V_v3]
  refine congrArg (bias (F := Ideal)) (funext fun a => Fin.ext ?_)
  match a with
  | ⟨0, _⟩ => show 0 * 1 + 1 * (y 0).val = (y 0).val; omega
  | ⟨1, _⟩ => show 0 * 1024 + 1 * (y 1).val = (y 1).val; omega
theorem blk4 (t : Fin cfg0.N) : (iblk m c 4 t : Vec Ideal S1x1024 .f32) = vec (gain m c) := by
  funext y
  show V m c main_v6 (((cfg0.win 4).blk t).view.emb y) = _
  rw [V_v6]
  refine congrArg (vec (gain m c)) (funext fun a => Fin.ext ?_)
  match a with
  | ⟨0, _⟩ => show 0 * 1 + 1 * (y 0).val = (y 0).val; omega
  | ⟨1, _⟩ => show 0 * 1024 + 1 * (y 1).val = (y 1).val; omega
theorem blk5 (t : Fin cfg0.N) : (iblk m c 5 t : Vec Ideal S1x1024 .f32) = vec (shift m c) := by
  funext y
  show V m c main_v9 (((cfg0.win 5).blk t).view.emb y) = _
  rw [V_v9]
  refine congrArg (vec (shift m c)) (funext fun a => Fin.ext ?_)
  match a with
  | ⟨0, _⟩ => show 0 * 1 + 1 * (y 0).val = (y 0).val; omega
  | ⟨1, _⟩ => show 0 * 1024 + 1 * (y 1).val = (y 1).val; omega

/-- The residual at row `i` and column `e`. -/
def residual (a : Vec Ideal S32768x2048 .bf16) (w : Vec Ideal S1x2048x1024 .f32) (x : Vec Ideal S4x8192x1024 .f32) (i : Fin 32768) (e : Fin 1024) : EReal :=
  @HAdd.hAdd EReal EReal EReal instHAdd
    (@HMul.hMul EReal EReal EReal instHMul (Ideal.ofBits .f32 0x3FB504F3#32) (x (ix3 ⟨i.val / 8192, by omega⟩ ⟨i.val % 8192, Nat.mod_lt _ (by decide)⟩ e)))
    (∑ k : Fin 2048, @HMul.hMul EReal EReal EReal instHMul (a (ix2 i k)) (w (ix3 0 k e)))

/-- The normalized residual. -/
def value (a : Vec Ideal S32768x2048 .bf16) (w : Vec Ideal S1x2048x1024 .f32) (x : Vec Ideal S4x8192x1024 .f32) (g s : Vec Ideal S2x1024 .f32)
    (i : Fin 32768) (e : Fin 1024) : EReal :=
  @HAdd.hAdd EReal EReal EReal instHAdd (@HMul.hMul EReal EReal EReal instHMul (layerNorm (residual a w x i) e) (g (ix2 0 e))) (s (ix2 0 e))

/-- The result array of the launch. -/
theorem result (i : Fin 32768) (j : Fin 1024) :
    ((dats m 0 c).arrAt 6 cfg0.N : Vec Ideal S32768x1024 .f32) (ix2 i j) = value (mixed m c) (wts m c) (toks m c) (gain m c) (shift m c) i j := by
  have ht : i.val / 512 < cfg0.N := lt_of_lt_of_eq (by omega) N_0.symm
  have hr : i.val % 512 < 512 := Nat.mod_lt _ (by decide)
  have hq : i.val % 512 / 256 < 2 := by omega
  have he : i.val % 512 % 256 < 256 := Nat.mod_lt _ (by decide)
  have hj : (⟨i.val % 512, hr⟩ : Fin 512) = rg ⟨_, hq⟩ ⟨_, he⟩ := Fin.ext (Nat.div_add_mod _ _).symm
  have h := congrFun ((blocks6 m c ⟨_, ht⟩ (flush6 _)).trans (flushed6 m c ⟨_, ht⟩)) (ix2 ⟨_, hr⟩ j)
  obtain ⟨e0, e1⟩ := idx6 ⟨_, ht⟩
  have hi : ((cfg0.win 6).blk ⟨_, ht⟩).view.emb (ix2 ⟨_, hr⟩ j) = (ix2 i j : S32768x1024.Idx) := by
    funext a; apply Fin.ext
    match a with
    | ⟨0, _⟩ => show win0_6.index ⟨_, ht⟩ (0 : Fin 2) * 512 + 1 * (i.val % 512) = i.val; rw [e0]; show i.val / 512 * 512 + 1 * (i.val % 512) = i.val; omega
    | ⟨1, _⟩ => show win0_6.index ⟨_, ht⟩ (1 : Fin 2) * 1024 + 1 * j.val = j.val; rw [e1]; omega
  have h2 : (dats m 0 c).arrAt 6 cfg0.N (((cfg0.win 6).blk ⟨_, ht⟩).view.emb (ix2 ⟨_, hr⟩ j))
      = out0_6 (iblk m c 0 ⟨_, ht⟩) (iblk m c 1 ⟨_, ht⟩) (iblk m c 2 ⟨_, ht⟩) (iblk m c 3 ⟨_, ht⟩) (iblk m c 4 ⟨_, ht⟩) (iblk m c 5 ⟨_, ht⟩)
        (ix2 ⟨_, hr⟩ j) := h
  rw [hi] at h2
  refine h2.trans ?_
  rw [hj]
  refine (out_apply _ _ _ _ _ _ _ _ _).trans ?_
  rw [← hj, blk4, blk5, vec_apply, vec_apply]
  refine congrArg (fun z : EReal => z * _ + _) (congrArg (fun f => layerNorm f j) (funext fun e => ?_))
  unfold residF residual
  rw [blk1, blk2, bias_apply, blk3, rows_apply]
  have h1 : 512 * (i.val / 512) + i.val % 512 = i.val := Nat.div_add_mod _ _
  refine congrArg₂ (fun a b : EReal => a + b) (by simp only [h1]) ((add_zero (M := EReal) _).trans (Finset.sum_congr rfl fun k _ => ?_))
  rw [blk0, mat_apply]
  simp only [h1]

end Cert.Kernel4Ideal.Block

namespace Cert.Reference4Ideal.Block

open Cert.Reference4Ideal Cert.Reference4Ideal.Gen Idealize.ShloMosaic Idealize.ShloMosaic.Tactic Cert.LayerNorm

section Terms
variable {F : FTy → Type} [FloatOps F]

/-- The reference's residual, its normalized rows, and its result. -/
def resid (a : FVec F S32768x2048 .bf16) (w : FVec F S1x2048x1024 .f32) (x : FVec F S4x8192x1024 .f32) : FVec F S32768x1024 .f32 :=
  addf (mulf (broadcastInDim S32768x1024 ![] bcast_S_S32768x1024 (constant S_ .f32 0x3FB504F3#32)) (shapeCast _ x shapeCasts_S4x8192x1024_S32768x1024))
    (Host.dotGeneral dot_S32768x2048_S2048x1024_S32768x1024_1_0_0_1_n_n none (extf .f32 a bitsLt_bf16_f32) (shapeCast _ w shapeCasts_S1x2048x1024_S2048x1024))
def mean (y : FVec F S32768x1024 .f32) : FVec F S32768x1 .f32 :=
  Host.divf (broadcastInDim S32768x1 ![0] bcast_S32768_S32768x1_0 (Host.reduceAdd y (constant S_ .f32 0x00000000#32) reducesTo_S32768x1024_S32768_d1 h_S_))
    (broadcastInDim S32768x1 ![] bcast_S_S32768x1 (constant S_ .f32 0x44800000#32))
def centred (y : FVec F S32768x1024 .f32) : FVec F S32768x1024 .f32 :=
  subf y (broadcastInDim S32768x1024 ![0, 1] bcast_S32768x1_S32768x1024_0_1 (mean y))
def normed (z : FVec F S32768x1024 .f32) : FVec F S32768x1024 .f32 :=
  mulf z (broadcastInDim S32768x1024 ![0, 1] bcast_S32768x1_S32768x1024_0_1
    (Host.rsqrt (addf (mean (mulf z z)) (broadcastInDim S32768x1 ![] bcast_S_S32768x1 (constant S_ .f32 0x3727C5AC#32)))))
def spread (g : FVec F S2x1024 .f32) : FVec F S32768x1024 .f32 :=
  broadcastInDim S32768x1024 ![0, 1] bcast_S1x1024_S32768x1024_0_1 (broadcastInDim S1x1024 ![1] bcast_S1024_S1x1024_1
    (shapeCast S1024 (extractStridedSlice S1x1024 ![0, 0] g slices_S2x1024_S1x1024_0_0) shapeCasts_S1x1024_S1024))
def out (a : FVec F S32768x2048 .bf16) (w : FVec F S1x2048x1024 .f32) (x : FVec F S4x8192x1024 .f32) (g s : FVec F S2x1024 .f32) : FVec F S32768x1024 .f32 :=
  addf (mulf (normed (centred (resid a w x))) (spread g)) (spread s)

end Terms

theorem resid_apply (a : Vec Ideal S32768x2048 .bf16) (w : Vec Ideal S1x2048x1024 .f32) (x : Vec Ideal S4x8192x1024 .f32) (i : Fin 32768) (e : Fin 1024) :
    resid (F := Ideal) a w x (ix2 i e) = Cert.Kernel4Ideal.Block.residual a w x i e := by
  unfold Cert.Kernel4Ideal.Block.residual
  pointwise [resid]
theorem mean_apply (y : FVec Ideal S32768x1024 .f32) (i : Fin 32768) :
    mean y (ix2 i 0) = Ideal.div (∑ e : Fin 1024, y (ix2 i e)) (Ideal.ofBits .f32 0x44800000#32) := by
  pointwise [mean]
theorem centred_apply (y : FVec Ideal S32768x1024 .f32) (i : Fin 32768) (e : Fin 1024) :
    centred y (ix2 i e) = y (ix2 i e) - mean y (ix2 i 0) := by
  pointwise [centred]
theorem normed_apply (z : FVec Ideal S32768x1024 .f32) (i : Fin 32768) (e : Fin 1024) :
    normed z (ix2 i e) = z (ix2 i e) * Ideal.rsqrt (mean (mulf z z) (ix2 i 0) + Ideal.ofBits .f32 0x3727C5AC#32) := by
  pointwise [normed]
theorem spread_apply (g : FVec Ideal S2x1024 .f32) (i : Fin 32768) (e : Fin 1024) : spread g (ix2 i e) = g (ix2 0 e) := by
  pointwise [spread]

theorem out_split (a : Vec Ideal S32768x2048 .bf16) (w : Vec Ideal S1x2048x1024 .f32) (x : Vec Ideal S4x8192x1024 .f32) (g s : Vec Ideal S2x1024 .f32)
    (i : Fin 32768) (e : Fin 1024) : out (F := Ideal) a w x g s (ix2 i e) = @HAdd.hAdd EReal EReal EReal instHAdd (@HMul.hMul EReal EReal EReal instHMul
      (normed (F := Ideal) (centred (F := Ideal) (resid (F := Ideal) a w x)) (ix2 i e)) (spread (F := Ideal) g (ix2 i e))) (spread (F := Ideal) s (ix2 i e)) := by
  pointwise [out]

theorem out_apply (a : Vec Ideal S32768x2048 .bf16) (w : Vec Ideal S1x2048x1024 .f32) (x : Vec Ideal S4x8192x1024 .f32) (g s : Vec Ideal S2x1024 .f32)
    (i : Fin 32768) (e : Fin 1024) : out (F := Ideal) a w x g s (ix2 i e) = Cert.Kernel4Ideal.Block.value a w x g s i e := by
  have hc (e : Fin 1024) : centred (F := Ideal) (resid (F := Ideal) a w x) (ix2 i e) = Cert.Kernel4Ideal.Block.residual a w x i e
      - Ideal.div (∑ e, Cert.Kernel4Ideal.Block.residual a w x i e) (Ideal.ofBits .f32 0x44800000#32) := by
    refine (centred_apply _ i e).trans (congrArg₂ (fun a b : EReal => a - b) (resid_apply a w x i e) ((mean_apply _ i).trans ?_))
    have hs : (∑ e : Fin 1024, (resid (F := Ideal) a w x (ix2 i e) : EReal)) = ∑ e, Cert.Kernel4Ideal.Block.residual a w x i e :=
      Finset.sum_congr rfl fun e _ => resid_apply a w x i e
    exact congrArg (fun z : EReal => Ideal.div z (Ideal.ofBits .f32 0x44800000#32)) hs
  have hv : mean (F := Ideal) (mulf (centred (F := Ideal) (resid (F := Ideal) a w x)) (centred (F := Ideal) (resid (F := Ideal) a w x))) (ix2 i 0)
      = Ideal.div (∑ j : Fin 1024, (Cert.Kernel4Ideal.Block.residual a w x i j
          - Ideal.div (∑ e, Cert.Kernel4Ideal.Block.residual a w x i e) (Ideal.ofBits .f32 0x44800000#32))
        * (Cert.Kernel4Ideal.Block.residual a w x i j
          - Ideal.div (∑ e, Cert.Kernel4Ideal.Block.residual a w x i e) (Ideal.ofBits .f32 0x44800000#32))) (Ideal.ofBits .f32 0x44800000#32) := by
    refine (mean_apply _ i).trans (congrArg (fun z : EReal => Ideal.div z (Ideal.ofBits .f32 0x44800000#32)) ?_)
    exact Finset.sum_congr rfl fun e _ => congrArg₂ (fun a b : EReal => a * b) (hc e) (hc e)
  refine (out_split a w x g s i e).trans ?_
  unfold Cert.Kernel4Ideal.Block.value layerNorm
  refine congrArg₂ (fun a b : EReal => a + b) (congrArg₂ (fun a b : EReal => a * b) ?_ (spread_apply g i e)) (spread_apply s i e)
  refine (normed_apply _ i e).trans ?_
  exact congrArg₂ (fun a b : EReal => a * b) (hc e) (congrArg (fun z : EReal => Ideal.rsqrt (z + Ideal.ofBits .f32 0x3727C5AC#32)) hv)

/-- The launch's result array is the reference's. -/
theorem same (m : (ℓ : Loc Cert.Kernel4Ideal.nD Cert.Kernel4Ideal.τ Cert.Kernel4Ideal.sig) → Buf (Elt Ideal) ℓ) (c : Dev Cert.Kernel4Ideal.nD) :
    ((Cert.Kernel4Ideal.Gen.dats m 0 c).arrAt 6 Cert.Kernel4Ideal.cfg0.N : Vec Ideal S32768x1024 .f32)
      = out (F := Ideal) (Cert.Kernel4Ideal.Block.mixed m c) (Cert.Kernel4Ideal.Block.wts m c) (Cert.Kernel4Ideal.Block.toks m c)
        (Cert.Kernel4Ideal.Block.gain m c) (Cert.Kernel4Ideal.Block.shift m c) := by
  refine funext fun (i : S32768x1024.Idx) => ?_
  have hi : i = ix2 (i 0) (i 1) := by
    funext a
    match a with
    | ⟨0, _⟩ => rfl
    | ⟨1, _⟩ => rfl
  rw [hi]
  exact (Cert.Kernel4Ideal.Block.result m c _ _).trans (out_apply _ _ _ _ _ _ _).symm

end Cert.Reference4Ideal.Block

end
-- ==== Proof.SwaProj.lean ====
/- The attention's projection: each grid point's block of rows is the product of the tokens and the weights, plus the
   bias; so is the reference's result. -/
module

public import proofs.«01_k».proof.Proof.Gen.Kernel5Ideal.Value
public import proofs.«01_k».proof.Proof.Gen.Reference5Ideal.Run
public import Idealize.ShloMosaic.Lib.Pointwise
public import Idealize.ShloMosaic.Lib.Pipeline.Value
public import Idealize.ShloMosaic.Lib.Pipeline.ValueKit

@[expose] public section

set_option maxRecDepth 16384

noncomputable section

namespace Cert.Kernel5Ideal.Block

open Cert.Kernel5Ideal Cert.Kernel5Ideal.Gen Cert.Kernel5Ideal.Value Idealize.ShloMosaic Idealize.ShloMosaic.TcCoe Idealize.SL.Sem
open Idealize.ShloMosaic.Tactic

/-- A block: the rows against the weights, plus the bias. -/
def cols {F : FTy → Type} [FloatOps F] (x : Vec F S512x1024 .f32) (w : Vec F S1024x1280 .bf16) (b : Vec F S1x1280 .f32) :
    FVec F S512x1280 .bf16 := k0_pay1 x w b

theorem cols_apply (x : Vec Ideal S512x1024 .f32) (w : Vec Ideal S1024x1280 .bf16) (b : Vec Ideal S1x1280 .f32)
    (r : Fin 512) (e : Fin 1280) :
    cols x w b (ix2 r e) = (∑ k : Fin 1024, x (ix2 r k) * w (ix2 k e)) + b (ix2 0 e) := by
  pointwise [cols, k0_pay1]

theorem ld_x (x : Vec Ideal S512x1024 .f32) (inb) (r : Fin 512) (k : Fin 1024) :
    View.ld x (Rect.unit (s := S512x1024) ![0, 0] ![512, 1024] inb) (ix2 r k : S512x1024.Idx) = x (ix2 r k) :=
  View.ld_unit_apply_of x _ _ inb _ _ (fun a => by fin_cases a <;> simp)
theorem ld_w (x : Vec Ideal S1024x1280 .bf16) (inb) (k : Fin 1024) (e : Fin 1280) :
    View.ld x (Rect.unit (s := S1024x1280) ![0, 0] ![1024, 1280] inb) (ix2 k e : S1024x1280.Idx) = x (ix2 k e) :=
  View.ld_unit_apply_of x _ _ inb _ _ (fun a => by fin_cases a <;> simp)
theorem ld_b (x : Vec Ideal S1x1280 .f32) (inb) (e : Fin 1280) :
    View.ld x (Rect.unit (s := S1x1280) ![0, 0] ![1, 1280] inb) (ix2 0 e : S1x1280.Idx) = x (ix2 0 e) :=
  View.ld_unit_apply_of x _ _ inb _ _ (fun a => by fin_cases a <;> simp)

theorem canon_hit (inb) (w : Vec Ideal S512x1280 .bf16) (L : List (View.Piece (Elt Ideal) S512x1280 .bf16)) (r : Fin 512) (e : Fin 1280) :
    View.canon ((⟨Rect.unit (s := S512x1280) ![0, 0] ![512, 1280] inb, w⟩ : View.Piece (Elt Ideal) S512x1280 .bf16) :: L)
      (ix2 r e) = w (ix2 r e) := by
  have hi : (ix2 r e : S512x1280.Idx) = (Rect.unit (s := S512x1280) ![0, 0] ![512, 1280] inb).emb (ix2 r e) := by
    funext a; apply Fin.ext; rw [Rect.emb_apply]; fin_cases a <;> simp
  exact (congrArg _ hi).trans (View.canon_cons_emb _ _ _ _)

/-- A point's output block. -/
theorem out_apply (x : Vec Ideal S512x1024 .f32) (w : Vec Ideal S1024x1280 .bf16) (b : Vec Ideal S1x1280 .f32)
    (r : Fin 512) (e : Fin 1280) :
    out0_3 x w b (ix2 r e) = (∑ k : Fin 1024, x (ix2 r k) * w (ix2 k e)) + b (ix2 0 e) := by
  unfold out0_3
  refine (canon_hit _ _ _ r e).trans ?_
  refine (cols_apply _ _ _ r e).trans (congrArg₂ (· + ·) (Finset.sum_congr rfl fun k _ => ?_) (ld_b _ _ e))
  exact congrArg₂ (· * ·) (ld_x _ _ r k) (ld_w _ _ k e)

variable (m : (ℓ : Loc nD τ sig) → Buf (Elt Ideal) ℓ) (c : Dev nD)

/-- The launch's tokens, weights and biases. -/
abbrev toks : Vec Ideal S4x8192x1024 .f32 := m ((c : Thread nD τ).loc main_arg0)
abbrev wts : Vec Ideal S1x1024x1280 .f32 := m ((c : Thread nD τ).loc main_arg1)
abbrev biases : Vec Ideal S1x1280 .f32 := m ((c : Thread nD τ).loc main_arg2)

def rows {F : FTy → Type} (x : Vec F S4x8192x1024 .f32) : Vec F S32768x1024 .f32 := shapeCast S32768x1024 x shapeCasts_S4x8192x1024_S32768x1024
def mat {F : FTy → Type} [FloatOps F] (w : FVec F S1x1024x1280 .f32) : FVec F S1024x1280 .bf16 :=
  truncf .bf16 (shapeCast S1024x1280 w shapeCasts_S1x1024x1280_S1024x1280) bitsLt_bf16_f32
def bias {F : FTy → Type} (b : Vec F S1x1280 .f32) : Vec F S1x1280 .f32 :=
  shapeCast S1x1280 (shapeCast S1280 b shapeCasts_S1x1280_S1280) shapeCasts_S1280_S1x1280

theorem V_v0 : V m c main_v0 = rows (toks m c) := by
  unfold V hostOps0
  simp only [List.flatten_cons, List.flatten_nil, List.append_nil, List.cons_append, List.nil_append]
  after_results
  rfl
theorem V_v2 : V m c main_v2 = mat (F := Ideal) (wts m c) := by
  unfold V hostOps0
  simp only [List.flatten_cons, List.flatten_nil, List.append_nil, List.cons_append, List.nil_append]
  after_results
  rfl
theorem V_v4 : V m c main_v4 = bias (biases m c) := by
  unfold V hostOps0
  simp only [List.flatten_cons, List.flatten_nil, List.append_nil, List.cons_append, List.nil_append]
  after_results
  rfl

theorem mat_apply (w : Vec Ideal S1x1024x1280 .f32) (k : Fin 1024) (e : Fin 1280) : mat (F := Ideal) w (ix2 k e) = w (ix3 0 k e) := by
  pointwise [mat]
theorem bias_apply (b : Vec Ideal S1x1280 .f32) (e : Fin 1280) : bias b (ix2 0 e) = b (ix2 0 e) := by
  pointwise [bias]
theorem rows_apply (x : Vec Ideal S4x8192x1024 .f32) (i : Fin 32768) (k : Fin 1024) :
    rows x (ix2 i k) = x (ix3 ⟨i.val / 8192, by omega⟩ ⟨i.val % 8192, Nat.mod_lt _ (by decide)⟩ k) := by
  pointwise [rows]

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem flush3 : ∀ t : Fin cfg0.N, (cfg0.win 3).flush t = true :=
  (by decide +kernel : ∀ t : Fin grid0.N, win0_3.flush t = true)
theorem ptN (t : Fin cfg0.N) : t.val < 64 := lt_of_lt_of_eq t.isLt N_0

theorem blk0 (t : Fin cfg0.N) (r : Fin 512) (k : Fin 1024) :
    (iblk m c 0 t : Vec Ideal S512x1024 .f32) (ix2 r k)
      = rows (toks m c) (ix2 ⟨512 * t.val + r.val, by have := ptN t; omega⟩ k) := by
  show V m c main_v0 (((cfg0.win 0).blk t).view.emb (ix2 r k)) = _
  rw [V_v0]
  refine congrArg (rows (toks m c)) (funext fun a => Fin.ext ?_)
  obtain ⟨e0, e1⟩ := idx0 t
  match a with
  | ⟨0, _⟩ => show win0_0.index t (0 : Fin 2) * 512 + 1 * r.val = 512 * t.val + r.val; omega
  | ⟨1, _⟩ => show win0_0.index t (1 : Fin 2) * 1024 + 1 * k.val = k.val; omega
theorem blk1 (t : Fin cfg0.N) : (iblk m c 1 t : Vec Ideal S1024x1280 .bf16) = mat (F := Ideal) (wts m c) := by
  funext y
  show V m c main_v2 (((cfg0.win 1).blk t).view.emb y) = _
  rw [V_v2]
  refine congrArg (mat (F := Ideal) (wts m c)) (funext fun a => Fin.ext ?_)
  match a with
  | ⟨0, _⟩ => show 0 * 1024 + 1 * (y 0).val = (y 0).val; omega
  | ⟨1, _⟩ => show 0 * 1280 + 1 * (y 1).val = (y 1).val; omega
theorem blk2 (t : Fin cfg0.N) : (iblk m c 2 t : Vec Ideal S1x1280 .f32) = bias (biases m c) := by
  funext y
  show V m c main_v4 (((cfg0.win 2).blk t).view.emb y) = _
  rw [V_v4]
  refine congrArg (bias (biases m c)) (funext fun a => Fin.ext ?_)
  match a with
  | ⟨0, _⟩ => show 0 * 1 + 1 * (y 0).val = (y 0).val; omega
  | ⟨1, _⟩ => show 0 * 1280 + 1 * (y 1).val = (y 1).val; omega

/-- The product of the tokens and the weights plus the bias, at row `i` and column `j`. -/
def prod (x : Vec Ideal S4x8192x1024 .f32) (w : Vec Ideal S1x1024x1280 .f32) (b : Vec Ideal S1x1280 .f32) (i : Fin 32768) (j : Fin 1280) : EReal :=
  @HAdd.hAdd EReal EReal EReal instHAdd (∑ k : Fin 1024, @HMul.hMul EReal EReal EReal instHMul
    (x (ix3 ⟨i.val / 8192, by omega⟩ ⟨i.val % 8192, Nat.mod_lt _ (by decide)⟩ k)) (w (ix3 0 k j))) (b (ix2 0 j))

/-- The result array of the launch. -/
theorem result (i : Fin 32768) (j : Fin 1280) :
    ((dats m 0 c).arrAt 3 cfg0.N : Vec Ideal S32768x1280 .bf16) (ix2 i j) = prod (toks m c) (wts m c) (biases m c) i j := by
  have ht : i.val / 512 < cfg0.N := lt_of_lt_of_eq (by omega) N_0.symm
  have hr : i.val % 512 < 512 := Nat.mod_lt _ (by decide)
  have h := congrFun ((blocks3 m c ⟨_, ht⟩ (flush3 _)).trans (flushed3 m c ⟨_, ht⟩)) (ix2 ⟨_, hr⟩ j)
  obtain ⟨e0, e1⟩ := idx3 ⟨_, ht⟩
  have hi : ((cfg0.win 3).blk ⟨_, ht⟩).view.emb (ix2 ⟨_, hr⟩ j) = (ix2 i j : S32768x1280.Idx) := by
    funext a; apply Fin.ext
    match a with
    | ⟨0, _⟩ => show win0_3.index ⟨_, ht⟩ (0 : Fin 2) * 512 + 1 * (i.val % 512) = i.val; rw [e0]; show i.val / 512 * 512 + 1 * (i.val % 512) = i.val; omega
    | ⟨1, _⟩ => show win0_3.index ⟨_, ht⟩ (1 : Fin 2) * 1280 + 1 * j.val = j.val; rw [e1]; omega
  have h2 : (dats m 0 c).arrAt 3 cfg0.N (((cfg0.win 3).blk ⟨_, ht⟩).view.emb (ix2 ⟨_, hr⟩ j))
      = out0_3 (iblk m c 0 ⟨_, ht⟩) (iblk m c 1 ⟨_, ht⟩) (iblk m c 2 ⟨_, ht⟩) (ix2 ⟨_, hr⟩ j) := h
  rw [hi] at h2
  refine h2.trans ?_
  refine (out_apply _ _ _ _ _).trans ?_
  rw [blk1, blk2, bias_apply]
  refine congrArg (fun z : EReal => z + _) (Finset.sum_congr rfl fun k _ => ?_)
  rw [blk0, mat_apply, rows_apply]
  have h1 : 512 * (i.val / 512) + i.val % 512 = i.val := Nat.div_add_mod _ _
  simp only [h1]

end Cert.Kernel5Ideal.Block

namespace Cert.Reference5Ideal.Block

open Cert.Reference5Ideal Cert.Reference5Ideal.Gen Idealize.ShloMosaic Idealize.ShloMosaic.Tactic

/-- The reference's result. -/
def out {F : FTy → Type} [FloatOps F] (x : FVec F S4x8192x1024 .f32) (w : FVec F S1x1024x1280 .f32) (b : FVec F S1x1280 .f32) : FVec F S32768x1280 .bf16 :=
  truncf .bf16 (shapeCast S32768x1280 (addf (Host.dotGeneral dot_S4x8192x1024_S1024x1280_S4x8192x1280_2_0_01_1_n_n none x
    (shapeCast S1024x1280 w shapeCasts_S1x1024x1280_S1024x1280))
    (broadcastInDim S4x8192x1280 ![0, 1, 2] bcast_S1x1x1280_S4x8192x1280_0_1_2 (broadcastInDim S1x1x1280 ![2] bcast_S1280_S1x1x1280_2 (shapeCast S1280 b shapeCasts_S1x1280_S1280)))) shapeCasts_S4x8192x1280_S32768x1280) bitsLt_bf16_f32

theorem out_apply (x : Vec Ideal S4x8192x1024 .f32) (w : Vec Ideal S1x1024x1280 .f32) (b : Vec Ideal S1x1280 .f32) (i : Fin 32768) (j : Fin 1280) :
    out (F := Ideal) x w b (ix2 i j) = Cert.Kernel5Ideal.Block.prod x w b i j := by
  unfold Cert.Kernel5Ideal.Block.prod
  pointwise [out]

/-- The launch's result array is the reference's. -/
theorem same (m : (ℓ : Loc Cert.Kernel5Ideal.nD Cert.Kernel5Ideal.τ Cert.Kernel5Ideal.sig) → Buf (Elt Ideal) ℓ) (c : Dev Cert.Kernel5Ideal.nD) :
    ((Cert.Kernel5Ideal.Gen.dats m 0 c).arrAt 3 Cert.Kernel5Ideal.cfg0.N : Vec Ideal S32768x1280 .bf16)
      = out (F := Ideal) (Cert.Kernel5Ideal.Block.toks m c) (Cert.Kernel5Ideal.Block.wts m c) (Cert.Kernel5Ideal.Block.biases m c) := by
  refine funext fun (i : S32768x1280.Idx) => ?_
  have hi : i = ix2 (i 0) (i 1) := by
    funext a
    match a with
    | ⟨0, _⟩ => rfl
    | ⟨1, _⟩ => rfl
  rw [hi]
  exact (Cert.Kernel5Ideal.Block.result m c _ _).trans (out_apply _ _ _ _ _).symm

end Cert.Reference5Ideal.Block

end
-- ==== Proof.SwaOut.lean ====
/- The layer norm of the second layer's residual, after the attention: each grid point's block of rows, in two halves, is the norm of the
   residual plus the output product; so is the reference's result. -/
module

public import proofs.«01_k».proof.Proof.Gen.Kernel6Ideal.Value
public import proofs.«01_k».proof.Proof.Gen.Reference6Ideal.Run
public import proofs.«01_k».proof.Proof.OutProj
public import Idealize.ShloMosaic.Lib.Pointwise
public import Idealize.ShloMosaic.Lib.Pipeline.Value
public import Idealize.ShloMosaic.Lib.Pipeline.ValueKit

@[expose] public section

set_option maxRecDepth 16384

noncomputable section

namespace Cert.Kernel6Ideal.Block

open Cert.Kernel6Ideal Cert.Kernel6Ideal.Gen Cert.Kernel6Ideal.Value Idealize.ShloMosaic Idealize.ShloMosaic.TcCoe Idealize.SL.Sem
open Idealize.ShloMosaic.Tactic Cert.LayerNorm

section Payloads
variable {F : FTy → Type} [FloatOps F]

/-- A half block's residual: the scaled tokens plus the output product and its bias. -/
def resid (v0 : Vec F S256x1024 .bf16) (v1 : Vec F S1024x1024 .bf16) (v4 : Vec F S1x1024 .f32) (v8 : Vec F S256x1024 .f32) : FVec F S256x1024 .f32 :=
  have v2 : FVec F S1024x1024 .bf16 := shapeCast S1024x1024 v1 shapeCasts_S1024x1024_S1024x1024
  have cst : FVec F S256x1024 .f32 := constant S256x1024 .f32 0x00000000#32
  have v3 : FVec F S256x1024 .f32 := matmul dot_S256x1024_S1024x1024_S256x1024_1_0_0_1_n_n none v0 v2 cst
  have v5 : FVec F S1x1024 .f32 := shapeCast S1x1024 v4 shapeCasts_S1x1024_S1x1024
  have v6 : FVec F S256x1024 .f32 := broadcastTo S256x1024 v5 broadcasts_S1x1024_S256x1024
  have v7 : FVec F S256x1024 .f32 := addf v3 v6
  have v9 : FVec F S256x1024 .f32 := shapeCast S256x1024 v8 shapeCasts_S256x1024_S256x1024
  have cst_7 : F .f32 := Scalar.ofBits .f32 0x3FB504F3#32
  have v10 : FVec F S256x1024 .f32 := broadcast S256x1024 cst_7
  have v11 : FVec F S256x1024 .f32 := mulf v10 v9
  addf v11 v7

/-- A half block normalized, scaled and shifted. -/
def normed (v12 : FVec F S256x1024 .f32) (v13 v15 : Vec F S1x1024 .f32) : FVec F S256x1024 .f32 :=
  have v14 : FVec F S1x1024 .f32 := shapeCast S1x1024 v13 shapeCasts_S1x1024_S1x1024
  have v16 : FVec F S1x1024 .f32 := shapeCast S1x1024 v15 shapeCasts_S1x1024_S1x1024
  have v17 : FVec F S256 .f32 := multiReduction .add [1] S256 v12 0x00000000#32 reduces_S256x1024_S256 (.inl rfl) rfl
  have v18 : FVec F S256x1 .f32 := shapeCast S256x1 v17 shapeCasts_S256_S256x1
  have cst_13 : F .f32 := Scalar.ofBits .f32 0x44800000#32
  have v19 : FVec F S256x1 .f32 := broadcast S256x1 cst_13
  have v20 : FVec F S256x1 .f32 := divf v18 v19
  have v21 : FVec F S256x1024 .f32 := broadcastTo S256x1024 v20 broadcasts_S256x1_S256x1024
  have v22 : FVec F S256x1024 .f32 := subf v12 v21
  have v23 : FVec F S256x1024 .f32 := mulf v22 v22
  have v24 : FVec F S256 .f32 := multiReduction .add [1] S256 v23 0x00000000#32 reduces_S256x1024_S256 (.inl rfl) rfl
  have v25 : FVec F S256x1 .f32 := shapeCast S256x1 v24 shapeCasts_S256_S256x1
  have cst_15 : F .f32 := Scalar.ofBits .f32 0x44800000#32
  have v26 : FVec F S256x1 .f32 := broadcast S256x1 cst_15
  have v27 : FVec F S256x1 .f32 := divf v25 v26
  have cst_16 : F .f32 := Scalar.ofBits .f32 0x3727C5AC#32
  have v28 : FVec F S256x1 .f32 := broadcast S256x1 cst_16
  have v29 : FVec F S256x1 .f32 := addf v27 v28
  have v30 : FVec F S256x1 .f32 := rsqrt v29
  have v31 : FVec F S256x1024 .f32 := broadcastTo S256x1024 v30 broadcasts_S256x1_S256x1024
  have v32 : FVec F S256x1024 .f32 := mulf v22 v31
  have v33 : FVec F S256x1024 .f32 := broadcastTo S256x1024 v14 broadcasts_S1x1024_S256x1024
  have v34 : FVec F S256x1024 .f32 := mulf v32 v33
  have v35 : FVec F S256x1024 .f32 := broadcastTo S256x1024 v16 broadcasts_S1x1024_S256x1024
  have v36 : FVec F S256x1024 .f32 := addf v34 v35
  v36

theorem pay1_eq (v0 : Vec F S256x1024 .bf16) (v1 : Vec F S1024x1024 .bf16) (v4 : Vec F S1x1024 .f32) (v8 : Vec F S256x1024 .f32)
    (v13 v15 : Vec F S1x1024 .f32) : k0_pay1 v0 v1 v4 v8 v13 v15 = normed (resid v0 v1 v4 v8) v13 v15 := rfl
theorem pay2_eq (v0 : Vec F S256x1024 .bf16) (v1 : Vec F S1024x1024 .bf16) (v4 : Vec F S1x1024 .f32) (v8 : Vec F S256x1024 .f32)
    (v13 v15 : Vec F S1x1024 .f32) : k0_pay2 v0 v1 v4 v8 v13 v15 = normed (resid v0 v1 v4 v8) v13 v15 := rfl

end Payloads

theorem resid_apply (a : Vec Ideal S256x1024 .bf16) (w : Vec Ideal S1024x1024 .bf16) (b : Vec Ideal S1x1024 .f32) (x : Vec Ideal S256x1024 .f32)
    (r : Fin 256) (e : Fin 1024) :
    resid a w b x (ix2 r e) = Ideal.ofBits .f32 0x3FB504F3#32 * x (ix2 r e) + ((∑ k : Fin 1024, a (ix2 r k) * w (ix2 k e)) + b (ix2 0 e)) := by
  pointwise [resid]

theorem normed_apply (y : FVec Ideal S256x1024 .f32) (g b : Vec Ideal S1x1024 .f32) (r : Fin 256) (e : Fin 1024) :
    normed y g b (ix2 r e) = layerNorm (fun e => y (ix2 r e)) e * g (ix2 0 e) + b (ix2 0 e) := by
  unfold layerNorm
  pointwise [normed]

/-- Row `r` of half `q`. -/
def rg (q : Fin 2) (r : Fin 256) : Fin 512 := ⟨256 * q.val + r.val, by omega⟩

theorem ld_a (x : Vec Ideal S512x1024 .bf16) (o : Nat) (q : Fin 2) (ho : o = 256 * q.val) (inb) (r : Fin 256) (k : Fin 1024) :
    View.ld x (Rect.unit (s := S512x1024) ![o, 0] ![256, 1024] inb) (ix2 r k : S256x1024.Idx) = x (ix2 (rg q r) k) :=
  View.ld_unit_apply_of x _ _ inb _ _ (fun a => by subst ho; fin_cases a <;> simp [rg])
theorem ld_x (x : Vec Ideal S512x1024 .f32) (o : Nat) (q : Fin 2) (ho : o = 256 * q.val) (inb) (r : Fin 256) (k : Fin 1024) :
    View.ld x (Rect.unit (s := S512x1024) ![o, 0] ![256, 1024] inb) (ix2 r k : S256x1024.Idx) = x (ix2 (rg q r) k) :=
  View.ld_unit_apply_of x _ _ inb _ _ (fun a => by subst ho; fin_cases a <;> simp [rg])
theorem ld_w (x : Vec Ideal S1024x1024 .bf16) (inb) (k : Fin 1024) (e : Fin 1024) :
    View.ld x (Rect.unit (s := S1024x1024) ![0, 0] ![1024, 1024] inb) (ix2 k e : S1024x1024.Idx) = x (ix2 k e) :=
  View.ld_unit_apply_of x _ _ inb _ _ (fun a => by fin_cases a <;> simp)
theorem ld_b (x : Vec Ideal S1x1024 .f32) (inb) (e : Fin 1024) :
    View.ld x (Rect.unit (s := S1x1024) ![0, 0] ![1, 1024] inb) (ix2 0 e : S1x1024.Idx) = x (ix2 0 e) :=
  View.ld_unit_apply_of x _ _ inb _ _ (fun a => by fin_cases a <;> simp)

theorem canon_hit (o : Nat) (q : Fin 2) (ho : o = 256 * q.val) (inb) (w : Vec Ideal S256x1024 .f32)
    (L : List (View.Piece (Elt Ideal) S512x1024 .f32)) (r : Fin 256) (e : Fin 1024) :
    View.canon ((⟨Rect.unit (s := S512x1024) ![o, 0] ![256, 1024] inb, w⟩ : View.Piece (Elt Ideal) S512x1024 .f32) :: L)
      (ix2 (rg q r) e) = w (ix2 r e) := by
  have hi : (ix2 (rg q r) e : S512x1024.Idx) = (Rect.unit (s := S512x1024) ![o, 0] ![256, 1024] inb).emb (ix2 r e) := by
    funext a; apply Fin.ext; rw [Rect.emb_apply]; subst ho; fin_cases a <;> simp [rg]
  rw [hi]; exact View.canon_cons_emb _ _ _ _

theorem canon_miss (o : Nat) (q : Fin 2) (ho : o + 256 ≤ 256 * q.val ∨ 256 * q.val + 256 ≤ o) (inb) (w : Vec Ideal S256x1024 .f32)
    (L : List (View.Piece (Elt Ideal) S512x1024 .f32)) (r : Fin 256) (e : Fin 1024) :
    View.canon ((⟨Rect.unit (s := S512x1024) ![o, 0] ![256, 1024] inb, w⟩ : View.Piece (Elt Ideal) S512x1024 .f32) :: L)
      (ix2 (rg q r) e) = View.canon L (ix2 (rg q r) e) := by
  refine View.canon_cons_of_not_mem _ _ fun hm => ?_
  have := (Rect.mem_set_unit (inb := inb)).mp hm (0 : Fin 2)
  simp [rg] at this; omega

/-- The residual at a row of a block. -/
def residF (a : Vec Ideal S512x1024 .bf16) (w : Vec Ideal S1024x1024 .bf16) (b : Vec Ideal S1x1024 .f32) (x : Vec Ideal S512x1024 .f32)
    (i : Fin 512) (e : Fin 1024) : EReal :=
  Ideal.ofBits .f32 0x3FB504F3#32 * x (ix2 i e) + ((∑ k : Fin 1024, a (ix2 i k) * w (ix2 k e)) + b (ix2 0 e))

theorem half (a : Vec Ideal S512x1024 .bf16) (w : Vec Ideal S1024x1024 .bf16) (b : Vec Ideal S1x1024 .f32) (x : Vec Ideal S512x1024 .f32)
    (g s : Vec Ideal S1x1024 .f32) (o : Nat) (q : Fin 2) (ho : o = 256 * q.val) (i0 i1 i2 i3) (r : Fin 256) (e : Fin 1024) :
    normed (resid (View.ld a (Rect.unit (s := S512x1024) ![o, 0] ![256, 1024] i0)) (View.ld w (Rect.unit (s := S1024x1024) ![0, 0] ![1024, 1024] i1))
        (View.ld b (Rect.unit (s := S1x1024) ![0, 0] ![1, 1024] i2)) (View.ld x (Rect.unit (s := S512x1024) ![o, 0] ![256, 1024] i3)))
        (View.ld g (Rect.unit (s := S1x1024) ![0, 0] ![1, 1024] i2)) (View.ld s (Rect.unit (s := S1x1024) ![0, 0] ![1, 1024] i2)) (ix2 r e)
      = layerNorm (fun e => residF a w b x (rg q r) e) e * g (ix2 0 e) + s (ix2 0 e) := by
  refine (normed_apply _ _ _ r e).trans (congrArg₂ (· + ·) (congrArg₂ (· * ·) (congrArg (layerNorm · e) (funext fun e => ?_)) (ld_b _ _ e)) (ld_b _ _ e))
  refine (resid_apply _ _ _ _ r e).trans (congrArg₂ (· + ·) (congrArg (_ * ·) (ld_x _ o q ho _ _ _))
    (congrArg₂ (· + ·) (Finset.sum_congr rfl fun k _ => ?_) (ld_b _ _ e)))
  rw [ld_a _ o q ho, ld_w]

theorem two : ∀ h : Fin 2, h = 0 ∨ h = 1 := by decide

/-- A point's output block. -/
theorem out_apply (a : Vec Ideal S512x1024 .bf16) (w : Vec Ideal S1024x1024 .bf16) (b : Vec Ideal S1x1024 .f32) (x : Vec Ideal S512x1024 .f32)
    (g s : Vec Ideal S1x1024 .f32) (q : Fin 2) (r : Fin 256) (e : Fin 1024) :
    out0_6 a w b x g s (ix2 (rg q r) e) = layerNorm (fun e => residF a w b x (rg q r) e) e * g (ix2 0 e) + s (ix2 0 e) := by
  unfold out0_6
  rw [pay1_eq, pay2_eq]
  rcases two q with rfl | rfl
  · rw [canon_miss 256 0 (by decide)]; rw [canon_hit 0 0 rfl]
    exact half a w b x g s 0 0 rfl _ _ _ _ r e
  · rw [canon_hit 256 1 rfl]
    exact half a w b x g s 256 1 rfl _ _ _ _ r e

variable (m : (ℓ : Loc nD τ sig) → Buf (Elt Ideal) ℓ) (c : Dev nD)

/-- The launch's arrays: the mixer's output, the output weights and biases, the tokens, the norm's scale and shift. -/
abbrev mixed : Vec Ideal S32768x1024 .bf16 := m ((c : Thread nD τ).loc main_arg0)
abbrev wts : Vec Ideal S1x1024x1024 .f32 := m ((c : Thread nD τ).loc main_arg1)
abbrev biases : Vec Ideal S1x1024 .f32 := m ((c : Thread nD τ).loc main_arg2)
abbrev toks : Vec Ideal S4x8192x1024 .f32 := m ((c : Thread nD τ).loc main_arg3)
abbrev gain : Vec Ideal S2x1024 .f32 := m ((c : Thread nD τ).loc main_arg4)
abbrev shift : Vec Ideal S2x1024 .f32 := m ((c : Thread nD τ).loc main_arg5)

def rows {F : FTy → Type} (x : Vec F S4x8192x1024 .f32) : Vec F S32768x1024 .f32 := shapeCast S32768x1024 x shapeCasts_S4x8192x1024_S32768x1024
def mat {F : FTy → Type} [FloatOps F] (w : FVec F S1x1024x1024 .f32) : FVec F S1024x1024 .bf16 :=
  truncf .bf16 (shapeCast S1024x1024 w shapeCasts_S1x1024x1024_S1024x1024) bitsLt_bf16_f32
def bias {F : FTy → Type} (b : Vec F S1x1024 .f32) : Vec F S1x1024 .f32 :=
  shapeCast S1x1024 (shapeCast S1024 b shapeCasts_S1x1024_S1024) shapeCasts_S1024_S1x1024
def vec {F : FTy → Type} (g : Vec F S2x1024 .f32) : Vec F S1x1024 .f32 :=
  shapeCast S1x1024 (shapeCast S1024 (extractStridedSlice S1x1024 ![1, 0] g slices_S2x1024_S1x1024_1_0) shapeCasts_S1x1024_S1024) shapeCasts_S1024_S1x1024

theorem V_v0 : V m c main_v0 = rows (toks m c) := by
  unfold V hostOps0
  simp only [List.flatten_cons, List.flatten_nil, List.append_nil, List.cons_append, List.nil_append]
  after_results
  rfl
theorem V_v2 : V m c main_v2 = mat (F := Ideal) (wts m c) := by
  unfold V hostOps0
  simp only [List.flatten_cons, List.flatten_nil, List.append_nil, List.cons_append, List.nil_append]
  after_results
  rfl
theorem V_v4 : V m c main_v4 = bias (biases m c) := by
  unfold V hostOps0
  simp only [List.flatten_cons, List.flatten_nil, List.append_nil, List.cons_append, List.nil_append]
  after_results
  rfl
theorem V_v7 : V m c main_v7 = vec (gain m c) := by
  unfold V hostOps0
  simp only [List.flatten_cons, List.flatten_nil, List.append_nil, List.cons_append, List.nil_append]
  after_results
  rfl
theorem V_v10 : V m c main_v10 = vec (shift m c) := by
  unfold V hostOps0
  simp only [List.flatten_cons, List.flatten_nil, List.append_nil, List.cons_append, List.nil_append]
  after_results
  rfl

theorem mat_apply (w : Vec Ideal S1x1024x1024 .f32) (k : Fin 1024) (e : Fin 1024) : mat (F := Ideal) w (ix2 k e) = w (ix3 0 k e) := by
  pointwise [mat]
theorem bias_apply (b : Vec Ideal S1x1024 .f32) (e : Fin 1024) : bias b (ix2 0 e) = b (ix2 0 e) := by
  pointwise [bias]
theorem vec_apply (g : Vec Ideal S2x1024 .f32) (e : Fin 1024) : vec g (ix2 0 e) = g (ix2 1 e) := by
  pointwise [vec]
theorem rows_apply (x : Vec Ideal S4x8192x1024 .f32) (i : Fin 32768) (k : Fin 1024) :
    rows x (ix2 i k) = x (ix3 ⟨i.val / 8192, by omega⟩ ⟨i.val % 8192, Nat.mod_lt _ (by decide)⟩ k) := by
  pointwise [rows]

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem flush6 : ∀ t : Fin cfg0.N, (cfg0.win 6).flush t = true :=
  (by decide +kernel : ∀ t : Fin grid0.N, win0_6.flush t = true)
theorem ptN (t : Fin cfg0.N) : t.val < 64 := lt_of_lt_of_eq t.isLt N_0

theorem blk0 (t : Fin cfg0.N) (r : Fin 512) (k : Fin 1024) :
    (iblk m c 0 t : Vec Ideal S512x1024 .bf16) (ix2 r k)
      = mixed m c (ix2 ⟨512 * t.val + r.val, by have := ptN t; omega⟩ k) := by
  show V m c main_arg0 (((cfg0.win 0).blk t).view.emb (ix2 r k)) = _
  rw [V_main_arg0]
  refine congrArg (mixed m c) (funext fun a => Fin.ext ?_)
  obtain ⟨e0, e1⟩ := idx0 t
  match a with
  | ⟨0, _⟩ => show win0_0.index t (0 : Fin 2) * 512 + 1 * r.val = 512 * t.val + r.val; omega
  | ⟨1, _⟩ => show win0_0.index t (1 : Fin 2) * 1024 + 1 * k.val = k.val; omega
theorem blk3 (t : Fin cfg0.N) (r : Fin 512) (k : Fin 1024) :
    (iblk m c 3 t : Vec Ideal S512x1024 .f32) (ix2 r k)
      = rows (toks m c) (ix2 ⟨512 * t.val + r.val, by have := ptN t; omega⟩ k) := by
  show V m c main_v0 (((cfg0.win 3).blk t).view.emb (ix2 r k)) = _
  rw [V_v0]
  refine congrArg (rows (toks m c)) (funext fun a => Fin.ext ?_)
  obtain ⟨e0, e1⟩ := idx3 t
  match a with
  | ⟨0, _⟩ => show win0_3.index t (0 : Fin 2) * 512 + 1 * r.val = 512 * t.val + r.val; omega
  | ⟨1, _⟩ => show win0_3.index t (1 : Fin 2) * 1024 + 1 * k.val = k.val; omega
theorem blk1 (t : Fin cfg0.N) : (iblk m c 1 t : Vec Ideal S1024x1024 .bf16) = mat (F := Ideal) (wts m c) := by
  funext y
  show V m c main_v2 (((cfg0.win 1).blk t).view.emb y) = _
  rw [V_v2]
  refine congrArg (mat (F := Ideal) (wts m c)) (funext fun a => Fin.ext ?_)
  match a with
  | ⟨0, _⟩ => show 0 * 1024 + 1 * (y 0).val = (y 0).val; omega
  | ⟨1, _⟩ => show 0 * 1024 + 1 * (y 1).val = (y 1).val; omega
theorem blk2 (t : Fin cfg0.N) : (iblk m c 2 t : Vec Ideal S1x1024 .f32) = bias (biases m c) := by
  funext y
  show V m c main_v4 (((cfg0.win 2).blk t).view.emb y) = _
  rw [V_v4]
  refine congrArg (bias (biases m c)) (funext fun a => Fin.ext ?_)
  match a with
  | ⟨0, _⟩ => show 0 * 1 + 1 * (y 0).val = (y 0).val; omega
  | ⟨1, _⟩ => show 0 * 1024 + 1 * (y 1).val = (y 1).val; omega
theorem blk4 (t : Fin cfg0.N) : (iblk m c 4 t : Vec Ideal S1x1024 .f32) = vec (gain m c) := by
  funext y
  show V m c main_v7 (((cfg0.win 4).blk t).view.emb y) = _
  rw [V_v7]
  refine congrArg (vec (gain m c)) (funext fun a => Fin.ext ?_)
  match a with
  | ⟨0, _⟩ => show 0 * 1 + 1 * (y 0).val = (y 0).val; omega
  | ⟨1, _⟩ => show 0 * 1024 + 1 * (y 1).val = (y 1).val; omega
theorem blk5 (t : Fin cfg0.N) : (iblk m c 5 t : Vec Ideal S1x1024 .f32) = vec (shift m c) := by
  funext y
  show V m c main_v10 (((cfg0.win 5).blk t).view.emb y) = _
  rw [V_v10]
  refine congrArg (vec (shift m c)) (funext fun a => Fin.ext ?_)
  match a with
  | ⟨0, _⟩ => show 0 * 1 + 1 * (y 0).val = (y 0).val; omega
  | ⟨1, _⟩ => show 0 * 1024 + 1 * (y 1).val = (y 1).val; omega

/-- The residual at row `i` and column `e`. -/
def residual (a : Vec Ideal S32768x1024 .bf16) (w : Vec Ideal S1x1024x1024 .f32) (b : Vec Ideal S1x1024 .f32) (x : Vec Ideal S4x8192x1024 .f32) (i : Fin 32768) (e : Fin 1024) : EReal :=
  @HAdd.hAdd EReal EReal EReal instHAdd
    (@HMul.hMul EReal EReal EReal instHMul (Ideal.ofBits .f32 0x3FB504F3#32) (x (ix3 ⟨i.val / 8192, by omega⟩ ⟨i.val % 8192, Nat.mod_lt _ (by decide)⟩ e)))
    (@HAdd.hAdd EReal EReal EReal instHAdd (∑ k : Fin 1024, @HMul.hMul EReal EReal EReal instHMul (a (ix2 i k)) (w (ix3 0 k e))) (b (ix2 0 e)))

/-- The normalized residual. -/
def value (a : Vec Ideal S32768x1024 .bf16) (w : Vec Ideal S1x1024x1024 .f32) (b : Vec Ideal S1x1024 .f32) (x : Vec Ideal S4x8192x1024 .f32) (g s : Vec Ideal S2x1024 .f32)
    (i : Fin 32768) (e : Fin 1024) : EReal :=
  @HAdd.hAdd EReal EReal EReal instHAdd (@HMul.hMul EReal EReal EReal instHMul (layerNorm (residual a w b x i) e) (g (ix2 1 e))) (s (ix2 1 e))

/-- The result array of the launch. -/
theorem result (i : Fin 32768) (j : Fin 1024) :
    ((dats m 0 c).arrAt 6 cfg0.N : Vec Ideal S32768x1024 .f32) (ix2 i j) = value (mixed m c) (wts m c) (biases m c) (toks m c) (gain m c) (shift m c) i j := by
  have ht : i.val / 512 < cfg0.N := lt_of_lt_of_eq (by omega) N_0.symm
  have hr : i.val % 512 < 512 := Nat.mod_lt _ (by decide)
  have hq : i.val % 512 / 256 < 2 := by omega
  have he : i.val % 512 % 256 < 256 := Nat.mod_lt _ (by decide)
  have hj : (⟨i.val % 512, hr⟩ : Fin 512) = rg ⟨_, hq⟩ ⟨_, he⟩ := Fin.ext (Nat.div_add_mod _ _).symm
  have h := congrFun ((blocks6 m c ⟨_, ht⟩ (flush6 _)).trans (flushed6 m c ⟨_, ht⟩)) (ix2 ⟨_, hr⟩ j)
  obtain ⟨e0, e1⟩ := idx6 ⟨_, ht⟩
  have hi : ((cfg0.win 6).blk ⟨_, ht⟩).view.emb (ix2 ⟨_, hr⟩ j) = (ix2 i j : S32768x1024.Idx) := by
    funext a; apply Fin.ext
    match a with
    | ⟨0, _⟩ => show win0_6.index ⟨_, ht⟩ (0 : Fin 2) * 512 + 1 * (i.val % 512) = i.val; rw [e0]; show i.val / 512 * 512 + 1 * (i.val % 512) = i.val; omega
    | ⟨1, _⟩ => show win0_6.index ⟨_, ht⟩ (1 : Fin 2) * 1024 + 1 * j.val = j.val; rw [e1]; omega
  have h2 : (dats m 0 c).arrAt 6 cfg0.N (((cfg0.win 6).blk ⟨_, ht⟩).view.emb (ix2 ⟨_, hr⟩ j))
      = out0_6 (iblk m c 0 ⟨_, ht⟩) (iblk m c 1 ⟨_, ht⟩) (iblk m c 2 ⟨_, ht⟩) (iblk m c 3 ⟨_, ht⟩) (iblk m c 4 ⟨_, ht⟩) (iblk m c 5 ⟨_, ht⟩)
        (ix2 ⟨_, hr⟩ j) := h
  rw [hi] at h2
  refine h2.trans ?_
  rw [hj]
  refine (out_apply _ _ _ _ _ _ _ _ _).trans ?_
  rw [← hj, blk4, blk5, vec_apply, vec_apply]
  refine congrArg (fun z : EReal => z * _ + _) (congrArg (fun f => layerNorm f j) (funext fun e => ?_))
  unfold residF residual
  rw [blk1, blk2, bias_apply, blk3, rows_apply]
  have h1 : 512 * (i.val / 512) + i.val % 512 = i.val := Nat.div_add_mod _ _
  refine congrArg₂ (fun a b : EReal => a + b) (by simp only [h1]) (congrArg (fun z : EReal => z + _) (Finset.sum_congr rfl fun k _ => ?_))
  rw [blk0, mat_apply]
  simp only [h1]

end Cert.Kernel6Ideal.Block

namespace Cert.Reference6Ideal.Block

open Cert.Reference6Ideal Cert.Reference6Ideal.Gen Idealize.ShloMosaic Idealize.ShloMosaic.Tactic Cert.LayerNorm

section Terms
variable {F : FTy → Type} [FloatOps F]

/-- The reference's residual, its normalized rows, and its result. -/
def resid (a : FVec F S32768x1024 .bf16) (w : FVec F S1x1024x1024 .f32) (b : FVec F S1x1024 .f32) (x : FVec F S4x8192x1024 .f32) : FVec F S32768x1024 .f32 :=
  addf (mulf (broadcastInDim S32768x1024 ![] bcast_S_S32768x1024 (constant S_ .f32 0x3FB504F3#32)) (shapeCast _ x shapeCasts_S4x8192x1024_S32768x1024))
    (addf (Host.dotGeneral dot_S32768x1024_S1024x1024_S32768x1024_1_0_0_1_n_n none (extf .f32 a bitsLt_bf16_f32) (shapeCast _ w shapeCasts_S1x1024x1024_S1024x1024))
      (broadcastInDim S32768x1024 ![0, 1] bcast_S1x1024_S32768x1024_0_1 (broadcastInDim S1x1024 ![1] bcast_S1024_S1x1024_1 (shapeCast _ b shapeCasts_S1x1024_S1024))))
def mean (y : FVec F S32768x1024 .f32) : FVec F S32768x1 .f32 :=
  Host.divf (broadcastInDim S32768x1 ![0] bcast_S32768_S32768x1_0 (Host.reduceAdd y (constant S_ .f32 0x00000000#32) reducesTo_S32768x1024_S32768_d1 h_S_))
    (broadcastInDim S32768x1 ![] bcast_S_S32768x1 (constant S_ .f32 0x44800000#32))
def centred (y : FVec F S32768x1024 .f32) : FVec F S32768x1024 .f32 :=
  subf y (broadcastInDim S32768x1024 ![0, 1] bcast_S32768x1_S32768x1024_0_1 (mean y))
def normed (z : FVec F S32768x1024 .f32) : FVec F S32768x1024 .f32 :=
  mulf z (broadcastInDim S32768x1024 ![0, 1] bcast_S32768x1_S32768x1024_0_1
    (Host.rsqrt (addf (mean (mulf z z)) (broadcastInDim S32768x1 ![] bcast_S_S32768x1 (constant S_ .f32 0x3727C5AC#32)))))
def spread (g : FVec F S2x1024 .f32) : FVec F S32768x1024 .f32 :=
  broadcastInDim S32768x1024 ![0, 1] bcast_S1x1024_S32768x1024_0_1 (broadcastInDim S1x1024 ![1] bcast_S1024_S1x1024_1
    (shapeCast S1024 (extractStridedSlice S1x1024 ![1, 0] g slices_S2x1024_S1x1024_1_0) shapeCasts_S1x1024_S1024))
def out (a : FVec F S32768x1024 .bf16) (w : FVec F S1x1024x1024 .f32) (b : FVec F S1x1024 .f32) (x : FVec F S4x8192x1024 .f32) (g s : FVec F S2x1024 .f32) : FVec F S32768x1024 .f32 :=
  addf (mulf (normed (centred (resid a w b x))) (spread g)) (spread s)

end Terms

theorem resid_apply (a : Vec Ideal S32768x1024 .bf16) (w : Vec Ideal S1x1024x1024 .f32) (b : Vec Ideal S1x1024 .f32) (x : Vec Ideal S4x8192x1024 .f32) (i : Fin 32768) (e : Fin 1024) :
    resid (F := Ideal) a w b x (ix2 i e) = Cert.Kernel6Ideal.Block.residual a w b x i e := by
  unfold Cert.Kernel6Ideal.Block.residual
  pointwise [resid]
theorem mean_apply (y : FVec Ideal S32768x1024 .f32) (i : Fin 32768) :
    mean y (ix2 i 0) = Ideal.div (∑ e : Fin 1024, y (ix2 i e)) (Ideal.ofBits .f32 0x44800000#32) := by
  pointwise [mean]
theorem centred_apply (y : FVec Ideal S32768x1024 .f32) (i : Fin 32768) (e : Fin 1024) :
    centred y (ix2 i e) = y (ix2 i e) - mean y (ix2 i 0) := by
  pointwise [centred]
theorem normed_apply (z : FVec Ideal S32768x1024 .f32) (i : Fin 32768) (e : Fin 1024) :
    normed z (ix2 i e) = z (ix2 i e) * Ideal.rsqrt (mean (mulf z z) (ix2 i 0) + Ideal.ofBits .f32 0x3727C5AC#32) := by
  pointwise [normed]
theorem spread_apply (g : FVec Ideal S2x1024 .f32) (i : Fin 32768) (e : Fin 1024) : spread g (ix2 i e) = g (ix2 1 e) := by
  pointwise [spread]

theorem out_split (a : Vec Ideal S32768x1024 .bf16) (w : Vec Ideal S1x1024x1024 .f32) (b : Vec Ideal S1x1024 .f32) (x : Vec Ideal S4x8192x1024 .f32) (g s : Vec Ideal S2x1024 .f32)
    (i : Fin 32768) (e : Fin 1024) : out (F := Ideal) a w b x g s (ix2 i e) = @HAdd.hAdd EReal EReal EReal instHAdd (@HMul.hMul EReal EReal EReal instHMul
      (normed (F := Ideal) (centred (F := Ideal) (resid (F := Ideal) a w b x)) (ix2 i e)) (spread (F := Ideal) g (ix2 i e))) (spread (F := Ideal) s (ix2 i e)) := by
  pointwise [out]

theorem out_apply (a : Vec Ideal S32768x1024 .bf16) (w : Vec Ideal S1x1024x1024 .f32) (b : Vec Ideal S1x1024 .f32) (x : Vec Ideal S4x8192x1024 .f32) (g s : Vec Ideal S2x1024 .f32)
    (i : Fin 32768) (e : Fin 1024) : out (F := Ideal) a w b x g s (ix2 i e) = Cert.Kernel6Ideal.Block.value a w b x g s i e := by
  have hc (e : Fin 1024) : centred (F := Ideal) (resid (F := Ideal) a w b x) (ix2 i e) = Cert.Kernel6Ideal.Block.residual a w b x i e
      - Ideal.div (∑ e, Cert.Kernel6Ideal.Block.residual a w b x i e) (Ideal.ofBits .f32 0x44800000#32) := by
    refine (centred_apply _ i e).trans (congrArg₂ (fun a b : EReal => a - b) (resid_apply a w b x i e) ((mean_apply _ i).trans ?_))
    have hs : (∑ e : Fin 1024, (resid (F := Ideal) a w b x (ix2 i e) : EReal)) = ∑ e, Cert.Kernel6Ideal.Block.residual a w b x i e :=
      Finset.sum_congr rfl fun e _ => resid_apply a w b x i e
    exact congrArg (fun z : EReal => Ideal.div z (Ideal.ofBits .f32 0x44800000#32)) hs
  have hv : mean (F := Ideal) (mulf (centred (F := Ideal) (resid (F := Ideal) a w b x)) (centred (F := Ideal) (resid (F := Ideal) a w b x))) (ix2 i 0)
      = Ideal.div (∑ j : Fin 1024, (Cert.Kernel6Ideal.Block.residual a w b x i j
          - Ideal.div (∑ e, Cert.Kernel6Ideal.Block.residual a w b x i e) (Ideal.ofBits .f32 0x44800000#32))
        * (Cert.Kernel6Ideal.Block.residual a w b x i j
          - Ideal.div (∑ e, Cert.Kernel6Ideal.Block.residual a w b x i e) (Ideal.ofBits .f32 0x44800000#32))) (Ideal.ofBits .f32 0x44800000#32) := by
    refine (mean_apply _ i).trans (congrArg (fun z : EReal => Ideal.div z (Ideal.ofBits .f32 0x44800000#32)) ?_)
    exact Finset.sum_congr rfl fun e _ => congrArg₂ (fun a b : EReal => a * b) (hc e) (hc e)
  refine (out_split a w b x g s i e).trans ?_
  unfold Cert.Kernel6Ideal.Block.value layerNorm
  refine congrArg₂ (fun a b : EReal => a + b) (congrArg₂ (fun a b : EReal => a * b) ?_ (spread_apply g i e)) (spread_apply s i e)
  refine (normed_apply _ i e).trans ?_
  exact congrArg₂ (fun a b : EReal => a * b) (hc e) (congrArg (fun z : EReal => Ideal.rsqrt (z + Ideal.ofBits .f32 0x3727C5AC#32)) hv)

/-- The launch's result array is the reference's. -/
theorem same (m : (ℓ : Loc Cert.Kernel6Ideal.nD Cert.Kernel6Ideal.τ Cert.Kernel6Ideal.sig) → Buf (Elt Ideal) ℓ) (c : Dev Cert.Kernel6Ideal.nD) :
    ((Cert.Kernel6Ideal.Gen.dats m 0 c).arrAt 6 Cert.Kernel6Ideal.cfg0.N : Vec Ideal S32768x1024 .f32)
      = out (F := Ideal) (Cert.Kernel6Ideal.Block.mixed m c) (Cert.Kernel6Ideal.Block.wts m c) (Cert.Kernel6Ideal.Block.biases m c) (Cert.Kernel6Ideal.Block.toks m c)
        (Cert.Kernel6Ideal.Block.gain m c) (Cert.Kernel6Ideal.Block.shift m c) := by
  refine funext fun (i : S32768x1024.Idx) => ?_
  have hi : i = ix2 (i 0) (i 1) := by
    funext a
    match a with
    | ⟨0, _⟩ => rfl
    | ⟨1, _⟩ => rfl
  rw [hi]
  exact (Cert.Kernel6Ideal.Block.result m c _ _).trans (out_apply _ _ _ _ _ _ _ _).symm

end Cert.Reference6Ideal.Block

end
-- ==== Proof.ExpRing.lean ====
module

public import proofs.«01_k».proof.Proof.Gen.Kernel3Ideal
public import proofs.«01_k».proof.Proof.Gen.Kernel3Ideal.Skeleton
public import proofs.«01_k».proof.Proof.Gen.Kernel3Ideal.Launch
public import Idealize.ShloMosaic.Lib.Pipeline.Frame
public import Idealize.ShloMosaic.Lib.Pipeline.FrameBody
public import Idealize.ShloMosaic.Lib.Ring
public import Idealize.ShloMosaic.Lib.Affine
public import Idealize.ShloMosaic.Lib.Tactic
public import Idealize.ShloMosaic.Lib.Transfers

@[expose] public section

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

/-- The algebra the launch and the kernel's own transfers run in. -/
abbrev MM (F : FTy → Type) := MT nD τ sig Unit (Elt F) ℕ (Pipeline.UD sig nD τ) ℕ

variable {F : FTy → Type} [FloatOps F]

/-! ## Names: a slot of each weight buffer, an expert's weights, a slot's cell -/

abbrev tabM : Memref sig .tc .smem S4x288 .i32 := Memref.whole main_arg0
abbrev w1M : Memref sig .tc .hbm S2x32x1024x2048 .f32 := Memref.whole main_arg2
abbrev w2M : Memref sig .tc .hbm S2x32x1024x1024 .f32 := Memref.whole main_arg4
abbrev bufA : Memref sig .tc .vmem S2x1024x2048 .f32 := Memref.whole cc0_scratch0
abbrev bufB : Memref sig .tc .vmem S2x1024x1024 .f32 := Memref.whole cc0_scratch1
abbrev lowA : Memref sig .tc .vmem S1024x2048 .bf16 := Memref.whole cc0_scratch2
abbrev lowB : Memref sig .tc .vmem S1024x1024 .bf16 := Memref.whole cc0_scratch3

abbrev slotOff (s : Fin 2) : Fin 3 → Nat := ![s.val, 0, 0]
theorem slotA_inb (s : Fin 2) : ∀ a, slotOff s a + S1x1024x2048.size a ≤ S2x1024x2048.size a := by
  have := s.isLt; intro a; fin_cases a
  · show s.val + 1 ≤ 2; omega
  · show 0 + 1024 ≤ 1024; omega
  · show 0 + 2048 ≤ 2048; omega
theorem slotB_inb (s : Fin 2) : ∀ a, slotOff s a + S1x1024x1024.size a ≤ S2x1024x1024.size a := by
  have := s.isLt; intro a; fin_cases a
  · show s.val + 1 ≤ 2; omega
  · show 0 + 1024 ≤ 1024; omega
  · show 0 + 1024 ≤ 1024; omega
abbrev exOff (e : Fin 32) : Fin 4 → Nat := ![0, e.val, 0, 0]
theorem exA_inb (e : Fin 32) : ∀ a, exOff e a + S1x1x1024x2048.size a ≤ S2x32x1024x2048.size a := by
  have := e.isLt; intro a; fin_cases a
  · show 0 + 1 ≤ 2; omega
  · show e.val + 1 ≤ 32; omega
  · show 0 + 1024 ≤ 1024; omega
  · show 0 + 2048 ≤ 2048; omega
theorem exB_inb (e : Fin 32) : ∀ a, exOff e a + S1x1x1024x1024.size a ≤ S2x32x1024x1024.size a := by
  have := e.isLt; intro a; fin_cases a
  · show 0 + 1 ≤ 2; omega
  · show e.val + 1 ≤ 32; omega
  · show 0 + 1024 ≤ 1024; omega
  · show 0 + 1024 ≤ 1024; omega
abbrev cellOff (k s : Fin 2) : Fin 2 → Nat := ![k.val, s.val]
theorem cell_inb (k s : Fin 2) : ∀ a, cellOff k s a + S1x1.size a ≤ S2x2.size a := by
  have := s.isLt; have := k.isLt; intro a; fin_cases a
  · show k.val + 1 ≤ 2; omega
  · show s.val + 1 ≤ 2; omega

/-- Slot `s` of the first weights' buffer, and of the second's. -/
def slotA (s : Fin 2) : Memref sig .tc .vmem S1024x2048 .f32 :=
  (bufA.slice (Rect.unit (s := S2x1024x2048) (slotOff s) S1x1024x2048.size (slotA_inb s)) (fun _ => rfl)).squeeze S1024x2048 squeezes_S1x1024x2048_S1024x2048
def slotB (s : Fin 2) : Memref sig .tc .vmem S1024x1024 .f32 :=
  (bufB.slice (Rect.unit (s := S2x1024x1024) (slotOff s) S1x1024x1024.size (slotB_inb s)) (fun _ => rfl)).squeeze S1024x1024 squeezes_S1x1024x1024_S1024x1024
/-- Expert `e`'s first weights, and its second. -/
def exA (e : Fin 32) : Memref sig .tc .hbm S1024x2048 .f32 :=
  (w1M.slice (Rect.unit (s := S2x32x1024x2048) (exOff e) S1x1x1024x2048.size (exA_inb e)) (fun _ => rfl)).squeeze S1024x2048 squeezes_S1x1x1024x2048_S1024x2048
def exB (e : Fin 32) : Memref sig .tc .hbm S1024x1024 .f32 :=
  (w2M.slice (Rect.unit (s := S2x32x1024x1024) (exOff e) S1x1x1024x1024.size (exB_inb e)) (fun _ => rfl)).squeeze S1024x1024 squeezes_S1x1x1024x1024_S1024x1024
/-- The cell of slot `s` of buffer `k`. -/
def csm (k s : Fin 2) : DmaSems sig S_ := (cc0_scratch4.slice (Rect.unit (s := S2x2) (cellOff k s) S1x1.size (cell_inb k s))).squeeze S_ squeezes_S1x1_S_

instance (s : Fin 2) : ClosedOff (slotOff s) := ⟨slotOff s, rfl⟩
instance (e : Fin 32) : ClosedOff (exOff e) := ⟨exOff e, rfl⟩

/-- The slot a word names, the other slot, and the expert a word names. -/
def sl (v : BitVec 32) : Fin 2 := ⟨v.toNat % 2, Nat.mod_lt _ (by omega)⟩
def ot (v : BitVec 32) : Fin 2 := ⟨(v.toNat + 1) % 2, Nat.mod_lt _ (by omega)⟩
def bk (v : BitVec 32) : Fin 32 := ⟨v.toNat % 32, Nat.mod_lt _ (by omega)⟩

theorem sl_off (v : BitVec 32) (h : v.toNat < 2) : ![v.toNat, 0, 0] = slotOff (sl v) := by
  simp only [slotOff, sl, Nat.mod_eq_of_lt h]
theorem subi_one (v : BitVec 32) (h : v.toNat < 2) : (Scalar.subi 1#32 v).toNat = (v.toNat + 1) % 2 := by
  have e : v = BitVec.ofNat 32 v.toNat := by simp
  rw [e]
  match v.toNat, h with
  | 0, _ => rfl
  | 1, _ => rfl
  | n + 2, h => omega
theorem ot_off (v : BitVec 32) (h : v.toNat < 2) : ![(Scalar.subi 1#32 v).toNat, 0, 0] = slotOff (ot v) := by
  rw [subi_one v h]; rfl
theorem bk_off (v : BitVec 32) (h : v.toNat < 32) : ![0, v.toNat, 0, 0] = exOff (bk v) := by
  simp only [exOff, bk, Nat.mod_eq_of_lt h]
theorem sl_cell (k : Fin 2) (v : BitVec 32) (h : v.toNat < 2) : ![k.val, v.toNat] = cellOff k (sl v) := by
  simp only [cellOff, sl, Nat.mod_eq_of_lt h]
theorem ot_cell (k : Fin 2) (v : BitVec 32) (h : v.toNat < 2) : ![k.val, (Scalar.subi 1#32 v).toNat] = cellOff k (ot v) := by
  rw [subi_one v h]; rfl

/-! ## The printed slices are those names -/

section Canon

theorem csm_congr {off : Fin 2 → Nat} {k s : Fin 2} (e : off = cellOff k s) (hh) :
    (cc0_scratch4.slice (Rect.unit (s := S2x2) off S1x1.size hh)).squeeze S_ squeezes_S1x1_S_ = csm k s :=
  congrArg (fun A : DmaSems sig S1x1 => A.squeeze S_ squeezes_S1x1_S_) (SemArray.slice_unit_congr _ e _ _)
theorem slotA_congr {off : Fin 3 → Nat} {s : Fin 2} (e : off = slotOff s) (hh hs) :
    (bufA.slice (Rect.unit (s := S2x1024x2048) off S1x1024x2048.size hh) hs).squeeze S1024x2048 squeezes_S1x1024x2048_S1024x2048 = slotA s :=
  congrArg (fun M : Memref sig .tc .vmem S1x1024x2048 .f32 => M.squeeze S1024x2048 squeezes_S1x1024x2048_S1024x2048) (Memref.slice_unit_congr _ e _ _ _ _)
theorem slotB_congr {off : Fin 3 → Nat} {s : Fin 2} (e : off = slotOff s) (hh hs) :
    (bufB.slice (Rect.unit (s := S2x1024x1024) off S1x1024x1024.size hh) hs).squeeze S1024x1024 squeezes_S1x1024x1024_S1024x1024 = slotB s :=
  congrArg (fun M : Memref sig .tc .vmem S1x1024x1024 .f32 => M.squeeze S1024x1024 squeezes_S1x1024x1024_S1024x1024) (Memref.slice_unit_congr _ e _ _ _ _)
theorem exA_congr {off : Fin 4 → Nat} {b : Fin 32} (e : off = exOff b) (hh hs) :
    (w1M.slice (Rect.unit (s := S2x32x1024x2048) off S1x1x1024x2048.size hh) hs).squeeze S1024x2048 squeezes_S1x1x1024x2048_S1024x2048 = exA b :=
  congrArg (fun M : Memref sig .tc .hbm S1x1x1024x2048 .f32 => M.squeeze S1024x2048 squeezes_S1x1x1024x2048_S1024x2048) (Memref.slice_unit_congr _ e _ _ _ _)
theorem exB_congr {off : Fin 4 → Nat} {b : Fin 32} (e : off = exOff b) (hh hs) :
    (w2M.slice (Rect.unit (s := S2x32x1024x1024) off S1x1x1024x1024.size hh) hs).squeeze S1024x1024 squeezes_S1x1x1024x1024_S1024x1024 = exB b :=
  congrArg (fun M : Memref sig .tc .hbm S1x1x1024x1024 .f32 => M.squeeze S1024x1024 squeezes_S1x1x1024x1024_S1024x1024) (Memref.slice_unit_congr _ e _ _ _ _)

variable (v : BitVec 32)

@[sl_canon] theorem cell6 (h : v.toNat < 2) (hh) : (cc0_scratch4.slice (Rect.unit (s := S2x2) (k0_off6 v) S1x1.size hh)).squeeze S_ squeezes_S1x1_S_ = csm 0 (sl v) := csm_congr (sl_cell 0 v h) _
@[sl_canon] theorem cell9 (h : v.toNat < 2) (hh) : (cc0_scratch4.slice (Rect.unit (s := S2x2) (k0_off9 v) S1x1.size hh)).squeeze S_ squeezes_S1x1_S_ = csm 1 (sl v) := csm_congr (sl_cell 1 v h) _
@[sl_canon] theorem cell12 (h : v.toNat < 2) (hh) : (cc0_scratch4.slice (Rect.unit (s := S2x2) (k0_off12 v) S1x1.size hh)).squeeze S_ squeezes_S1x1_S_ = csm 0 (ot v) := csm_congr (ot_cell 0 v h) _
@[sl_canon] theorem cell15 (h : v.toNat < 2) (hh) : (cc0_scratch4.slice (Rect.unit (s := S2x2) (k0_off15 v) S1x1.size hh)).squeeze S_ squeezes_S1x1_S_ = csm 1 (ot v) := csm_congr (ot_cell 1 v h) _
@[sl_canon] theorem cell18 (h : v.toNat < 2) (hh) : (cc0_scratch4.slice (Rect.unit (s := S2x2) (k0_off18 v) S1x1.size hh)).squeeze S_ squeezes_S1x1_S_ = csm 0 (sl v) := csm_congr (sl_cell 0 v h) _
@[sl_canon] theorem cell21 (h : v.toNat < 2) (hh) : (cc0_scratch4.slice (Rect.unit (s := S2x2) (k0_off21 v) S1x1.size hh)).squeeze S_ squeezes_S1x1_S_ = csm 1 (sl v) := csm_congr (sl_cell 1 v h) _
@[sl_canon] theorem slot7 (h : v.toNat < 2) (hh hs) : (bufA.slice (Rect.unit (s := S2x1024x2048) (k0_off7 v) S1x1024x2048.size hh) hs).squeeze S1024x2048 squeezes_S1x1024x2048_S1024x2048 = slotA (sl v) := slotA_congr (sl_off v h) _ _
@[sl_canon] theorem slot13 (h : v.toNat < 2) (hh hs) : (bufA.slice (Rect.unit (s := S2x1024x2048) (k0_off13 v) S1x1024x2048.size hh) hs).squeeze S1024x2048 squeezes_S1x1024x2048_S1024x2048 = slotA (ot v) := slotA_congr (ot_off v h) _ _
@[sl_canon] theorem slot19 (h : v.toNat < 2) (hh hs) : (bufA.slice (Rect.unit (s := S2x1024x2048) (k0_off19 v) S1x1024x2048.size hh) hs).squeeze S1024x2048 squeezes_S1x1024x2048_S1024x2048 = slotA (sl v) := slotA_congr (sl_off v h) _ _
@[sl_canon] theorem slot10 (h : v.toNat < 2) (hh hs) : (bufB.slice (Rect.unit (s := S2x1024x1024) (k0_off10 v) S1x1024x1024.size hh) hs).squeeze S1024x1024 squeezes_S1x1024x1024_S1024x1024 = slotB (sl v) := slotB_congr (sl_off v h) _ _
@[sl_canon] theorem slot16 (h : v.toNat < 2) (hh hs) : (bufB.slice (Rect.unit (s := S2x1024x1024) (k0_off16 v) S1x1024x1024.size hh) hs).squeeze S1024x1024 squeezes_S1x1024x1024_S1024x1024 = slotB (ot v) := slotB_congr (ot_off v h) _ _
@[sl_canon] theorem slot22 (h : v.toNat < 2) (hh hs) : (bufB.slice (Rect.unit (s := S2x1024x1024) (k0_off22 v) S1x1024x1024.size hh) hs).squeeze S1024x1024 squeezes_S1x1024x1024_S1024x1024 = slotB (sl v) := slotB_congr (sl_off v h) _ _
@[sl_canon] theorem ex8 (h : v.toNat < 32) (hh hs) : (w1M.slice (Rect.unit (s := S2x32x1024x2048) (k0_off8 v) S1x1x1024x2048.size hh) hs).squeeze S1024x2048 squeezes_S1x1x1024x2048_S1024x2048 = exA (bk v) := exA_congr (bk_off v h) _ _
@[sl_canon] theorem ex14 (h : v.toNat < 32) (hh hs) : (w1M.slice (Rect.unit (s := S2x32x1024x2048) (k0_off14 v) S1x1x1024x2048.size hh) hs).squeeze S1024x2048 squeezes_S1x1x1024x2048_S1024x2048 = exA (bk v) := exA_congr (bk_off v h) _ _
@[sl_canon] theorem ex20 (h : v.toNat < 32) (hh hs) : (w1M.slice (Rect.unit (s := S2x32x1024x2048) (k0_off20 v) S1x1x1024x2048.size hh) hs).squeeze S1024x2048 squeezes_S1x1x1024x2048_S1024x2048 = exA (bk v) := exA_congr (bk_off v h) _ _
@[sl_canon] theorem ex11 (h : v.toNat < 32) (hh hs) : (w2M.slice (Rect.unit (s := S2x32x1024x1024) (k0_off11 v) S1x1x1024x1024.size hh) hs).squeeze S1024x1024 squeezes_S1x1x1024x1024_S1024x1024 = exB (bk v) := exB_congr (bk_off v h) _ _
@[sl_canon] theorem ex17 (h : v.toNat < 32) (hh hs) : (w2M.slice (Rect.unit (s := S2x32x1024x1024) (k0_off17 v) S1x1x1024x1024.size hh) hs).squeeze S1024x1024 squeezes_S1x1x1024x1024_S1024x1024 = exB (bk v) := exB_congr (bk_off v h) _ _
@[sl_canon] theorem ex23 (h : v.toNat < 32) (hh hs) : (w2M.slice (Rect.unit (s := S2x32x1024x1024) (k0_off23 v) S1x1x1024x1024.size hh) hs).squeeze S1024x1024 squeezes_S1x1x1024x1024_S1024x1024 = exB (bk v) := exB_congr (bk_off v h) _ _

end Canon

/-! ## The pieces: a slot held, a slot's cell, a slot in flight, the weights its transfer reads -/

section Pieces
variable (c : Dev nD) (XA : Buf (Elt F) (w1M.view.loc (c : Thread nD τ))) (XB : Buf (Elt F) (w2M.view.loc (c : Thread nD τ)))

/-- The share of the weights slot `s`'s transfers read at. -/
def qs (s : Fin 2) : PosShare TreeShare := match s with | 0 => fullShare.left | 1 => fullShare.right
abbrev cellP (k s : Fin 2) : sProp (MM F) := semVal ((c : Thread nD τ), SemLoc.dma (csm k s).sem) 0
abbrev slotPA (s : Fin 2) (f : Buf (Elt F) ((slotA s).view.loc (c : Thread nD τ))) : sProp (MM F) :=
  (slotA s).view.loc (c : Thread nD τ) ↦[(slotA s).view.set]{fullShare} f
abbrev slotPB (s : Fin 2) (f : Buf (Elt F) ((slotB s).view.loc (c : Thread nD τ))) : sProp (MM F) :=
  (slotB s).view.loc (c : Thread nD τ) ↦[(slotB s).view.set]{fullShare} f
abbrev landA (s : Fin 2) (e : Fin 32) (f : Buf (Elt F) ((slotA s).view.loc (c : Thread nD τ))) : Buf (Elt F) ((slotA s).view.loc (c : Thread nD τ)) :=
  (slotA s).view.writes (Elt F) f [⟨Rect.whole S1024x2048, ReadAs.same.apply ((exA e).view.read (Elt F) XA)⟩]
abbrev landB (s : Fin 2) (e : Fin 32) (f : Buf (Elt F) ((slotB s).view.loc (c : Thread nD τ))) : Buf (Elt F) ((slotB s).view.loc (c : Thread nD τ)) :=
  (slotB s).view.writes (Elt F) f [⟨Rect.whole S1024x1024, ReadAs.same.apply ((exB e).view.read (Elt F) XB)⟩]
abbrev lentA (s : Fin 2) (e : Fin 32) : sProp (MM F) := (exA e).view.loc (c : Thread nD τ) ↦[(exA e).view.set]{qs s} XA
abbrev lentB (s : Fin 2) (e : Fin 32) : sProp (MM F) := (exB e).view.loc (c : Thread nD τ) ↦[(exB e).view.set]{qs s} XB
abbrev restA (s : Fin 2) (e : Fin 32) : sProp (MM F) := w1M.view.loc (c : Thread nD τ) ↦[Finset.univ \ (exA e).view.set]{qs s} XA
abbrev restB (s : Fin 2) (e : Fin 32) : sProp (MM F) := w2M.view.loc (c : Thread nD τ) ↦[Finset.univ \ (exB e).view.set]{qs s} XB
abbrev homeA (s : Fin 2) : sProp (MM F) := w1M.view.loc (c : Thread nD τ) ↦{qs s} XA
abbrev homeB (s : Fin 2) : sProp (MM F) := w2M.view.loc (c : Thread nD τ) ↦{qs s} XB
abbrev flyA (s : Fin 2) (e : Fin 32) (f : Buf (Elt F) ((slotA s).view.loc (c : Thread nD τ))) : sProp (MM F) :=
  Transfers.Flight countersEmb (c : Thread nD τ) (SemLoc.dma (csm 0 s).sem) () 262144 iprop(slotPA c s (landA c XA s e f) ∗ lentA c XA s e)
abbrev flyB (s : Fin 2) (e : Fin 32) (f : Buf (Elt F) ((slotB s).view.loc (c : Thread nD τ))) : sProp (MM F) :=
  Transfers.Flight countersEmb (c : Thread nD τ) (SemLoc.dma (csm 1 s).sem) () 131072 iprop(slotPB c s (landB c XB s e f) ∗ lentB c XB s e)

end Pieces

end Cert.Kernel3Ideal.Hand

end
-- ==== Proof.ExpWt.lean ====
module

public import proofs.«01_k».proof.Proof.ExpRing

@[expose] public section

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

instance (v : BitVec 32) [h : Fact (v.toNat < 2)] : ClosedOff (k0_off24 v) := ⟨![(sl v).val, 0, 0], sl_off v h.out⟩
instance (v : BitVec 32) [h : Fact (v.toNat < 2)] : ClosedOff (k0_off25 v) := ⟨![(sl v).val, 0, 0], sl_off v h.out⟩

section Weights
variable (c : Dev nD) (XA : Buf (Elt F) (w1M.view.loc (c : Thread nD τ))) (XB : Buf (Elt F) (w2M.view.loc (c : Thread nD τ)))
  (arg2 : Memref sig .tc .vmem S4096x128 .f32) (harg2 : arg2.IsWhole)
  (arg4 : Memref sig .tc .vmem S1x1x1x2048 .f32) (harg4 : arg4.IsWhole)
  (arg6 : Memref sig .tc .vmem S1x1x1x1024 .f32) (harg6 : arg6.IsWhole)
  (arg7 : Memref sig .tc .vmem S4096x128 .f32) (harg7 : arg7.IsWhole)

/-- The part of the body under its first condition: the transfers and the two buffers in the lower precision. -/
def wtProg (i : grid0.Coords) (v1 v3 v5 v7 v13 : BitVec 32) (hw : k0_chk1 i v1 v3 v5 v7 v13) (h1 : k0_cond1 i v1 v3 v13 = 1#1) :
    Prog (TpuEff nD τ sig (Elt F) Λ₀ .tc) PUnit := do
  let v58 : FVec F S1024x1024 .bf16 ← k0_part1 i tabM (Memref.isWhole_whole _) arg2 harg2 w1M (Memref.isWhole_whole _) arg4 harg4 w2M (Memref.isWhole_whole _) arg6 harg6 arg7 harg7 bufA (Memref.isWhole_whole _) bufB (Memref.isWhole_whole _) lowA (Memref.isWhole_whole _) lowB (Memref.isWhole_whole _) cc0_scratch4 (BitVec.ofNat 32 (i 0).val) v1 v3 v5 v7 v13 hw h1
  Prog.lift (.store lowB (Rect.unit (s := S1024x1024) ![0, 0] S1024x1024.size inb_S1024x1024_S1024x1024_0_0) (k0_pay1 v58) Finset.univ (View.stores_vmem h_S1024x1024 ((Memref.isWhole_whole cc0_scratch3).storeExact_slice rfl _ packedbf16_S1024x1024_S1024x1024_0_0) (fun _ => rfl)) (.inl rfl))
  pure ⟨⟩

theorem unit0_emb {S : Shape} (off : Fin S.rank → Nat) (h) (h0 : ∀ a, off a = 0) (y : S.Idx) :
    (Rect.unit (s := S) off S.size h).emb y = y := by
  apply funext; intro a; apply Fin.ext
  show off a + 1 * (y a).val = (y a).val
  rw [h0]; omega

theorem zero2 : ∀ a : Fin 2, (![0, 0] : Fin 2 → Nat) a = 0 := by decide

/-- A whole view read after one store at the origin of its whole extent is what was stored. -/
theorem read_full {κ : Kind} {sp : Space} {S : Shape} {e : EltTy} (v : View sig κ sp S e) (f : v.ty.Contents (Elt F))
    (off : Fin S.rank → Nat) (h) (h0 : ∀ a, off a = 0) (w : S.Idx → Elt F e) :
    v.read (Elt F) (v.writes (Elt F) f [⟨Rect.unit (s := S) off S.size h, w⟩]) = w := by
  funext y
  have := View.read_writes_cons_emb (Val := Elt F) v f (Rect.unit (s := S) off S.size h) w [] y
  rw [unit0_emb off h h0 y] at this
  exact this

/-- A slot read after a transfer is what the transfer moved. -/
theorem read_whole {κ : Kind} {sp : Space} {S : Shape} {e : EltTy} (v : View sig κ sp S e) (f : v.ty.Contents (Elt F))
    (w : S.Idx → Elt F e) :
    v.read (Elt F) (v.writes (Elt F) f [⟨Rect.whole S, w⟩]) = w := by
  funext y
  have := View.read_writes_cons_emb (Val := Elt F) v f (Rect.whole S) w [] y
  rw [show (Rect.whole S).emb y = y from funext fun a => Fin.ext (show 0 + 1 * (y a).val = (y a).val by omega)] at this
  exact this

/-- Expert `e`'s weights in the lower precision, as the body keeps them. -/
def wbA (e : Fin 32) : S1024x2048.Idx → Elt F .bf16 :=
  shapeCast S1024x2048 (truncf .bf16 ((exA e).view.read (Elt F) XA : FVec F S1024x2048 .f32) bitsLt_bf16_f32) shapeCasts_S1024x2048_S1024x2048
def wbB (e : Fin 32) : S1024x1024.Idx → Elt F .bf16 :=
  k0_pay1 (truncf .bf16 ((exB e).view.read (Elt F) XB : FVec F S1024x1024 .f32) bitsLt_bf16_f32)

theorem slotA_read {off : Fin 3 → Nat} {s : Fin 2} (e : off = slotOff s) (h) (f : Buf (Elt F) ((slotA s).view.loc (c : Thread nD τ))) :
    shapeCast S1024x2048 (View.readAt (Elt F) bufA.view (Rect.unit (s := S2x1024x2048) off S1x1024x2048.size h).toLoadRect f : Vec F S1x1024x2048 .f32) shapeCasts_S1x1024x2048_S1024x2048
      = (slotA s).view.read (Elt F) f := by
  subst e; rfl
theorem slotB_read {off : Fin 3 → Nat} {s : Fin 2} (e : off = slotOff s) (h) (f : Buf (Elt F) ((slotB s).view.loc (c : Thread nD τ))) :
    shapeCast S1024x1024 (View.readAt (Elt F) bufB.view (Rect.unit (s := S2x1024x1024) off S1x1024x1024.size h).toLoadRect f : Vec F S1x1024x1024 .f32) shapeCasts_S1x1024x1024_S1024x1024
      = (slotB s).view.read (Elt F) f := by
  subst e; rfl

theorem payA {off : Fin 3 → Nat} {s : Fin 2} (e : off = slotOff s) (h) (b : Fin 32) (f : Buf (Elt F) ((slotA s).view.loc (c : Thread nD τ))) :
    k0_pay16 (View.readAt (Elt F) bufA.view (Rect.unit (s := S2x1024x2048) off S1x1024x2048.size h).toLoadRect (landA c XA s b f) : Vec F S1x1024x2048 .f32)
      = wbA c XA b := by
  unfold k0_pay16 wbA
  dsimp only
  rw [slotA_read c e h, landA, read_whole]
theorem payB {off : Fin 3 → Nat} {s : Fin 2} (e : off = slotOff s) (h) (b : Fin 32) (f : Buf (Elt F) ((slotB s).view.loc (c : Thread nD τ))) :
    k0_pay1 (k0_pay17 (View.readAt (Elt F) bufB.view (Rect.unit (s := S2x1024x1024) off S1x1024x1024.size h).toLoadRect (landB c XB s b f) : Vec F S1x1024x1024 .f32))
      = wbB c XB b := by
  unfold k0_pay17 wbB
  dsimp only
  rw [slotB_read c e h, landB, read_whole]

/-- Slot `s` free: its two buffers held, its two cells at zero, its share of the weights whole. -/
def freeP (s : Fin 2) : sProp (MM F) :=
  iprop((∃ f, slotPA c s f) ∗ cellP c 0 s ∗ homeA c XA s ∗ (∃ f, slotPB c s f) ∗ cellP c 1 s ∗ homeB c XB s)
/-- Slot `s` in flight with expert `e`: its two transfers, and what its share of the weights has beside them. -/
def goneP (s : Fin 2) (e : Fin 32) : sProp (MM F) :=
  iprop((∃ f, flyA c XA s e f) ∗ restA c XA s e ∗ (∃ f, flyB c XB s e f) ∗ restB c XB s e)
/-- The lower-precision buffers at expert `e`'s weights, and at anything. -/
def lowP (e : Fin 32) : sProp (MM F) := iprop(owns (c : Thread nD τ) lowA fullShare (wbA c XA e) ∗ owns (c : Thread nD τ) lowB fullShare (wbB c XB e))
def lowAny : sProp (MM F) := iprop((∃ d, owns (c : Thread nD τ) lowA fullShare d) ∗ (∃ d, owns (c : Thread nD τ) lowB fullShare d))

theorem homeA_join (s : Fin 2) (e : Fin 32) : iprop(lentA c XA s e ∗ restA c XA s e) ⊢ homeA c XA s :=
  (pointsTo_split_subset (Finset.subset_univ _)).2
theorem homeB_join (s : Fin 2) (e : Fin 32) : iprop(lentB c XB s e ∗ restB c XB s e) ⊢ homeB c XB s :=
  (pointsTo_split_subset (Finset.subset_univ _)).2

theorem wt_turn_more (i : grid0.Coords) (v1 v3 v5 v7 v13 : BitVec 32) (hw : k0_chk1 i v1 v3 v5 v7 v13) (h1 : k0_cond1 i v1 v3 v13 = 1#1)
    (h2 : ¬ k0_cond2 i = 1#1) (h3 : k0_cond3 v5 = 1#1) (h7 : v7.toNat < 2) (hv1 : v1.toNat < 32) (hv5 : v5.toNat < 32)
    (W : Waits sig Unit) (K : PUnit → sProp (MM F)) :
    iprop(goneP c XA XB (sl v7) (bk v1) ∗ freeP c XA XB (ot v7) ∗ lowAny c ∗ owes (c : Thread nD τ) 0 W
        ∗ (iprop(freeP c XA XB (sl v7) ∗ goneP c XA XB (ot v7) (bk v5) ∗ lowP c XA XB (bk v1) ∗ ∃ W', owes (c : Thread nD τ) 0 W') -∗ K ⟨⟩))
      ⊢ wp frame (wpE (defs₀ (F := F)) Variants.none c none) Set.univ
          (wtProg arg2 harg2 arg4 harg4 arg6 harg6 arg7 harg7 i v1 v3 v5 v7 v13 hw h1) K := by
  unfold freeP goneP lowAny lowP owns wtProg
  rw [k0_part1_eq_skeleton]
  iintro ⟨⟨⟨%fA, FA⟩, RA, ⟨%fB, FB⟩, RB⟩, ⟨⟨%gA, OA⟩, CA, HA, ⟨%gB, OB⟩, CB, HB⟩, ⟨⟨%d1, %f1, -, LA⟩, ⟨%d2, %f2, -, LB⟩⟩, HW, Hk⟩
  haveI := Fact.mk h7
  sl_unfold [k0_part1_skel]
  sl_exec (disch := first | exact h7 | exact hv1 | exact h1 | exact h2 | exact h3 | exact hv5 | decide | omega)
  sl_step
  iapply Hk
  isplitl [FA_dst FA FA_src RA FB_dst FB FB_src RB]
  · isplitl [FA_dst]; · iexists _; iexact FA_dst
    isplitl [FA]; · iexact FA
    isplitl [FA_src RA]
    · iapply (homeA_join c XA (sl v7) (bk v1)); isplitl [FA_src]; · iexact FA_src
      iexact RA
    isplitl [FB_dst]; · iexists _; iexact FB_dst
    isplitl [FB]; · iexact FB
    iapply (homeB_join c XB (sl v7) (bk v1)); isplitl [FB_src]; · iexact FB_src
    iexact RB
  isplitl [CA HA CB HB]
  · isplitl [CA]; · iexists gA; iexact CA
    isplitl [HA]; · iexact HA
    isplitl [CB]; · iexists gB; iexact CB
    iexact HB
  isplitl [LA LB]
  · isplitl [LA]
    · iexists _; isplitr; swap; · iexact LA
      ipureintro
      exact (read_full _ _ _ _ zero2 _).trans (payA c XA (sl_off v7 h7) _ (bk v1) _)
    · iexists _; isplitr; swap; · iexact LB
      ipureintro
      exact (read_full _ _ _ _ zero2 _).trans (payB c XB (sl_off v7 h7) _ (bk v1) _)
  iexists _; iexact HW

theorem wt_turn_last (i : grid0.Coords) (v1 v3 v5 v7 v13 : BitVec 32) (hw : k0_chk1 i v1 v3 v5 v7 v13) (h1 : k0_cond1 i v1 v3 v13 = 1#1)
    (h2 : ¬ k0_cond2 i = 1#1) (h3 : ¬ k0_cond3 v5 = 1#1) (h7 : v7.toNat < 2) (hv1 : v1.toNat < 32)
    (W : Waits sig Unit) (K : PUnit → sProp (MM F)) :
    iprop(goneP c XA XB (sl v7) (bk v1) ∗ freeP c XA XB (ot v7) ∗ lowAny c ∗ owes (c : Thread nD τ) 0 W
        ∗ (iprop(freeP c XA XB (sl v7) ∗ freeP c XA XB (ot v7) ∗ lowP c XA XB (bk v1) ∗ ∃ W', owes (c : Thread nD τ) 0 W') -∗ K ⟨⟩))
      ⊢ wp frame (wpE (defs₀ (F := F)) Variants.none c none) Set.univ
          (wtProg arg2 harg2 arg4 harg4 arg6 harg6 arg7 harg7 i v1 v3 v5 v7 v13 hw h1) K := by
  unfold freeP goneP lowAny lowP owns wtProg
  rw [k0_part1_eq_skeleton]
  iintro ⟨⟨⟨%fA, FA⟩, RA, ⟨%fB, FB⟩, RB⟩, ⟨⟨%gA, OA⟩, CA, HA, ⟨%gB, OB⟩, CB, HB⟩, ⟨⟨%d1, %f1, -, LA⟩, ⟨%d2, %f2, -, LB⟩⟩, HW, Hk⟩
  haveI := Fact.mk h7
  sl_unfold [k0_part1_skel]
  sl_exec (disch := first | exact h7 | exact hv1 | exact h1 | exact h2 | exact h3 | decide | omega)
  sl_step
  iapply Hk
  isplitl [FA_dst FA FA_src RA FB_dst FB FB_src RB]
  · isplitl [FA_dst]; · iexists _; iexact FA_dst
    isplitl [FA]; · iexact FA
    isplitl [FA_src RA]
    · iapply (homeA_join c XA (sl v7) (bk v1)); isplitl [FA_src]; · iexact FA_src
      iexact RA
    isplitl [FB_dst]; · iexists _; iexact FB_dst
    isplitl [FB]; · iexact FB
    iapply (homeB_join c XB (sl v7) (bk v1)); isplitl [FB_src]; · iexact FB_src
    iexact RB
  isplitl [OA CA HA OB CB HB]
  · isplitl [OA]; · iexists _; iexact OA
    isplitl [CA]; · iexact CA
    isplitl [HA]; · iexact HA
    isplitl [OB]; · iexists _; iexact OB
    isplitl [CB]; · iexact CB
    iexact HB
  isplitl [LA LB]
  · isplitl [LA]
    · iexists _; isplitr; swap; · iexact LA
      ipureintro
      exact (read_full _ _ _ _ zero2 _).trans (payA c XA (sl_off v7 h7) _ (bk v1) _)
    · iexists _; isplitr; swap; · iexact LB
      ipureintro
      exact (read_full _ _ _ _ zero2 _).trans (payB c XB (sl_off v7 h7) _ (bk v1) _)
  iexists _; iexact HW

theorem wt_first_more (i : grid0.Coords) (v1 v3 v5 v7 v13 : BitVec 32) (hw : k0_chk1 i v1 v3 v5 v7 v13) (h1 : k0_cond1 i v1 v3 v13 = 1#1)
    (h2 : k0_cond2 i = 1#1) (h3 : k0_cond3 v5 = 1#1) (h7 : v7.toNat < 2) (hv1 : v1.toNat < 32) (hv5 : v5.toNat < 32)
    (W : Waits sig Unit) (K : PUnit → sProp (MM F)) :
    iprop(freeP c XA XB (sl v7) ∗ freeP c XA XB (ot v7) ∗ lowAny c ∗ owes (c : Thread nD τ) 0 W
        ∗ (iprop(freeP c XA XB (sl v7) ∗ goneP c XA XB (ot v7) (bk v5) ∗ lowP c XA XB (bk v1) ∗ ∃ W', owes (c : Thread nD τ) 0 W') -∗ K ⟨⟩))
      ⊢ wp frame (wpE (defs₀ (F := F)) Variants.none c none) Set.univ
          (wtProg arg2 harg2 arg4 harg4 arg6 harg6 arg7 harg7 i v1 v3 v5 v7 v13 hw h1) K := by
  unfold freeP goneP lowAny lowP owns wtProg
  rw [k0_part1_eq_skeleton]
  iintro ⟨⟨⟨%fA, SA⟩, FA, HSA, ⟨%fB, SB⟩, FB, HSB⟩, ⟨⟨%gA, OA⟩, CA, HA, ⟨%gB, OB⟩, CB, HB⟩, ⟨⟨%d1, %f1, -, LA⟩, ⟨%d2, %f2, -, LB⟩⟩, HW, Hk⟩
  haveI := Fact.mk h7
  sl_unfold [k0_part1_skel]
  sl_exec (disch := first | exact h7 | exact hv1 | exact h1 | exact h2 | exact h3 | exact hv5 | decide | omega)
  sl_step
  iapply Hk
  isplitl [SA FA HSA SB FB HSB]
  · isplitl [SA]; · iexists _; iexact SA
    isplitl [FA]; · iexact FA
    isplitl [HSA]; · iexact HSA
    isplitl [SB]; · iexists _; iexact SB
    isplitl [FB]; · iexact FB
    iexact HSB
  isplitl [CA HA CB HB]
  · isplitl [CA]; · iexists gA; iexact CA
    isplitl [HA]; · iexact HA
    isplitl [CB]; · iexists gB; iexact CB
    iexact HB
  isplitl [LA LB]
  · isplitl [LA]
    · iexists _; isplitr; swap; · iexact LA
      ipureintro
      exact (read_full _ _ _ _ zero2 _).trans (payA c XA (sl_off v7 h7) _ (bk v1) _)
    · iexists _; isplitr; swap; · iexact LB
      ipureintro
      exact (read_full _ _ _ _ zero2 _).trans (payB c XB (sl_off v7 h7) _ (bk v1) _)
  iexists _; iexact HW

theorem wt_first_last (i : grid0.Coords) (v1 v3 v5 v7 v13 : BitVec 32) (hw : k0_chk1 i v1 v3 v5 v7 v13) (h1 : k0_cond1 i v1 v3 v13 = 1#1)
    (h2 : k0_cond2 i = 1#1) (h3 : ¬ k0_cond3 v5 = 1#1) (h7 : v7.toNat < 2) (hv1 : v1.toNat < 32)
    (W : Waits sig Unit) (K : PUnit → sProp (MM F)) :
    iprop(freeP c XA XB (sl v7) ∗ freeP c XA XB (ot v7) ∗ lowAny c ∗ owes (c : Thread nD τ) 0 W
        ∗ (iprop(freeP c XA XB (sl v7) ∗ freeP c XA XB (ot v7) ∗ lowP c XA XB (bk v1) ∗ ∃ W', owes (c : Thread nD τ) 0 W') -∗ K ⟨⟩))
      ⊢ wp frame (wpE (defs₀ (F := F)) Variants.none c none) Set.univ
          (wtProg arg2 harg2 arg4 harg4 arg6 harg6 arg7 harg7 i v1 v3 v5 v7 v13 hw h1) K := by
  unfold freeP lowAny lowP owns wtProg
  rw [k0_part1_eq_skeleton]
  iintro ⟨⟨⟨%fA, SA⟩, FA, HSA, ⟨%fB, SB⟩, FB, HSB⟩, ⟨⟨%gA, OA⟩, CA, HA, ⟨%gB, OB⟩, CB, HB⟩, ⟨⟨%d1, %f1, -, LA⟩, ⟨%d2, %f2, -, LB⟩⟩, HW, Hk⟩
  haveI := Fact.mk h7
  sl_unfold [k0_part1_skel]
  sl_exec (disch := first | exact h7 | exact hv1 | exact h1 | exact h2 | exact h3 | decide | omega)
  sl_step
  iapply Hk
  isplitl [SA FA HSA SB FB HSB]
  · isplitl [SA]; · iexists _; iexact SA
    isplitl [FA]; · iexact FA
    isplitl [HSA]; · iexact HSA
    isplitl [SB]; · iexists _; iexact SB
    isplitl [FB]; · iexact FB
    iexact HSB
  isplitl [OA CA HA OB CB HB]
  · isplitl [OA]; · iexists _; iexact OA
    isplitl [CA]; · iexact CA
    isplitl [HA]; · iexact HA
    isplitl [OB]; · iexists _; iexact OB
    isplitl [CB]; · iexact CB
    iexact HB
  isplitl [LA LB]
  · isplitl [LA]
    · iexists _; isplitr; swap; · iexact LA
      ipureintro
      exact (read_full _ _ _ _ zero2 _).trans (payA c XA (sl_off v7 h7) _ (bk v1) _)
    · iexists _; isplitr; swap; · iexact LB
      ipureintro
      exact (read_full _ _ _ _ zero2 _).trans (payB c XB (sl_off v7 h7) _ (bk v1) _)
  iexists _; iexact HW

end Weights

end Cert.Kernel3Ideal.Hand

end
-- ==== Proof.ExpCmp.lean ====
module

public import proofs.«01_k».proof.Proof.ExpWt

@[expose] public section

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The rest of the body: the two halves of the output block, computed or zeroed. -/
def cmpProg (i : grid0.Coords) (arg1 : Memref sig .tc .smem S4x288 .i32) (harg1 : arg1.IsWhole) (arg2 : Memref sig .tc .vmem S4096x128 .f32) (harg2 : arg2.IsWhole) (arg3 : Memref sig .tc .hbm S2x32x1024x2048 .f32) (harg3 : arg3.IsWhole) (arg4 : Memref sig .tc .vmem S1x1x1x2048 .f32) (harg4 : arg4.IsWhole) (arg5 : Memref sig .tc .hbm S2x32x1024x1024 .f32) (harg5 : arg5.IsWhole) (arg6 : Memref sig .tc .vmem S1x1x1x1024 .f32) (harg6 : arg6.IsWhole) (arg7 : Memref sig .tc .vmem S4096x128 .f32) (harg7 : arg7.IsWhole) (arg8 : Memref sig .tc .vmem S2x1024x2048 .f32) (harg8 : arg8.IsWhole) (arg9 : Memref sig .tc .vmem S2x1024x1024 .f32) (harg9 : arg9.IsWhole) (arg10 : Memref sig .tc .vmem S1024x2048 .bf16) (harg10 : arg10.IsWhole) (arg11 : Memref sig .tc .vmem S1024x1024 .bf16) (harg11 : arg11.IsWhole) (arg12 : DmaSems sig S2x2) (v3 : Elt F .i32) :
    Prog (TpuEff nD τ sig (Elt F) Λ₀ .tc) PUnit := do
  if k0_h4 : k0_cond4 v3 = 1#1 then do
    let v55 : FVec F S256x1024 .bf16 ← k0_part2 i arg1 harg1 arg2 harg2 arg3 harg3 arg4 harg4 arg5 harg5 arg6 harg6 arg7 harg7 arg8 harg8 arg9 harg9 arg10 harg10 arg11 harg11 arg12
    let ⟨v85, v89⟩ : Σ' (v85 : FVec F S256x1024 .f32), FVec F S256x128 .f32 ← k0_part3 i arg1 harg1 arg2 harg2 arg3 harg3 arg4 harg4 arg5 harg5 arg6 harg6 arg7 harg7 arg8 harg8 arg9 harg9 arg10 harg10 arg11 harg11 arg12 v55
    let v90 : Memref sig .tc .vmem S2048x128 .f32 := arg7.slice (Rect.unit (s := S4096x128) ![0, 0] S2048x128.size inb_S4096x128_S2048x128_0_0) (fun _ => rfl)
    let v91 : Vec F S256x128 .f32 ← Prog.lift (.load v90 (⟨![1, 0], S256x128.size, ![8, 1], inb_S2048x128_S256x128_1_0_s_8_1⟩ : LoadRect S2048x128) (View.loadsAt_vmem h_S256x128))
    Prog.lift (.store v90 ⟨(⟨![1, 0], S256x128.size, ![8, 1], inb_S2048x128_S256x128_1_0_s_8_1⟩ : LoadRect S2048x128), spos_8_1⟩ v89 Finset.univ (View.stores_vmem_bits_univ h_S256x128 rfl) (.inl rfl))
    let v93 : Memref sig .tc .vmem S2048x128 .f32 := arg7.slice (Rect.unit (s := S4096x128) ![0, 0] S2048x128.size inb_S4096x128_S2048x128_0_0) (fun _ => rfl)
    let v94 : Vec F S256x128 .f32 ← Prog.lift (.load v93 (⟨![2, 0], S256x128.size, ![8, 1], inb_S2048x128_S256x128_2_0_s_8_1⟩ : LoadRect S2048x128) (View.loadsAt_vmem h_S256x128))
    Prog.lift (.store v93 ⟨(⟨![2, 0], S256x128.size, ![8, 1], inb_S2048x128_S256x128_2_0_s_8_1⟩ : LoadRect S2048x128), spos_8_1⟩ (k0_pay2 v85) Finset.univ (View.stores_vmem_bits_univ h_S256x128 rfl) (.inl rfl))
    let v96 : Memref sig .tc .vmem S2048x128 .f32 := arg7.slice (Rect.unit (s := S4096x128) ![0, 0] S2048x128.size inb_S4096x128_S2048x128_0_0) (fun _ => rfl)
    let v97 : Vec F S256x128 .f32 ← Prog.lift (.load v96 (⟨![3, 0], S256x128.size, ![8, 1], inb_S2048x128_S256x128_3_0_s_8_1⟩ : LoadRect S2048x128) (View.loadsAt_vmem h_S256x128))
    Prog.lift (.store v96 ⟨(⟨![3, 0], S256x128.size, ![8, 1], inb_S2048x128_S256x128_3_0_s_8_1⟩ : LoadRect S2048x128), spos_8_1⟩ (k0_pay3 v85) Finset.univ (View.stores_vmem_bits_univ h_S256x128 rfl) (.inl rfl))
    let v99 : Memref sig .tc .vmem S2048x128 .f32 := arg7.slice (Rect.unit (s := S4096x128) ![0, 0] S2048x128.size inb_S4096x128_S2048x128_0_0) (fun _ => rfl)
    let v100 : Vec F S256x128 .f32 ← Prog.lift (.load v99 (⟨![4, 0], S256x128.size, ![8, 1], inb_S2048x128_S256x128_4_0_s_8_1⟩ : LoadRect S2048x128) (View.loadsAt_vmem h_S256x128))
    Prog.lift (.store v99 ⟨(⟨![4, 0], S256x128.size, ![8, 1], inb_S2048x128_S256x128_4_0_s_8_1⟩ : LoadRect S2048x128), spos_8_1⟩ (k0_pay4 v85) Finset.univ (View.stores_vmem_bits_univ h_S256x128 rfl) (.inl rfl))
    let v102 : Memref sig .tc .vmem S2048x128 .f32 := arg7.slice (Rect.unit (s := S4096x128) ![0, 0] S2048x128.size inb_S4096x128_S2048x128_0_0) (fun _ => rfl)
    let v103 : Vec F S256x128 .f32 ← Prog.lift (.load v102 (⟨![5, 0], S256x128.size, ![8, 1], inb_S2048x128_S256x128_5_0_s_8_1⟩ : LoadRect S2048x128) (View.loadsAt_vmem h_S256x128))
    Prog.lift (.store v102 ⟨(⟨![5, 0], S256x128.size, ![8, 1], inb_S2048x128_S256x128_5_0_s_8_1⟩ : LoadRect S2048x128), spos_8_1⟩ (k0_pay5 v85) Finset.univ (View.stores_vmem_bits_univ h_S256x128 rfl) (.inl rfl))
    let v105 : Memref sig .tc .vmem S2048x128 .f32 := arg7.slice (Rect.unit (s := S4096x128) ![0, 0] S2048x128.size inb_S4096x128_S2048x128_0_0) (fun _ => rfl)
    let v106 : Vec F S256x128 .f32 ← Prog.lift (.load v105 (⟨![6, 0], S256x128.size, ![8, 1], inb_S2048x128_S256x128_6_0_s_8_1⟩ : LoadRect S2048x128) (View.loadsAt_vmem h_S256x128))
    Prog.lift (.store v105 ⟨(⟨![6, 0], S256x128.size, ![8, 1], inb_S2048x128_S256x128_6_0_s_8_1⟩ : LoadRect S2048x128), spos_8_1⟩ (k0_pay6 v85) Finset.univ (View.stores_vmem_bits_univ h_S256x128 rfl) (.inl rfl))
    let v108 : Memref sig .tc .vmem S2048x128 .f32 := arg7.slice (Rect.unit (s := S4096x128) ![0, 0] S2048x128.size inb_S4096x128_S2048x128_0_0) (fun _ => rfl)
    let v109 : Vec F S256x128 .f32 ← Prog.lift (.load v108 (⟨![7, 0], S256x128.size, ![8, 1], inb_S2048x128_S256x128_7_0_s_8_1⟩ : LoadRect S2048x128) (View.loadsAt_vmem h_S256x128))
    Prog.lift (.store v108 ⟨(⟨![7, 0], S256x128.size, ![8, 1], inb_S2048x128_S256x128_7_0_s_8_1⟩ : LoadRect S2048x128), spos_8_1⟩ (k0_pay7 v85) Finset.univ (View.stores_vmem_bits_univ h_S256x128 rfl) (.inl rfl))
    pure ⟨⟩
  else do
    pure ⟨⟩
  if k0_h5 : k0_cond5 v3 = 1#1 then do
    let v55 : FVec F S256x1024 .bf16 ← k0_part4 i arg1 harg1 arg2 harg2 arg3 harg3 arg4 harg4 arg5 harg5 arg6 harg6 arg7 harg7 arg8 harg8 arg9 harg9 arg10 harg10 arg11 harg11 arg12
    let ⟨v85, v89⟩ : Σ' (v85 : FVec F S256x1024 .f32), FVec F S256x128 .f32 ← k0_part5 i arg1 harg1 arg2 harg2 arg3 harg3 arg4 harg4 arg5 harg5 arg6 harg6 arg7 harg7 arg8 harg8 arg9 harg9 arg10 harg10 arg11 harg11 arg12 v55
    let v90 : Memref sig .tc .vmem S2048x128 .f32 := arg7.slice (Rect.unit (s := S4096x128) ![2048, 0] S2048x128.size inb_S4096x128_S2048x128_2048_0) (fun _ => rfl)
    let v91 : Vec F S256x128 .f32 ← Prog.lift (.load v90 (⟨![1, 0], S256x128.size, ![8, 1], inb_S2048x128_S256x128_1_0_s_8_1⟩ : LoadRect S2048x128) (View.loadsAt_vmem h_S256x128))
    Prog.lift (.store v90 ⟨(⟨![1, 0], S256x128.size, ![8, 1], inb_S2048x128_S256x128_1_0_s_8_1⟩ : LoadRect S2048x128), spos_8_1⟩ v89 Finset.univ (View.stores_vmem_bits_univ h_S256x128 rfl) (.inl rfl))
    let v93 : Memref sig .tc .vmem S2048x128 .f32 := arg7.slice (Rect.unit (s := S4096x128) ![2048, 0] S2048x128.size inb_S4096x128_S2048x128_2048_0) (fun _ => rfl)
    let v94 : Vec F S256x128 .f32 ← Prog.lift (.load v93 (⟨![2, 0], S256x128.size, ![8, 1], inb_S2048x128_S256x128_2_0_s_8_1⟩ : LoadRect S2048x128) (View.loadsAt_vmem h_S256x128))
    Prog.lift (.store v93 ⟨(⟨![2, 0], S256x128.size, ![8, 1], inb_S2048x128_S256x128_2_0_s_8_1⟩ : LoadRect S2048x128), spos_8_1⟩ (k0_pay8 v85) Finset.univ (View.stores_vmem_bits_univ h_S256x128 rfl) (.inl rfl))
    let v96 : Memref sig .tc .vmem S2048x128 .f32 := arg7.slice (Rect.unit (s := S4096x128) ![2048, 0] S2048x128.size inb_S4096x128_S2048x128_2048_0) (fun _ => rfl)
    let v97 : Vec F S256x128 .f32 ← Prog.lift (.load v96 (⟨![3, 0], S256x128.size, ![8, 1], inb_S2048x128_S256x128_3_0_s_8_1⟩ : LoadRect S2048x128) (View.loadsAt_vmem h_S256x128))
    Prog.lift (.store v96 ⟨(⟨![3, 0], S256x128.size, ![8, 1], inb_S2048x128_S256x128_3_0_s_8_1⟩ : LoadRect S2048x128), spos_8_1⟩ (k0_pay9 v85) Finset.univ (View.stores_vmem_bits_univ h_S256x128 rfl) (.inl rfl))
    let v99 : Memref sig .tc .vmem S2048x128 .f32 := arg7.slice (Rect.unit (s := S4096x128) ![2048, 0] S2048x128.size inb_S4096x128_S2048x128_2048_0) (fun _ => rfl)
    let v100 : Vec F S256x128 .f32 ← Prog.lift (.load v99 (⟨![4, 0], S256x128.size, ![8, 1], inb_S2048x128_S256x128_4_0_s_8_1⟩ : LoadRect S2048x128) (View.loadsAt_vmem h_S256x128))
    Prog.lift (.store v99 ⟨(⟨![4, 0], S256x128.size, ![8, 1], inb_S2048x128_S256x128_4_0_s_8_1⟩ : LoadRect S2048x128), spos_8_1⟩ (k0_pay10 v85) Finset.univ (View.stores_vmem_bits_univ h_S256x128 rfl) (.inl rfl))
    let v102 : Memref sig .tc .vmem S2048x128 .f32 := arg7.slice (Rect.unit (s := S4096x128) ![2048, 0] S2048x128.size inb_S4096x128_S2048x128_2048_0) (fun _ => rfl)
    let v103 : Vec F S256x128 .f32 ← Prog.lift (.load v102 (⟨![5, 0], S256x128.size, ![8, 1], inb_S2048x128_S256x128_5_0_s_8_1⟩ : LoadRect S2048x128) (View.loadsAt_vmem h_S256x128))
    Prog.lift (.store v102 ⟨(⟨![5, 0], S256x128.size, ![8, 1], inb_S2048x128_S256x128_5_0_s_8_1⟩ : LoadRect S2048x128), spos_8_1⟩ (k0_pay11 v85) Finset.univ (View.stores_vmem_bits_univ h_S256x128 rfl) (.inl rfl))
    let v105 : Memref sig .tc .vmem S2048x128 .f32 := arg7.slice (Rect.unit (s := S4096x128) ![2048, 0] S2048x128.size inb_S4096x128_S2048x128_2048_0) (fun _ => rfl)
    let v106 : Vec F S256x128 .f32 ← Prog.lift (.load v105 (⟨![6, 0], S256x128.size, ![8, 1], inb_S2048x128_S256x128_6_0_s_8_1⟩ : LoadRect S2048x128) (View.loadsAt_vmem h_S256x128))
    Prog.lift (.store v105 ⟨(⟨![6, 0], S256x128.size, ![8, 1], inb_S2048x128_S256x128_6_0_s_8_1⟩ : LoadRect S2048x128), spos_8_1⟩ (k0_pay12 v85) Finset.univ (View.stores_vmem_bits_univ h_S256x128 rfl) (.inl rfl))
    let v108 : Memref sig .tc .vmem S2048x128 .f32 := arg7.slice (Rect.unit (s := S4096x128) ![2048, 0] S2048x128.size inb_S4096x128_S2048x128_2048_0) (fun _ => rfl)
    let v109 : Vec F S256x128 .f32 ← Prog.lift (.load v108 (⟨![7, 0], S256x128.size, ![8, 1], inb_S2048x128_S256x128_7_0_s_8_1⟩ : LoadRect S2048x128) (View.loadsAt_vmem h_S256x128))
    Prog.lift (.store v108 ⟨(⟨![7, 0], S256x128.size, ![8, 1], inb_S2048x128_S256x128_7_0_s_8_1⟩ : LoadRect S2048x128), spos_8_1⟩ (k0_pay13 v85) Finset.univ (View.stores_vmem_bits_univ h_S256x128 rfl) (.inl rfl))
    pure ⟨⟩
  else do
    pure ⟨⟩
  if k0_h6 : k0_cond6 v3 = 1#1 then do
    let v31 : Vec F S2048x128 .f32 ← Prog.lift (.load arg7 (Rect.unit (s := S4096x128) ![0, 0] S2048x128.size inb_S4096x128_S2048x128_0_0).toLoadRect (View.loadsAt_vmem h_S2048x128))
    Prog.lift (.store arg7 (Rect.unit (s := S4096x128) ![0, 0] S2048x128.size inb_S4096x128_S2048x128_0_0) (k0_pay14 (F := F)) Finset.univ (View.stores_vmem_bits_univ h_S2048x128 rfl) (.inl rfl))
    pure ⟨⟩
  else do
    pure ⟨⟩
  if k0_h7 : k0_cond7 v3 = 1#1 then do
    let v31 : Vec F S2048x128 .f32 ← Prog.lift (.load arg7 (Rect.unit (s := S4096x128) ![2048, 0] S2048x128.size inb_S4096x128_S2048x128_2048_0).toLoadRect (View.loadsAt_vmem h_S2048x128))
    Prog.lift (.store arg7 (Rect.unit (s := S4096x128) ![2048, 0] S2048x128.size inb_S4096x128_S2048x128_2048_0) (k0_pay15 (F := F)) Finset.univ (View.stores_vmem_bits_univ h_S2048x128 rfl) (.inl rfl))
    pure ⟨⟩
  else do
    pure ⟨⟩
  pure ⟨⟩

section Values

/-- A box of a block, read. -/
abbrev rd {S : Shape} {e : EltTy} (X : S.Idx → Elt F e) (r : LoadRect S) : r.shape.Idx → Elt F e := fun x => X (r.idx x)

/-- The tokens of each half of the block, in the lower precision. -/
def tok0 (X : S4096x128.Idx → Elt F .f32) : FVec F S256x1024 .bf16 :=
  k0_pay18 (fun x => X (((Rect.unit (s := S4096x128) ![0, 0] S2048x128.size inb_S4096x128_S2048x128_0_0).withinL ⟨![0, 0], S256x128.size, ![8, 1], inb_S2048x128_S256x128_0_0_s_8_1⟩ (fun _ => rfl)).idx x)) (fun x => X (((Rect.unit (s := S4096x128) ![0, 0] S2048x128.size inb_S4096x128_S2048x128_0_0).withinL ⟨![1, 0], S256x128.size, ![8, 1], inb_S2048x128_S256x128_1_0_s_8_1⟩ (fun _ => rfl)).idx x)) (fun x => X (((Rect.unit (s := S4096x128) ![0, 0] S2048x128.size inb_S4096x128_S2048x128_0_0).withinL ⟨![2, 0], S256x128.size, ![8, 1], inb_S2048x128_S256x128_2_0_s_8_1⟩ (fun _ => rfl)).idx x)) (fun x => X (((Rect.unit (s := S4096x128) ![0, 0] S2048x128.size inb_S4096x128_S2048x128_0_0).withinL ⟨![3, 0], S256x128.size, ![8, 1], inb_S2048x128_S256x128_3_0_s_8_1⟩ (fun _ => rfl)).idx x)) (fun x => X (((Rect.unit (s := S4096x128) ![0, 0] S2048x128.size inb_S4096x128_S2048x128_0_0).withinL ⟨![4, 0], S256x128.size, ![8, 1], inb_S2048x128_S256x128_4_0_s_8_1⟩ (fun _ => rfl)).idx x)) (fun x => X (((Rect.unit (s := S4096x128) ![0, 0] S2048x128.size inb_S4096x128_S2048x128_0_0).withinL ⟨![5, 0], S256x128.size, ![8, 1], inb_S2048x128_S256x128_5_0_s_8_1⟩ (fun _ => rfl)).idx x)) (fun x => X (((Rect.unit (s := S4096x128) ![0, 0] S2048x128.size inb_S4096x128_S2048x128_0_0).withinL ⟨![6, 0], S256x128.size, ![8, 1], inb_S2048x128_S256x128_6_0_s_8_1⟩ (fun _ => rfl)).idx x)) (fun x => X (((Rect.unit (s := S4096x128) ![0, 0] S2048x128.size inb_S4096x128_S2048x128_0_0).withinL ⟨![7, 0], S256x128.size, ![8, 1], inb_S2048x128_S256x128_7_0_s_8_1⟩ (fun _ => rfl)).idx x))
def tok1 (X : S4096x128.Idx → Elt F .f32) : FVec F S256x1024 .bf16 :=
  k0_pay22 (fun x => X (((Rect.unit (s := S4096x128) ![2048, 0] S2048x128.size inb_S4096x128_S2048x128_2048_0).withinL ⟨![0, 0], S256x128.size, ![8, 1], inb_S2048x128_S256x128_0_0_s_8_1⟩ (fun _ => rfl)).idx x)) (fun x => X (((Rect.unit (s := S4096x128) ![2048, 0] S2048x128.size inb_S4096x128_S2048x128_2048_0).withinL ⟨![1, 0], S256x128.size, ![8, 1], inb_S2048x128_S256x128_1_0_s_8_1⟩ (fun _ => rfl)).idx x)) (fun x => X (((Rect.unit (s := S4096x128) ![2048, 0] S2048x128.size inb_S4096x128_S2048x128_2048_0).withinL ⟨![2, 0], S256x128.size, ![8, 1], inb_S2048x128_S256x128_2_0_s_8_1⟩ (fun _ => rfl)).idx x)) (fun x => X (((Rect.unit (s := S4096x128) ![2048, 0] S2048x128.size inb_S4096x128_S2048x128_2048_0).withinL ⟨![3, 0], S256x128.size, ![8, 1], inb_S2048x128_S256x128_3_0_s_8_1⟩ (fun _ => rfl)).idx x)) (fun x => X (((Rect.unit (s := S4096x128) ![2048, 0] S2048x128.size inb_S4096x128_S2048x128_2048_0).withinL ⟨![4, 0], S256x128.size, ![8, 1], inb_S2048x128_S256x128_4_0_s_8_1⟩ (fun _ => rfl)).idx x)) (fun x => X (((Rect.unit (s := S4096x128) ![2048, 0] S2048x128.size inb_S4096x128_S2048x128_2048_0).withinL ⟨![5, 0], S256x128.size, ![8, 1], inb_S2048x128_S256x128_5_0_s_8_1⟩ (fun _ => rfl)).idx x)) (fun x => X (((Rect.unit (s := S4096x128) ![2048, 0] S2048x128.size inb_S4096x128_S2048x128_2048_0).withinL ⟨![6, 0], S256x128.size, ![8, 1], inb_S2048x128_S256x128_6_0_s_8_1⟩ (fun _ => rfl)).idx x)) (fun x => X (((Rect.unit (s := S4096x128) ![2048, 0] S2048x128.size inb_S4096x128_S2048x128_2048_0).withinL ⟨![7, 0], S256x128.size, ![8, 1], inb_S2048x128_S256x128_7_0_s_8_1⟩ (fun _ => rfl)).idx x))

/-- A half block's result from its tokens, the expert's weights and its biases. -/
def mlp (T : FVec F S256x1024 .bf16) (wa : S1024x2048.Idx → Elt F .bf16) (ba : S1x1x1x2048.Idx → Elt F .f32)
    (wb : S1024x1024.Idx → Elt F .bf16) (bb : S1x1x1x1024.Idx → Elt F .f32) : FVec F S256x1024 .f32 :=
  k0_pay19 T
    (rd wa (Rect.unit (s := S1024x2048) ![0, 0] S1024x2048.size inb_S1024x2048_S1024x2048_0_0).toLoadRect)
    (rd ba (Rect.unit (s := S1x1x1x2048) ![0, 0, 0, 0] S1x1x1x2048.size inb_S1x1x1x2048_S1x1x1x2048_0_0_0_0).toLoadRect)
    (rd wb (Rect.unit (s := S1024x1024) ![0, 0] S1024x1024.size inb_S1024x1024_S1024x1024_0_0).toLoadRect)
    (rd bb (Rect.unit (s := S1x1x1x1024) ![0, 0, 0, 0] S1x1x1x1024.size inb_S1x1x1x1024_S1x1x1x1024_0_0_0_0).toLoadRect)

/-- An index of two axes. -/
abbrev at2 {m n : Nat} (a : Fin m) (b : Fin n) : (⟨2, ![m, n]⟩ : Shape).Idx := fun | ⟨0, _⟩ => a | ⟨1, _⟩ => b

/-- The output block: each half its result laid out row by row in tiles of 128, or zeros. -/
def outV (b0 b1 : Prop) [Decidable b0] [Decidable b1] (T0 T1 : FVec F S256x1024 .f32) : S4096x128.Idx → Elt F .f32 := fun y =>
  if (y 0).val < 2048 then
    if b0 then T0 (at2 ⟨(y 0).val % 2048 / 8, by omega⟩ ⟨(y 0).val % 8 * 128 + (y 1).val % 128, by omega⟩) else Scalar.ofBits .f32 0x00000000#32
  else
    if b1 then T1 (at2 ⟨(y 0).val % 2048 / 8, by omega⟩ ⟨(y 0).val % 8 * 128 + (y 1).val % 128, by omega⟩) else Scalar.ofBits .f32 0x00000000#32

/-- What a view reads after writes that each agree with `G` and together cover it is `G`. -/
theorem read_pieces {sp : Space} {S : Shape} {e : EltTy} (v : View sig .tc sp S e) (f : v.ty.Contents (Elt F)) (G : S.Idx → Elt F e)
    (L : List (View.Piece (Elt F) S e)) (hc : ∀ y, ∃ p ∈ L, y ∈ p.1.set) (ha : ∀ p ∈ L, ∀ x, p.2 x = G (p.1.emb x)) :
    v.read (Elt F) (v.writes (Elt F) f L) = G := by
  funext y
  rw [View.read_writes_apply_eq_canon v f y L (hc y)]
  have key : ∀ L : List (View.Piece (Elt F) S e), (∃ p ∈ L, y ∈ p.1.set) → (∀ p ∈ L, ∀ x, p.2 x = G (p.1.emb x)) →
      View.canon L y = G y := by
    intro L
    induction L with
    | nil => rintro ⟨_, hm, _⟩; exact absurd hm List.not_mem_nil
    | cons p L ih =>
      rintro ⟨p', hm, hy'⟩ ha
      by_cases hy : y ∈ p.1.set
      · obtain ⟨r, w⟩ := p
        obtain ⟨x, rfl⟩ : ∃ x, r.emb x = y := r.exists_idx_of_mem hy
        rw [View.canon_cons_emb]; exact ha _ List.mem_cons_self x
      · rw [View.canon_cons_of_not_mem _ _ hy]
        rcases List.mem_cons.mp hm with rfl | hm
        · exact absurd hy' hy
        · exact ih ⟨p', hm, hy'⟩ fun p hp => ha p (List.mem_cons_of_mem _ hp)
  exact key L (hc y) ha

variable (b0 b1 : Prop) [Decidable b0] [Decidable b1] (T0 T1 : FVec F S256x1024 .f32)

theorem hit0 (h : b0) (k o : Nat) (hk : k < 8) (ho : o = 128 * k) (i1 i2 hs hp he) (x : S256x128.Idx) :
    extractStridedSlice S256x128 ![0, o] T0 he x
      = outV b0 b1 T0 T1 (((Rect.unit (s := S4096x128) ![0, 0] S2048x128.size i1).within ⟨⟨![k, 0], S256x128.size, ![8, 1], i2⟩, hp⟩ hs).emb x) := by
  have hx0 : (x 0).val < 256 := (x 0).isLt
  have hx1 : (x 1).val < 128 := (x 1).isLt
  have e0 : ((((Rect.unit (s := S4096x128) ![0, 0] S2048x128.size i1).within ⟨⟨![k, 0], S256x128.size, ![8, 1], i2⟩, hp⟩ hs).emb x) 0).val = 0 + k + 8 * (x 0).val := rfl
  have e1 : ((((Rect.unit (s := S4096x128) ![0, 0] S2048x128.size i1).within ⟨⟨![k, 0], S256x128.size, ![8, 1], i2⟩, hp⟩ hs).emb x) 1).val = 0 + 0 + 1 * (x 1).val := rfl
  unfold outV
  rw [if_pos (by rw [e0]; omega), if_pos h]
  refine congrArg T0 (funext fun a => Fin.ext ?_)
  match a with
  | ⟨0, _⟩ => show 0 + (x 0).val = _ % 2048 / 8; rw [e0]; omega
  | ⟨1, _⟩ => show o + (x 1).val = _ % 8 * 128 + _ % 128; rw [e0, e1]; omega

theorem hit1 (h : b1) (k o : Nat) (hk : k < 8) (ho : o = 128 * k) (i1 i2 hs hp he) (x : S256x128.Idx) :
    extractStridedSlice S256x128 ![0, o] T1 he x
      = outV b0 b1 T0 T1 (((Rect.unit (s := S4096x128) ![2048, 0] S2048x128.size i1).within ⟨⟨![k, 0], S256x128.size, ![8, 1], i2⟩, hp⟩ hs).emb x) := by
  have hx0 : (x 0).val < 256 := (x 0).isLt
  have hx1 : (x 1).val < 128 := (x 1).isLt
  have e0 : ((((Rect.unit (s := S4096x128) ![2048, 0] S2048x128.size i1).within ⟨⟨![k, 0], S256x128.size, ![8, 1], i2⟩, hp⟩ hs).emb x) 0).val = 2048 + k + 8 * (x 0).val := rfl
  have e1 : ((((Rect.unit (s := S4096x128) ![2048, 0] S2048x128.size i1).within ⟨⟨![k, 0], S256x128.size, ![8, 1], i2⟩, hp⟩ hs).emb x) 1).val = 0 + 0 + 1 * (x 1).val := rfl
  unfold outV
  rw [if_neg (by rw [e0]; omega), if_pos h]
  refine congrArg T1 (funext fun a => Fin.ext ?_)
  match a with
  | ⟨0, _⟩ => show 0 + (x 0).val = _ % 2048 / 8; rw [e0]; omega
  | ⟨1, _⟩ => show o + (x 1).val = _ % 8 * 128 + _ % 128; rw [e0, e1]; omega

theorem zer0 (h : ¬ b0) (i1) (x : S2048x128.Idx) :
    (k0_pay14 (F := F)) x = outV b0 b1 T0 T1 ((Rect.unit (s := S4096x128) ![0, 0] S2048x128.size i1).emb x) := by
  have hx0 : (x 0).val < 2048 := (x 0).isLt
  have e0 : (((Rect.unit (s := S4096x128) ![0, 0] S2048x128.size i1).emb x) 0).val = 0 + 1 * (x 0).val := rfl
  unfold outV
  rw [if_pos (by rw [e0]; omega), if_neg h]; rfl
theorem zer1 (h : ¬ b1) (i1) (x : S2048x128.Idx) :
    (k0_pay15 (F := F)) x = outV b0 b1 T0 T1 ((Rect.unit (s := S4096x128) ![2048, 0] S2048x128.size i1).emb x) := by
  have hx0 : (x 0).val < 2048 := (x 0).isLt
  have e0 : (((Rect.unit (s := S4096x128) ![2048, 0] S2048x128.size i1).emb x) 0).val = 2048 + 1 * (x 0).val := rfl
  unfold outV
  rw [if_neg (by rw [e0]; omega), if_neg h]; rfl

theorem mem_st (h k : Nat) (i1 i2 hs hp) (y : S4096x128.Idx) (hh : h ≤ (y 0).val) (hl : (y 0).val < h + 2048) (hk : ((y 0).val - h) % 8 = k) :
    y ∈ ((Rect.unit (s := S4096x128) ![h, 0] S2048x128.size i1).within ⟨⟨![k, 0], S256x128.size, ![8, 1], i2⟩, hp⟩ hs).set := by
  refine (LoadRect.mem_set _).mpr fun a => ?_
  match a with
  | ⟨0, _⟩ => exact ⟨((y 0).val - h) / 8, show _ < 256 by omega, show (y 0).val = h + k + 8 * (((y 0).val - h) / 8) by omega⟩
  | ⟨1, _⟩ => exact ⟨(y 1).val, (y 1).isLt, show (y 1).val = 0 + 0 + 1 * (y 1).val by omega⟩
theorem mem_un (h : Nat) (i1) (y : S4096x128.Idx) (hh : h ≤ (y 0).val) (hl : (y 0).val < h + 2048) :
    y ∈ (Rect.unit (s := S4096x128) ![h, 0] S2048x128.size i1).set := by
  refine (LoadRect.mem_set _).mpr fun a => ?_
  match a with
  | ⟨0, _⟩ => exact ⟨(y 0).val - h, show _ < 2048 by omega, show (y 0).val = h + 1 * ((y 0).val - h) by omega⟩
  | ⟨1, _⟩ => exact ⟨(y 1).val, (y 1).isLt, show (y 1).val = 0 + 1 * (y 1).val by omega⟩

end Values

section Compute
variable (c : Dev nD)
  (arg2 : Memref sig .tc .vmem S4096x128 .f32) (harg2 : arg2.IsWhole)
  (arg4 : Memref sig .tc .vmem S1x1x1x2048 .f32) (harg4 : arg4.IsWhole)
  (arg6 : Memref sig .tc .vmem S1x1x1x1024 .f32) (harg6 : arg6.IsWhole)
  (arg7 : Memref sig .tc .vmem S4096x128 .f32) (harg7 : arg7.IsWhole)

abbrev cmpAt (i : grid0.Coords) (v3 : BitVec 32) : Prog (TpuEff nD τ sig (Elt F) Λ₀ .tc) PUnit :=
  cmpProg i tabM (Memref.isWhole_whole _) arg2 harg2 w1M (Memref.isWhole_whole _) arg4 harg4 w2M (Memref.isWhole_whole _) arg6 harg6 arg7 harg7 bufA (Memref.isWhole_whole _) bufB (Memref.isWhole_whole _) lowA (Memref.isWhole_whole _) lowB (Memref.isWhole_whole _) cc0_scratch4 v3

/-- The output block at a point of `v3` filled rows. -/
def outAt (v3 : BitVec 32) (x0 : S4096x128.Idx → Elt F .f32) (wa : S1024x2048.Idx → Elt F .bf16) (x1 : S1x1x1x2048.Idx → Elt F .f32)
    (wb : S1024x1024.Idx → Elt F .bf16) (x2 : S1x1x1x1024.Idx → Elt F .f32) : S4096x128.Idx → Elt F .f32 :=
  outV (k0_cond4 v3 = 1#1) (k0_cond5 v3 = 1#1) (mlp (tok0 x0) wa x1 wb x2) (mlp (tok1 x0) wa x1 wb x2)

theorem cmp_big (i : grid0.Coords) (v3 : BitVec 32) (h4 : k0_cond4 v3 = 1#1) (h5 : k0_cond5 v3 = 1#1)
    (h6 : ¬ k0_cond6 v3 = 1#1) (h7 : ¬ k0_cond7 v3 = 1#1)
    (x0 : S4096x128.Idx → Elt F .f32) (wa : S1024x2048.Idx → Elt F .bf16) (x1 : S1x1x1x2048.Idx → Elt F .f32)
    (wb : S1024x1024.Idx → Elt F .bf16) (x2 : S1x1x1x1024.Idx → Elt F .f32) (K : PUnit → sProp (MM F)) :
    iprop(owns (c : Thread nD τ) arg2 fullShare x0 ∗ owns (c : Thread nD τ) arg4 fullShare x1 ∗ owns (c : Thread nD τ) arg6 fullShare x2
        ∗ (∃ d, owns (c : Thread nD τ) arg7 fullShare d) ∗ owns (c : Thread nD τ) lowA fullShare wa ∗ owns (c : Thread nD τ) lowB fullShare wb
        ∗ (iprop(owns (c : Thread nD τ) arg2 fullShare x0 ∗ owns (c : Thread nD τ) arg4 fullShare x1 ∗ owns (c : Thread nD τ) arg6 fullShare x2
            ∗ owns (c : Thread nD τ) arg7 fullShare (outAt v3 x0 wa x1 wb x2)
            ∗ owns (c : Thread nD τ) lowA fullShare wa ∗ owns (c : Thread nD τ) lowB fullShare wb) -∗ K ⟨⟩))
      ⊢ wp frame (wpE (defs₀ (F := F)) Variants.none c none) Set.univ
          (cmpAt arg2 harg2 arg4 harg4 arg6 harg6 arg7 harg7 i v3) K := by
  unfold cmpAt cmpProg owns
  rw [k0_part2_eq_skeleton, k0_part3_eq_skeleton, k0_part4_eq_skeleton, k0_part5_eq_skeleton]
  iintro ⟨⟨%f2, %e2, H2⟩, ⟨%f4, %e4, H4⟩, ⟨%f6, %e6, H6⟩, ⟨%d7, %f7, -, H7⟩, ⟨%fA, %eA, LA⟩, ⟨%fB, %eB, LB⟩, Hk⟩
  sl_unfold [k0_part2_skel, k0_part3_skel, k0_part4_skel, k0_part5_skel]
  sl_exec (disch := first | exact h4 | exact h5 | exact h6 | exact h7 | decide | omega)
  sl_step
  iapply Hk
  isplitl [H2]
  · iexists f2; isplitr
    · ipureintro; exact e2
    iexact H2
  isplitl [H4]
  · iexists f4; isplitr
    · ipureintro; exact e4
    iexact H4
  isplitl [H6]
  · iexists f6; isplitr
    · ipureintro; exact e6
    iexact H6
  isplitl [H7]
  · iexists _; isplitr; swap; · iexact H7
    ipureintro
    subst e2 e4 e6 eA eB
    refine read_pieces _ _ _ _ ?_ ?_
    · intro y
      have hy : (y 0).val < 4096 := (y 0).isLt
      simp only [List.exists_mem_cons_iff]
      by_cases hh : (y 0).val < 2048
      · rcases (show ((y 0).val - 0) % 8 = 0 ∨ ((y 0).val - 0) % 8 = 1 ∨ ((y 0).val - 0) % 8 = 2 ∨ ((y 0).val - 0) % 8 = 3 ∨ ((y 0).val - 0) % 8 = 4 ∨ ((y 0).val - 0) % 8 = 5 ∨ ((y 0).val - 0) % 8 = 6 ∨ ((y 0).val - 0) % 8 = 7 by omega) with hk | hk | hk | hk | hk | hk | hk | hk
        · exact Or.inr (Or.inr (Or.inr (Or.inr (Or.inr (Or.inr (Or.inr (Or.inr (Or.inr (Or.inr (Or.inr (Or.inr (Or.inr (Or.inr (Or.inr (Or.inl (mem_st 0 0 _ _ _ _ y (by omega) (by omega) hk))))))))))))))))
        · exact Or.inr (Or.inr (Or.inr (Or.inr (Or.inr (Or.inr (Or.inr (Or.inr (Or.inr (Or.inr (Or.inr (Or.inr (Or.inr (Or.inr (Or.inl (mem_st 0 1 _ _ _ _ y (by omega) (by omega) hk)))))))))))))))
        · exact Or.inr (Or.inr (Or.inr (Or.inr (Or.inr (Or.inr (Or.inr (Or.inr (Or.inr (Or.inr (Or.inr (Or.inr (Or.inr (Or.inl (mem_st 0 2 _ _ _ _ y (by omega) (by omega) hk))))))))))))))
        · exact Or.inr (Or.inr (Or.inr (Or.inr (Or.inr (Or.inr (Or.inr (Or.inr (Or.inr (Or.inr (Or.inr (Or.inr (Or.inl (mem_st 0 3 _ _ _ _ y (by omega) (by omega) hk)))))))))))))
        · exact Or.inr (Or.inr (Or.inr (Or.inr (Or.inr (Or.inr (Or.inr (Or.inr (Or.inr (Or.inr (Or.inr (Or.inl (mem_st 0 4 _ _ _ _ y (by omega) (by omega) hk))))))))))))
        · exact Or.inr (Or.inr (Or.inr (Or.inr (Or.inr (Or.inr (Or.inr (Or.inr (Or.inr (Or.inr (Or.inl (mem_st 0 5 _ _ _ _ y (by omega) (by omega) hk)))))))))))
        · exact Or.inr (Or.inr (Or.inr (Or.inr (Or.inr (Or.inr (Or.inr (Or.inr (Or.inr (Or.inl (mem_st 0 6 _ _ _ _ y (by omega) (by omega) hk))))))))))
        · exact Or.inr (Or.inr (Or.inr (Or.inr (Or.inr (Or.inr (Or.inr (Or.inr (Or.inl (mem_st 0 7 _ _ _ _ y (by omega) (by omega) hk)))))))))
      · rcases (show ((y 0).val - 2048) % 8 = 0 ∨ ((y 0).val - 2048) % 8 = 1 ∨ ((y 0).val - 2048) % 8 = 2 ∨ ((y 0).val - 2048) % 8 = 3 ∨ ((y 0).val - 2048) % 8 = 4 ∨ ((y 0).val - 2048) % 8 = 5 ∨ ((y 0).val - 2048) % 8 = 6 ∨ ((y 0).val - 2048) % 8 = 7 by omega) with hk | hk | hk | hk | hk | hk | hk | hk
        · exact Or.inr (Or.inr (Or.inr (Or.inr (Or.inr (Or.inr (Or.inr (Or.inl (mem_st 2048 0 _ _ _ _ y (by omega) (by omega) hk))))))))
        · exact Or.inr (Or.inr (Or.inr (Or.inr (Or.inr (Or.inr (Or.inl (mem_st 2048 1 _ _ _ _ y (by omega) (by omega) hk)))))))
        · exact Or.inr (Or.inr (Or.inr (Or.inr (Or.inr (Or.inl (mem_st 2048 2 _ _ _ _ y (by omega) (by omega) hk))))))
        · exact Or.inr (Or.inr (Or.inr (Or.inr (Or.inl (mem_st 2048 3 _ _ _ _ y (by omega) (by omega) hk)))))
        · exact Or.inr (Or.inr (Or.inr (Or.inl (mem_st 2048 4 _ _ _ _ y (by omega) (by omega) hk))))
        · exact Or.inr (Or.inr (Or.inl (mem_st 2048 5 _ _ _ _ y (by omega) (by omega) hk)))
        · exact Or.inr (Or.inl (mem_st 2048 6 _ _ _ _ y (by omega) (by omega) hk))
        · exact Or.inl (mem_st 2048 7 _ _ _ _ y (by omega) (by omega) hk)
    · simp only [List.forall_mem_cons]
      refine ⟨?_, ?_, ?_, ?_, ?_, ?_, ?_, ?_, ?_, ?_, ?_, ?_, ?_, ?_, ?_, ?_, fun _ hm => absurd hm List.not_mem_nil⟩
      · exact hit1 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h5 7 896 (by omega) (by omega) _ _ _ _ slices_S256x1024_o0_896_S256x128
      · exact hit1 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h5 6 768 (by omega) (by omega) _ _ _ _ slices_S256x1024_o0_768_S256x128
      · exact hit1 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h5 5 640 (by omega) (by omega) _ _ _ _ slices_S256x1024_o0_640_S256x128
      · exact hit1 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h5 4 512 (by omega) (by omega) _ _ _ _ slices_S256x1024_o0_512_S256x128
      · exact hit1 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h5 3 384 (by omega) (by omega) _ _ _ _ slices_S256x1024_o0_384_S256x128
      · exact hit1 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h5 2 256 (by omega) (by omega) _ _ _ _ slices_S256x1024_o0_256_S256x128
      · exact hit1 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h5 1 128 (by omega) (by omega) _ _ _ _ slices_S256x1024_o0_128_S256x128
      · exact hit1 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h5 0 0 (by omega) (by omega) _ _ _ _ slices_S256x1024_o0_0_S256x128
      · exact hit0 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h4 7 896 (by omega) (by omega) _ _ _ _ slices_S256x1024_o0_896_S256x128
      · exact hit0 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h4 6 768 (by omega) (by omega) _ _ _ _ slices_S256x1024_o0_768_S256x128
      · exact hit0 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h4 5 640 (by omega) (by omega) _ _ _ _ slices_S256x1024_o0_640_S256x128
      · exact hit0 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h4 4 512 (by omega) (by omega) _ _ _ _ slices_S256x1024_o0_512_S256x128
      · exact hit0 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h4 3 384 (by omega) (by omega) _ _ _ _ slices_S256x1024_o0_384_S256x128
      · exact hit0 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h4 2 256 (by omega) (by omega) _ _ _ _ slices_S256x1024_o0_256_S256x128
      · exact hit0 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h4 1 128 (by omega) (by omega) _ _ _ _ slices_S256x1024_o0_128_S256x128
      · exact hit0 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h4 0 0 (by omega) (by omega) _ _ _ _ slices_S256x1024_o0_0_S256x128
  isplitl [LA]
  · iexists fA; isplitr
    · ipureintro; exact eA
    iexact LA
  iexists fB; isplitr
  · ipureintro; exact eB
  iexact LB

theorem cmp_small (i : grid0.Coords) (v3 : BitVec 32) (h4 : k0_cond4 v3 = 1#1) (h5 : ¬ k0_cond5 v3 = 1#1)
    (h6 : ¬ k0_cond6 v3 = 1#1) (h7 : k0_cond7 v3 = 1#1)
    (x0 : S4096x128.Idx → Elt F .f32) (wa : S1024x2048.Idx → Elt F .bf16) (x1 : S1x1x1x2048.Idx → Elt F .f32)
    (wb : S1024x1024.Idx → Elt F .bf16) (x2 : S1x1x1x1024.Idx → Elt F .f32) (K : PUnit → sProp (MM F)) :
    iprop(owns (c : Thread nD τ) arg2 fullShare x0 ∗ owns (c : Thread nD τ) arg4 fullShare x1 ∗ owns (c : Thread nD τ) arg6 fullShare x2
        ∗ (∃ d, owns (c : Thread nD τ) arg7 fullShare d) ∗ owns (c : Thread nD τ) lowA fullShare wa ∗ owns (c : Thread nD τ) lowB fullShare wb
        ∗ (iprop(owns (c : Thread nD τ) arg2 fullShare x0 ∗ owns (c : Thread nD τ) arg4 fullShare x1 ∗ owns (c : Thread nD τ) arg6 fullShare x2
            ∗ owns (c : Thread nD τ) arg7 fullShare (outAt v3 x0 wa x1 wb x2)
            ∗ owns (c : Thread nD τ) lowA fullShare wa ∗ owns (c : Thread nD τ) lowB fullShare wb) -∗ K ⟨⟩))
      ⊢ wp frame (wpE (defs₀ (F := F)) Variants.none c none) Set.univ
          (cmpAt arg2 harg2 arg4 harg4 arg6 harg6 arg7 harg7 i v3) K := by
  unfold cmpAt cmpProg owns
  rw [k0_part2_eq_skeleton, k0_part3_eq_skeleton, k0_part4_eq_skeleton, k0_part5_eq_skeleton]
  iintro ⟨⟨%f2, %e2, H2⟩, ⟨%f4, %e4, H4⟩, ⟨%f6, %e6, H6⟩, ⟨%d7, %f7, -, H7⟩, ⟨%fA, %eA, LA⟩, ⟨%fB, %eB, LB⟩, Hk⟩
  sl_unfold [k0_part2_skel, k0_part3_skel, k0_part4_skel, k0_part5_skel]
  sl_exec (disch := first | exact h4 | exact h5 | exact h6 | exact h7 | decide | omega)
  sl_step
  iapply Hk
  isplitl [H2]
  · iexists f2; isplitr
    · ipureintro; exact e2
    iexact H2
  isplitl [H4]
  · iexists f4; isplitr
    · ipureintro; exact e4
    iexact H4
  isplitl [H6]
  · iexists f6; isplitr
    · ipureintro; exact e6
    iexact H6
  isplitl [H7]
  · iexists _; isplitr; swap; · iexact H7
    ipureintro
    subst e2 e4 e6 eA eB
    refine read_pieces _ _ _ _ ?_ ?_
    · intro y
      have hy : (y 0).val < 4096 := (y 0).isLt
      simp only [List.exists_mem_cons_iff]
      by_cases hh : (y 0).val < 2048
      · rcases (show ((y 0).val - 0) % 8 = 0 ∨ ((y 0).val - 0) % 8 = 1 ∨ ((y 0).val - 0) % 8 = 2 ∨ ((y 0).val - 0) % 8 = 3 ∨ ((y 0).val - 0) % 8 = 4 ∨ ((y 0).val - 0) % 8 = 5 ∨ ((y 0).val - 0) % 8 = 6 ∨ ((y 0).val - 0) % 8 = 7 by omega) with hk | hk | hk | hk | hk | hk | hk | hk
        · exact Or.inr (Or.inr (Or.inr (Or.inr (Or.inr (Or.inr (Or.inr (Or.inr (Or.inl (mem_st 0 0 _ _ _ _ y (by omega) (by omega) hk)))))))))
        · exact Or.inr (Or.inr (Or.inr (Or.inr (Or.inr (Or.inr (Or.inr (Or.inl (mem_st 0 1 _ _ _ _ y (by omega) (by omega) hk))))))))
        · exact Or.inr (Or.inr (Or.inr (Or.inr (Or.inr (Or.inr (Or.inl (mem_st 0 2 _ _ _ _ y (by omega) (by omega) hk)))))))
        · exact Or.inr (Or.inr (Or.inr (Or.inr (Or.inr (Or.inl (mem_st 0 3 _ _ _ _ y (by omega) (by omega) hk))))))
        · exact Or.inr (Or.inr (Or.inr (Or.inr (Or.inl (mem_st 0 4 _ _ _ _ y (by omega) (by omega) hk)))))
        · exact Or.inr (Or.inr (Or.inr (Or.inl (mem_st 0 5 _ _ _ _ y (by omega) (by omega) hk))))
        · exact Or.inr (Or.inr (Or.inl (mem_st 0 6 _ _ _ _ y (by omega) (by omega) hk)))
        · exact Or.inr (Or.inl (mem_st 0 7 _ _ _ _ y (by omega) (by omega) hk))
      · exact Or.inl (mem_un 2048 _ y (by omega) (by omega))
    · simp only [List.forall_mem_cons]
      refine ⟨?_, ?_, ?_, ?_, ?_, ?_, ?_, ?_, ?_, fun _ hm => absurd hm List.not_mem_nil⟩
      · exact zer1 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h5 _
      · exact hit0 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h4 7 896 (by omega) (by omega) _ _ _ _ slices_S256x1024_o0_896_S256x128
      · exact hit0 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h4 6 768 (by omega) (by omega) _ _ _ _ slices_S256x1024_o0_768_S256x128
      · exact hit0 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h4 5 640 (by omega) (by omega) _ _ _ _ slices_S256x1024_o0_640_S256x128
      · exact hit0 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h4 4 512 (by omega) (by omega) _ _ _ _ slices_S256x1024_o0_512_S256x128
      · exact hit0 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h4 3 384 (by omega) (by omega) _ _ _ _ slices_S256x1024_o0_384_S256x128
      · exact hit0 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h4 2 256 (by omega) (by omega) _ _ _ _ slices_S256x1024_o0_256_S256x128
      · exact hit0 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h4 1 128 (by omega) (by omega) _ _ _ _ slices_S256x1024_o0_128_S256x128
      · exact hit0 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h4 0 0 (by omega) (by omega) _ _ _ _ slices_S256x1024_o0_0_S256x128
  isplitl [LA]
  · iexists fA; isplitr
    · ipureintro; exact eA
    iexact LA
  iexists fB; isplitr
  · ipureintro; exact eB
  iexact LB

theorem cmp_none (i : grid0.Coords) (v3 : BitVec 32) (h4 : ¬ k0_cond4 v3 = 1#1) (h5 : ¬ k0_cond5 v3 = 1#1)
    (h6 : k0_cond6 v3 = 1#1) (h7 : k0_cond7 v3 = 1#1)
    (x0 : S4096x128.Idx → Elt F .f32) (wa : S1024x2048.Idx → Elt F .bf16) (x1 : S1x1x1x2048.Idx → Elt F .f32)
    (wb : S1024x1024.Idx → Elt F .bf16) (x2 : S1x1x1x1024.Idx → Elt F .f32) (K : PUnit → sProp (MM F)) :
    iprop(owns (c : Thread nD τ) arg2 fullShare x0 ∗ owns (c : Thread nD τ) arg4 fullShare x1 ∗ owns (c : Thread nD τ) arg6 fullShare x2
        ∗ (∃ d, owns (c : Thread nD τ) arg7 fullShare d) ∗ owns (c : Thread nD τ) lowA fullShare wa ∗ owns (c : Thread nD τ) lowB fullShare wb
        ∗ (iprop(owns (c : Thread nD τ) arg2 fullShare x0 ∗ owns (c : Thread nD τ) arg4 fullShare x1 ∗ owns (c : Thread nD τ) arg6 fullShare x2
            ∗ owns (c : Thread nD τ) arg7 fullShare (outAt v3 x0 wa x1 wb x2)
            ∗ owns (c : Thread nD τ) lowA fullShare wa ∗ owns (c : Thread nD τ) lowB fullShare wb) -∗ K ⟨⟩))
      ⊢ wp frame (wpE (defs₀ (F := F)) Variants.none c none) Set.univ
          (cmpAt arg2 harg2 arg4 harg4 arg6 harg6 arg7 harg7 i v3) K := by
  unfold cmpAt cmpProg owns
  rw [k0_part2_eq_skeleton, k0_part3_eq_skeleton, k0_part4_eq_skeleton, k0_part5_eq_skeleton]
  iintro ⟨⟨%f2, %e2, H2⟩, ⟨%f4, %e4, H4⟩, ⟨%f6, %e6, H6⟩, ⟨%d7, %f7, -, H7⟩, ⟨%fA, %eA, LA⟩, ⟨%fB, %eB, LB⟩, Hk⟩
  sl_unfold [k0_part2_skel, k0_part3_skel, k0_part4_skel, k0_part5_skel]
  sl_exec (disch := first | exact h4 | exact h5 | exact h6 | exact h7 | decide | omega)
  sl_step
  iapply Hk
  isplitl [H2]
  · iexists f2; isplitr
    · ipureintro; exact e2
    iexact H2
  isplitl [H4]
  · iexists f4; isplitr
    · ipureintro; exact e4
    iexact H4
  isplitl [H6]
  · iexists f6; isplitr
    · ipureintro; exact e6
    iexact H6
  isplitl [H7]
  · iexists _; isplitr; swap; · iexact H7
    ipureintro
    subst e2 e4 e6 eA eB
    refine read_pieces _ _ _ _ ?_ ?_
    · intro y
      have hy : (y 0).val < 4096 := (y 0).isLt
      simp only [List.exists_mem_cons_iff]
      by_cases hh : (y 0).val < 2048
      · exact Or.inr (Or.inl (mem_un 0 _ y (by omega) (by omega)))
      · exact Or.inl (mem_un 2048 _ y (by omega) (by omega))
    · simp only [List.forall_mem_cons]
      refine ⟨?_, ?_, fun _ hm => absurd hm List.not_mem_nil⟩
      · exact zer1 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h5 _
      · exact zer0 (k0_cond4 v3 = 1#1) (k0_cond5 v3 = 1#1) (mlp (tok0 (arg2.view.read (Elt F) f2)) (lowA.view.read (Elt F) fA) (arg4.view.read (Elt F) f4) (lowB.view.read (Elt F) fB) (arg6.view.read (Elt F) f6)) (mlp (tok1 (arg2.view.read (Elt F) f2)) (lowA.view.read (Elt F) fA) (arg4.view.read (Elt F) f4) (lowB.view.read (Elt F) fB) (arg6.view.read (Elt F) f6)) h4 _
  isplitl [LA]
  · iexists fA; isplitr
    · ipureintro; exact eA
    iexact LA
  iexists fB; isplitr
  · ipureintro; exact eB
  iexact LB

end Compute

end Cert.Kernel3Ideal.Hand

end
-- ==== Proof.ExpBody.lean ====
module

public import proofs.«01_k».proof.Proof.ExpCmp

public import Idealize.ShloMosaic.Lib.Tactic.Disch

@[expose] public section

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-! ## The conditions of the body, at words of known range -/

section Conds
variable (i : grid0.Coords) (v1 v3 v5 v7 v13 : BitVec 32)

theorem sgt_pos (h : 0 < v3.toInt) : Scalar.cmpi .sgt v3 0#32 = 1#1 := by
  have : (0#32).slt v3 = true := by rw [BitVec.slt_iff_toInt_lt]; simpa using h
  simp only [Scalar.cmpi, IntOp.cmpi]; rw [this]; rfl
theorem sgt_neg (h : v3.toInt ≤ 0) : Scalar.cmpi .sgt v3 0#32 = 0#1 := by
  have : (0#32).slt v3 = false := by
    rw [Bool.eq_false_iff, Ne, BitVec.slt_iff_toInt_lt]; simpa using h
  simp only [Scalar.cmpi, IntOp.cmpi]; rw [this]; rfl
theorem row_ne (h : (i 0).val ≠ 0) : Scalar.cmpi .eq (BitVec.ofNat 32 (i 0).val) 0#32 = 0#1 := by
  have hb : (i 0).val < 288 := (i 0).isLt
  have h0 : (BitVec.ofNat 32 (i 0).val).toNat ≠ 0 := by rw [BitVec.toNat_ofNat]; omega
  have : BitVec.ofNat 32 (i 0).val ≠ 0#32 := fun h => h0 (by rw [h]; rfl)
  simp only [Scalar.cmpi, IntOp.cmpi]; rw [beq_eq_false_iff_ne.mpr this]; rfl
theorem c4_pos (h : 0 < v3.toInt) : k0_cond4 v3 = 1#1 := by sl_disch
theorem c4_neg (h : v3.toInt ≤ 0) : ¬ k0_cond4 v3 = 1#1 := by sl_disch
theorem c6_pos (h : v3.toInt ≤ 0) : k0_cond6 v3 = 1#1 := by
  unfold k0_cond6; dsimp only; rw [sgt_neg v3 h]; decide
theorem c6_neg (h : 0 < v3.toInt) : ¬ k0_cond6 v3 = 1#1 := by
  unfold k0_cond6; dsimp only; rw [sgt_pos v3 h]; decide
theorem c5_pos (h : 256 < v3.toInt) : k0_cond5 v3 = 1#1 := by sl_disch
theorem c5_neg (h : v3.toInt ≤ 256) : ¬ k0_cond5 v3 = 1#1 := by sl_disch
theorem c7_pos (h : v3.toInt ≤ 256) : k0_cond7 v3 = 1#1 := by sl_disch
theorem c7_neg (h : 256 < v3.toInt) : ¬ k0_cond7 v3 = 1#1 := by sl_disch
theorem c3_pos (h : 0 ≤ v5.toInt) : k0_cond3 v5 = 1#1 := by sl_disch
theorem c3_neg (h : v5.toInt < 0) : ¬ k0_cond3 v5 = 1#1 := by sl_disch
theorem c2_pos (h : (i 0).val = 0) : k0_cond2 i = 1#1 := by
  unfold k0_cond2; rw [h]; decide
theorem c2_neg (h : (i 0).val ≠ 0) : ¬ k0_cond2 i = 1#1 := by
  unfold k0_cond2; dsimp only; rw [row_ne i h]; decide
theorem c1_first (h : (i 0).val = 0) (h3 : 0 < v3.toInt) : k0_cond1 i v1 v3 v13 = 1#1 := by
  unfold k0_cond1; rw [h]; dsimp only; rw [sgt_pos v3 h3]; generalize Scalar.cmpi .ne v1 v13 = b; revert b; decide
theorem c1_turn (h : v1 ≠ v13) (h3 : 0 < v3.toInt) : k0_cond1 i v1 v3 v13 = 1#1 := by
  have h'' : Scalar.cmpi .ne v1 v13 = 1#1 := by
    simp only [Scalar.cmpi, IntOp.cmpi]; rw [bne_iff_ne.mpr h]; rfl
  unfold k0_cond1; dsimp only; rw [sgt_pos v3 h3, h'']; generalize Scalar.cmpi .eq _ _ = b; revert b; decide
theorem c1_same (hi : (i 0).val ≠ 0) (h : v1 = v13) : ¬ k0_cond1 i v1 v3 v13 = 1#1 := by
  have h'' : Scalar.cmpi .ne v1 v13 = 0#1 := by simp [Scalar.cmpi, IntOp.cmpi, h]
  unfold k0_cond1; dsimp only; rw [row_ne i hi, h'']; generalize Scalar.cmpi .sgt v3 0#32 = b; revert b; decide
theorem c1_unused (h : v3.toInt ≤ 0) : ¬ k0_cond1 i v1 v3 v13 = 1#1 := by
  unfold k0_cond1; dsimp only; rw [sgt_neg v3 h]; generalize Scalar.ori _ _ = b; revert b; decide

theorem nat_of_int (v : BitVec 32) (n : Nat) (h : 0 ≤ v.toInt) (h' : v.toInt < n) : v.toNat < n := by
  rw [BitVec.toInt_eq_toNat_cond] at h h'; split at h <;> omega

theorem checked (h1 : 0 ≤ v1.toInt ∧ v1.toInt < 32) (h5 : -1 ≤ v5.toInt ∧ v5.toInt < 32) (h7 : 0 ≤ v7.toInt ∧ v7.toInt < 2) :
    k0_chk1 i v1 v3 v5 v7 v13 := by
  obtain ⟨h1, h1'⟩ := h1; obtain ⟨h5, h5'⟩ := h5; obtain ⟨h7, h7'⟩ := h7
  by_cases hp : 0 ≤ v5.toInt
  · sl_disch
  · have hn := c3_neg v5 (not_le.mp hp)
    sl_disch
end Conds

/-- The body after its words are read. -/
def tailProg (i : grid0.Coords) (arg1 : Memref sig .tc .smem S4x288 .i32) (harg1 : arg1.IsWhole) (arg2 : Memref sig .tc .vmem S4096x128 .f32) (harg2 : arg2.IsWhole) (arg3 : Memref sig .tc .hbm S2x32x1024x2048 .f32) (harg3 : arg3.IsWhole) (arg4 : Memref sig .tc .vmem S1x1x1x2048 .f32) (harg4 : arg4.IsWhole) (arg5 : Memref sig .tc .hbm S2x32x1024x1024 .f32) (harg5 : arg5.IsWhole) (arg6 : Memref sig .tc .vmem S1x1x1x1024 .f32) (harg6 : arg6.IsWhole) (arg7 : Memref sig .tc .vmem S4096x128 .f32) (harg7 : arg7.IsWhole) (arg8 : Memref sig .tc .vmem S2x1024x2048 .f32) (harg8 : arg8.IsWhole) (arg9 : Memref sig .tc .vmem S2x1024x1024 .f32) (harg9 : arg9.IsWhole) (arg10 : Memref sig .tc .vmem S1024x2048 .bf16) (harg10 : arg10.IsWhole) (arg11 : Memref sig .tc .vmem S1024x1024 .bf16) (harg11 : arg11.IsWhole) (arg12 : DmaSems sig S2x2) (v1 v3 v5 v7 v13 : Elt F .i32) (k0_hw1 : k0_chk1 i v1 v3 v5 v7 v13) :
    Prog (TpuEff nD τ sig (Elt F) Λ₀ .tc) PUnit := do
  let arg0 : BitVec 32 := BitVec.ofNat 32 (i 0).val
  if k0_h1 : k0_cond1 i v1 v3 v13 = 1#1 then do
    let v58 : FVec F S1024x1024 .bf16 ← k0_part1 i arg1 harg1 arg2 harg2 arg3 harg3 arg4 harg4 arg5 harg5 arg6 harg6 arg7 harg7 arg8 harg8 arg9 harg9 arg10 harg10 arg11 harg11 arg12 arg0 v1 v3 v5 v7 v13 k0_hw1 k0_h1
    Prog.lift (.store arg11 (Rect.unit (s := S1024x1024) ![0, 0] S1024x1024.size inb_S1024x1024_S1024x1024_0_0) (k0_pay1 v58) Finset.univ (View.stores_vmem h_S1024x1024 (harg11.storeExact_slice rfl _ packedbf16_S1024x1024_S1024x1024_0_0) (fun _ => rfl)) (.inl rfl))
    pure ⟨⟩
  else do
    pure ⟨⟩
  if k0_h4 : k0_cond4 v3 = 1#1 then do
    let v55 : FVec F S256x1024 .bf16 ← k0_part2 i arg1 harg1 arg2 harg2 arg3 harg3 arg4 harg4 arg5 harg5 arg6 harg6 arg7 harg7 arg8 harg8 arg9 harg9 arg10 harg10 arg11 harg11 arg12
    let ⟨v85, v89⟩ : Σ' (v85 : FVec F S256x1024 .f32), FVec F S256x128 .f32 ← k0_part3 i arg1 harg1 arg2 harg2 arg3 harg3 arg4 harg4 arg5 harg5 arg6 harg6 arg7 harg7 arg8 harg8 arg9 harg9 arg10 harg10 arg11 harg11 arg12 v55
    let v90 : Memref sig .tc .vmem S2048x128 .f32 := arg7.slice (Rect.unit (s := S4096x128) ![0, 0] S2048x128.size inb_S4096x128_S2048x128_0_0) (fun _ => rfl)
    let v91 : Vec F S256x128 .f32 ← Prog.lift (.load v90 (⟨![1, 0], S256x128.size, ![8, 1], inb_S2048x128_S256x128_1_0_s_8_1⟩ : LoadRect S2048x128) (View.loadsAt_vmem h_S256x128))
    Prog.lift (.store v90 ⟨(⟨![1, 0], S256x128.size, ![8, 1], inb_S2048x128_S256x128_1_0_s_8_1⟩ : LoadRect S2048x128), spos_8_1⟩ v89 Finset.univ (View.stores_vmem_bits_univ h_S256x128 rfl) (.inl rfl))
    let v93 : Memref sig .tc .vmem S2048x128 .f32 := arg7.slice (Rect.unit (s := S4096x128) ![0, 0] S2048x128.size inb_S4096x128_S2048x128_0_0) (fun _ => rfl)
    let v94 : Vec F S256x128 .f32 ← Prog.lift (.load v93 (⟨![2, 0], S256x128.size, ![8, 1], inb_S2048x128_S256x128_2_0_s_8_1⟩ : LoadRect S2048x128) (View.loadsAt_vmem h_S256x128))
    Prog.lift (.store v93 ⟨(⟨![2, 0], S256x128.size, ![8, 1], inb_S2048x128_S256x128_2_0_s_8_1⟩ : LoadRect S2048x128), spos_8_1⟩ (k0_pay2 v85) Finset.univ (View.stores_vmem_bits_univ h_S256x128 rfl) (.inl rfl))
    let v96 : Memref sig .tc .vmem S2048x128 .f32 := arg7.slice (Rect.unit (s := S4096x128) ![0, 0] S2048x128.size inb_S4096x128_S2048x128_0_0) (fun _ => rfl)
    let v97 : Vec F S256x128 .f32 ← Prog.lift (.load v96 (⟨![3, 0], S256x128.size, ![8, 1], inb_S2048x128_S256x128_3_0_s_8_1⟩ : LoadRect S2048x128) (View.loadsAt_vmem h_S256x128))
    Prog.lift (.store v96 ⟨(⟨![3, 0], S256x128.size, ![8, 1], inb_S2048x128_S256x128_3_0_s_8_1⟩ : LoadRect S2048x128), spos_8_1⟩ (k0_pay3 v85) Finset.univ (View.stores_vmem_bits_univ h_S256x128 rfl) (.inl rfl))
    let v99 : Memref sig .tc .vmem S2048x128 .f32 := arg7.slice (Rect.unit (s := S4096x128) ![0, 0] S2048x128.size inb_S4096x128_S2048x128_0_0) (fun _ => rfl)
    let v100 : Vec F S256x128 .f32 ← Prog.lift (.load v99 (⟨![4, 0], S256x128.size, ![8, 1], inb_S2048x128_S256x128_4_0_s_8_1⟩ : LoadRect S2048x128) (View.loadsAt_vmem h_S256x128))
    Prog.lift (.store v99 ⟨(⟨![4, 0], S256x128.size, ![8, 1], inb_S2048x128_S256x128_4_0_s_8_1⟩ : LoadRect S2048x128), spos_8_1⟩ (k0_pay4 v85) Finset.univ (View.stores_vmem_bits_univ h_S256x128 rfl) (.inl rfl))
    let v102 : Memref sig .tc .vmem S2048x128 .f32 := arg7.slice (Rect.unit (s := S4096x128) ![0, 0] S2048x128.size inb_S4096x128_S2048x128_0_0) (fun _ => rfl)
    let v103 : Vec F S256x128 .f32 ← Prog.lift (.load v102 (⟨![5, 0], S256x128.size, ![8, 1], inb_S2048x128_S256x128_5_0_s_8_1⟩ : LoadRect S2048x128) (View.loadsAt_vmem h_S256x128))
    Prog.lift (.store v102 ⟨(⟨![5, 0], S256x128.size, ![8, 1], inb_S2048x128_S256x128_5_0_s_8_1⟩ : LoadRect S2048x128), spos_8_1⟩ (k0_pay5 v85) Finset.univ (View.stores_vmem_bits_univ h_S256x128 rfl) (.inl rfl))
    let v105 : Memref sig .tc .vmem S2048x128 .f32 := arg7.slice (Rect.unit (s := S4096x128) ![0, 0] S2048x128.size inb_S4096x128_S2048x128_0_0) (fun _ => rfl)
    let v106 : Vec F S256x128 .f32 ← Prog.lift (.load v105 (⟨![6, 0], S256x128.size, ![8, 1], inb_S2048x128_S256x128_6_0_s_8_1⟩ : LoadRect S2048x128) (View.loadsAt_vmem h_S256x128))
    Prog.lift (.store v105 ⟨(⟨![6, 0], S256x128.size, ![8, 1], inb_S2048x128_S256x128_6_0_s_8_1⟩ : LoadRect S2048x128), spos_8_1⟩ (k0_pay6 v85) Finset.univ (View.stores_vmem_bits_univ h_S256x128 rfl) (.inl rfl))
    let v108 : Memref sig .tc .vmem S2048x128 .f32 := arg7.slice (Rect.unit (s := S4096x128) ![0, 0] S2048x128.size inb_S4096x128_S2048x128_0_0) (fun _ => rfl)
    let v109 : Vec F S256x128 .f32 ← Prog.lift (.load v108 (⟨![7, 0], S256x128.size, ![8, 1], inb_S2048x128_S256x128_7_0_s_8_1⟩ : LoadRect S2048x128) (View.loadsAt_vmem h_S256x128))
    Prog.lift (.store v108 ⟨(⟨![7, 0], S256x128.size, ![8, 1], inb_S2048x128_S256x128_7_0_s_8_1⟩ : LoadRect S2048x128), spos_8_1⟩ (k0_pay7 v85) Finset.univ (View.stores_vmem_bits_univ h_S256x128 rfl) (.inl rfl))
    pure ⟨⟩
  else do
    pure ⟨⟩
  if k0_h5 : k0_cond5 v3 = 1#1 then do
    let v55 : FVec F S256x1024 .bf16 ← k0_part4 i arg1 harg1 arg2 harg2 arg3 harg3 arg4 harg4 arg5 harg5 arg6 harg6 arg7 harg7 arg8 harg8 arg9 harg9 arg10 harg10 arg11 harg11 arg12
    let ⟨v85, v89⟩ : Σ' (v85 : FVec F S256x1024 .f32), FVec F S256x128 .f32 ← k0_part5 i arg1 harg1 arg2 harg2 arg3 harg3 arg4 harg4 arg5 harg5 arg6 harg6 arg7 harg7 arg8 harg8 arg9 harg9 arg10 harg10 arg11 harg11 arg12 v55
    let v90 : Memref sig .tc .vmem S2048x128 .f32 := arg7.slice (Rect.unit (s := S4096x128) ![2048, 0] S2048x128.size inb_S4096x128_S2048x128_2048_0) (fun _ => rfl)
    let v91 : Vec F S256x128 .f32 ← Prog.lift (.load v90 (⟨![1, 0], S256x128.size, ![8, 1], inb_S2048x128_S256x128_1_0_s_8_1⟩ : LoadRect S2048x128) (View.loadsAt_vmem h_S256x128))
    Prog.lift (.store v90 ⟨(⟨![1, 0], S256x128.size, ![8, 1], inb_S2048x128_S256x128_1_0_s_8_1⟩ : LoadRect S2048x128), spos_8_1⟩ v89 Finset.univ (View.stores_vmem_bits_univ h_S256x128 rfl) (.inl rfl))
    let v93 : Memref sig .tc .vmem S2048x128 .f32 := arg7.slice (Rect.unit (s := S4096x128) ![2048, 0] S2048x128.size inb_S4096x128_S2048x128_2048_0) (fun _ => rfl)
    let v94 : Vec F S256x128 .f32 ← Prog.lift (.load v93 (⟨![2, 0], S256x128.size, ![8, 1], inb_S2048x128_S256x128_2_0_s_8_1⟩ : LoadRect S2048x128) (View.loadsAt_vmem h_S256x128))
    Prog.lift (.store v93 ⟨(⟨![2, 0], S256x128.size, ![8, 1], inb_S2048x128_S256x128_2_0_s_8_1⟩ : LoadRect S2048x128), spos_8_1⟩ (k0_pay8 v85) Finset.univ (View.stores_vmem_bits_univ h_S256x128 rfl) (.inl rfl))
    let v96 : Memref sig .tc .vmem S2048x128 .f32 := arg7.slice (Rect.unit (s := S4096x128) ![2048, 0] S2048x128.size inb_S4096x128_S2048x128_2048_0) (fun _ => rfl)
    let v97 : Vec F S256x128 .f32 ← Prog.lift (.load v96 (⟨![3, 0], S256x128.size, ![8, 1], inb_S2048x128_S256x128_3_0_s_8_1⟩ : LoadRect S2048x128) (View.loadsAt_vmem h_S256x128))
    Prog.lift (.store v96 ⟨(⟨![3, 0], S256x128.size, ![8, 1], inb_S2048x128_S256x128_3_0_s_8_1⟩ : LoadRect S2048x128), spos_8_1⟩ (k0_pay9 v85) Finset.univ (View.stores_vmem_bits_univ h_S256x128 rfl) (.inl rfl))
    let v99 : Memref sig .tc .vmem S2048x128 .f32 := arg7.slice (Rect.unit (s := S4096x128) ![2048, 0] S2048x128.size inb_S4096x128_S2048x128_2048_0) (fun _ => rfl)
    let v100 : Vec F S256x128 .f32 ← Prog.lift (.load v99 (⟨![4, 0], S256x128.size, ![8, 1], inb_S2048x128_S256x128_4_0_s_8_1⟩ : LoadRect S2048x128) (View.loadsAt_vmem h_S256x128))
    Prog.lift (.store v99 ⟨(⟨![4, 0], S256x128.size, ![8, 1], inb_S2048x128_S256x128_4_0_s_8_1⟩ : LoadRect S2048x128), spos_8_1⟩ (k0_pay10 v85) Finset.univ (View.stores_vmem_bits_univ h_S256x128 rfl) (.inl rfl))
    let v102 : Memref sig .tc .vmem S2048x128 .f32 := arg7.slice (Rect.unit (s := S4096x128) ![2048, 0] S2048x128.size inb_S4096x128_S2048x128_2048_0) (fun _ => rfl)
    let v103 : Vec F S256x128 .f32 ← Prog.lift (.load v102 (⟨![5, 0], S256x128.size, ![8, 1], inb_S2048x128_S256x128_5_0_s_8_1⟩ : LoadRect S2048x128) (View.loadsAt_vmem h_S256x128))
    Prog.lift (.store v102 ⟨(⟨![5, 0], S256x128.size, ![8, 1], inb_S2048x128_S256x128_5_0_s_8_1⟩ : LoadRect S2048x128), spos_8_1⟩ (k0_pay11 v85) Finset.univ (View.stores_vmem_bits_univ h_S256x128 rfl) (.inl rfl))
    let v105 : Memref sig .tc .vmem S2048x128 .f32 := arg7.slice (Rect.unit (s := S4096x128) ![2048, 0] S2048x128.size inb_S4096x128_S2048x128_2048_0) (fun _ => rfl)
    let v106 : Vec F S256x128 .f32 ← Prog.lift (.load v105 (⟨![6, 0], S256x128.size, ![8, 1], inb_S2048x128_S256x128_6_0_s_8_1⟩ : LoadRect S2048x128) (View.loadsAt_vmem h_S256x128))
    Prog.lift (.store v105 ⟨(⟨![6, 0], S256x128.size, ![8, 1], inb_S2048x128_S256x128_6_0_s_8_1⟩ : LoadRect S2048x128), spos_8_1⟩ (k0_pay12 v85) Finset.univ (View.stores_vmem_bits_univ h_S256x128 rfl) (.inl rfl))
    let v108 : Memref sig .tc .vmem S2048x128 .f32 := arg7.slice (Rect.unit (s := S4096x128) ![2048, 0] S2048x128.size inb_S4096x128_S2048x128_2048_0) (fun _ => rfl)
    let v109 : Vec F S256x128 .f32 ← Prog.lift (.load v108 (⟨![7, 0], S256x128.size, ![8, 1], inb_S2048x128_S256x128_7_0_s_8_1⟩ : LoadRect S2048x128) (View.loadsAt_vmem h_S256x128))
    Prog.lift (.store v108 ⟨(⟨![7, 0], S256x128.size, ![8, 1], inb_S2048x128_S256x128_7_0_s_8_1⟩ : LoadRect S2048x128), spos_8_1⟩ (k0_pay13 v85) Finset.univ (View.stores_vmem_bits_univ h_S256x128 rfl) (.inl rfl))
    pure ⟨⟩
  else do
    pure ⟨⟩
  if k0_h6 : k0_cond6 v3 = 1#1 then do
    let v31 : Vec F S2048x128 .f32 ← Prog.lift (.load arg7 (Rect.unit (s := S4096x128) ![0, 0] S2048x128.size inb_S4096x128_S2048x128_0_0).toLoadRect (View.loadsAt_vmem h_S2048x128))
    Prog.lift (.store arg7 (Rect.unit (s := S4096x128) ![0, 0] S2048x128.size inb_S4096x128_S2048x128_0_0) (k0_pay14 (F := F)) Finset.univ (View.stores_vmem_bits_univ h_S2048x128 rfl) (.inl rfl))
    pure ⟨⟩
  else do
    pure ⟨⟩
  if k0_h7 : k0_cond7 v3 = 1#1 then do
    let v31 : Vec F S2048x128 .f32 ← Prog.lift (.load arg7 (Rect.unit (s := S4096x128) ![2048, 0] S2048x128.size inb_S4096x128_S2048x128_2048_0).toLoadRect (View.loadsAt_vmem h_S2048x128))
    Prog.lift (.store arg7 (Rect.unit (s := S4096x128) ![2048, 0] S2048x128.size inb_S4096x128_S2048x128_2048_0) (k0_pay15 (F := F)) Finset.univ (View.stores_vmem_bits_univ h_S2048x128 rfl) (.inl rfl))
    pure ⟨⟩
  else do
    pure ⟨⟩
  pure ⟨⟩

section Body
variable (c : Dev nD)
  (arg2 : Memref sig .tc .vmem S4096x128 .f32) (harg2 : arg2.IsWhole)
  (arg4 : Memref sig .tc .vmem S1x1x1x2048 .f32) (harg4 : arg4.IsWhole)
  (arg6 : Memref sig .tc .vmem S1x1x1x1024 .f32) (harg6 : arg6.IsWhole)
  (arg7 : Memref sig .tc .vmem S4096x128 .f32) (harg7 : arg7.IsWhole)

abbrev tailAt (i : grid0.Coords) (v1 v3 v5 v7 v13 : BitVec 32) (hw : k0_chk1 i v1 v3 v5 v7 v13) : Prog (TpuEff nD τ sig (Elt F) Λ₀ .tc) PUnit :=
  tailProg i tabM (Memref.isWhole_whole _) arg2 harg2 w1M (Memref.isWhole_whole _) arg4 harg4 w2M (Memref.isWhole_whole _) arg6 harg6 arg7 harg7 bufA (Memref.isWhole_whole _) bufB (Memref.isWhole_whole _) lowA (Memref.isWhole_whole _) lowB (Memref.isWhole_whole _) cc0_scratch4 v1 v3 v5 v7 v13 hw

theorem tail_turn (i : grid0.Coords) (v1 v3 v5 v7 v13 : BitVec 32) (hw : k0_chk1 i v1 v3 v5 v7 v13) (h1 : k0_cond1 i v1 v3 v13 = 1#1) :
    tailAt (F := F) arg2 harg2 arg4 harg4 arg6 harg6 arg7 harg7 i v1 v3 v5 v7 v13 hw
      = wtProg arg2 harg2 arg4 harg4 arg6 harg6 arg7 harg7 i v1 v3 v5 v7 v13 hw h1 >>= fun _ => cmpAt arg2 harg2 arg4 harg4 arg6 harg6 arg7 harg7 i v3 := by
  unfold tailAt tailProg wtProg
  dsimp only
  rw [dif_pos h1]
  simp only [bind_assoc]
  rfl
theorem tail_same (i : grid0.Coords) (v1 v3 v5 v7 v13 : BitVec 32) (hw : k0_chk1 i v1 v3 v5 v7 v13) (h1 : ¬ k0_cond1 i v1 v3 v13 = 1#1) :
    tailAt (F := F) arg2 harg2 arg4 harg4 arg6 harg6 arg7 harg7 i v1 v3 v5 v7 v13 hw = cmpAt arg2 harg2 arg4 harg4 arg6 harg6 arg7 harg7 i v3 := by
  unfold tailAt tailProg
  dsimp only
  rw [dif_neg h1]
  rfl

variable (XA : Buf (Elt F) (w1M.view.loc (c : Thread nD τ))) (XB : Buf (Elt F) (w2M.view.loc (c : Thread nD τ)))

theorem cmp_any (i : grid0.Coords) (v3 : BitVec 32)
    (x0 : S4096x128.Idx → Elt F .f32) (wa : S1024x2048.Idx → Elt F .bf16) (x1 : S1x1x1x2048.Idx → Elt F .f32)
    (wb : S1024x1024.Idx → Elt F .bf16) (x2 : S1x1x1x1024.Idx → Elt F .f32) (K : PUnit → sProp (MM F)) :
    iprop(owns (c : Thread nD τ) arg2 fullShare x0 ∗ owns (c : Thread nD τ) arg4 fullShare x1 ∗ owns (c : Thread nD τ) arg6 fullShare x2
        ∗ (∃ d, owns (c : Thread nD τ) arg7 fullShare d) ∗ owns (c : Thread nD τ) lowA fullShare wa ∗ owns (c : Thread nD τ) lowB fullShare wb
        ∗ (iprop(owns (c : Thread nD τ) arg2 fullShare x0 ∗ owns (c : Thread nD τ) arg4 fullShare x1 ∗ owns (c : Thread nD τ) arg6 fullShare x2
            ∗ owns (c : Thread nD τ) arg7 fullShare (outAt v3 x0 wa x1 wb x2)
            ∗ owns (c : Thread nD τ) lowA fullShare wa ∗ owns (c : Thread nD τ) lowB fullShare wb) -∗ K ⟨⟩))
      ⊢ wp frame (wpE (defs₀ (F := F)) Variants.none c none) Set.univ
          (cmpAt arg2 harg2 arg4 harg4 arg6 harg6 arg7 harg7 i v3) K := by
  by_cases h : 0 < v3.toInt
  · by_cases h' : 256 < v3.toInt
    · exact cmp_big c arg2 harg2 arg4 harg4 arg6 harg6 arg7 harg7 i v3 (c4_pos _ h) (c5_pos _ h') (c6_neg _ h) (c7_neg _ h') x0 wa x1 wb x2 K
    · exact cmp_small c arg2 harg2 arg4 harg4 arg6 harg6 arg7 harg7 i v3 (c4_pos _ h) (c5_neg _ (not_lt.mp h')) (c6_neg _ h) (c7_pos _ (not_lt.mp h')) x0 wa x1 wb x2 K
  · have h' : v3.toInt ≤ 256 := by omega
    exact cmp_none c arg2 harg2 arg4 harg4 arg6 harg6 arg7 harg7 i v3 (c4_neg _ (not_lt.mp h)) (c5_neg _ h') (c6_pos _ (not_lt.mp h)) (c7_pos _ h') x0 wa x1 wb x2 K

theorem outAt_unused (v3 : BitVec 32) (h : v3.toInt ≤ 0)
    (x0 x0' : S4096x128.Idx → Elt F .f32) (wa wa' : S1024x2048.Idx → Elt F .bf16) (x1 x1' : S1x1x1x2048.Idx → Elt F .f32)
    (wb wb' : S1024x1024.Idx → Elt F .bf16) (x2 x2' : S1x1x1x1024.Idx → Elt F .f32) :
    outAt (F := F) v3 x0 wa x1 wb x2 = outAt v3 x0' wa' x1' wb' x2' := by
  have h' : v3.toInt ≤ 256 := by omega
  unfold outAt outV
  simp only [if_neg (c4_neg _ h), if_neg (c5_neg _ h')]

/-- The rings between two runs of used blocks. -/
def idleS : sProp (MM F) := iprop(freeP (F := F) c XA XB 0 ∗ freeP (F := F) c XA XB 1 ∗ lowAny (F := F) c)

/-- The rings after a block whose expert is `v1`, whose rows are `v3`, whose successor is `v5` and whose slot is `v7`. -/
def ringS (v1 v3 v5 v7 : BitVec 32) : sProp (MM F) :=
  if 0 < v3.toInt then
    iprop(lowP c XA XB (bk v1) ∗ freeP (F := F) c XA XB (sl v7)
      ∗ (if 0 ≤ v5.toInt then goneP c XA XB (ot v7) (bk v5) else freeP (F := F) c XA XB (ot v7)))
  else idleS c XA XB

theorem idleS_slots (v : BitVec 32) (h : v.toNat < 2) :
    idleS (F := F) c XA XB ⊢ iprop(freeP (F := F) c XA XB (sl v) ∗ freeP (F := F) c XA XB (ot v) ∗ lowAny (F := F) c) := by
  unfold idleS
  obtain e | e : v.toNat = 0 ∨ v.toNat = 1 := by omega
  · rw [show sl v = 0 from Fin.ext (by simp [sl, e]), show ot v = 1 from Fin.ext (by simp [ot, e])]
  · rw [show sl v = 1 from Fin.ext (by simp [sl, e]), show ot v = 0 from Fin.ext (by simp [ot, e])]
    iintro ⟨HA, HB, HL⟩
    isplitl [HB]
    · iexact HB
    isplitl [HA]
    · iexact HA
    iexact HL

theorem slots_idleS (v : BitVec 32) (h : v.toNat < 2) :
    iprop(freeP (F := F) c XA XB (sl v) ∗ freeP (F := F) c XA XB (ot v) ∗ lowAny (F := F) c) ⊢ idleS (F := F) c XA XB := by
  unfold idleS
  obtain e | e : v.toNat = 0 ∨ v.toNat = 1 := by omega
  · rw [show sl v = 0 from Fin.ext (by simp [sl, e]), show ot v = 1 from Fin.ext (by simp [ot, e])]
  · rw [show sl v = 1 from Fin.ext (by simp [sl, e]), show ot v = 0 from Fin.ext (by simp [ot, e])]
    iintro ⟨HA, HB, HL⟩
    isplitl [HB]
    · iexact HB
    isplitl [HA]
    · iexact HA
    iexact HL

theorem low_any (e : Fin 32) : lowP (F := F) c XA XB e ⊢ lowAny (F := F) c := by
  unfold lowP lowAny
  iintro ⟨HA, HB⟩
  isplitl [HA]
  · iexists _
    iexact HA
  · iexists _
    iexact HB

/-- What the rings hold before a block, by the four ways in which a block can come. -/
def Follows (i : grid0.Coords) (v1 v3 v5 v7 v13 : BitVec 32) (S : sProp (MM F)) : Prop :=
  (v3.toInt ≤ 0 ∧ (S ⊢ idleS c XA XB)) ∨
  (0 < v3.toInt ∧ (i 0).val = 0 ∧ (S ⊢ idleS c XA XB)) ∨
  (0 < v3.toInt ∧ (i 0).val ≠ 0 ∧ v1 ≠ v13 ∧
    (S ⊢ iprop(goneP c XA XB (sl v7) (bk v1) ∗ freeP (F := F) c XA XB (ot v7) ∗ lowAny (F := F) c))) ∨
  (0 < v3.toInt ∧ (i 0).val ≠ 0 ∧ v1 = v13 ∧ (S ⊢ ringS c XA XB v1 v3 v5 v7))

section Step
variable (i : grid0.Coords) (v1 v3 v5 v7 v13 : BitVec 32)
  (x0 : S4096x128.Idx → Elt F .f32) (x1 : S1x1x1x2048.Idx → Elt F .f32) (x2 : S1x1x1x1024.Idx → Elt F .f32)

/-- What a block leaves. -/
abbrev leaves (o : S4096x128.Idx → Elt F .f32) : sProp (MM F) :=
  iprop(ringS c XA XB v1 v3 v5 v7 ∗ (∃ W', owes (c : Thread nD τ) 0 W')
    ∗ owns (c : Thread nD τ) arg2 fullShare x0 ∗ owns (c : Thread nD τ) arg4 fullShare x1 ∗ owns (c : Thread nD τ) arg6 fullShare x2
    ∗ owns (c : Thread nD τ) arg7 fullShare o)

theorem rest_of (h3 : 0 < v3.toInt) (Y : sProp (MM F))
    (hY : Y = if 0 ≤ v5.toInt then goneP c XA XB (ot v7) (bk v5) else freeP (F := F) c XA XB (ot v7)) (K : PUnit → sProp (MM F)) :
    iprop((freeP (F := F) c XA XB (sl v7) ∗ Y ∗ lowP c XA XB (bk v1) ∗ ∃ W', owes (c : Thread nD τ) 0 W')
        ∗ owns (c : Thread nD τ) arg2 fullShare x0 ∗ owns (c : Thread nD τ) arg4 fullShare x1 ∗ owns (c : Thread nD τ) arg6 fullShare x2
        ∗ (∃ d, owns (c : Thread nD τ) arg7 fullShare d)
        ∗ (leaves c arg2 arg4 arg6 arg7 XA XB v1 v3 v5 v7 x0 x1 x2 (outAt v3 x0 (wbA c XA (bk v1)) x1 (wbB c XB (bk v1)) x2) -∗ K ⟨⟩))
      ⊢ wp frame (wpE (defs₀ (F := F)) Variants.none c none) Set.univ
          (cmpAt arg2 harg2 arg4 harg4 arg6 harg6 arg7 harg7 i v3) K := by
  subst hY
  unfold leaves ringS
  rw [if_pos h3]
  unfold lowP
  iintro ⟨⟨HF, HY, ⟨LA, LB⟩, HW⟩, H2, H4, H6, H7, Hk⟩
  iapply (cmp_any c arg2 harg2 arg4 harg4 arg6 harg6 arg7 harg7 i v3 x0 (wbA c XA (bk v1)) x1 (wbB c XB (bk v1)) x2 K)
  isplitl [H2]
  · iexact H2
  isplitl [H4]
  · iexact H4
  isplitl [H6]
  · iexact H6
  isplitl [H7]
  · iexact H7
  isplitl [LA]
  · iexact LA
  isplitl [LB]
  · iexact LB
  iintro ⟨H2, H4, H6, H7, LA, LB⟩
  iapply Hk
  isplitl [LA LB HF HY]
  · isplitl [LA LB]
    · isplitl [LA]
      · iexact LA
      · iexact LB
    isplitl [HF]
    · iexact HF
    · iexact HY
  isplitl [HW]
  · iexact HW
  isplitl [H2]
  · iexact H2
  isplitl [H4]
  · iexact H4
  isplitl [H6]
  · iexact H6
  iexact H7

theorem step (hw : k0_chk1 i v1 v3 v5 v7 v13) (r1 : 0 ≤ v1.toInt ∧ v1.toInt < 32) (r5 : -1 ≤ v5.toInt ∧ v5.toInt < 32)
    (r7 : 0 ≤ v7.toInt ∧ v7.toInt < 2) (S : sProp (MM F)) (hS : Follows c XA XB i v1 v3 v5 v7 v13 S)
    (W : Waits sig Unit) (K : PUnit → sProp (MM F)) :
    iprop(S ∗ owes (c : Thread nD τ) 0 W
        ∗ owns (c : Thread nD τ) arg2 fullShare x0 ∗ owns (c : Thread nD τ) arg4 fullShare x1 ∗ owns (c : Thread nD τ) arg6 fullShare x2
        ∗ (∃ d, owns (c : Thread nD τ) arg7 fullShare d)
        ∗ (leaves c arg2 arg4 arg6 arg7 XA XB v1 v3 v5 v7 x0 x1 x2 (outAt v3 x0 (wbA c XA (bk v1)) x1 (wbB c XB (bk v1)) x2) -∗ K ⟨⟩))
      ⊢ wp frame (wpE (defs₀ (F := F)) Variants.none c none) Set.univ
          (tailAt arg2 harg2 arg4 harg4 arg6 harg6 arg7 harg7 i v1 v3 v5 v7 v13 hw) K := by
  have n1 := nat_of_int v1 32 r1.1 (by simpa using r1.2)
  have n7 := nat_of_int v7 2 r7.1 (by simpa using r7.2)
  obtain ⟨h3, hS⟩ | ⟨h3, hi, hS⟩ | ⟨h3, hi, hne, hS⟩ | ⟨h3, hi, heq, hS⟩ := hS
  · rw [tail_same (h1 := c1_unused i v1 v3 v13 h3)]
    unfold leaves ringS
    rw [if_neg (not_lt.mpr h3)]
    unfold idleS lowAny at hS ⊢
    iintro ⟨HS, HW, H2, H4, H6, H7, Hk⟩
    ihave HS := hS $$ HS
    icases HS with ⟨HA, HB, ⟨%wa, LA⟩, ⟨%wb, LB⟩⟩
    iapply (cmp_any c arg2 harg2 arg4 harg4 arg6 harg6 arg7 harg7 i v3 x0 wa x1 wb x2 K)
    isplitl [H2]
    · iexact H2
    isplitl [H4]
    · iexact H4
    isplitl [H6]
    · iexact H6
    isplitl [H7]
    · iexact H7
    isplitl [LA]
    · iexact LA
    isplitl [LB]
    · iexact LB
    rw [outAt_unused v3 h3 x0 x0 wa (wbA c XA (bk v1)) x1 x1 wb (wbB c XB (bk v1)) x2 x2]
    iintro ⟨H2, H4, H6, H7, LA, LB⟩
    iapply Hk
    isplitl [LA LB HA HB]
    · isplitl [HA]
      · iexact HA
      isplitl [HB]
      · iexact HB
      isplitl [LA]
      · iexists wa
        iexact LA
      · iexists wb
        iexact LB
    isplitl [HW]
    · iexists W
      iexact HW
    isplitl [H2]
    · iexact H2
    isplitl [H4]
    · iexact H4
    isplitl [H6]
    · iexact H6
    iexact H7
  · replace hS := hS.trans (idleS_slots c XA XB v7 n7)
    have h1 := c1_first i v1 v3 v13 hi h3
    have h2 := c2_pos i hi
    rw [tail_turn (h1 := h1), wp_bind]
    iintro ⟨HS, HW, HR⟩
    ihave HS := hS $$ HS
    icases HS with ⟨HA, HB, HL⟩
    by_cases h5 : 0 ≤ v5.toInt
    · iapply (wt_first_more c XA XB arg2 harg2 arg4 harg4 arg6 harg6 arg7 harg7 i v1 v3 v5 v7 v13 hw h1 h2 (c3_pos v5 h5) n7 n1 (nat_of_int v5 32 h5 (by simpa using r5.2)) W _)
      isplitl [HA]
      · iexact HA
      isplitl [HB]
      · iexact HB
      isplitl [HL]
      · iexact HL
      isplitl [HW]
      · iexact HW
      iintro HX
      iapply (rest_of c arg2 harg2 arg4 harg4 arg6 harg6 arg7 harg7 XA XB i v1 v3 v5 v7 x0 x1 x2 h3 _ (if_pos h5).symm K)
      isplitl [HX]
      · iexact HX
      iexact HR
    · iapply (wt_first_last c XA XB arg2 harg2 arg4 harg4 arg6 harg6 arg7 harg7 i v1 v3 v5 v7 v13 hw h1 h2 (c3_neg v5 (not_le.mp h5)) n7 n1 W _)
      isplitl [HA]
      · iexact HA
      isplitl [HB]
      · iexact HB
      isplitl [HL]
      · iexact HL
      isplitl [HW]
      · iexact HW
      iintro HX
      iapply (rest_of c arg2 harg2 arg4 harg4 arg6 harg6 arg7 harg7 XA XB i v1 v3 v5 v7 x0 x1 x2 h3 _ (if_neg h5).symm K)
      isplitl [HX]
      · iexact HX
      iexact HR
  · have h1 := c1_turn i v1 v3 v13 hne h3
    have h2 := c2_neg i hi
    rw [tail_turn (h1 := h1), wp_bind]
    iintro ⟨HS, HW, HR⟩
    ihave HS := hS $$ HS
    icases HS with ⟨HA, HB, HL⟩
    by_cases h5 : 0 ≤ v5.toInt
    · iapply (wt_turn_more c XA XB arg2 harg2 arg4 harg4 arg6 harg6 arg7 harg7 i v1 v3 v5 v7 v13 hw h1 h2 (c3_pos v5 h5) n7 n1 (nat_of_int v5 32 h5 (by simpa using r5.2)) W _)
      isplitl [HA]
      · iexact HA
      isplitl [HB]
      · iexact HB
      isplitl [HL]
      · iexact HL
      isplitl [HW]
      · iexact HW
      iintro HX
      iapply (rest_of c arg2 harg2 arg4 harg4 arg6 harg6 arg7 harg7 XA XB i v1 v3 v5 v7 x0 x1 x2 h3 _ (if_pos h5).symm K)
      isplitl [HX]
      · iexact HX
      iexact HR
    · iapply (wt_turn_last c XA XB arg2 harg2 arg4 harg4 arg6 harg6 arg7 harg7 i v1 v3 v5 v7 v13 hw h1 h2 (c3_neg v5 (not_le.mp h5)) n7 n1 W _)
      isplitl [HA]
      · iexact HA
      isplitl [HB]
      · iexact HB
      isplitl [HL]
      · iexact HL
      isplitl [HW]
      · iexact HW
      iintro HX
      iapply (rest_of c arg2 harg2 arg4 harg4 arg6 harg6 arg7 harg7 XA XB i v1 v3 v5 v7 x0 x1 x2 h3 _ (if_neg h5).symm K)
      isplitl [HX]
      · iexact HX
      iexact HR
  · rw [tail_same (h1 := c1_same i v1 v3 v13 hi heq)]
    unfold ringS at hS
    rw [if_pos h3] at hS
    iintro ⟨HS, HW, HR⟩
    ihave HS := hS $$ HS
    icases HS with ⟨HL, HF, HY⟩
    iapply (rest_of c arg2 harg2 arg4 harg4 arg6 harg6 arg7 harg7 XA XB i v1 v3 v5 v7 x0 x1 x2 h3 _ rfl K)
    isplitr [HR]
    · isplitl [HF]
      · iexact HF
      isplitl [HY]
      · iexact HY
      isplitl [HL]
      · iexact HL
      iexists W
      iexact HW
    iexact HR
end Step
end Body
end Cert.Kernel3Ideal.Hand

end
-- ==== Proof.ExpOpen.lean ====
module

public import proofs.«01_k».proof.Proof.ExpBody

public import Idealize.ShloMosaic.Lib.Tactic.Disch

@[expose] public section

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-! ## The body from its table -/

section Table
variable (T : S4x288.Idx → BitVec 32) (i : grid0.Coords)

/-- The expert, the rows, the successor and the slot of a point, and the expert of the point before. -/
def wE : BitVec 32 := T (at2 0 ⟨(i 0).val, (i 0).isLt⟩)
def wR : BitVec 32 := T (at2 1 ⟨(i 0).val, (i 0).isLt⟩)
def wN : BitVec 32 := T (at2 2 ⟨(i 0).val, (i 0).isLt⟩)
def wS : BitVec 32 := T (at2 3 ⟨(i 0).val, (i 0).isLt⟩)
def wP : BitVec 32 := T (at2 0 ⟨(i 0).val - 1, lt_of_le_of_lt (Nat.sub_le _ _) (i 0).isLt⟩)

theorem row_nat : (BitVec.ofNat 32 (i 0).val).toNat = (i 0).val := by
  have hb : (i 0).val < 288 := (i 0).isLt
  rw [BitVec.toNat_ofNat]; omega

theorem prev_nat : (Scalar.maxsi (Scalar.subi (BitVec.ofNat 32 (i 0).val) 1#32) 0#32).toNat = (i 0).val - 1 := by
  have hb : (i 0).val < 288 := (i 0).isLt
  obtain ⟨n, hn⟩ : ∃ n, n = (i 0).val := ⟨_, rfl⟩
  rw [← hn] at hb ⊢
  revert hb; clear hn
  revert n; decide

theorem word_at {off : Fin 2 → Nat} (inb) (a : Fin 4) (t : Fin 288) (h : off = ![a.val, t.val]) (n) :
    View.readAt (Elt F) tabM.view (Rect.unit (s := S4x288) off S1x1.size inb).toLoadRect T (Shape.Idx.first n) = T (at2 a t) := by
  subst h
  refine congrArg T (funext fun b => Fin.ext ?_)
  fin_cases b
  · rfl
  · rfl
end Table

section Body
variable (c : Dev nD)
  (arg2 : Memref sig .tc .vmem S4096x128 .f32) (harg2 : arg2.IsWhole)
  (arg4 : Memref sig .tc .vmem S1x1x1x2048 .f32) (harg4 : arg4.IsWhole)
  (arg6 : Memref sig .tc .vmem S1x1x1x1024 .f32) (harg6 : arg6.IsWhole)
  (arg7 : Memref sig .tc .vmem S4096x128 .f32) (harg7 : arg7.IsWhole)
  (XA : Buf (Elt F) (w1M.view.loc (c : Thread nD τ))) (XB : Buf (Elt F) (w2M.view.loc (c : Thread nD τ)))

abbrev bodyProg (i : grid0.Coords) : Prog (TpuEff nD τ sig (Elt F) Λ₀ .tc) PUnit :=
  cc0__expert_kernel i tabM (Memref.isWhole_whole _) arg2 harg2 w1M (Memref.isWhole_whole _) arg4 harg4 w2M (Memref.isWhole_whole _) arg6 harg6 arg7 harg7 bufA (Memref.isWhole_whole _) bufB (Memref.isWhole_whole _) lowA (Memref.isWhole_whole _) lowB (Memref.isWhole_whole _) cc0_scratch4

/-- The table, held to be read. -/
abbrev tabP (T : S4x288.Idx → BitVec 32) : sProp (MM F) := tabM.view.loc (c : Thread nD τ) ↦{fullShare.right} T

theorem body_run (i : grid0.Coords) (T : S4x288.Idx → BitVec 32)
    (r1 : 0 ≤ (wE T i).toInt ∧ (wE T i).toInt < 32) (r5 : -1 ≤ (wN T i).toInt ∧ (wN T i).toInt < 32)
    (r7 : 0 ≤ (wS T i).toInt ∧ (wS T i).toInt < 2) (S : sProp (MM F))
    (hS : Follows c XA XB i (wE T i) (wR T i) (wN T i) (wS T i) (wP T i) S)
    (x0 : S4096x128.Idx → Elt F .f32) (x1 : S1x1x1x2048.Idx → Elt F .f32) (x2 : S1x1x1x1024.Idx → Elt F .f32)
    (W : Waits sig Unit) (K : PUnit → sProp (MM F)) :
    iprop(tabP c T ∗ S ∗ owes (c : Thread nD τ) 0 W
        ∗ owns (c : Thread nD τ) arg2 fullShare x0 ∗ owns (c : Thread nD τ) arg4 fullShare x1 ∗ owns (c : Thread nD τ) arg6 fullShare x2
        ∗ (∃ d, owns (c : Thread nD τ) arg7 fullShare d)
        ∗ ((tabP c T ∗ leaves c arg2 arg4 arg6 arg7 XA XB (wE T i) (wR T i) (wN T i) (wS T i) x0 x1 x2
            (outAt (wR T i) x0 (wbA c XA (bk (wE T i))) x1 (wbB c XB (bk (wE T i))) x2)) -∗ K ⟨⟩))
      ⊢ wp frame (wpE (defs₀ (F := F)) Variants.none c none) Set.univ
          (bodyProg arg2 harg2 arg4 harg4 arg6 harg6 arg7 harg7 i) K := by
  have hw : k0_chk1 i (wE T i) (wR T i) (wN T i) (wS T i) (wP T i) := checked i _ _ _ _ _ r1 r5 r7
  have e1 : ∀ n, View.readAt (Elt F) tabM.view (Rect.unit (s := S4x288) (k0_off1 i) S1x1.size (k0_off1_inb i)).toLoadRect T (Shape.Idx.first n) = wE T i :=
    fun n => word_at T (k0_off1_inb i) 0 ⟨(i 0).val, (i 0).isLt⟩ (congrArg (fun n : Nat => (![0, n] : Fin 2 → Nat)) (row_nat i)) n
  have e2 : ∀ n, View.readAt (Elt F) tabM.view (Rect.unit (s := S4x288) (k0_off2 i) S1x1.size (k0_off2_inb i)).toLoadRect T (Shape.Idx.first n) = wR T i :=
    fun n => word_at T (k0_off2_inb i) 1 ⟨(i 0).val, (i 0).isLt⟩ (congrArg (fun n : Nat => (![1, n] : Fin 2 → Nat)) (row_nat i)) n
  have e3 : ∀ n, View.readAt (Elt F) tabM.view (Rect.unit (s := S4x288) (k0_off3 i) S1x1.size (k0_off3_inb i)).toLoadRect T (Shape.Idx.first n) = wN T i :=
    fun n => word_at T (k0_off3_inb i) 2 ⟨(i 0).val, (i 0).isLt⟩ (congrArg (fun n : Nat => (![2, n] : Fin 2 → Nat)) (row_nat i)) n
  have e4 : ∀ n, View.readAt (Elt F) tabM.view (Rect.unit (s := S4x288) (k0_off4 i) S1x1.size (k0_off4_inb i)).toLoadRect T (Shape.Idx.first n) = wS T i :=
    fun n => word_at T (k0_off4_inb i) 3 ⟨(i 0).val, (i 0).isLt⟩ (congrArg (fun n : Nat => (![3, n] : Fin 2 → Nat)) (row_nat i)) n
  have e5 : ∀ n, View.readAt (Elt F) tabM.view (Rect.unit (s := S4x288) (k0_off5 i) S1x1.size (k0_off5_inb i)).toLoadRect T (Shape.Idx.first n) = wP T i :=
    fun n => word_at T (k0_off5_inb i) 0 ⟨(i 0).val - 1, lt_of_le_of_lt (Nat.sub_le _ _) (i 0).isLt⟩ (congrArg (fun n : Nat => (![0, n] : Fin 2 → Nat)) (prev_nat i)) n
  have hw' := hw
  have hn : 0 < S1x1.numel := by decide
  rw [← e1 hn, ← e2 hn, ← e3 hn, ← e4 hn, ← e5 hn] at hw'
  have key : ∀ v1 v3 v5 v7 v13 (hw'' : k0_chk1 i v1 v3 v5 v7 v13), v1 = wE T i → v3 = wR T i → v5 = wN T i → v7 = wS T i → v13 = wP T i →
      iprop(tabP c T ∗ S ∗ owes (c : Thread nD τ) 0 W
        ∗ owns (c : Thread nD τ) arg2 fullShare x0 ∗ owns (c : Thread nD τ) arg4 fullShare x1 ∗ owns (c : Thread nD τ) arg6 fullShare x2
        ∗ (∃ d, owns (c : Thread nD τ) arg7 fullShare d)
        ∗ ((tabP c T ∗ leaves c arg2 arg4 arg6 arg7 XA XB (wE T i) (wR T i) (wN T i) (wS T i) x0 x1 x2
            (outAt (wR T i) x0 (wbA c XA (bk (wE T i))) x1 (wbB c XB (bk (wE T i))) x2)) -∗ K ⟨⟩))
      ⊢ wp frame (wpE (defs₀ (F := F)) Variants.none c none) Set.univ
          (tailAt arg2 harg2 arg4 harg4 arg6 harg6 arg7 harg7 i v1 v3 v5 v7 v13 hw'') K := by
    rintro _ _ _ _ _ hw'' rfl rfl rfl rfl rfl
    iintro ⟨HT, HS, HW, H2, H4, H6, H7, Hk⟩
    iapply (step c arg2 harg2 arg4 harg4 arg6 harg6 arg7 harg7 XA XB i _ _ _ _ _ x0 x1 x2 hw'' r1 r5 r7 S hS W K)
    isplitl [HS]
    · iexact HS
    isplitl [HW]
    · iexact HW
    isplitl [H2]
    · iexact H2
    isplitl [H4]
    · iexact H4
    isplitl [H6]
    · iexact H6
    isplitl [H7]
    · iexact H7
    iintro HL
    iapply Hk
    isplitl [HT]
    · iexact HT
    iexact HL
  unfold bodyProg
  rw [cc0__expert_kernel_eq_skeleton]
  unfold cc0__expert_kernel_skel
  iintro ⟨HT, HR⟩
  sl_exec (disch := exact hw')
  iapply (key _ _ _ _ _ hw' (e1 _) (e2 _) (e3 _) (e4 _) (e5 _))
  isplitl [HT]
  · iexact HT
  iexact HR
end Body
end Cert.Kernel3Ideal.Hand

end
-- ==== Proof.ExpState.lean ====
module

public import proofs.«01_k».proof.Proof.ExpOpen

public import Idealize.ShloMosaic.Lib.Tactic.Disch

@[expose] public section

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-! ## The two slots are their buffer -/

theorem mem_slotA (s : Fin 2) (y : S2x1024x2048.Idx) : y ∈ (slotA s).view.set ↔ (y 0).val = s.val := by
  have e : (slotA s).view.set = (Rect.unit (s := S2x1024x2048) (slotOff s) S1x1024x2048.size (slotA_inb s)).set :=
    (View.set_reshape _ _).trans (View.set_slice_whole _ _)
  refine (Iff.of_eq (congrArg (fun S : Finset S2x1024x2048.Idx => y ∈ S) e)).trans ?_
  refine Rect.mem_set_unit.trans ?_
  have h1 : (y 1).val < 1024 := (y 1).isLt
  have h2 : (y 2).val < 2048 := (y 2).isLt
  constructor
  · intro h
    have h0 : s.val ≤ (y 0).val ∧ (y 0).val < s.val + 1 := h 0
    omega
  · intro h a
    fin_cases a
    · show s.val ≤ (y 0).val ∧ (y 0).val < s.val + 1
      omega
    · show 0 ≤ (y 1).val ∧ (y 1).val < 0 + 1024
      omega
    · show 0 ≤ (y 2).val ∧ (y 2).val < 0 + 2048
      omega

theorem mem_slotB (s : Fin 2) (y : S2x1024x1024.Idx) : y ∈ (slotB s).view.set ↔ (y 0).val = s.val := by
  have e : (slotB s).view.set = (Rect.unit (s := S2x1024x1024) (slotOff s) S1x1024x1024.size (slotB_inb s)).set :=
    (View.set_reshape _ _).trans (View.set_slice_whole _ _)
  refine (Iff.of_eq (congrArg (fun S : Finset S2x1024x1024.Idx => y ∈ S) e)).trans ?_
  refine Rect.mem_set_unit.trans ?_
  have h1 : (y 1).val < 1024 := (y 1).isLt
  have h2 : (y 2).val < 1024 := (y 2).isLt
  constructor
  · intro h
    have h0 : s.val ≤ (y 0).val ∧ (y 0).val < s.val + 1 := h 0
    omega
  · intro h a
    fin_cases a
    · show s.val ≤ (y 0).val ∧ (y 0).val < s.val + 1
      omega
    · show 0 ≤ (y 1).val ∧ (y 1).val < 0 + 1024
      omega
    · show 0 ≤ (y 2).val ∧ (y 2).val < 0 + 1024
      omega

theorem rest_slotA : Finset.univ \ (slotA 0).view.set = (slotA 1).view.set := by
  have k : ∀ y : S2x1024x2048.Idx, (¬ (y 0).val = (0 : Fin 2).val) = ((y 0).val = (1 : Fin 2).val) := fun y => by
    have h0 : (y 0).val < 2 := (y 0).isLt
    refine propext ⟨fun h => ?_, fun h h' => ?_⟩
    · show (y 0).val = 1
      have h' : ¬ (y 0).val = 0 := h
      omega
    · have e1 : (y 0).val = 1 := h
      have e0 : (y 0).val = 0 := h'
      omega
  exact Finset.ext fun y => Finset.mem_sdiff.trans ((and_iff_right (Finset.mem_univ _)).trans
    ((not_congr (mem_slotA 0 y)).trans ((Iff.of_eq (k y)).trans (mem_slotA 1 y).symm)))
theorem rest_slotB : Finset.univ \ (slotB 0).view.set = (slotB 1).view.set := by
  have k : ∀ y : S2x1024x1024.Idx, (¬ (y 0).val = (0 : Fin 2).val) = ((y 0).val = (1 : Fin 2).val) := fun y => by
    have h0 : (y 0).val < 2 := (y 0).isLt
    refine propext ⟨fun h => ?_, fun h h' => ?_⟩
    · show (y 0).val = 1
      have h' : ¬ (y 0).val = 0 := h
      omega
    · have e1 : (y 0).val = 1 := h
      have e0 : (y 0).val = 0 := h'
      omega
  exact Finset.ext fun y => Finset.mem_sdiff.trans ((and_iff_right (Finset.mem_univ _)).trans
    ((not_congr (mem_slotB 0 y)).trans ((Iff.of_eq (k y)).trans (mem_slotB 1 y).symm)))

section Ends
variable (c : Dev nD) (XA : Buf (Elt F) (w1M.view.loc (c : Thread nD τ))) (XB : Buf (Elt F) (w2M.view.loc (c : Thread nD τ)))

/-- A buffer held whole. -/
abbrev held {sp : Space} {S : Shape} {e : EltTy} (M : Memref sig .tc sp S e) (f : Buf (Elt F) (M.view.loc (c : Thread nD τ))) : sProp (MM F) :=
  M.view.loc (c : Thread nD τ) ↦{fullShare} f

theorem carve {ℓ : Loc nD τ sig} {I J : Finset (Idx ℓ)} (h : Finset.univ \ I = J) (f : Buf (Elt F) ℓ) :
    (ℓ ↦{fullShare} f : sProp (MM F)) ⊢ iprop((ℓ ↦[I]{fullShare} f) ∗ ℓ ↦[J]{fullShare} f) := by
  subst h
  exact (pointsTo_split_subset (Finset.subset_univ I)).1
theorem restore {ℓ : Loc nD τ sig} {I J : Finset (Idx ℓ)} (h : Finset.univ \ I = J) (f g : Buf (Elt F) ℓ) :
    iprop((ℓ ↦[I]{fullShare} f) ∗ ℓ ↦[J]{fullShare} g) ⊢ (ℓ ↦{fullShare} (I.piecewise f g) : sProp (MM F)) := by
  subst h
  exact pointsTo_join_subset (Finset.subset_univ I)
theorem bufA_split (f : Buf (Elt F) (bufA.view.loc (c : Thread nD τ))) : held c bufA f ⊢ iprop(slotPA c 0 f ∗ slotPA c 1 f) :=
  carve rest_slotA f
theorem bufB_split (f : Buf (Elt F) (bufB.view.loc (c : Thread nD τ))) : held c bufB f ⊢ iprop(slotPB c 0 f ∗ slotPB c 1 f) :=
  carve rest_slotB f
theorem bufA_join (f g : Buf (Elt F) (bufA.view.loc (c : Thread nD τ))) : iprop(slotPA c 0 f ∗ slotPA c 1 g) ⊢ iprop(∃ h, held c bufA h) := by
  iintro H
  iexists ((slotA 0).view.set.piecewise f g)
  iapply (restore rest_slotA f g)
  iexact H
theorem bufB_join (f g : Buf (Elt F) (bufB.view.loc (c : Thread nD τ))) : iprop(slotPB c 0 f ∗ slotPB c 1 g) ⊢ iprop(∃ h, held c bufB h) := by
  iintro H
  iexists ((slotB 0).view.set.piecewise f g)
  iapply (restore rest_slotB f g)
  iexact H
theorem homeA_split : held c w1M XA ⊢ iprop(homeA c XA 0 ∗ homeA c XA 1) :=
  (pointsTo_share (PosShare.mem_left_op_right fullShare)).1
theorem homeB_split : held c w2M XB ⊢ iprop(homeB c XB 0 ∗ homeB c XB 1) :=
  (pointsTo_share (PosShare.mem_left_op_right fullShare)).1
theorem homeA_whole : iprop(homeA c XA 0 ∗ homeA c XA 1) ⊢ held c w1M XA :=
  (pointsTo_share (PosShare.mem_left_op_right fullShare)).2
theorem homeB_whole : iprop(homeB c XB 0 ∗ homeB c XB 1) ⊢ held c w2M XB :=
  (pointsTo_share (PosShare.mem_left_op_right fullShare)).2

/-- What the launch hands over and takes back: the four buffers at anything, the four cells at zero, the weights. -/
def store : sProp (MM F) :=
  iprop(((∃ f, held c bufA f) ∗ (∃ f, held c bufB f) ∗ (∃ d, owns (c : Thread nD τ) lowA fullShare d) ∗ (∃ d, owns (c : Thread nD τ) lowB fullShare d))
    ∗ (cellP c 0 0 ∗ cellP c 0 1 ∗ cellP c 1 0 ∗ cellP c 1 1) ∗ (held c w1M XA ∗ held c w2M XB))

theorem store_idle : store c XA XB ⊢ idleS (F := F) c XA XB := by
  unfold store idleS freeP lowAny
  iintro ⟨⟨⟨%f, HA⟩, ⟨%g, HB⟩, LA, LB⟩, ⟨C00, C01, C10, C11⟩, WA, WB⟩
  ihave HA := (bufA_split c f) $$ HA
  ihave HB := (bufB_split c g) $$ HB
  ihave WA := (homeA_split c XA) $$ WA
  ihave WB := (homeB_split c XB) $$ WB
  icases HA with ⟨A0, A1⟩
  icases HB with ⟨B0, B1⟩
  icases WA with ⟨WA0, WA1⟩
  icases WB with ⟨WB0, WB1⟩
  isplitl [A0 C00 WA0 B0 C10 WB0]
  · isplitl [A0]
    · iexists f
      iexact A0
    isplitl [C00]
    · iexact C00
    isplitl [WA0]
    · iexact WA0
    isplitl [B0]
    · iexists g
      iexact B0
    isplitl [C10]
    · iexact C10
    iexact WB0
  isplitl [A1 C01 WA1 B1 C11 WB1]
  · isplitl [A1]
    · iexists f
      iexact A1
    isplitl [C01]
    · iexact C01
    isplitl [WA1]
    · iexact WA1
    isplitl [B1]
    · iexists g
      iexact B1
    isplitl [C11]
    · iexact C11
    iexact WB1
  isplitl [LA]
  · iexact LA
  iexact LB

theorem idle_store : idleS (F := F) c XA XB ⊢ store c XA XB := by
  unfold store idleS freeP lowAny
  iintro ⟨⟨⟨%f0, A0⟩, C00, WA0, ⟨%g0, B0⟩, C10, WB0⟩, ⟨⟨%f1, A1⟩, C01, WA1, ⟨%g1, B1⟩, C11, WB1⟩, LA, LB⟩
  isplitl [A0 A1 B0 B1 LA LB]
  · isplitl [A0 A1]
    · iapply (bufA_join c f0 f1)
      isplitl [A0]
      · iexact A0
      iexact A1
    isplitl [B0 B1]
    · iapply (bufB_join c g0 g1)
      isplitl [B0]
      · iexact B0
      iexact B1
    isplitl [LA]
    · iexact LA
    iexact LB
  isplitl [C00 C01 C10 C11]
  · isplitl [C00]
    · iexact C00
    isplitl [C01]
    · iexact C01
    isplitl [C10]
    · iexact C10
    iexact C11
  isplitl [WA0 WA1]
  · iapply (homeA_whole c XA)
    isplitl [WA0]
    · iexact WA0
    iexact WA1
  · iapply (homeB_whole c XB)
    isplitl [WB0]
    · iexact WB0
    iexact WB1

/-! ## A plan of blocks, and the rings between them -/

/-- Word `a` of block `n`. -/
def row (T : S4x288.Idx → BitVec 32) (a : Fin 4) (n : ℕ) : BitVec 32 := T (at2 a ⟨n % 288, Nat.mod_lt _ (by decide)⟩)

/-- The rings before block `n`. -/
def before (T : S4x288.Idx → BitVec 32) : ℕ → sProp (MM F)
  | 0 => idleS c XA XB
  | n + 1 => ringS c XA XB (row T 0 n) (row T 1 n) (row T 2 n) (row T 3 n)

theorem before_step (T : S4x288.Idx → BitVec 32) (n : ℕ) :
    before (F := F) c XA XB T (n + 1) = ringS c XA XB (row T 0 n) (row T 1 n) (row T 2 n) (row T 3 n) := rfl

/-- What the table promises: fields in range, and every block either used, after a used block of the same run or at the turn to
    the run that block announced, or unused, after a block that announced nothing. -/
structure Plan (T : S4x288.Idx → BitVec 32) : Prop where
  e : ∀ n, 0 ≤ (row T 0 n).toInt ∧ (row T 0 n).toInt < 32
  n : ∀ n, -1 ≤ (row T 2 n).toInt ∧ (row T 2 n).toInt < 32
  s : ∀ n, 0 ≤ (row T 3 n).toInt ∧ (row T 3 n).toInt < 2
  used : ∀ n, n + 1 < 288 → 0 < (row T 1 (n + 1)).toInt → 0 < (row T 1 n).toInt ∧
    ((row T 0 (n + 1) = row T 0 n ∧ row T 2 (n + 1) = row T 2 n ∧ row T 3 (n + 1) = row T 3 n) ∨
      (row T 0 (n + 1) = row T 2 n ∧ row T 0 (n + 1) ≠ row T 0 n ∧ row T 3 (n + 1) = 1#32 - row T 3 n))
  halt : ∀ n, n + 1 < 288 → (row T 1 (n + 1)).toInt ≤ 0 → (row T 1 n).toInt ≤ 0 ∨ row T 2 n = 4294967295#32
  last : (row T 1 287).toInt ≤ 0 ∨ row T 2 287 = 4294967295#32

theorem ring_idle (v1 v3 v5 v7 : BitVec 32) (h7 : v7.toNat < 2) (h : v3.toInt ≤ 0 ∨ v5 = 4294967295#32) :
    ringS (F := F) c XA XB v1 v3 v5 v7 ⊢ idleS c XA XB := by
  unfold ringS
  by_cases h3 : 0 < v3.toInt
  · obtain h | h := h
    · omega
    subst h
    rw [if_pos h3, if_neg (by decide)]
    refine BIBase.Entails.trans ?_ (slots_idleS c XA XB v7 h7)
    iintro ⟨HL, HF, HG⟩
    isplitl [HF]
    · iexact HF
    isplitl [HG]
    · iexact HG
    iapply (low_any c XA XB (bk v1))
    iexact HL
  · rw [if_neg h3]

theorem slot_turn (v : BitVec 32) (h : v.toNat < 2) : sl (1#32 - v) = ot v ∧ ot (1#32 - v) = sl v := by
  obtain e | e : v = 0#32 ∨ v = 1#32 := by
    obtain e | e : v.toNat = 0 ∨ v.toNat = 1 := by omega
    · exact Or.inl (BitVec.eq_of_toNat_eq e)
    · exact Or.inr (BitVec.eq_of_toNat_eq e)
  · subst e
    decide
  · subst e
    decide

theorem slot_nat (T : S4x288.Idx → BitVec 32) (P : Plan T) (n : ℕ) : (row T 3 n).toNat < 2 := nat_of_int _ 2 (P.s n).1 (by simpa using (P.s n).2)

theorem before_last (T : S4x288.Idx → BitVec 32) (P : Plan T) : before (F := F) c XA XB T 288 ⊢ idleS c XA XB :=
  ring_idle c XA XB _ _ _ _ (slot_nat T P 287) P.last

theorem words (T : S4x288.Idx → BitVec 32) (i : grid0.Coords) (n : ℕ) (h : (i 0).val = n) :
    wE T i = row T 0 n ∧ wR T i = row T 1 n ∧ wN T i = row T 2 n ∧ wS T i = row T 3 n ∧ wP T i = row T 0 (n - 1) := by
  subst h
  have hb : (i 0).val < 288 := (i 0).isLt
  have e : (⟨(i 0).val, (i 0).isLt⟩ : Fin 288) = ⟨(i 0).val % 288, Nat.mod_lt _ (by decide)⟩ := Fin.ext (Nat.mod_eq_of_lt hb).symm
  have e' : (⟨(i 0).val - 1, lt_of_le_of_lt (Nat.sub_le _ _) (i 0).isLt⟩ : Fin 288) = ⟨((i 0).val - 1) % 288, Nat.mod_lt _ (by decide)⟩ :=
    Fin.ext (Nat.mod_eq_of_lt (lt_of_le_of_lt (Nat.sub_le _ _) hb)).symm
  exact ⟨congrArg (fun t => T (at2 0 t)) e, congrArg (fun t => T (at2 1 t)) e, congrArg (fun t => T (at2 2 t)) e,
    congrArg (fun t => T (at2 3 t)) e, congrArg (fun t => T (at2 0 t)) e'⟩

theorem follows (T : S4x288.Idx → BitVec 32) (P : Plan T) (i : grid0.Coords) (n : ℕ) (h : (i 0).val = n) :
    Follows (F := F) c XA XB i (wE T i) (wR T i) (wN T i) (wS T i) (wP T i) (before c XA XB T n) := by
  have hb : n < 288 := h ▸ (i 0).isLt
  obtain ⟨eE, eR, eN, eS, eP⟩ := words T i n h
  rw [eE, eR, eN, eS, eP]
  unfold Follows
  by_cases h3 : 0 < (row T 1 n).toInt
  · cases n with
    | zero => exact Or.inr (Or.inl ⟨h3, h, .rfl⟩)
    | succ n =>
      obtain ⟨hu, ⟨a, b, d⟩ | ⟨a, b, d⟩⟩ := P.used n hb h3
      · refine Or.inr (Or.inr (Or.inr ⟨h3, by omega, a, ?_⟩))
        rw [before_step]
        unfold ringS
        rw [if_pos h3, if_pos hu, a, b, d]
      · refine Or.inr (Or.inr (Or.inl ⟨h3, by omega, b, ?_⟩))
        have hn := (P.e (n + 1)).1
        rw [a] at hn
        obtain ⟨s1, s2⟩ := slot_turn (row T 3 n) (slot_nat T P n)
        rw [before_step]
        unfold ringS
        rw [if_pos hu, if_pos hn, a, d, s1, s2]
        iintro ⟨HL, HF, HG⟩
        isplitl [HG]
        · iexact HG
        isplitl [HF]
        · iexact HF
        iapply (low_any c XA XB (bk (row T 0 n)))
        iexact HL
  · refine Or.inl ⟨not_lt.mp h3, ?_⟩
    cases n with
    | zero => exact .rfl
    | succ n => exact ring_idle c XA XB _ _ _ _ (slot_nat T P n) (P.halt n hb (not_lt.mp h3))

theorem before_succ (T : S4x288.Idx → BitVec 32) (i : grid0.Coords) (n : ℕ) (h : (i 0).val = n) :
    before (F := F) c XA XB T (n + 1) = ringS c XA XB (wE T i) (wR T i) (wN T i) (wS T i) := by
  obtain ⟨eE, eR, eN, eS, eP⟩ := words T i n h
  rw [eE, eR, eN, eS]
  rfl
end Ends
end Cert.Kernel3Ideal.Hand

end
-- ==== Proof.ExpPlan.lean ====
module

public import proofs.«01_k».proof.Proof.ExpState
public import proofs.«01_k».proof.Proof.Gen.Pre_planned
public import Idealize.ShloMosaic.Lib.ReduceAll
public import Idealize.ShloMosaic.Lib.WordCmp
public import Idealize.ShloMosaic.Lib.SortFacts
public import Idealize.ShloMosaic.Lib.Pointwise
public import Idealize.ShloMosaic.Lib.StableHlo.Predicate

@[expose] public section

noncomputable section

namespace Cert.Pre_planned

open Cert.Pre_planned.Facts
open Idealize.ShloMosaic Idealize.ShloMosaic.Tactic

/-! # What `planned` says of the table -/

theorem and_bits {a b : BitVec 1} (h : IntOp.andi a b = 1#1) : a = 1#1 ∧ b = 1#1 := by
  revert a b; decide
theorem or_bits {a b : BitVec 1} (h : IntOp.ori a b = 1#1) : a = 1#1 ∨ b = 1#1 := by
  revert a b; decide
theorem not_bit {a : BitVec 1} (h : ~~~a = 1#1) : ¬ a = 1#1 := by
  revert a; decide
theorem bit_true {p : Prop} [Decidable p] (h : BitVec.ofBool (decide p) = 1#1) : p := by
  by_contra hn
  rw [decide_eq_false hn] at h
  exact absurd h (by decide)

/-- Block `n` as an index of a row. -/
def at1 (n : Fin 288) : S288.Idx := Shape.Idx.ofFin n
def up (k : S287.Idx) : S288.Idx := at1 ⟨(k 0).val + 1, by have : (k 0).val < 287 := (k 0).isLt; omega⟩
def dn (k : S287.Idx) : S288.Idx := at1 ⟨(k 0).val, by have : (k 0).val < 287 := (k 0).isLt; omega⟩

variable {α : Type}
theorem slice_up (x : S288.Idx → α) (h : S288.Slices ![1] S287) (k : S287.Idx) : extractStridedSlice S287 ![1] x h k = x (up k) :=
  congrArg x (funext fun b => Fin.ext (by fin_cases b; exact Nat.add_comm _ _))
theorem slice_dn (x : S288.Idx → α) (h : S288.Slices ![0] S287) (k : S287.Idx) : extractStridedSlice S287 ![0] x h k = x (dn k) :=
  congrArg x (funext fun b => Fin.ext (by fin_cases b; exact Nat.zero_add _))
theorem slice_last (x : S288.Idx → α) (h : S288.Slices ![287] S1) (k : S1.Idx) : extractStridedSlice S1 ![287] x h k = x (at1 287) :=
  congrArg x (funext fun b => Fin.ext (by
    fin_cases b
    have : (k 0).val < 1 := (k 0).isLt
    show 287 + (k 0).val = 287
    omega))

variable {F : FTy → Type} [FloatOps F] [Facts]

/-- The predicate of the four rows. -/
def ofRows (E R N S : S288.Idx → BitVec 32) : IVec S_ 1 :=
  let z : IVec S288 32 := broadcastInDim S288 ![] bcast_S_S288 (constantI S_ 32 0#32)
  let w : IVec S288 32 := broadcastInDim S288 ![] bcast_S_S288 (constantI S_ 32 32#32)
  let o : IVec S288 32 := broadcastInDim S288 ![] bcast_S_S288 (constantI S_ 32 4294967295#32)
  fn_part1 (F := F) E N S (cmpi .sgt R z) (andi (andi (cmpi .sge E z) (cmpi .slt E w)) (cmpi .sge N o)) w

theorem of_rows (E R N S : S288.Idx → BitVec 32) (h : ofRows (F := F) E R N S = fun _ => 1#1) :
    (∀ j, (0 ≤ (E j).toInt ∧ (E j).toInt < 32) ∧ (-1 ≤ (N j).toInt ∧ (N j).toInt < 32) ∧ (0 ≤ (S j).toInt ∧ (S j).toInt < 2))
    ∧ (∀ k, 0 < (R (up k)).toInt → 0 < (R (dn k)).toInt ∧ ((E (up k) = E (dn k) ∧ N (up k) = N (dn k) ∧ S (up k) = S (dn k))
        ∨ (E (up k) = N (dn k) ∧ E (up k) ≠ E (dn k) ∧ S (up k) = 1#32 - S (dn k))))
    ∧ (∀ k, (R (up k)).toInt ≤ 0 → (R (dn k)).toInt ≤ 0 ∨ N (dn k) = 4294967295#32)
    ∧ ((R (at1 287)).toInt ≤ 0 ∨ N (at1 287) = 4294967295#32) := by
  have : Subsingleton S_.Idx := ⟨fun a b => funext fun k => k.elim0⟩
  obtain ⟨h12, h3⟩ := and_bits (congrFun h ix0)
  obtain ⟨h1, h2⟩ := and_bits h12
  refine ⟨fun j => ?_, ?_⟩
  · have g := Host.reduce_andi_all _ _ _ _ _ h1 j
    obtain ⟨g, s1⟩ := and_bits g
    obtain ⟨g, s0⟩ := and_bits g
    obtain ⟨g, n1⟩ := and_bits g
    obtain ⟨g, n0⟩ := and_bits g
    obtain ⟨e0, e1⟩ := and_bits g
    have s1 : (S j).toInt ≤ (1#32).toInt := bit_true s1
    have s0 : (0#32).toInt ≤ (S j).toInt := bit_true s0
    have n1 : (N j).toInt < (32#32).toInt := bit_true n1
    have n0 : (4294967295#32).toInt ≤ (N j).toInt := bit_true n0
    have e0 : (0#32).toInt ≤ (E j).toInt := bit_true e0
    have e1 : (E j).toInt < (32#32).toInt := bit_true e1
    rw [show (1#32).toInt = 1 from by decide] at s1
    rw [show (0#32).toInt = 0 from by decide] at s0 e0
    rw [show (32#32).toInt = 32 from by decide] at n1 e1
    rw [show (4294967295#32).toInt = -1 from by decide] at n0
    exact ⟨⟨e0, e1⟩, ⟨n0, n1⟩, s0, by omega⟩
  have key : ∀ k, (if IntOp.cmpi .sgt (R (up k)) 0#32 = 1#1
      then IntOp.andi (IntOp.cmpi .sgt (R (dn k)) 0#32)
        (IntOp.ori (IntOp.andi (IntOp.andi (IntOp.cmpi .eq (E (up k)) (E (dn k))) (IntOp.cmpi .eq (N (up k)) (N (dn k)))) (IntOp.cmpi .eq (S (up k)) (S (dn k))))
          (IntOp.andi (IntOp.andi (IntOp.cmpi .eq (E (up k)) (N (dn k))) (IntOp.cmpi .ne (E (up k)) (E (dn k)))) (IntOp.cmpi .eq (S (up k)) (IntOp.subi 1#32 (S (dn k))))))
      else IntOp.ori (~~~(IntOp.cmpi .sgt (R (dn k)) 0#32)) (IntOp.cmpi .eq (N (dn k)) 4294967295#32)) = 1#1 := fun k => by
    have g := Host.reduce_andi_all _ _ _ _ _ h2 k
    simp only [← slice_up _ slices_S288_S287_1, ← slice_dn _ slices_S288_S287_0]
    exact g
  have pos : ∀ v : BitVec 32, IntOp.cmpi .sgt v 0#32 = 1#1 ↔ 0 < v.toInt := fun v => by
    rw [WordCmp.cmpi_sgt_eq, show (0#32).toInt = 0 from by decide]
    exact ⟨bit_true, fun h => by rw [decide_eq_true h]; rfl⟩
  refine ⟨fun k hk => ?_, fun k hk => ?_, ?_⟩
  · have g := key k
    rw [if_pos ((pos _).mpr hk)] at g
    obtain ⟨a, b⟩ := and_bits g
    refine ⟨(pos _).mp a, ?_⟩
    obtain b | b := or_bits b
    · obtain ⟨b, s⟩ := and_bits b
      obtain ⟨e, n⟩ := and_bits b
      exact Or.inl ⟨StableHlo.Predicate.cmpi_eq_iff.mp e, StableHlo.Predicate.cmpi_eq_iff.mp n, StableHlo.Predicate.cmpi_eq_iff.mp s⟩
    · obtain ⟨b, s⟩ := and_bits b
      obtain ⟨e, n⟩ := and_bits b
      rw [WordCmp.cmpi_ne_eq] at n
      exact Or.inr ⟨StableHlo.Predicate.cmpi_eq_iff.mp e, bit_true n, StableHlo.Predicate.cmpi_eq_iff.mp s⟩
  · have g := key k
    rw [if_neg (fun h => absurd ((pos _).mp h) (not_lt.mpr hk))] at g
    obtain b | b := or_bits g
    · exact Or.inl (not_lt.mp fun h => not_bit b ((pos _).mpr h))
    · exact Or.inr (StableHlo.Predicate.cmpi_eq_iff.mp b)
  · have g := Host.reduce_andi_all _ _ _ _ _ h3 (Shape.Idx.ofFin 0)
    have g' : IntOp.ori (~~~(IntOp.cmpi .sgt (R (at1 287)) 0#32)) (IntOp.cmpi .eq (N (at1 287)) 4294967295#32) = 1#1 := by
      simp only [← slice_last _ slices_S288_S1_287 (Shape.Idx.ofFin 0)]
      exact g
    obtain b | b := or_bits g'
    · exact Or.inl (not_lt.mp fun h => not_bit b ((pos _).mpr h))
    · exact Or.inr (StableHlo.Predicate.cmpi_eq_iff.mp b)

end Cert.Pre_planned

namespace Cert.Kernel3Ideal.Hand

open Cert.Kernel3Ideal Cert.Kernel3Ideal.Gen
open Idealize.ShloMosaic Idealize.ShloMosaic.Tactic

variable {F : FTy → Type} [FloatOps F] [Cert.Pre_planned.Facts]

theorem row_read (T : S4x288.Idx → BitVec 32) (a : Fin 4) (hs : S4x288.Slices ![a.val, 0] (⟨2, ![1, 288]⟩ : Shape)) (hc : (⟨2, ![1, 288]⟩ : Shape).ShapeCasts (⟨1, ![288]⟩ : Shape))
    (j : Cert.Pre_planned.S288.Idx) : shapeCast (⟨1, ![288]⟩ : Shape) (extractStridedSlice (⟨2, ![1, 288]⟩ : Shape) ![a.val, 0] T hs) hc j = T (at2 a (j 0)) :=
  (shapeCast_dropUnit_apply ![288] _ hc _).trans (congrArg T (funext fun b => Fin.ext (by
    fin_cases b
    · rfl
    · exact Nat.zero_add _)))

theorem row_lt (T : S4x288.Idx → BitVec 32) (a : Fin 4) (n : ℕ) (hn : n < 288) : row T a n = T (at2 a ⟨n, hn⟩) :=
  congrArg (fun q => T (at2 a q)) (Fin.ext (Nat.mod_eq_of_lt hn))

theorem planned_plan (T : S4x288.Idx → BitVec 32) (x1 : FVec F S147456x1024 .f32) (x2 : FVec F S2x32x1024x2048 .f32) (x3 : FVec F S2x32x2048 .f32)
    (x4 : FVec F S2x32x1024x1024 .f32) (x5 : FVec F S2x32x1024 .f32) (h : Cert.Pre_planned.fn (F := F) T x1 x2 x3 x4 x5 = fun _ => 1#1) : Plan T := by
  have rd : ∀ (a : Fin 4) (hs) (hc), shapeCast (⟨1, ![288]⟩ : Shape) (extractStridedSlice (⟨2, ![1, 288]⟩ : Shape) ![a.val, 0] T hs) hc
      = fun j => T (at2 a (j 0)) := fun a hs hc => funext fun j => row_read T a hs hc j
  have h' : Cert.Pre_planned.ofRows (F := F) (fun j => T (at2 0 (j 0))) (fun j => T (at2 1 (j 0))) (fun j => T (at2 2 (j 0))) (fun j => T (at2 3 (j 0))) = fun _ => 1#1 := by
    rw [← rd 0 Cert.Pre_planned.Facts.slices_S4x288_S1x288_0_0 Cert.Pre_planned.Facts.shapeCasts_S1x288_S288,
      ← rd 1 Cert.Pre_planned.Facts.slices_S4x288_S1x288_1_0 Cert.Pre_planned.Facts.shapeCasts_S1x288_S288,
      ← rd 2 Cert.Pre_planned.Facts.slices_S4x288_S1x288_2_0 Cert.Pre_planned.Facts.shapeCasts_S1x288_S288,
      ← rd 3 Cert.Pre_planned.Facts.slices_S4x288_S1x288_3_0 Cert.Pre_planned.Facts.shapeCasts_S1x288_S288]
    exact h
  obtain ⟨hj, hu, hs, hl⟩ := Cert.Pre_planned.of_rows (F := F) _ _ _ _ h'
  refine ⟨fun n => (hj (Cert.Pre_planned.at1 ⟨n % 288, Nat.mod_lt _ (by decide)⟩)).1, fun n => (hj (Cert.Pre_planned.at1 ⟨n % 288, Nat.mod_lt _ (by decide)⟩)).2.1,
    fun n => (hj (Cert.Pre_planned.at1 ⟨n % 288, Nat.mod_lt _ (by decide)⟩)).2.2, fun n hn => ?_, fun n hn => ?_, ?_⟩
  · simp only [row_lt T _ (n + 1) hn, row_lt T _ n (Nat.lt_of_succ_lt hn)]
    exact hu (Shape.Idx.ofFin ⟨n, Nat.lt_of_succ_lt_succ hn⟩)
  · simp only [row_lt T _ (n + 1) hn, row_lt T _ n (Nat.lt_of_succ_lt hn)]
    exact hs (Shape.Idx.ofFin ⟨n, Nat.lt_of_succ_lt_succ hn⟩)
  · exact hl
end Cert.Kernel3Ideal.Hand

end
-- ==== Proof.ExpFrame.lean ====
module

public import proofs.«01_k».proof.Proof.ExpState

public import Idealize.ShloMosaic.Lib.Tactic.Disch

@[expose] public section

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat BodyObligation)

variable {F : FTy → Type} [FloatOps F] [∀ e, Nonempty (Elt F e)]

variable (m : (ℓ : Loc nD τ sig) → Buf (Elt F) ℓ) (ρ : Dev nD → PrngReg)

/-! ## Up to the region -/

/-- The buffers when the region is entered: after the three reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]
  repeat' constructor

theorem V_of (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))

/-- The table, and the pipeline at it. -/
def tbl : pre0.Contents (Elt F) := fun j => V m (0 : Dev nD) (pre0.ref j)
def tab : S4x288.Idx → BitVec 32 := tbl m 0
theorem V_pre (c : Dev nD) (j : Fin 1) : V m c (pre0.ref j) = tbl m j := by
  obtain rfl : c = 0 := Subsingleton.elim _ _
  rfl
theorem tab_eq : tab m = m ((0 : Dev nD), main_arg0) := V_of m 0 main_arg0 (by decide) (by decide) (by decide)

theorem one_pos : 0 < S1x1.numel := by decide
theorem blocks_ok (P : Plan (tab m)) : ok0 (F := F) (tbl m) := by
  have hE : ∀ i : grid0.Coords, (wE (tab m) i).toNat < 32 := fun i => by
    rw [(words (tab m) i (i 0).val rfl).1]
    exact nat_of_int _ 32 (P.e _).1 (by simpa using (P.e _).2)
  have ix2 : ∀ i : grid0.Coords, cc0_transform_2 k0_off1_inb numel1_S1x1 (tbl m) i = ![0, (wE (tab m) i).toNat, 0, 0] := fun i => by
    have := word_at (F := F) (tab m) (k0_off1_inb i) 0 ⟨(i 0).val, (i 0).isLt⟩ (congrArg (fun n : Nat => (![0, n] : Fin 2 → Nat)) (row_nat i)) one_pos
    exact congrArg (fun w : BitVec 32 => (![0, w.toNat, 0, 0] : Fin 4 → Nat)) this
  have ix4 : ∀ i : grid0.Coords, cc0_transform_4 k0_off1_inb numel1_S1x1 (tbl m) i = ![0, (wE (tab m) i).toNat, 0, 0] := fun i => by
    have := word_at (F := F) (tab m) (k0_off1_inb i) 0 ⟨(i 0).val, (i 0).isLt⟩ (congrArg (fun n : Nat => (![0, n] : Fin 2 → Nat)) (row_nat i)) one_pos
    exact congrArg (fun w : BitVec 32 => (![0, w.toNat, 0, 0] : Fin 4 → Nat)) this
  refine ⟨fun i => ⟨fun a => ?_, Or.inl rfl⟩, fun i => ⟨fun a => ?_, Or.inl rfl⟩⟩
  · have h := hE i
    rw [ix2 i]
    fin_cases a
    · show (0 + 1) * 1 ≤ 2; omega
    · show ((wE (tab m) i).toNat + 1) * 1 ≤ 32; omega
    · show (0 + 1) * 1 ≤ 1; omega
    · show (0 + 1) * 2048 ≤ 2048; omega
  · have h := hE i
    rw [ix4 i]
    fin_cases a
    · show (0 + 1) * 1 ≤ 2; omega
    · show ((wE (tab m) i).toNat + 1) * 1 ≤ 32; omega
    · show (0 + 1) * 1 ≤ 1; omega
    · show (0 + 1) * 1024 ≤ 1024; omega

abbrev adm (hO : ok0 (F := F) (tbl m)) : (pcfg0 (F := F)).Adm := ⟨tbl m, hO⟩
abbrev cfgM (hO : ok0 (F := F) (tbl m)) := cfg0 (adm m hO)

/-! ## The cells and the operands the kernel moves itself -/

abbrev osem0 : Fin 4 → SemLoc sig := fun j => (![SemLoc.dma 8, SemLoc.dma 9, SemLoc.dma 10, SemLoc.dma 11] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp (MM F))
      = iprop(cellP c 0 0 ∗ cellP c 0 1 ∗ cellP c 1 0 ∗ cellP c 1 1) := by
  rw [Pipeline.ownSems0_eq_of_list c osem0 [0, 1, 2, 3] (by decide) (by decide)]
  rfl
def H0 : Finset (Ref sig .tc) := {main_arg2, main_arg4}
theorem H0_sub : H0 ⊆ Pipeline.restRefsP sig pre0 spec0 := by decide
theorem hbmPts0_eq (c : Dev nD) :
    (bigSep H0 (fun b => ((c : Thread nD τ).loc b) ↦{fullShare} V m c b) : sProp (MM F)) = iprop(held c w1M (V m c main_arg2) ∗ held c w2M (V m c main_arg4)) := by
  rw [BI.bigSep_eq_bigSepL_of_eq [main_arg2, main_arg4] (by decide) (by decide)]
  rfl
theorem PhiD0_eq (c : Dev nD) :
    (Pipeline.ΦD osem0 spec0 H0 (V m) c : sProp (MM F))
      = iprop(((∃ f, held c bufA f) ∗ (∃ f, held c bufB f) ∗ (∃ d, owns (c : Thread nD τ) lowA fullShare d) ∗ (∃ d, owns (c : Thread nD τ) lowB fullShare d))
          ∗ (∃ r, prngReg c r) ∗ (cellP c 0 0 ∗ cellP c 0 1 ∗ cellP c 1 0 ∗ cellP c 1 1) ∗ (held c w1M (V m c main_arg2) ∗ held c w2M (V m c main_arg4))) := by
  rw [Pipeline.ΦD_eq, scopedRest0_eq, ownSems00_eq, hbmPts0_eq]
  simp only [owns_whole]
  try rfl
theorem PhiT0_eq (c : Dev nD) : (Pipeline.ΦT pre0 (tbl m) c : sProp (MM F)) = tabP c (tab m) := by
  unfold Pipeline.ΦT Pipeline.prefHeld
  rw [show (Finset.univ : Finset (Fin 1)) = {(0 : Fin 1)} from by decide, bigSep_singleton]
  rfl

/-! ## The proof data -/

variable (hO : ok0 (F := F) (tbl m))

/-- Window `w`'s block at point `t`, of the array as the region finds it. -/
def iblk (c : Dev nD) (w : Fin 4) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What block `t` of the result is left holding. -/
def oblk (c : Dev nD) (t : Fin (cfgM m hO).N) : S4096x128.Idx → Elt F .f32 :=
  outAt (wR (tab m) (grid0.coords t)) (iblk m hO c 0 t) (wbA c (V m c main_arg2) (bk (wE (tab m) (grid0.coords t))))
    (iblk m hO c 1 t) (wbB c (V m c main_arg4) (bk (wE (tab m) (grid0.coords t)))) (iblk m hO c 2 t)

def dats (p : Fin 1) (c : Dev nD) : Dat τ (Elt F) Unit ℕ (Pipeline.UD sig nD τ) ℕ (Pipeline.pin (pcfgs (F := F)) (fun _ => adm m hO) p) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => oblk m hO c t
  Φ t := iprop(before c (V m c main_arg2) (V m c main_arg4) (tab m) t.val ∗ (∃ r, prngReg c r) ∗ tabP c (tab m))
  q _ := fullShare
  owed _ := 0

theorem A_eq (c : Dev nD) (w : Fin 4) : (dats m hO 0 c).A w = V m c (Pipeline.arrRef spec0 w) := by dsimp only [dats]
theorem after0_0 (c : Dev nD) (t : Fin (cfgM m hO).N) : (dats m hO 0 c).after 0 t = iblk m hO c 0 t := by dsimp only [dats]; try rfl
theorem after0_1 (c : Dev nD) (t : Fin (cfgM m hO).N) : (dats m hO 0 c).after 1 t = iblk m hO c 1 t := by dsimp only [dats]; try rfl
theorem after0_2 (c : Dev nD) (t : Fin (cfgM m hO).N) : (dats m hO 0 c).after 2 t = iblk m hO c 2 t := by dsimp only [dats]; try rfl
theorem after0_3 (c : Dev nD) (t : Fin (cfgM m hO).N) : (dats m hO 0 c).after 3 t = oblk m hO c t := by dsimp only [dats]; try rfl
theorem Phi_eq (c : Dev nD) (t : Fin ((cfgM m hO).N + 1)) : (dats m hO 0 c).Φ t
    = iprop(before c (V m c main_arg2) (V m c main_arg4) (tab m) t.val ∗ (∃ r, prngReg c r) ∗ tabP c (tab m)) := by dsimp only [dats]

theorem before0_0_of {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_0 (c : Dev nD) (t : Fin (cfgM m hO).N) (d) : (dats m hO 0 c).before 0 t d = iblk m hO c 0 t :=
  before0_0_of m hO (dats m hO 0 c) (A_eq m hO c 0) (after0_0 m hO c) t d
theorem before0_1_of {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_1 (c : Dev nD) (t : Fin (cfgM m hO).N) (d) : (dats m hO 0 c).before 1 t d = iblk m hO c 1 t :=
  before0_1_of m hO (dats m hO 0 c) (A_eq m hO c 1) (after0_1 m hO c) t d
theorem before0_2_of {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_2 (c : Dev nD) (t : Fin (cfgM m hO).N) (d) : (dats m hO 0 c).before 2 t d = iblk m hO c 2 t :=
  before0_2_of m hO (dats m hO 0 c) (A_eq m hO c 2) (after0_2 m hO c) t d

/-! ## The body obligation -/

abbrev sg0 (t : Fin (cfgM m hO).N) : Memref sig .tc .vmem S4096x128 .f32 := spec0_0.stage ((cfgM m hO).slots t 0)
abbrev sg1 (t : Fin (cfgM m hO).N) : Memref sig .tc .vmem S1x1x1x2048 .f32 := spec0_1.stage ((cfgM m hO).slots t 1)
abbrev sg2 (t : Fin (cfgM m hO).N) : Memref sig .tc .vmem S1x1x1x1024 .f32 := spec0_2.stage ((cfgM m hO).slots t 2)
abbrev sg3 (t : Fin (cfgM m hO).N) : Memref sig .tc .vmem S4096x128 .f32 := spec0_3.stage ((cfgM m hO).slots t 3)
abbrev bodyAt (t : Fin (cfgM m hO).N) : Prog (TpuEff nD τ sig (Elt F) Λ₀ .tc) PUnit :=
  bodyProg (sg0 m hO t) (hstage0_0 (((cfgM m hO).slots t 0).cast nbuf0_0)) (sg1 m hO t) (hstage0_1 (((cfgM m hO).slots t 1).cast nbuf0_1))
    (sg2 m hO t) (hstage0_2 (((cfgM m hO).slots t 2).cast nbuf0_2)) (sg3 m hO t) (hstage0_3 (((cfgM m hO).slots t 3).cast nbuf0_3)) (grid0.coords t)

theorem defs₀_row (t : Fin (cfgM m hO).N) :
    defs₀ (F := F) .tc (cfgM m hO).body ((cfgM m hO).bodyArgs t ((cfgM m hO).slots t)) = bodyAt m hO t := by
  unfold defs₀; rw [Defs.onTc_tc]; try rfl

def bodyPre (c : Dev nD) (t : Fin (cfgM m hO).N) : sProp (MM F) :=
  iprop((dats m hO 0 c).Φ t.castSucc ∗ (dats m hO 0 c).owesAt () t.castSucc
    ∗ (∃ d, owns (c : Thread nD τ) (sg0 m hO t) fullShare ((dats m hO 0 c).before 0 t d))
    ∗ (∃ d, owns (c : Thread nD τ) (sg1 m hO t) fullShare ((dats m hO 0 c).before 1 t d))
    ∗ (∃ d, owns (c : Thread nD τ) (sg2 m hO t) fullShare ((dats m hO 0 c).before 2 t d))
    ∗ (∃ d, owns (c : Thread nD τ) (sg3 m hO t) fullShare ((dats m hO 0 c).before 3 t d)))
def bodyPost (c : Dev nD) (t : Fin (cfgM m hO).N) : sProp (MM F) :=
  iprop((dats m hO 0 c).Φ t.succ ∗ (dats m hO 0 c).owesAt () t.succ
    ∗ owns (c : Thread nD τ) (sg0 m hO t) fullShare ((dats m hO 0 c).after 0 t)
    ∗ owns (c : Thread nD τ) (sg1 m hO t) fullShare ((dats m hO 0 c).after 1 t)
    ∗ owns (c : Thread nD τ) (sg2 m hO t) fullShare ((dats m hO 0 c).after 2 t)
    ∗ (dats m hO 0 c).leavesExact 3 t)

theorem coord_val : ∀ t : Fin grid0.N, (grid0.coords t 0).val = t.val := by decide +kernel

theorem never_idle (i : grid0.Coords) : (cfgM m hO).idle 3 i = false := by
  show (!(k0_cond4 ((tbl m).atD 0 (k0_off2 i)) == 1#1) && !(k0_cond5 ((tbl m).atD 0 (k0_off2 i)) == 1#1)
    && !(k0_cond6 ((tbl m).atD 0 (k0_off2 i)) == 1#1) && !(k0_cond7 ((tbl m).atD 0 (k0_off2 i)) == 1#1)) = false
  generalize (tbl m).atD 0 (k0_off2 i) = v
  by_cases h : 0 < v.toInt
  · rw [c4_pos v h]; simp
  · rw [c6_pos v (not_lt.mp h)]; simp

theorem leaves_last (c : Dev nD) (t : Fin (cfgM m hO).N) :
    (dats m hO 0 c).leavesExact 3 t = owns (c : Thread nD τ) (sg3 m hO t) fullShare (oblk m hO c t) := by
  unfold Dat.leavesExact; rw [never_idle]; try rfl

theorem sound_body (P : Plan (tab m)) (c : Dev nD) (t : Fin (cfgM m hO).N) :
    bodyPre m hO c t ⊢ wp frame (wpE (defs₀ (F := F)) Variants.none c none) Set.univ (bodyAt m hO t) (fun _ => bodyPost m hO c t) := by
  have hv : (grid0.coords t 0).val = t.val := coord_val t
  obtain ⟨eE, eR, eN, eS, -⟩ := words (tab m) (grid0.coords t) t.val hv
  unfold bodyPre bodyPost
  simp only [before0_0, before0_1, before0_2]
  rw [Phi_eq, Phi_eq, after0_0, after0_1, after0_2, leaves_last]
  rw [show (Fin.succ t).val = t.val + 1 from rfl, show (Fin.castSucc t).val = t.val from rfl, before_succ c _ _ (tab m) (grid0.coords t) t.val hv]
  unfold Dat.owesAt Pipeline.owesWithin
  iintro ⟨⟨HS, HG, HT⟩, ⟨%W, %hW, HO⟩, ⟨%d0, H0⟩, ⟨%d1, H1⟩, ⟨%d2, H2⟩, ⟨%d3, H3⟩⟩
  iapply (body_run c (sg0 m hO t) (hstage0_0 (((cfgM m hO).slots t 0).cast nbuf0_0)) (sg1 m hO t) (hstage0_1 (((cfgM m hO).slots t 1).cast nbuf0_1))
    (sg2 m hO t) (hstage0_2 (((cfgM m hO).slots t 2).cast nbuf0_2)) (sg3 m hO t) (hstage0_3 (((cfgM m hO).slots t 3).cast nbuf0_3))
    (V m c main_arg2) (V m c main_arg4) (grid0.coords t) (tab m) (eE ▸ P.e t.val) (eN ▸ P.n t.val) (eS ▸ P.s t.val)
    _ (follows c _ _ (tab m) P (grid0.coords t) t.val hv) (iblk m hO c 0 t) (iblk m hO c 1 t) (iblk m hO c 2 t) W _)
  isplitl [HT]
  · iexact HT
  isplitl [HS]
  · iexact HS
  isplitl [HO]
  · iexact HO
  isplitl [H0]
  · iexact H0
  isplitl [H1]
  · iexact H1
  isplitl [H2]
  · iexact H2
  isplitl [H3]
  · iexists _
    iexact H3
  unfold leaves
  iintro ⟨HT, HS, ⟨%W', HO⟩, H0, H1, H2, H3⟩
  isplitl [HS HG HT]
  · isplitl [HS]
    · iexact HS
    isplitl [HG]
    · iexact HG
    iexact HT
  isplitl [HO]
  · iexists W'
    isplitr
    · ipureintro
      exact fun _ _ => Or.inl trivial
    iexact HO
  isplitl [H0]
  · iexact H0
  isplitl [H1]
  · iexact H1
  isplitl [H2]
  · iexact H2
  unfold oblk
  iexact H3

theorem body_obligation (P : Plan (tab m)) (c : Dev nD) : BodyObligation (dats (F := F) m hO 0 c) (defs₀ (F := F)) Variants.none () Set.univ := fun t => by
  rw [bigSep_W0, bigSep_W0, defs₀_row]
  exact triple_restated (sound_body m hO P c t) rfl .rfl fun _ => .rfl

/-! ## The launch -/

theorem store_before (c : Dev nD) (XA : Buf (Elt F) (w1M.view.loc (c : Thread nD τ))) (XB : Buf (Elt F) (w2M.view.loc (c : Thread nD τ))) (T : S4x288.Idx → BitVec 32) (k : Fin 289) (h : k = 0) :
    store c XA XB ⊢ before c XA XB T k.val := by
  subst h; exact store_idle c XA XB
theorem enter (c : Dev nD) : iprop(Pipeline.ΦD osem0 spec0 H0 (V m) c ∗ Pipeline.ΦT pre0 (tbl m) c) ⊢ (dats m hO 0 c).Φ 0 := by
  rw [Phi_eq, PhiD0_eq, PhiT0_eq]
  iintro ⟨⟨HB, HG, HC, HW⟩, HT⟩
  isplitl [HB HC HW]
  · iapply (store_before c (V m c main_arg2) (V m c main_arg4) (tab m) _ rfl)
    unfold store
    isplitl [HB]
    · iexact HB
    isplitl [HC]
    · iexact HC
    iexact HW
  isplitl [HG]
  · iexact HG
  iexact HT

theorem leave (P : Plan (tab m)) (c : Dev nD) : (dats m hO 0 c).Φ (Fin.last (cfgM m hO).N) ⊢ Pipeline.ΦD osem0 spec0 H0 (V m) c := by
  rw [Phi_eq, PhiD0_eq]
  rw [show (Fin.last (cfgM m hO).N).val = 288 from N_0]
  iintro ⟨HS, HG, -⟩
  ihave HS := (before_last c (V m c main_arg2) (V m c main_arg4) (tab m) P) $$ HS
  ihave HS := (idle_store c (V m c main_arg2) (V m c main_arg4)) $$ HS
  unfold store
  icases HS with ⟨HB, HC, HW⟩
  isplitl [HB]
  · iexact HB
  isplitl [HG]
  · iexact HG
  isplitl [HC]
  · iexact HC
  iexact HW

set_option backward.isDefEq.respectTransparency.types false in
set_option maxHeartbeats 800000 in
theorem run_quiet (P : Plan (tab m)) : θ_run defs (onTc (τ := τ) (main (F := F))) (s₀ m ρ)
    (fun r => Pipeline.FramePost (Pipeline.pin (pcfgs (F := F)) (fun _ => adm m hO)) (dats m hO) 0 (V m) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hO P c).loose) (hshare := fun c => (dats m hO 0 c).share_full fun _ => rfl)
    (howed := fun _ _ => rfl) (V := V m)
    (hmain := Pipeline.hmainP_prefix pcfgs 0 defs₀ Variants.none m main hostOps0 hostOps0_sub hostOps0_fresh main_chain)
    (hA := A_eq m hO) (hpf := V_pre m) (hin := enter m hO) (hout := leave m hO P)

/-- Every run ends with the counters at zero, the six arguments as they were, and the result at what its blocks were left holding. -/
theorem run_main (P : Plan (tab m)) (hO : ok0 (F := F) (tbl m)) : θ_run defs (onTc (τ := τ) (main (F := F))) ⟨m, fun _ => 0, ρ⟩
    (fun r => ((∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0)
      ∧ ∀ c : Dev nD, r.2.mem ((c : Thread nD τ).loc main_v3) = (dats m hO 0 c).arrAt 3 (cfgM m hO).N) :=
  (θ_run defs _ _).mono (fun r ⟨h, hs⟩ => ⟨⟨fun c =>
    ⟨((h c).2 main_arg0 (Pipeline.mem_restRefs_of main_arg0 (by decide) (show ∀ w : Fin 4, (spec0 w).arr.view.ref ≠ main_arg0 by decide))).trans (V_of m c main_arg0 (by decide) (by decide) (by decide)),
     ((h c).2 main_arg1 (Pipeline.mem_restRefs_of main_arg1 (by decide) (show ∀ w : Fin 4, (spec0 w).arr.view.ref ≠ main_arg1 by decide))).trans (V_of m c main_arg1 (by decide) (by decide) (by decide)),
     ((h c).2 main_arg2 (Pipeline.mem_restRefs_of main_arg2 (by decide) (show ∀ w : Fin 4, (spec0 w).arr.view.ref ≠ main_arg2 by decide))).trans (V_of m c main_arg2 (by decide) (by decide) (by decide)),
     ((h c).2 main_arg3 (Pipeline.mem_restRefs_of main_arg3 (by decide) (show ∀ w : Fin 4, (spec0 w).arr.view.ref ≠ main_arg3 by decide))).trans (V_of m c main_arg3 (by decide) (by decide) (by decide)),
     ((h c).2 main_arg4 (Pipeline.mem_restRefs_of main_arg4 (by decide) (show ∀ w : Fin 4, (spec0 w).arr.view.ref ≠ main_arg4 by decide))).trans (V_of m c main_arg4 (by decide) (by decide) (by decide)),
     ((h c).2 main_arg5 (Pipeline.mem_restRefs_of main_arg5 (by decide) (show ∀ w : Fin 4, (spec0 w).arr.view.ref ≠ main_arg5 by decide))).trans (V_of m c main_arg5 (by decide) (by decide) (by decide))⟩, hs⟩,
    fun c => (h c).1 3⟩) (run_quiet m ρ hO P)
end Cert.Kernel3Ideal.Hand

end
-- ==== Proof.ExpMlp.lean ====
/- The experts' arithmetic over extended reals: a block's tokens through an expert, row by row, and the gate in the
   form each of the two programs writes it. -/
module

public import proofs.«01_k».proof.Proof.ExpCmp
public import Idealize.ShloMosaic.Lib.Pointwise
public import Idealize.ShloMosaic.Lib.IdealHost
public import Idealize.ShloMosaic.Lib.Pipeline.Value

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic

/-! ## The values -/

/-- The gate: the first half's entry bounded above, over one plus the exponential of its negative multiple, times the
    second half's entry bounded on both sides plus one. -/
def gate (g l : EReal) : EReal :=
  Ideal.div (min g (Ideal.ofBits .f32 0x40E00000#32)) (1 + Ideal.exp (Ideal.ofBits .f32 0xBFD9DB23#32 * min g (Ideal.ofBits .f32 0x40E00000#32)))
    * (min (Ideal.ofBits .f32 0x40E00000#32) (max (Ideal.ofBits .f32 0xC0E00000#32) l) + 1)

/-- A row's first layer. -/
def hid (X : Fin 1024 → EReal) (W : Fin 1024 → Fin 2048 → EReal) (B : Fin 2048 → EReal) (j : Fin 2048) : EReal :=
  (∑ k, X k * W k j) + B j

abbrev lo (k : Fin 1024) : Fin 2048 := ⟨k.val, by omega⟩
abbrev hi (k : Fin 1024) : Fin 2048 := ⟨1024 + k.val, by omega⟩

/-- A row through an expert. -/
def expert (X : Fin 1024 → EReal) (W : Fin 1024 → Fin 2048 → EReal) (B : Fin 2048 → EReal)
    (W' : Fin 1024 → Fin 1024 → EReal) (B' : Fin 1024 → EReal) (j : Fin 1024) : EReal :=
  (∑ k, gate (hid X W B (lo k)) (hid X W B (hi k)) * W' k j) + B' j

/-! ## The scale's two signs -/

theorem scale_neg : Ideal.ofBits .f32 0xBFD9DB23#32 = - Ideal.ofBits .f32 0x3FD9DB23#32 := by
  simp [Ideal.ofBits, Ideal.ieee]

theorem one_add_exp_ne (x : EReal) : (1 : EReal) + Ideal.exp x ≠ 0 := by
  have h0 : (0 : EReal) ≤ Ideal.exp x := by
    induction x using EReal.rec with
    | bot => simp
    | coe r => simpa using EReal.coe_nonneg.mpr (Real.exp_pos r).le
    | top => simp
  have h1 : (1 : EReal) ≤ 1 + Ideal.exp x := by
    simpa using add_le_add (le_refl (1 : EReal)) h0
  exact ne_of_gt (lt_of_lt_of_le zero_lt_one h1)

/-- The gate with the quotient written as a product with a reciprocal. -/
theorem gate_eq (g l : EReal) :
    (min g (Ideal.ofBits .f32 0x40E00000#32) * Ideal.div 1 (1 + Ideal.exp (-(Ideal.ofBits .f32 0x3FD9DB23#32 * min g (Ideal.ofBits .f32 0x40E00000#32)))))
      * (min (Ideal.ofBits .f32 0x40E00000#32) (max (Ideal.ofBits .f32 0xC0E00000#32) l) + 1) = gate g l := by
  unfold gate
  rw [Idealize.ShloMosaic.Ideal.mul_one_div (one_add_exp_ne _), scale_neg, EReal.neg_mul]

/-! ## The body's half block -/

section Half
variable {F : FTy → Type} [FloatOps F]

def hidV (T : FVec F S256x1024 .bf16) (w : Vec F S1024x2048 .bf16) (b : Vec F S1x1x1x2048 .f32) : FVec F S256x2048 .f32 :=
  addf (matmul dot_S256x1024_S1024x2048_S256x2048_1_0_0_1_n_n none T w (constant S256x2048 .f32 0x00000000#32))
    (broadcastTo S256x2048 (shapeCast S1x2048 b shapeCasts_S1x1x1x2048_S1x2048) broadcasts_S1x2048_S256x2048)

def gateV (h : FVec F S256x2048 .f32) : FVec F S256x1024 .bf16 :=
  truncf .bf16 (mulf
    (divf (minimumf (extractStridedSlice S256x1024 ![0, 0] h slices_S256x2048_o0_0_S256x1024) (broadcast S256x1024 (Scalar.ofBits .f32 0x40E00000#32)))
      (addf (broadcast S256x1024 (Scalar.ofBits .f32 0x3F800000#32)) (exp (mulf (broadcast S256x1024 (Scalar.ofBits .f32 0xBFD9DB23#32))
        (minimumf (extractStridedSlice S256x1024 ![0, 0] h slices_S256x2048_o0_0_S256x1024) (broadcast S256x1024 (Scalar.ofBits .f32 0x40E00000#32)))))))
    (addf (minimumf (broadcast S256x1024 (Scalar.ofBits .f32 0x40E00000#32)) (maximumf (broadcast S256x1024 (Scalar.ofBits .f32 0xC0E00000#32))
        (extractStridedSlice S256x1024 ![0, 1024] h slices_S256x2048_o0_1024_S256x1024)))
      (broadcast S256x1024 (Scalar.ofBits .f32 0x3F800000#32)))) bitsLt_bf16_f32

def lastV (a : FVec F S256x1024 .bf16) (w : Vec F S1024x1024 .bf16) (b : Vec F S1x1x1x1024 .f32) : FVec F S256x1024 .f32 :=
  addf (matmul dot_S256x1024_S1024x1024_S256x1024_1_0_0_1_n_n none a w (constant S256x1024 .f32 0x00000000#32))
    (broadcastTo S256x1024 (shapeCast S1x1024 b shapeCasts_S1x1x1x1024_S1x1024) broadcasts_S1x1024_S256x1024)

theorem pay_eq (T : FVec F S256x1024 .bf16) (w : Vec F S1024x2048 .bf16) (b : Vec F S1x1x1x2048 .f32) (w' : Vec F S1024x1024 .bf16)
    (b' : Vec F S1x1x1x1024 .f32) : k0_pay19 T w b w' b' = lastV (gateV (hidV T w b)) w' b' := rfl

theorem rd_whole {S : Shape} {e : EltTy} (X : S.Idx → Elt F e) (off : Fin S.rank → Nat) (h) (h0 : ∀ a, off a = 0) :
    rd X (Rect.unit (s := S) off S.size h).toLoadRect = X :=
  funext fun y => congrArg X (funext fun a => Fin.ext (by
    show off a + 1 * (y a).val = (y a).val
    rw [h0]; omega))

theorem zero4 : ∀ a : Fin 4, (![0, 0, 0, 0] : Fin 4 → Nat) a = 0 := by decide

theorem mlp_eq (T : FVec F S256x1024 .bf16) (wa : S1024x2048.Idx → Elt F .bf16) (ba : S1x1x1x2048.Idx → Elt F .f32)
    (wb : S1024x1024.Idx → Elt F .bf16) (bb : S1x1x1x1024.Idx → Elt F .f32) :
    mlp T wa ba wb bb = lastV (gateV (hidV T wa ba)) wb bb := by
  unfold mlp
  rw [pay_eq, rd_whole wa _ _ zero2, rd_whole ba _ _ zero4, rd_whole wb _ _ zero2, rd_whole bb _ _ zero4]

end Half

theorem hidV_apply (T : FVec Ideal S256x1024 .bf16) (w : Vec Ideal S1024x2048 .bf16) (b : Vec Ideal S1x1x1x2048 .f32) (p : Fin 256) (j : Fin 2048) :
    hidV T w b (ix2 p j) = hid (fun k => T (ix2 p k)) (fun k j => w (ix2 k j)) (fun j => b (ix4 0 0 0 j)) j := by
  unfold hid
  pointwise [hidV]

theorem gateV_apply (h : FVec Ideal S256x2048 .f32) (p : Fin 256) (k : Fin 1024) :
    gateV h (ix2 p k) = gate (h (ix2 p (lo k))) (h (ix2 p (hi k))) := by
  unfold gate
  pointwise [gateV]

theorem lastV_apply (a : FVec Ideal S256x1024 .bf16) (w : Vec Ideal S1024x1024 .bf16) (b : Vec Ideal S1x1x1x1024 .f32) (p : Fin 256) (j : Fin 1024) :
    lastV a w b (ix2 p j) = (∑ k : Fin 1024, @HMul.hMul EReal EReal EReal instHMul (a (ix2 p k)) (w (ix2 k j))) + b (ix4 0 0 0 j) := by
  pointwise [lastV]

/-- A half block's result, read. -/
theorem mlp_apply (T : FVec Ideal S256x1024 .bf16) (wa : S1024x2048.Idx → Elt Ideal .bf16) (ba : S1x1x1x2048.Idx → Elt Ideal .f32)
    (wb : S1024x1024.Idx → Elt Ideal .bf16) (bb : S1x1x1x1024.Idx → Elt Ideal .f32) (p : Fin 256) (j : Fin 1024) :
    mlp T wa ba wb bb (ix2 p j) = expert (fun k => T (ix2 p k)) (fun k j => wa (ix2 k j)) (fun j => ba (ix4 0 0 0 j))
      (fun k j => wb (ix2 k j)) (fun j => bb (ix4 0 0 0 j)) j := by
  rw [mlp_eq]
  refine (lastV_apply _ _ _ p j).trans (congrArg (fun z : EReal => z + _) (Finset.sum_congr rfl fun k _ => congrArg (fun z : EReal => z * _) ?_))
  rw [gateV_apply, hidV_apply, hidV_apply]

/-! ## The tokens -/

/-- Eight pieces side by side, read. -/
theorem cat8 {α : Type} (x : Fin 8 → S256x128.Idx → α) (h) (p : Fin 256) (i : Fin 8) (l : Fin 128) :
    concatenate S256x1024 1 [⟨S256x128, x 0⟩, ⟨S256x128, x 1⟩, ⟨S256x128, x 2⟩, ⟨S256x128, x 3⟩, ⟨S256x128, x 4⟩, ⟨S256x128, x 5⟩, ⟨S256x128, x 6⟩, ⟨S256x128, x 7⟩] h (ix2 p ⟨128 * i.val + l.val, by omega⟩)
      = x i (ix2 p l) := by
  obtain ⟨l, hl⟩ := l
  fin_cases i
  · exact concatenate_apply_piece 1 _ h _ 0 (by simp) S256x128 (x 0) rfl rfl 0 rfl (ix2 p ⟨l, hl⟩)
      (fun b hb => by fin_cases b; · rfl
                      · exact absurd rfl hb) (by show 0 + l = _; simp)
  · exact concatenate_apply_piece 1 _ h _ 1 (by simp) S256x128 (x 1) rfl rfl 128 rfl (ix2 p ⟨l, hl⟩)
      (fun b hb => by fin_cases b; · rfl
                      · exact absurd rfl hb) (by show 128 + l = _; simp)
  · exact concatenate_apply_piece 1 _ h _ 2 (by simp) S256x128 (x 2) rfl rfl 256 rfl (ix2 p ⟨l, hl⟩)
      (fun b hb => by fin_cases b; · rfl
                      · exact absurd rfl hb) (by show 256 + l = _; simp)
  · exact concatenate_apply_piece 1 _ h _ 3 (by simp) S256x128 (x 3) rfl rfl 384 rfl (ix2 p ⟨l, hl⟩)
      (fun b hb => by fin_cases b; · rfl
                      · exact absurd rfl hb) (by show 384 + l = _; simp)
  · exact concatenate_apply_piece 1 _ h _ 4 (by simp) S256x128 (x 4) rfl rfl 512 rfl (ix2 p ⟨l, hl⟩)
      (fun b hb => by fin_cases b; · rfl
                      · exact absurd rfl hb) (by show 512 + l = _; simp)
  · exact concatenate_apply_piece 1 _ h _ 5 (by simp) S256x128 (x 5) rfl rfl 640 rfl (ix2 p ⟨l, hl⟩)
      (fun b hb => by fin_cases b; · rfl
                      · exact absurd rfl hb) (by show 640 + l = _; simp)
  · exact concatenate_apply_piece 1 _ h _ 6 (by simp) S256x128 (x 6) rfl rfl 768 rfl (ix2 p ⟨l, hl⟩)
      (fun b hb => by fin_cases b; · rfl
                      · exact absurd rfl hb) (by show 768 + l = _; simp)
  · exact concatenate_apply_piece 1 _ h _ 7 (by simp) S256x128 (x 7) rfl rfl 896 rfl (ix2 p ⟨l, hl⟩)
      (fun b hb => by fin_cases b; · rfl
                      · exact absurd rfl hb) (by show 896 + l = _; simp)

theorem same_shape {α : Type} {s : Shape} (x : s.Idx → α) (h) : shapeCast s x h = x :=
  funext fun j => shapeCast_apply x h j j rfl

/-- Row `8 p + i` of a half block. -/
theorem strided (X : S4096x128.Idx → Elt Ideal .f32) (o : Nat) (i : Fin 8) (ho) (hi) (p : Fin 256) (l : Fin 128) (hlt : o + (8 * p.val + i.val) < 4096) :
    X (((Rect.unit (s := S4096x128) ![o, 0] S2048x128.size ho).withinL ⟨![i.val, 0], S256x128.size, ![8, 1], hi⟩ (fun _ => rfl)).idx (ix2 p l))
      = X (ix2 ⟨o + (8 * p.val + i.val), hlt⟩ l) := by
  refine congrArg X (funext fun a => Fin.ext ?_)
  fin_cases a
  · show (o + i.val) + 8 * p.val = o + (8 * p.val + i.val); omega
  · show (0 + 0) + 1 * l.val = l.val; omega

theorem strided_in : ∀ i : Fin 8, ∀ a : Fin 2, S256x128.size a = 0 ∨ (![i.val, 0] : Fin 2 → Nat) a + (![8, 1] : Fin 2 → Nat) a * (S256x128.size a - 1) < S2048x128.size a := by decide

theorem pay18_apply (x : Fin 8 → Vec Ideal S256x128 .f32) (p : Fin 256) (i : Fin 8) (l : Fin 128) :
    k0_pay18 (x 0) (x 1) (x 2) (x 3) (x 4) (x 5) (x 6) (x 7) (ix2 p ⟨128 * i.val + l.val, by omega⟩) = x i (ix2 p l) := by
  unfold k0_pay18
  exact (cat8 (fun i => shapeCast S256x128 (x i) shapeCasts_S256x128_S256x128) concatenates_S256x128_S256x128_S256x128_S256x128_S256x128_S256x128_S256x128_S256x128_S256x1024_d1 p i l).trans (congrFun (same_shape (x i) _) _)

theorem pay22_apply (x : Fin 8 → Vec Ideal S256x128 .f32) (p : Fin 256) (i : Fin 8) (l : Fin 128) :
    k0_pay22 (x 0) (x 1) (x 2) (x 3) (x 4) (x 5) (x 6) (x 7) (ix2 p ⟨128 * i.val + l.val, by omega⟩) = x i (ix2 p l) := by
  unfold k0_pay22
  exact (cat8 (fun i => shapeCast S256x128 (x i) shapeCasts_S256x128_S256x128) concatenates_S256x128_S256x128_S256x128_S256x128_S256x128_S256x128_S256x128_S256x128_S256x1024_d1 p i l).trans (congrFun (same_shape (x i) _) _)

theorem tok0_apply (X : S4096x128.Idx → Elt Ideal .f32) (p : Fin 256) (i : Fin 8) (l : Fin 128) :
    tok0 X (ix2 p ⟨128 * i.val + l.val, by omega⟩) = X (ix2 ⟨0 + (8 * p.val + i.val), by omega⟩ l) :=
  (pay18_apply (fun i => fun x => X (((Rect.unit (s := S4096x128) ![0, 0] S2048x128.size inb_S4096x128_S2048x128_0_0).withinL ⟨![i.val, 0], S256x128.size, ![8, 1], strided_in i⟩ (fun _ => rfl)).idx x)) p i l).trans
    (strided X 0 i _ _ p l _)

theorem tok1_apply (X : S4096x128.Idx → Elt Ideal .f32) (p : Fin 256) (i : Fin 8) (l : Fin 128) :
    tok1 X (ix2 p ⟨128 * i.val + l.val, by omega⟩) = X (ix2 ⟨2048 + (8 * p.val + i.val), by omega⟩ l) :=
  (pay22_apply (fun i => fun x => X (((Rect.unit (s := S4096x128) ![2048, 0] S2048x128.size inb_S4096x128_S2048x128_2048_0).withinL ⟨![i.val, 0], S256x128.size, ![8, 1], strided_in i⟩ (fun _ => rfl)).idx x)) p i l).trans
    (strided X 2048 i _ _ p l _)

end Cert.Kernel3Ideal.Hand

end
-- ==== Proof.ExpVal.lean ====
/- The result array after the run: every block's rows through the block's expert, zero from the first row its words do
   not fill on. -/
module

public import proofs.«01_k».proof.Proof.ExpFrame
public import proofs.«01_k».proof.Proof.ExpMlp
public import Idealize.ShloMosaic.Lib.Pipeline.ValueKit

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic Idealize.SL.Sem

/-! ## What the result is shown to hold -/

/-- Row `r` of block `n` at column `j`. -/
def ans (T : S4x288.Idx → BitVec 32) (X : Vec Ideal S147456x1024 .f32) (W : Vec Ideal S2x32x1024x2048 .f32) (B : Vec Ideal S2x32x2048 .f32)
    (W' : Vec Ideal S2x32x1024x1024 .f32) (B' : Vec Ideal S2x32x1024 .f32) (n : Fin 288) (r : Fin 512) (j : Fin 1024) : EReal :=
  if ((r.val / 256 * 256 : Nat) : Int) < (row T 1 n.val).toInt then
    expert (fun k => X (ix2 ⟨512 * n.val + r.val, by omega⟩ k)) (fun k j => W (ix4 0 (bk (row T 0 n.val)) k j)) (fun j => B (ix3 0 (bk (row T 0 n.val)) j))
      (fun k j => W' (ix4 0 (bk (row T 0 n.val)) k j)) (fun j => B' (ix3 0 (bk (row T 0 n.val)) j)) j
  else 0

theorem expert_congr {X Y : Fin 1024 → EReal} {W V : Fin 1024 → Fin 2048 → EReal} {B D : Fin 2048 → EReal}
    {W' V' : Fin 1024 → Fin 1024 → EReal} {B' D' : Fin 1024 → EReal} {j k : Fin 1024}
    (hX : ∀ k, X k = Y k) (hW : ∀ k j, W k j = V k j) (hB : ∀ j, B j = D j) (hW' : ∀ k j, W' k j = V' k j) (hB' : ∀ j, B' j = D' j) (hj : j = k) :
    expert X W B W' B' j = expert Y V D V' D' k := by
  obtain rfl : X = Y := funext hX
  obtain rfl : W = V := funext fun k => funext (hW k)
  obtain rfl : B = D := funext hB
  obtain rfl : W' = V' := funext fun k => funext (hW' k)
  obtain rfl : B' = D' := funext hB'
  subst hj; rfl

theorem at2_ix2 {m n : Nat} (a : Fin m) (b : Fin n) : (at2 a b : (⟨2, ![m, n]⟩ : Shape).Idx) = ix2 a b :=
  funext fun c => by
    match c with
    | ⟨0, _⟩ => rfl
    | ⟨1, _⟩ => rfl

theorem wide_unit {α : Type} (x : S1x1x1024x2048.Idx → α) (h) (k : Fin 1024) (j : Fin 2048) : shapeCast S1024x2048 x h (ix2 k j) = x (ix4 0 0 k j) := by
  pointwise []
theorem sq_unit {α : Type} (x : S1x1x1024x1024.Idx → α) (h) (k : Fin 1024) (j : Fin 1024) : shapeCast S1024x1024 x h (ix2 k j) = x (ix4 0 0 k j) := by
  pointwise []

/-! ## The expert's weights -/

theorem exA_read (c : Dev nD) (XA : Vec Ideal S2x32x1024x2048 .f32) (e : Fin 32) (k : Fin 1024) (j : Fin 2048) :
    ((exA e).view.read (Elt Ideal) (XA : Buf (Elt Ideal) (w1M.view.loc (c : Thread nD τ))) : FVec Ideal S1024x2048 .f32) (ix2 k j) = XA (ix4 0 e k j) := by
  refine (wide_unit (View.readAt (Elt Ideal) w1M.view (Rect.unit (s := S2x32x1024x2048) (exOff e) S1x1x1024x2048.size (exA_inb e)).toLoadRect
    (XA : Buf (Elt Ideal) (w1M.view.loc (c : Thread nD τ)))) (by decide) k j).trans ?_
  refine congrArg XA (funext fun a => Fin.ext ?_)
  fin_cases a
  · rfl
  · show e.val + 1 * 0 = e.val; omega
  · show 0 + 1 * k.val = k.val; omega
  · show 0 + 1 * j.val = j.val; omega
theorem exB_read (c : Dev nD) (XB : Vec Ideal S2x32x1024x1024 .f32) (e : Fin 32) (k : Fin 1024) (j : Fin 1024) :
    ((exB e).view.read (Elt Ideal) (XB : Buf (Elt Ideal) (w2M.view.loc (c : Thread nD τ))) : FVec Ideal S1024x1024 .f32) (ix2 k j) = XB (ix4 0 e k j) := by
  refine (sq_unit (View.readAt (Elt Ideal) w2M.view (Rect.unit (s := S2x32x1024x1024) (exOff e) S1x1x1024x1024.size (exB_inb e)).toLoadRect
    (XB : Buf (Elt Ideal) (w2M.view.loc (c : Thread nD τ)))) (by decide) k j).trans ?_
  refine congrArg XB (funext fun a => Fin.ext ?_)
  fin_cases a
  · rfl
  · show e.val + 1 * 0 = e.val; omega
  · show 0 + 1 * k.val = k.val; omega
  · show 0 + 1 * j.val = j.val; omega

theorem wbA_apply (c : Dev nD) (XA : Vec Ideal S2x32x1024x2048 .f32) (e : Fin 32) (k : Fin 1024) (j : Fin 2048) :
    wbA (F := Ideal) c XA e (ix2 k j) = XA (ix4 0 e k j) := by
  unfold wbA
  exact (congrFun (same_shape _ _) _).trans (exA_read c XA e k j)
theorem wbB_apply (c : Dev nD) (XB : Vec Ideal S2x32x1024x1024 .f32) (e : Fin 32) (k : Fin 1024) (j : Fin 1024) :
    wbB (F := Ideal) c XB e (ix2 k j) = XB (ix4 0 e k j) := by
  unfold wbB k0_pay1
  exact (congrFun (same_shape _ _) _).trans (exB_read c XB e k j)

/-! ## The blocks -/

variable (m : (ℓ : Loc nD τ sig) → Buf (Elt Ideal) ℓ) (hO : ok0 (F := Ideal) (tbl m))

def tiles {F : FTy → Type} (x : Vec F S147456x1024 .f32) : Vec F S1179648x128 .f32 := shapeCast S1179648x128 x shapeCasts_S147456x1024_S1179648x128
def bias1 {F : FTy → Type} (x : Vec F S2x32x2048 .f32) : Vec F S2x32x1x2048 .f32 := shapeCast S2x32x1x2048 x shapeCasts_S2x32x2048_S2x32x1x2048
def bias2 {F : FTy → Type} (x : Vec F S2x32x1024 .f32) : Vec F S2x32x1x1024 .f32 := shapeCast S2x32x1x1024 x shapeCasts_S2x32x1024_S2x32x1x1024

theorem V_v0 (c : Dev nD) : V m c main_v0 = tiles (m ((c : Thread nD τ).loc main_arg1)) := by
  unfold V hostOps0
  after_results
  rfl
theorem V_v1 (c : Dev nD) : V m c main_v1 = bias1 (m ((c : Thread nD τ).loc main_arg3)) := by
  unfold V hostOps0
  after_results
  rfl
theorem V_v2 (c : Dev nD) : V m c main_v2 = bias2 (m ((c : Thread nD τ).loc main_arg5)) := by
  unfold V hostOps0
  after_results
  rfl

theorem tiles_apply (x : Vec Ideal S147456x1024 .f32) (i : Fin 147456) (q : Fin 8) (l : Fin 128) :
    tiles x (ix2 ⟨8 * i.val + q.val, by omega⟩ l) = x (ix2 i ⟨128 * q.val + l.val, by omega⟩) := by
  refine shapeCast_apply x _ _ _ ?_
  rw [Shape.rowMajor_val_two, Shape.rowMajor_val_two]
  show i.val * 1024 + (128 * q.val + l.val) = (8 * i.val + q.val) * 128 + l.val
  omega
theorem bias1_apply (x : Vec Ideal S2x32x2048 .f32) (e : Fin 32) (j : Fin 2048) : bias1 x (ix4 0 e 0 j) = x (ix3 0 e j) := by
  pointwise [bias1]
theorem bias2_apply (x : Vec Ideal S2x32x1024 .f32) (e : Fin 32) (j : Fin 1024) : bias2 x (ix4 0 e 0 j) = x (ix3 0 e j) := by
  pointwise [bias2]

theorem ptN (t : Fin (cfgM m hO).N) : t.val < 288 := lt_of_lt_of_eq t.isLt N_0

theorem blk0 (c : Dev nD) (t : Fin (cfgM m hO).N) (y : Fin 4096) (l : Fin 128) :
    (iblk m hO c 0 t : Vec Ideal S4096x128 .f32) (ix2 y l)
      = tiles (m ((c : Thread nD τ).loc main_arg1)) (ix2 ⟨4096 * t.val + y.val, by have := ptN m hO t; omega⟩ l) := by
  show V m c main_v0 ((((cfgM m hO).win 0).blk t).view.emb (ix2 y l)) = _
  rw [V_v0]
  refine congrArg (tiles (m ((c : Thread nD τ).loc main_arg1))) (funext fun a => Fin.ext ?_)
  have hv := coord_val t
  have hr := row_nat (grid0.coords t)
  match a with
  | ⟨0, _⟩ => show (BitVec.ofNat 32 (grid0.coords t 0).val).toNat * 4096 + 1 * y.val = 4096 * t.val + y.val; omega
  | ⟨1, _⟩ => show 0 * 128 + 1 * l.val = l.val; omega

theorem pick2 (i : grid0.Coords) : cc0_transform_2 k0_off1_inb numel1_S1x1 (tbl m) i = ![0, (wE (tab m) i).toNat, 0, 0] := by
  have := word_at (F := Ideal) (tab m) (k0_off1_inb i) 0 ⟨(i 0).val, (i 0).isLt⟩ (congrArg (fun n : Nat => (![0, n] : Fin 2 → Nat)) (row_nat i)) one_pos
  exact congrArg (fun w : BitVec 32 => (![0, w.toNat, 0, 0] : Fin 4 → Nat)) this
theorem pick4 (i : grid0.Coords) : cc0_transform_4 k0_off1_inb numel1_S1x1 (tbl m) i = ![0, (wE (tab m) i).toNat, 0, 0] := by
  have := word_at (F := Ideal) (tab m) (k0_off1_inb i) 0 ⟨(i 0).val, (i 0).isLt⟩ (congrArg (fun n : Nat => (![0, n] : Fin 2 → Nat)) (row_nat i)) one_pos
  exact congrArg (fun w : BitVec 32 => (![0, w.toNat, 0, 0] : Fin 4 → Nat)) this

theorem wE_bk (P : Plan (tab m)) (i : grid0.Coords) : (wE (tab m) i).toNat = (bk (wE (tab m) i)).val := by
  have h : (wE (tab m) i).toNat < 32 := by
    rw [(words (tab m) i (i 0).val rfl).1]
    exact nat_of_int _ 32 (P.e _).1 (by simpa using (P.e _).2)
  exact (Nat.mod_eq_of_lt h).symm

theorem blk1 (P : Plan (tab m)) (c : Dev nD) (t : Fin (cfgM m hO).N) (j : Fin 2048) :
    (iblk m hO c 1 t : Vec Ideal S1x1x1x2048 .f32) (ix4 0 0 0 j)
      = (m ((c : Thread nD τ).loc main_arg3) : Vec Ideal S2x32x2048 .f32) (ix3 0 (bk (wE (tab m) (grid0.coords t))) j) := by
  refine Eq.trans ?_ (bias1_apply _ _ j)
  show V m c main_v1 ((((cfgM m hO).win 1).blk t).view.emb (ix4 0 0 0 j)) = _
  rw [V_v1]
  refine congrArg (bias1 (m ((c : Thread nD τ).loc main_arg3))) (funext fun a => Fin.ext ?_)
  have h := congrFun (pick2 m (grid0.coords t))
  have hb := wE_bk m P (grid0.coords t)
  match a with
  | ⟨0, _⟩ => show cc0_transform_2 k0_off1_inb numel1_S1x1 (tbl m) (grid0.coords t) 0 * 1 + 1 * 0 = 0; rw [h 0]; rfl
  | ⟨1, _⟩ => show cc0_transform_2 k0_off1_inb numel1_S1x1 (tbl m) (grid0.coords t) 1 * 1 + 1 * 0 = (bk (wE (tab m) (grid0.coords t))).val; rw [h 1, ← hb]; show (wE (tab m) (grid0.coords t)).toNat * 1 + 1 * 0 = (wE (tab m) (grid0.coords t)).toNat; omega
  | ⟨2, _⟩ => show cc0_transform_2 k0_off1_inb numel1_S1x1 (tbl m) (grid0.coords t) 2 * 1 + 1 * 0 = 0; rw [h 2]; rfl
  | ⟨3, _⟩ => show cc0_transform_2 k0_off1_inb numel1_S1x1 (tbl m) (grid0.coords t) 3 * 2048 + 1 * j.val = j.val; rw [h 3]; show 0 * 2048 + 1 * j.val = j.val; omega
theorem blk2 (P : Plan (tab m)) (c : Dev nD) (t : Fin (cfgM m hO).N) (j : Fin 1024) :
    (iblk m hO c 2 t : Vec Ideal S1x1x1x1024 .f32) (ix4 0 0 0 j)
      = (m ((c : Thread nD τ).loc main_arg5) : Vec Ideal S2x32x1024 .f32) (ix3 0 (bk (wE (tab m) (grid0.coords t))) j) := by
  refine Eq.trans ?_ (bias2_apply _ _ j)
  show V m c main_v2 ((((cfgM m hO).win 2).blk t).view.emb (ix4 0 0 0 j)) = _
  rw [V_v2]
  refine congrArg (bias2 (m ((c : Thread nD τ).loc main_arg5))) (funext fun a => Fin.ext ?_)
  have h := congrFun (pick4 m (grid0.coords t))
  have hb := wE_bk m P (grid0.coords t)
  match a with
  | ⟨0, _⟩ => show cc0_transform_4 k0_off1_inb numel1_S1x1 (tbl m) (grid0.coords t) 0 * 1 + 1 * 0 = 0; rw [h 0]; rfl
  | ⟨1, _⟩ => show cc0_transform_4 k0_off1_inb numel1_S1x1 (tbl m) (grid0.coords t) 1 * 1 + 1 * 0 = (bk (wE (tab m) (grid0.coords t))).val; rw [h 1, ← hb]; show (wE (tab m) (grid0.coords t)).toNat * 1 + 1 * 0 = (wE (tab m) (grid0.coords t)).toNat; omega
  | ⟨2, _⟩ => show cc0_transform_4 k0_off1_inb numel1_S1x1 (tbl m) (grid0.coords t) 2 * 1 + 1 * 0 = 0; rw [h 2]; rfl
  | ⟨3, _⟩ => show cc0_transform_4 k0_off1_inb numel1_S1x1 (tbl m) (grid0.coords t) 3 * 1024 + 1 * j.val = j.val; rw [h 3]; show 0 * 1024 + 1 * j.val = j.val; omega

/-- What the result holds at block `n`, row `r`, column `j`, of the launch's arguments. -/
def ansM (c : Dev nD) (n : Fin 288) (r : Fin 512) (j : Fin 1024) : EReal :=
  ans (tab m) (m ((c : Thread nD τ).loc main_arg1)) (m ((c : Thread nD τ).loc main_arg2)) (m ((c : Thread nD τ).loc main_arg3))
    (m ((c : Thread nD τ).loc main_arg4)) (m ((c : Thread nD τ).loc main_arg5)) n r j

theorem zero_word : (Scalar.ofBits .f32 0x00000000#32 : Ideal .f32) = 0 := by
  simp

/-- A half block's row, read, from its tokens. -/
theorem half (P : Plan (tab m)) (c : Dev nD) (t : Fin (cfgM m hO).N) (T : FVec Ideal S256x1024 .bf16) (r : Fin 512) (p : Fin 256) (j : Fin 1024)
    (hT : ∀ (i : Fin 8) (l : Fin 128), T (ix2 p ⟨128 * i.val + l.val, by omega⟩) = (iblk m hO c 0 t : Vec Ideal S4096x128 .f32) (ix2 ⟨8 * r.val + i.val, by omega⟩ l)) :
    mlp T (wbA c (V m c main_arg2) (bk (wE (tab m) (grid0.coords t)))) (iblk m hO c 1 t) (wbB c (V m c main_arg4) (bk (wE (tab m) (grid0.coords t))))
        (iblk m hO c 2 t) (ix2 p j)
      = expert (fun k => (m ((c : Thread nD τ).loc main_arg1) : Vec Ideal S147456x1024 .f32) (ix2 ⟨512 * t.val + r.val, by have := ptN m hO t; omega⟩ k))
          (fun k j => (m ((c : Thread nD τ).loc main_arg2) : Vec Ideal S2x32x1024x2048 .f32) (ix4 0 (bk (row (tab m) 0 t.val)) k j))
          (fun j => (m ((c : Thread nD τ).loc main_arg3) : Vec Ideal S2x32x2048 .f32) (ix3 0 (bk (row (tab m) 0 t.val)) j))
          (fun k j => (m ((c : Thread nD τ).loc main_arg4) : Vec Ideal S2x32x1024x1024 .f32) (ix4 0 (bk (row (tab m) 0 t.val)) k j))
          (fun j => (m ((c : Thread nD τ).loc main_arg5) : Vec Ideal S2x32x1024 .f32) (ix3 0 (bk (row (tab m) 0 t.val)) j)) j := by
  have hw : wE (tab m) (grid0.coords t) = row (tab m) 0 t.val := (words (tab m) (grid0.coords t) t.val (coord_val t)).1
  rw [← hw]
  refine (mlp_apply _ _ _ _ _ p j).trans (expert_congr (fun k => ?_) (fun k j => ?_) (fun j => ?_) (fun k j => ?_) (fun j => ?_) rfl)
  · have hk : k = ⟨128 * (⟨k.val / 128, by omega⟩ : Fin 8).val + (⟨k.val % 128, Nat.mod_lt _ (by decide)⟩ : Fin 128).val, by show 128 * (k.val / 128) + k.val % 128 < 1024; omega⟩ :=
      Fin.ext (Nat.div_add_mod _ _).symm
    have ht := ptN m hO t
    rw [hk]
    refine (hT _ _).trans ((blk0 m hO c t _ _).trans ?_)
    refine Eq.trans (congrArg (fun i => tiles _ (ix2 i _)) (Fin.ext ?_)) (tiles_apply _ ⟨512 * t.val + r.val, by omega⟩ ⟨k.val / 128, by omega⟩ ⟨k.val % 128, Nat.mod_lt _ (by decide)⟩)
    show 4096 * t.val + (8 * r.val + k.val / 128) = 8 * (512 * t.val + r.val) + k.val / 128
    omega
  · refine (wbA_apply c _ _ k j).trans ?_
    rw [V_of m c main_arg2 (by decide) (by decide) (by decide)]
  · exact blk1 m hO P c t j
  · refine (wbB_apply c _ _ k j).trans ?_
    rw [V_of m c main_arg4 (by decide) (by decide) (by decide)]
  · exact blk2 m hO P c t j

/-- The rows stored at a point, read: zero from the first half block the filled rows do not reach. -/
theorem outV_eq (v : BitVec 32) (T0 T1 : FVec Ideal S256x1024 .f32) (y : S4096x128.Idx) (E : EReal)
    (lo : (y 0).val < 2048 → T0 (ix2 ⟨(y 0).val % 2048 / 8, by omega⟩ ⟨(y 0).val % 8 * 128 + (y 1).val % 128, by omega⟩) = E)
    (hi : ¬ (y 0).val < 2048 → T1 (ix2 ⟨(y 0).val % 2048 / 8, by omega⟩ ⟨(y 0).val % 8 * 128 + (y 1).val % 128, by omega⟩) = E) :
    outV (F := Ideal) (k0_cond4 v = 1#1) (k0_cond5 v = 1#1) T0 T1 y = if (((y 0).val / 8 / 256 * 256 : Nat) : Int) < v.toInt then E else 0 := by
  have hy : (y 0).val < 4096 := (y 0).isLt
  unfold outV
  by_cases h : (y 0).val < 2048
  · have e : (y 0).val / 8 / 256 * 256 = 0 := by omega
    rw [if_pos h, e]
    by_cases h4 : 0 < v.toInt
    · rw [if_pos (c4_pos _ h4), if_pos (by simpa using h4), at2_ix2]
      exact lo h
    · rw [if_neg (c4_neg _ (not_lt.mp h4)), if_neg (by simpa using h4)]
      exact zero_word
  · have e : (y 0).val / 8 / 256 * 256 = 256 := by omega
    rw [if_neg h, e]
    by_cases h5 : 256 < v.toInt
    · rw [if_pos (c5_pos _ h5), if_pos (by simpa using h5), at2_ix2]
      exact hi h
    · rw [if_neg (c5_neg _ (not_lt.mp h5)), if_neg (by simpa using h5)]
      exact zero_word

/-- A block of the result, read. -/
theorem oblk_apply (P : Plan (tab m)) (c : Dev nD) (t : Fin (cfgM m hO).N) (y : S4096x128.Idx) :
    oblk m hO c t y = ansM m c ⟨t.val, ptN m hO t⟩ ⟨(y 0).val / 8, by have : (y 0).val < 4096 := (y 0).isLt; omega⟩
      ⟨(y 0).val % 8 * 128 + (y 1).val % 128, by omega⟩ := by
  have hy : (y 0).val < 4096 := (y 0).isLt
  have hw : wR (tab m) (grid0.coords t) = row (tab m) 1 t.val := (words (tab m) (grid0.coords t) t.val (coord_val t)).2.1
  unfold oblk outAt
  have lo := half m hO P c t (tok0 (iblk m hO c 0 t)) ⟨(y 0).val / 8, by omega⟩ ⟨(y 0).val % 2048 / 8, by omega⟩ ⟨(y 0).val % 8 * 128 + (y 1).val % 128, by omega⟩
  have hi := half m hO P c t (tok1 (iblk m hO c 0 t)) ⟨(y 0).val / 8, by omega⟩ ⟨(y 0).val % 2048 / 8, by omega⟩ ⟨(y 0).val % 8 * 128 + (y 1).val % 128, by omega⟩
  refine (outV_eq _ _ _ y _ (fun h => lo fun i l => ?_) (fun h => hi fun i l => ?_)).trans ?_
  · refine (tok0_apply _ _ i l).trans (congrArg (fun z => (iblk m hO c 0 t : Vec Ideal S4096x128 .f32) (ix2 z l)) (Fin.ext ?_))
    show 0 + (8 * ((y 0).val % 2048 / 8) + i.val) = 8 * ((y 0).val / 8) + i.val
    omega
  · refine (tok1_apply _ _ i l).trans (congrArg (fun z => (iblk m hO c 0 t : Vec Ideal S4096x128 .f32) (ix2 z l)) (Fin.ext ?_))
    show 2048 + (8 * ((y 0).val % 2048 / 8) + i.val) = 8 * ((y 0).val / 8) + i.val
    omega
  · rw [hw]; rfl

/-! ## The array -/

theorem flush3 : ∀ t : Fin (cfgM m hO).N, ((cfgM m hO).win 3).flush t = true :=
  fun t => (by decide +kernel : ∀ t : Fin grid0.N, Pipeline.Window.flushOf grid0 true cc0_transform_5 t = true) t

/-- The result array. -/
def res (c : Dev nD) : Buf (Elt Ideal) ((c : Thread nD τ).loc main_v3) := fun (y : S1179648x128.Idx) =>
  ansM m c ⟨(y 0).val / 4096, by have : (y 0).val < 1179648 := (y 0).isLt; omega⟩ ⟨(y 0).val % 4096 / 8, by omega⟩
    ⟨(y 0).val % 8 * 128 + (y 1).val % 128, by omega⟩

theorem emb3 (t : Fin (cfgM m hO).N) (y : S4096x128.Idx) :
    ((((cfgM m hO).win 3).blk t).view.emb y (0 : Fin 2)).val = t.val * 4096 + (y 0).val
      ∧ ((((cfgM m hO).win 3).blk t).view.emb y (1 : Fin 2)).val = (y 1).val := by
  have hv := coord_val t
  have hr := row_nat (grid0.coords t)
  constructor
  · show (BitVec.ofNat 32 (grid0.coords t 0).val).toNat * 4096 + 1 * (y 0).val = _; omega
  · show 0 * 128 + 1 * (y 1).val = _; omega

theorem mem_of_emb {t : Fin (cfgM m hO).N} {i : S1179648x128.Idx} (y : S4096x128.Idx) (h : (((cfgM m hO).win 3).blk t).view.emb y = i) :
    i ∈ (((cfgM m hO).win 3).blk t).view.set := by
  subst h
  exact View.emb_mem_set _ _

theorem cover3 (i : S1179648x128.Idx) :
    ∃ t : Fin (cfgM m hO).N, ((cfgM m hO).win 3).flush t = true ∧ i ∈ (((cfgM m hO).win 3).blk t).view.set := by
  have h0 : (i 0).val < 1179648 := (i 0).isLt
  have h1 : (i 1).val < 128 := (i 1).isLt
  have ht : (i 0).val / 4096 < (cfgM m hO).N := lt_of_lt_of_eq (by omega) N_0.symm
  refine ⟨⟨_, ht⟩, flush3 m hO _, ?_⟩
  refine mem_of_emb m hO (ix2 ⟨(i 0).val % 4096, Nat.mod_lt _ (by decide)⟩ (i 1)) ?_
  obtain ⟨e0, e1⟩ := emb3 m hO ⟨_, ht⟩ (ix2 ⟨(i 0).val % 4096, Nat.mod_lt _ (by decide)⟩ (i 1) : S4096x128.Idx)
  funext a; apply Fin.ext
  match a with
  | ⟨0, _⟩ => refine e0.trans ?_; show (i 0).val / 4096 * 4096 + (i 0).val % 4096 = (i 0).val; omega
  | ⟨1, _⟩ => exact e1

theorem final (P : Plan (tab m)) (c : Dev nD) : (dats m hO 0 c).arrAt 3 (cfgM m hO).N = res m c := by
  refine (dats m hO 0 c).arrAt_eq_of_emb 3 (res m c) (fun t hf (y : S4096x128.Idx) => ?_) (cover3 m hO)
  refine (congrFun (after0_3 m hO c t) y).trans ((oblk_apply m hO P c t y).trans ?_)
  obtain ⟨e0, e1⟩ := emb3 m hO t y
  have hy : (y (0 : Fin 2)).val < 4096 := (y 0).isLt
  have ht := ptN m hO t
  show _ = ansM m c ⟨((((cfgM m hO).win 3).blk t).view.emb y (0 : Fin 2)).val / 4096, _⟩ ⟨((((cfgM m hO).win 3).blk t).view.emb y (0 : Fin 2)).val % 4096 / 8, _⟩
    ⟨((((cfgM m hO).win 3).blk t).view.emb y (0 : Fin 2)).val % 8 * 128 + ((((cfgM m hO).win 3).blk t).view.emb y (1 : Fin 2)).val % 128, _⟩
  have a0 : ∀ (n n' : Fin 288) (r r' : Fin 512) (j j' : Fin 1024), n = n' → r = r' → j = j' → ansM m c n r j = ansM m c n' r' j' := by
    rintro _ _ _ _ _ _ rfl rfl rfl; rfl
  refine a0 _ _ _ _ _ _ (Fin.ext ?_) (Fin.ext ?_) (Fin.ext ?_)
  · show t.val = ((((cfgM m hO).win 3).blk t).view.emb y (0 : Fin 2)).val / 4096
    rw [e0]; omega
  · show (y (0 : Fin 2)).val / 8 = ((((cfgM m hO).win 3).blk t).view.emb y (0 : Fin 2)).val % 4096 / 8
    rw [e0]; omega
  · show (y (0 : Fin 2)).val % 8 * 128 + (y (1 : Fin 2)).val % 128 = ((((cfgM m hO).win 3).blk t).view.emb y (0 : Fin 2)).val % 8 * 128 + ((((cfgM m hO).win 3).blk t).view.emb y (1 : Fin 2)).val % 128
    rw [e0, e1]; omega

end Cert.Kernel3Ideal.Hand

end
-- ==== Proof.ExpRef.lean ====
/- The reference's experts read at an index: a block's rows through the weights its table entry picks, zero from the
   first half block its filled rows do not reach. -/
module

public import proofs.«01_k».proof.Proof.Gen.Reference3Ideal.Run
public import proofs.«01_k».proof.Proof.ExpVal
public import Idealize.ShloMosaic.Lib.StackMember

@[expose] public section

set_option maxRecDepth 16384

noncomputable section

namespace Cert.Reference3Ideal.Block

open Cert.Reference3Ideal Cert.Reference3Ideal.Gen Cert.Reference3Ideal.Value
open Idealize.ShloMosaic Idealize.ShloMosaic.TcCoe Idealize.ShloMosaic.Tactic Idealize.ShloMosaic.StableHlo
open Cert.Kernel3Ideal.Hand (row bk at2 expert hid gate lo hi gate_eq ans at2_ix2)

/-! ## The gathers -/

/-- One matrix of a stack of 32 for each of 288 rows of indices. -/
abbrev stackDims (p q : Nat) (wf : GatherDims.WF ⟨3, ![32, p, q]⟩ ⟨2, ![288, 3]⟩ ⟨4, ![288, 1, p, q]⟩ [1, 2, 3] [] [] [0, 1, 2] [] 1 ![1, p, q]) :
    GatherDims ⟨3, ![32, p, q]⟩ ⟨2, ![288, 3]⟩ ⟨4, ![288, 1, p, q]⟩ where
  offsetDims := [1, 2, 3]
  collapsedSliceDims := []
  operandBatchingDims := []
  startIndicesBatchingDims := []
  startIndexMap := [0, 1, 2]
  indexVectorDim := 1
  sliceSizes := ![1, p, q]
  wf := wf
/-- One row of 32 for each of 288 rows of indices. -/
abbrev rowDims (q : Nat) (wf : GatherDims.WF ⟨2, ![32, q]⟩ ⟨2, ![288, 2]⟩ ⟨3, ![288, 1, q]⟩ [1, 2] [] [] [0, 1] [] 1 ![1, q]) :
    GatherDims ⟨2, ![32, q]⟩ ⟨2, ![288, 2]⟩ ⟨3, ![288, 1, q]⟩ where
  offsetDims := [1, 2]
  collapsedSliceDims := []
  operandBatchingDims := []
  startIndicesBatchingDims := []
  startIndexMap := [0, 1]
  indexVectorDim := 1
  sliceSizes := ![1, q]
  wf := wf

/-- The matrix the first index of a row names; the other two indices cannot move a slice that fills its axes. -/
theorem pick3 {α : Type} {p q : Nat} (wf) (x : (⟨3, ![32, p, q]⟩ : Shape).Idx → α) (idx : IVec ⟨2, ![288, 3]⟩ 32) (n : Fin 288) (k : Fin p) (j : Fin q)
    (e : Fin 32) (h : (idx (ix2 n 0)).toInt = (e.val : Int)) : Host.gather (stackDims p q wf) x idx (ix4 n 0 k j) = x (ix3 e k j) := by
  unfold Host.gather
  refine congrArg x (funext fun a => Fin.ext ?_)
  show (stackDims p q wf).start (ix4 n 0 k j) idx a + (stackDims p q wf).batchCoord (ix4 n 0 k j) a + (stackDims p q wf).offCoord (ix4 n 0 k j) a = _
  rw [GatherDims.batchCoord_eq_zero _ _ _ List.not_mem_nil, Nat.add_zero]
  match a with
  | ⟨0, _⟩ =>
    show (stackDims p q wf).start (ix4 n 0 k j) idx (0 : Fin 3) + 0 = e.val
    unfold GatherDims.start
    rw [dif_pos (show (0 : Fin 3) ∈ ([0, 1, 2] : List (Fin 3)) by decide)]
    have hs : (stackDims p q wf).siIdx (ix4 n 0 k j) ⟨0, by show 0 < 3; decide⟩ = ix2 n 0 := by
      funext b; refine Fin.ext ?_
      match b with
      | ⟨0, _⟩ => rfl
      | ⟨1, _⟩ => rfl
    have hh := congrArg idx hs
    show min (idx ((stackDims p q wf).siIdx (ix4 n 0 k j) ⟨0, _⟩)).toInt.toNat 31 + 0 = e.val
    rw [hh, h]
    have := e.isLt
    omega
  | ⟨1, _⟩ =>
    have : (stackDims p q wf).start (ix4 n 0 k j) idx (1 : Fin 3) = 0 := by
      unfold GatherDims.start
      rw [dif_pos (show (1 : Fin 3) ∈ ([0, 1, 2] : List (Fin 3)) by decide)]
      exact (congrArg (min _) (Nat.sub_self p)).trans (Nat.min_zero _)
    show (stackDims p q wf).start (ix4 n 0 k j) idx (1 : Fin 3) + k.val = k.val
    rw [this, Nat.zero_add]
  | ⟨2, _⟩ =>
    have : (stackDims p q wf).start (ix4 n 0 k j) idx (2 : Fin 3) = 0 := by
      unfold GatherDims.start
      rw [dif_pos (show (2 : Fin 3) ∈ ([0, 1, 2] : List (Fin 3)) by decide)]
      exact (congrArg (min _) (Nat.sub_self q)).trans (Nat.min_zero _)
    show (stackDims p q wf).start (ix4 n 0 k j) idx (2 : Fin 3) + j.val = j.val
    rw [this, Nat.zero_add]

/-- The row the first index names. -/
theorem pick2 {α : Type} {q : Nat} (wf) (x : (⟨2, ![32, q]⟩ : Shape).Idx → α) (idx : IVec ⟨2, ![288, 2]⟩ 32) (n : Fin 288) (j : Fin q)
    (e : Fin 32) (h : (idx (ix2 n 0)).toInt = (e.val : Int)) : Host.gather (rowDims q wf) x idx (ix3 n 0 j) = x (ix2 e j) := by
  unfold Host.gather
  refine congrArg x (funext fun a => Fin.ext ?_)
  show (rowDims q wf).start (ix3 n 0 j) idx a + (rowDims q wf).batchCoord (ix3 n 0 j) a + (rowDims q wf).offCoord (ix3 n 0 j) a = _
  rw [GatherDims.batchCoord_eq_zero _ _ _ List.not_mem_nil, Nat.add_zero]
  match a with
  | ⟨0, _⟩ =>
    show (rowDims q wf).start (ix3 n 0 j) idx (0 : Fin 2) + 0 = e.val
    unfold GatherDims.start
    rw [dif_pos (show (0 : Fin 2) ∈ ([0, 1] : List (Fin 2)) by decide)]
    have hs : (rowDims q wf).siIdx (ix3 n 0 j) ⟨0, by show 0 < 2; decide⟩ = ix2 n 0 := by
      funext b; refine Fin.ext ?_
      match b with
      | ⟨0, _⟩ => rfl
      | ⟨1, _⟩ => rfl
    have hh := congrArg idx hs
    show min (idx ((rowDims q wf).siIdx (ix3 n 0 j) ⟨0, _⟩)).toInt.toNat 31 + 0 = e.val
    rw [hh, h]
    have := e.isLt
    omega
  | ⟨1, _⟩ =>
    have : (rowDims q wf).start (ix3 n 0 j) idx (1 : Fin 2) = 0 := by
      unfold GatherDims.start
      rw [dif_pos (show (1 : Fin 2) ∈ ([0, 1] : List (Fin 2)) by decide)]
      exact (congrArg (min _) (Nat.sub_self q)).trans (Nat.min_zero _)
    show (rowDims q wf).start (ix3 n 0 j) idx (1 : Fin 2) + j.val = j.val
    rw [this, Nat.zero_add]

/-! ## The indices -/

/-- The blocks' experts: the table's first row. -/
def exps (T : IVec S4x288 32) : IVec S288 32 := shapeCast S288 (extractStridedSlice S1x288 ![0, 0] T slices_S4x288_S1x288_0_0) shapeCasts_S1x288_S288
/-- The blocks' filled rows: the table's second row. -/
def fills (T : IVec S4x288 32) : IVec S288 32 := shapeCast S288 (extractStridedSlice S1x288 ![1, 0] T slices_S4x288_S1x288_1_0) shapeCasts_S1x288_S288
/-- An index below zero counts from the end. -/
def wrap (v : IVec S288 32) : IVec S288 32 :=
  select (cmpi .slt v (broadcastInDim S288 ![] bcast_S_S288 (constantI S_ 32 0#32))) (addi v (broadcastInDim S288 ![] bcast_S_S288 (constantI S_ 32 32#32))) v
def zeroOf (n : BitVec 32) : IVec S_ 32 := select (cmpi .slt (constantI S_ 32 0#32) (constantI S_ 32 0#32)) (addi (constantI S_ 32 0#32) (constantI S_ 32 n)) (constantI S_ 32 0#32)
def three (v : IVec S288 32) (a b : BitVec 32) : IVec S288x3 32 :=
  concatenate S288x3 1 [⟨S288x1, broadcastInDim S288x1 ![0] bcast_S288_S288x1_0 (wrap v)⟩, ⟨S288x1, broadcastInDim S288x1 ![] bcast_S_S288x1 (zeroOf a)⟩,
    ⟨S288x1, broadcastInDim S288x1 ![] bcast_S_S288x1 (zeroOf b)⟩] concatenates_S288x1_S288x1_S288x1_S288x3_d1
def two (v : IVec S288 32) (a : BitVec 32) : IVec S288x2 32 :=
  concatenate S288x2 1 [⟨S288x1, broadcastInDim S288x1 ![0] bcast_S288_S288x1_0 (wrap v)⟩, ⟨S288x1, broadcastInDim S288x1 ![] bcast_S_S288x1 (zeroOf a)⟩]
    concatenates_S288x1_S288x1_S288x2_d1

theorem exps_apply (T : IVec S4x288 32) (n : Fin 288) : exps T (ix1 n) = row T 0 n.val := by
  have h : exps T (ix1 n) = T (ix2 0 n) := by pointwise [exps]
  rw [h, row, at2_ix2]
  exact congrArg (fun z => T (ix2 0 z)) (Fin.ext (Nat.mod_eq_of_lt n.isLt).symm)
theorem fills_apply (T : IVec S4x288 32) (n : Fin 288) : fills T (ix1 n) = row T 1 n.val := by
  have h : fills T (ix1 n) = T (ix2 1 n) := by pointwise [fills]
  rw [h, row, at2_ix2]
  exact congrArg (fun z => T (ix2 1 z)) (Fin.ext (Nat.mod_eq_of_lt n.isLt).symm)

theorem wrap_apply (v : IVec S288 32) (n : Fin 288) (h : 0 ≤ (v (ix1 n)).toInt) : wrap v (ix1 n) = v (ix1 n) := by
  have hc : (v (ix1 n)).slt 0#32 = false := by rw [BitVec.slt]; simpa using h
  show (if BitVec.ofBool ((v (ix1 n)).slt 0#32) = 1#1 then _ else v (ix1 n)) = v (ix1 n)
  rw [hc]; rfl
theorem three_apply (v : IVec S288 32) (a b : BitVec 32) (n : Fin 288) (h : 0 ≤ (v (ix1 n)).toInt) : three v a b (ix2 n 0) = v (ix1 n) := by
  refine Eq.trans ?_ (wrap_apply v n h)
  pointwise [three]
theorem two_apply (v : IVec S288 32) (a : BitVec 32) (n : Fin 288) (h : 0 ≤ (v (ix1 n)).toInt) : two v a (ix2 n 0) = v (ix1 n) := by
  refine Eq.trans ?_ (wrap_apply v n h)
  pointwise [two]

/-! ## A block's weights -/

variable (T : IVec S4x288 32) (X : FVec Ideal S147456x1024 .f32) (W : FVec Ideal S2x32x1024x2048 .f32) (B : FVec Ideal S2x32x2048 .f32)
  (W' : FVec Ideal S2x32x1024x1024 .f32) (B' : FVec Ideal S2x32x1024 .f32)

def wt1 : FVec Ideal S288x1024x2048 .f32 :=
  shapeCast _ (Host.gather gather_S32x1024x2048_S288x3_S288x1x1024x2048_123_n_n_n_012_1_110242048
    (shapeCast S32x1024x2048 (extractStridedSlice S1x32x1024x2048 ![0, 0, 0, 0] W slices_S2x32x1024x2048_S1x32x1024x2048_0_0_0_0) shapeCasts_S1x32x1024x2048_S32x1024x2048)
    (three (exps T) 1024#32 2048#32)) shapeCasts_S288x1x1024x2048_S288x1024x2048
def wt2 : FVec Ideal S288x1024x1024 .f32 :=
  shapeCast _ (Host.gather gather_S32x1024x1024_S288x3_S288x1x1024x1024_123_n_n_n_012_1_110241024
    (shapeCast S32x1024x1024 (extractStridedSlice S1x32x1024x1024 ![0, 0, 0, 0] W' slices_S2x32x1024x1024_S1x32x1024x1024_0_0_0_0) shapeCasts_S1x32x1024x1024_S32x1024x1024)
    (three (exps T) 1024#32 1024#32)) shapeCasts_S288x1x1024x1024_S288x1024x1024
def bs1 : FVec Ideal S288x2048 .f32 :=
  shapeCast _ (Host.gather gather_S32x2048_S288x2_S288x1x2048_12_n_n_n_01_1_12048
    (shapeCast S32x2048 (extractStridedSlice S1x32x2048 ![0, 0, 0] B slices_S2x32x2048_S1x32x2048_0_0_0) shapeCasts_S1x32x2048_S32x2048)
    (two (exps T) 2048#32)) shapeCasts_S288x1x2048_S288x2048
def bs2 : FVec Ideal S288x1024 .f32 :=
  shapeCast _ (Host.gather gather_S32x1024_S288x2_S288x1x1024_12_n_n_n_01_1_11024
    (shapeCast S32x1024 (extractStridedSlice S1x32x1024 ![0, 0, 0] B' slices_S2x32x1024_S1x32x1024_0_0_0) shapeCasts_S1x32x1024_S32x1024)
    (two (exps T) 1024#32)) shapeCasts_S288x1x1024_S288x1024

variable {T} in
theorem expert_word (n : Fin 288) (h : 0 ≤ (row T 0 n.val).toInt ∧ (row T 0 n.val).toInt < 32) :
    0 ≤ (exps T (ix1 n)).toInt ∧ (exps T (ix1 n)).toInt = ((bk (row T 0 n.val)).val : Int) := by
  rw [exps_apply]
  refine ⟨h.1, ?_⟩
  have h1 : (row T 0 n.val).toNat < 32 := Cert.Kernel3Ideal.Hand.nat_of_int _ 32 h.1 (by simpa using h.2)
  have h2 : (bk (row T 0 n.val)).val = (row T 0 n.val).toNat := Nat.mod_eq_of_lt h1
  rw [h2, BitVec.toInt_eq_toNat_of_lt (by omega)]

theorem wt1_apply (n : Fin 288) (h : 0 ≤ (row T 0 n.val).toInt ∧ (row T 0 n.val).toInt < 32) (k : Fin 1024) (j : Fin 2048) :
    wt1 T W (ix3 n k j) = W (ix4 0 (bk (row T 0 n.val)) k j) := by
  obtain ⟨h0, h1⟩ := expert_word n h
  have a : ∀ x : FVec Ideal S288x1x1024x2048 .f32, shapeCast S288x1024x2048 x shapeCasts_S288x1x1024x2048_S288x1024x2048 (ix3 n k j) = x (ix4 n 0 k j) := by
    intro x; pointwise []
  refine (a _).trans ((pick3 gather_S32x1024x2048_S288x3_S288x1x1024x2048_123_n_n_n_012_1_110242048_wf _ _ n k j (bk (row T 0 n.val)) (by rw [three_apply _ _ _ n h0]; exact h1)).trans ?_)
  pointwise []
theorem wt2_apply (n : Fin 288) (h : 0 ≤ (row T 0 n.val).toInt ∧ (row T 0 n.val).toInt < 32) (k : Fin 1024) (j : Fin 1024) :
    wt2 T W' (ix3 n k j) = W' (ix4 0 (bk (row T 0 n.val)) k j) := by
  obtain ⟨h0, h1⟩ := expert_word n h
  have a : ∀ x : FVec Ideal S288x1x1024x1024 .f32, shapeCast S288x1024x1024 x shapeCasts_S288x1x1024x1024_S288x1024x1024 (ix3 n k j) = x (ix4 n 0 k j) := by
    intro x; pointwise []
  refine (a _).trans ((pick3 gather_S32x1024x1024_S288x3_S288x1x1024x1024_123_n_n_n_012_1_110241024_wf _ _ n k j (bk (row T 0 n.val)) (by rw [three_apply _ _ _ n h0]; exact h1)).trans ?_)
  pointwise []
theorem bs1_apply (n : Fin 288) (h : 0 ≤ (row T 0 n.val).toInt ∧ (row T 0 n.val).toInt < 32) (j : Fin 2048) :
    bs1 T B (ix2 n j) = B (ix3 0 (bk (row T 0 n.val)) j) := by
  obtain ⟨h0, h1⟩ := expert_word n h
  have a : ∀ x : FVec Ideal S288x1x2048 .f32, shapeCast S288x2048 x shapeCasts_S288x1x2048_S288x2048 (ix2 n j) = x (ix3 n 0 j) := by
    intro x; pointwise []
  refine (a _).trans ((pick2 gather_S32x2048_S288x2_S288x1x2048_12_n_n_n_01_1_12048_wf _ _ n j (bk (row T 0 n.val)) (by rw [two_apply _ _ n h0]; exact h1)).trans ?_)
  pointwise []
theorem bs2_apply (n : Fin 288) (h : 0 ≤ (row T 0 n.val).toInt ∧ (row T 0 n.val).toInt < 32) (j : Fin 1024) :
    bs2 T B' (ix2 n j) = B' (ix3 0 (bk (row T 0 n.val)) j) := by
  obtain ⟨h0, h1⟩ := expert_word n h
  have a : ∀ x : FVec Ideal S288x1x1024 .f32, shapeCast S288x1024 x shapeCasts_S288x1x1024_S288x1024 (ix2 n j) = x (ix3 n 0 j) := by
    intro x; pointwise []
  refine (a _).trans ((pick2 gather_S32x1024_S288x2_S288x1x1024_12_n_n_n_01_1_11024_wf _ _ n j (bk (row T 0 n.val)) (by rw [two_apply _ _ n h0]; exact h1)).trans ?_)
  pointwise []

/-! ## A block's rows -/

def xs : FVec Ideal S288x512x1024 .f32 := shapeCast _ X shapeCasts_S147456x1024_S288x512x1024
theorem xs_apply (n : Fin 288) (r : Fin 512) (k : Fin 1024) : xs X (ix3 n r k) = X (ix2 ⟨512 * n.val + r.val, by omega⟩ k) := by
  refine shapeCast_apply X _ _ _ ?_
  rw [Shape.rowMajor_val_two, Shape.rowMajor_val_three]
  show (512 * n.val + r.val) * 1024 + k.val = (n.val * 512 + r.val) * 1024 + k.val
  omega

def hidR : FVec Ideal S288x512x2048 .f32 :=
  addf (Host.dotGeneral dot_S288x512x1024_S288x1024x2048_S288x512x2048_2_1_1_2_0_0 none (xs X) (wt1 T W))
    (broadcastInDim S288x512x2048 ![0, 1, 2] bcast_S288x1x2048_S288x512x2048_0_1_2 (broadcastInDim S288x1x2048 ![0, 2] bcast_S288x2048_S288x1x2048_0_2 (bs1 T B)))

theorem hidR_apply (n : Fin 288) (h : 0 ≤ (row T 0 n.val).toInt ∧ (row T 0 n.val).toInt < 32) (r : Fin 512) (j : Fin 2048) :
    hidR T X W B (ix3 n r j) = hid (fun k => X (ix2 ⟨512 * n.val + r.val, by omega⟩ k)) (fun k j => W (ix4 0 (bk (row T 0 n.val)) k j))
      (fun j => B (ix3 0 (bk (row T 0 n.val)) j)) j := by
  have hb : ∀ b : FVec Ideal S288x2048 .f32, broadcastInDim S288x512x2048 ![0, 1, 2] bcast_S288x1x2048_S288x512x2048_0_1_2
      (broadcastInDim S288x1x2048 ![0, 2] bcast_S288x2048_S288x1x2048_0_2 b) (ix3 n r j) = b (ix2 n j) := by
    intro b; pointwise []
  have hd := Idealize.ShloMosaic.StackMember.dotGeneral_stack_apply dot_S288x512x1024_S288x1024x2048_S288x512x2048_2_1_1_2_0_0_wf none (xs X) (wt1 T W) n r j
  unfold hid
  refine congrArg₂ (fun a b : EReal => a + b) (hd.trans (Finset.sum_congr rfl fun k _ => ?_)) ((hb _).trans (bs1_apply T B n h j))
  exact congrArg₂ (fun a b : EReal => a * b) (xs_apply X n r k) (wt1_apply T W n h k j)

def gateR (H : FVec Ideal S288x512x2048 .f32) : FVec Ideal S288x512x1024 .f32 :=
  mulf (mulf (minimumf (extractStridedSlice S288x512x1024 ![0, 0, 0] H slices_S288x512x2048_S288x512x1024_0_0_0) (broadcastInDim S288x512x1024 ![] bcast_S_S288x512x1024 (constant S_ .f32 0x40E00000#32)))
      (Host.divf (broadcastInDim S288x512x1024 ![] bcast_S_S288x512x1024 (constant S_ .f32 0x3F800000#32))
        (addf (broadcastInDim S288x512x1024 ![] bcast_S_S288x512x1024 (constant S_ .f32 0x3F800000#32))
          (Host.exp (Host.negf (mulf (broadcastInDim S288x512x1024 ![] bcast_S_S288x512x1024 (constant S_ .f32 0x3FD9DB23#32))
            (minimumf (extractStridedSlice S288x512x1024 ![0, 0, 0] H slices_S288x512x2048_S288x512x1024_0_0_0) (broadcastInDim S288x512x1024 ![] bcast_S_S288x512x1024 (constant S_ .f32 0x40E00000#32)))))))))
    (addf (minimumf (broadcastInDim S288x512x1024 ![] bcast_S_S288x512x1024 (id (constant S_ .f32 0x40E00000#32)))
        (maximumf (broadcastInDim S288x512x1024 ![] bcast_S_S288x512x1024 (id (constant S_ .f32 0xC0E00000#32)))
          (extractStridedSlice S288x512x1024 ![0, 0, 1024] H slices_S288x512x2048_S288x512x1024_0_0_1024)))
      (broadcastInDim S288x512x1024 ![] bcast_S_S288x512x1024 (constant S_ .f32 0x3F800000#32)))

theorem one_word : Ideal.ofBits .f32 0x3F800000#32 = (1 : EReal) := by simp
theorem gateR_apply (H : FVec Ideal S288x512x2048 .f32) (n : Fin 288) (r : Fin 512) (k : Fin 1024) :
    gateR H (ix3 n r k) = gate (H (ix3 n r (lo k))) (H (ix3 n r (hi k))) := by
  refine Eq.trans ?_ (gate_eq _ _)
  have hl : extractStridedSlice S288x512x1024 ![0, 0, 0] H slices_S288x512x2048_S288x512x1024_0_0_0 (ix3 n r k) = H (ix3 n r (lo k)) := by pointwise []
  have hh : extractStridedSlice S288x512x1024 ![0, 0, 1024] H slices_S288x512x2048_S288x512x1024_0_0_1024 (ix3 n r k) = H (ix3 n r (hi k)) := by pointwise []
  rw [← hl, ← hh, ← one_word]
  rfl

def moeR : FVec Ideal S288x512x1024 .f32 :=
  addf (Host.dotGeneral dot_S288x512x1024_S288x1024x1024_S288x512x1024_2_1_1_2_0_0 none (gateR (hidR T X W B)) (wt2 T W'))
    (broadcastInDim S288x512x1024 ![0, 1, 2] bcast_S288x1x1024_S288x512x1024_0_1_2 (broadcastInDim S288x1x1024 ![0, 2] bcast_S288x1024_S288x1x1024_0_2 (bs2 T B')))

theorem moeR_apply (n : Fin 288) (h : 0 ≤ (row T 0 n.val).toInt ∧ (row T 0 n.val).toInt < 32) (r : Fin 512) (j : Fin 1024) :
    moeR T X W B W' B' (ix3 n r j) = expert (fun k => X (ix2 ⟨512 * n.val + r.val, by omega⟩ k)) (fun k j => W (ix4 0 (bk (row T 0 n.val)) k j))
      (fun j => B (ix3 0 (bk (row T 0 n.val)) j)) (fun k j => W' (ix4 0 (bk (row T 0 n.val)) k j)) (fun j => B' (ix3 0 (bk (row T 0 n.val)) j)) j := by
  have hb : ∀ b : FVec Ideal S288x1024 .f32, broadcastInDim S288x512x1024 ![0, 1, 2] bcast_S288x1x1024_S288x512x1024_0_1_2
      (broadcastInDim S288x1x1024 ![0, 2] bcast_S288x1024_S288x1x1024_0_2 b) (ix3 n r j) = b (ix2 n j) := by
    intro b; pointwise []
  have hd := Idealize.ShloMosaic.StackMember.dotGeneral_stack_apply dot_S288x512x1024_S288x1024x1024_S288x512x1024_2_1_1_2_0_0_wf none (gateR (hidR T X W B)) (wt2 T W') n r j
  unfold expert
  refine congrArg₂ (fun a b : EReal => a + b) (hd.trans (Finset.sum_congr rfl fun k _ => ?_)) ((hb _).trans (bs2_apply T B' n h j))
  refine congrArg₂ (fun a b : EReal => a * b) ((gateR_apply (hidR T X W B) n r k).trans ?_) (wt2_apply T W' n h k j)
  exact congrArg₂ gate (hidR_apply T X W B n h r (lo k)) (hidR_apply T X W B n h r (hi k))

/-! ## The rows kept -/

def rowNo : IVec S512 32 := iotaInDim S512 32 0
def halfNo : IVec S512 32 := Host.divsi rowNo (broadcastInDim S512 ![] bcast_S_S512 (id (constantI S_ 32 256#32)))
/-- The first row of each row's half block. -/
def halfRow : IVec S512 32 :=
  muli (select (andi (cmpi .ne (signi rowNo) (broadcastInDim S512 ![] bcast_S_S512 (signi (id (constantI S_ 32 256#32)))))
      (cmpi .ne (Host.remsi rowNo (broadcastInDim S512 ![] bcast_S_S512 (id (constantI S_ 32 256#32)))) (broadcastInDim S512 ![] bcast_S_S512 (constantI S_ 32 0#32))))
    (subi halfNo (broadcastInDim S512 ![] bcast_S_S512 (constantI S_ 32 1#32))) halfNo) (broadcastInDim S512 ![] bcast_S_S512 (constantI S_ 32 256#32))
theorem halfRow_apply : ∀ r : Fin 512, halfRow (ix1 r) = BitVec.ofNat 32 (r.val / 256 * 256) := by decide +kernel

def keep : IVec S288x512x1024 1 :=
  broadcastInDim S288x512x1024 ![0, 1, 2] bcast_S288x512x1_S288x512x1024_0_1_2 (broadcastInDim S288x512x1 ![0, 1] bcast_S288x512_S288x512x1_0_1
    (cmpi .slt (broadcastInDim S288x512 ![0, 1] bcast_S1x512_S288x512_0_1 (broadcastInDim S1x512 ![1] bcast_S512_S1x512_1 halfRow))
      (broadcastInDim S288x512 ![0, 1] bcast_S288x1_S288x512_0_1 (broadcastInDim S288x1 ![0] bcast_S288_S288x1_0 (fills T)))))

theorem keep_apply (n : Fin 288) (r : Fin 512) (j : Fin 1024) :
    keep T (ix3 n r j) = BitVec.ofBool (decide (((r.val / 256 * 256 : Nat) : Int) < (row T 1 n.val).toInt)) := by
  have h : ∀ (u : IVec S512 32) (v : IVec S288 32), broadcastInDim S288x512x1024 ![0, 1, 2] bcast_S288x512x1_S288x512x1024_0_1_2 (broadcastInDim S288x512x1 ![0, 1] bcast_S288x512_S288x512x1_0_1
    (cmpi .slt (broadcastInDim S288x512 ![0, 1] bcast_S1x512_S288x512_0_1 (broadcastInDim S1x512 ![1] bcast_S512_S1x512_1 u))
      (broadcastInDim S288x512 ![0, 1] bcast_S288x1_S288x512_0_1 (broadcastInDim S288x1 ![0] bcast_S288_S288x1_0 v)))) (ix3 n r j)
      = BitVec.ofBool ((u (ix1 r)).slt (v (ix1 n))) := by
    intro u v; pointwise []; rfl
  refine (h halfRow (fills T)).trans (congrArg BitVec.ofBool ?_)
  rw [halfRow_apply, fills_apply, BitVec.slt, BitVec.toInt_eq_toNat_of_lt (by rw [BitVec.toNat_ofNat]; omega), BitVec.toNat_ofNat,
    Nat.mod_eq_of_lt (by omega)]

/-- The reference's rows, by block. -/
def outR : FVec Ideal S288x512x1024 .f32 :=
  select (keep T) (moeR T X W B W' B') (broadcastInDim S288x512x1024 ![] bcast_S_S288x512x1024 (id (constant S_ .f32 0x00000000#32)))

theorem outR_apply (n : Fin 288) (h : 0 ≤ (row T 0 n.val).toInt ∧ (row T 0 n.val).toInt < 32) (r : Fin 512) (j : Fin 1024) :
    outR T X W B W' B' (ix3 n r j) = ans T X W B W' B' n r j := by
  show (if keep T (ix3 n r j) = 1#1 then moeR T X W B W' B' (ix3 n r j) else (Scalar.ofBits .f32 0x00000000#32 : Ideal .f32)) = _
  unfold ans
  rw [keep_apply, moeR_apply T X W B W' B' n h]
  by_cases hk : ((r.val / 256 * 256 : Nat) : Int) < (row T 1 n.val).toInt
  · rw [if_pos hk, decide_eq_true hk]; rfl
  · rw [if_neg hk, decide_eq_false hk]; exact Cert.Kernel3Ideal.Hand.zero_word

theorem res_eq (V0 : Valuation τ sig (Elt Ideal)) : res_main_v108 V0
    = outR (V0 (Proc.devRef .tc main_arg0)) (V0 (Proc.devRef .tc main_arg1)) (V0 (Proc.devRef .tc main_arg2)) (V0 (Proc.devRef .tc main_arg3))
        (V0 (Proc.devRef .tc main_arg4)) (V0 (Proc.devRef .tc main_arg5)) := rfl

theorem flat_apply (x : FVec Ideal S288x512x1024 .f32) (y : S1179648x128.Idx) :
    shapeCast S1179648x128 x shapeCasts_S288x512x1024_S1179648x128 y
      = x (ix3 ⟨(y 0).val / 4096, by have : (y 0).val < 1179648 := (y 0).isLt; omega⟩ ⟨(y 0).val % 4096 / 8, by omega⟩
          ⟨(y 0).val % 8 * 128 + (y 1).val % 128, by omega⟩) := by
  have h1 : (y 1).val < 128 := (y 1).isLt
  refine shapeCast_apply x _ _ _ ?_
  rw [Shape.rowMajor_val_two, Shape.rowMajor_val_three]
  show ((y 0).val / 4096 * 512 + (y 0).val % 4096 / 8) * 1024 + ((y 0).val % 8 * 128 + (y 1).val % 128) = (y 0).val * 128 + (y 1).val
  omega

/-- The reference's result is the kernel's. -/
theorem same (m : (ℓ : Loc Cert.Kernel3Ideal.nD Cert.Kernel3Ideal.τ Cert.Kernel3Ideal.sig) → Buf (Elt Ideal) ℓ)
    (P : Cert.Kernel3Ideal.Hand.Plan (Cert.Kernel3Ideal.Hand.tab m)) (c : Dev Cert.Kernel3Ideal.nD) :
    shapeCast S1179648x128 (outR (Cert.Kernel3Ideal.Hand.tab m) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)))
      shapeCasts_S288x512x1024_S1179648x128 = Cert.Kernel3Ideal.Hand.res m c :=
  funext fun (y : S1179648x128.Idx) => (flat_apply _ y).trans (outR_apply _ _ _ _ _ _ _ (P.e _) _ _)

end Cert.Reference3Ideal.Block

end
-- ==== Proof.ExpSame.lean ====
/- The experts' kernel at the machine's words: the same text as the ideal one, hence the same run. -/
module

public import proofs.«01_k».proof.Proof.ExpFrame
public import proofs.«01_k».proof.Proof.Gen.Kernel3

@[expose] public section

set_option maxRecDepth 16384
set_option maxHeartbeats 2000000

noncomputable section

namespace Cert.Kernel3Ideal.Hand

open Idealize.ShloMosaic Idealize.ShloMosaic.TcCoe Idealize.SL.Sem

open Idealize.ShloMosaic.Pipeline

section
variable {F : FTy → Type} [FloatOps F]
theorem part1_same : Cert.Kernel3.k0_part1 (F := F) = Cert.Kernel3Ideal.k0_part1 (F := F) := rfl
theorem part2_same : Cert.Kernel3.k0_part2 (F := F) = Cert.Kernel3Ideal.k0_part2 (F := F) := rfl
theorem part3_same : Cert.Kernel3.k0_part3 (F := F) = Cert.Kernel3Ideal.k0_part3 (F := F) := rfl
theorem part4_same : Cert.Kernel3.k0_part4 (F := F) = Cert.Kernel3Ideal.k0_part4 (F := F) := rfl
theorem part5_same : Cert.Kernel3.k0_part5 (F := F) = Cert.Kernel3Ideal.k0_part5 (F := F) := rfl
theorem body_same : Cert.Kernel3.cc0__expert_kernel (F := F) = Cert.Kernel3Ideal.cc0__expert_kernel (F := F) := by
  unfold Cert.Kernel3.cc0__expert_kernel Cert.Kernel3Ideal.cc0__expert_kernel
  rw [part1_same, part2_same, part3_same, part4_same, part5_same]
  rfl
theorem defs0_same : Cert.Kernel3.defs₀ (F := F) = Cert.Kernel3Ideal.defs₀ (F := F) := by
  unfold Cert.Kernel3.defs₀ Cert.Kernel3Ideal.defs₀
  rw [body_same]
  refine congrArg Defs.onTc (funext fun x => funext fun a => ?_)
  match x, a with
  | 0, (t, s) => rfl
theorem defs_same : Cert.Kernel3.defs (F := F) = Cert.Kernel3Ideal.defs (F := F) := by
  unfold Cert.Kernel3.defs Cert.Kernel3Ideal.defs
  rw [defs0_same]
  rfl
theorem main_same : Cert.Kernel3.main (F := F) = Cert.Kernel3Ideal.main (F := F) := rfl
theorem run_eq : θ_run (Cert.Kernel3.defs (F := F)) (onTc (τ := Cert.Kernel3.τ) (Cert.Kernel3.main (F := F)))
    = θ_run (Cert.Kernel3Ideal.defs (F := F)) (onTc (τ := Cert.Kernel3Ideal.τ) (Cert.Kernel3Ideal.main (F := F))) :=
  congr (congrArg (fun d p => θ_run d p) defs_same) (congrArg onTc main_same)
/-- A run of the one program is a run of the other. -/
theorem run_same (s) (Q) (h : θ_run (Cert.Kernel3Ideal.defs (F := F)) (onTc (τ := Cert.Kernel3Ideal.τ) (Cert.Kernel3Ideal.main (F := F))) s Q) :
    θ_run (Cert.Kernel3.defs (F := F)) (onTc (τ := Cert.Kernel3.τ) (Cert.Kernel3.main (F := F))) s Q :=
  (DFunLike.congr_fun (congrFun run_eq s) Q).mpr h
end

end Cert.Kernel3Ideal.Hand

end
-- ==== Proof.lean ====
/- The certificate: the frames of the kernel and of the ideal programs, the ideal kernel's four constants, and the
   equality of the ideal kernel and the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal
public import proofs.«01_k».proof.Proof.Gen.Pre_planned
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.RefRun
public import proofs.«01_k».proof.Proof.Finite
public import proofs.«01_k».proof.Proof.Compare
public import proofs.«01_k».proof.Proof.Proj
public import proofs.«01_k».proof.Proof.OutProj
public import proofs.«01_k».proof.Proof.SwaProj
public import proofs.«01_k».proof.Proof.SwaOut
public import proofs.«01_k».proof.Proof.ExpPlan
public import proofs.«01_k».proof.Proof.ExpVal
public import proofs.«01_k».proof.Proof.ExpRef
public import proofs.«01_k».proof.Proof.ExpSame
public import Idealize.ShloMosaic.Adequacy
public import Idealize.ShloMosaic.Init

@[expose] public section

noncomputable section

namespace Cert.Proof

open Idealize.ShloMosaic Idealize.SL.Sem Cert.Kernel

/-- The reference's frame: its run keeps the argument, and it declares no semaphore. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.LoopRun.run m ρ)

/-- The four constants of the ideal kernel. -/
theorem constants : Cert.preserves_Kernel_KernelIdeal := by
  unfold Cert.preserves_Kernel_KernelIdeal
  exact ⟨IdealRules.named_const.statement Cert.KernelIdeal.κ "decay0" .f32 _ _ rfl,
    IdealRules.named_const.statement Cert.KernelIdeal.κ "decay1" .f32 _ _ rfl,
    IdealRules.named_const.statement Cert.KernelIdeal.κ "decay2" .f32 _ _ rfl,
    IdealRules.named_const.statement Cert.KernelIdeal.κ "decay3" .f32 _ _ rfl⟩

/-- The ideal kernel and the reference end with the same array. -/
theorem equal : Cert.algebraic_KernelIdeal_ReferenceIdeal_pre_finite (hKernelIdeal := Cert.KernelIdeal.Gen.facts)
    (hReferenceIdeal := Cert.ReferenceIdeal.Gen.facts) (hPre_finite := Cert.Pre_finite.facts) := fun m ρ m' ρ' hp hm =>
  ⟨fun c => Cert.KernelIdeal.Value.G7 m c, Cert.KernelIdeal.Value.run m ρ,
    (θ_run _ _ _).mono (fun r h c => ⟨(h c).1.trans (by
      rw [hm c]
      exact (Cert.Retention.same m c (@Cert.Pre_finite.entry Cert.Pre_finite.facts _ (hp c))).symm), (h c).2⟩) (Cert.ReferenceIdeal.LoopRun.run m' ρ')⟩

/-- The frames of the projection's and of the output product's references. -/
theorem frame_reference2 : Cert.quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run m ρ)
theorem frame_reference4 : Cert.quiescent_Reference4Ideal (hReference4Ideal := Cert.Reference4Ideal.Gen.facts) := fun m ρ _ =>
  (θ_run _ _ _).mono (fun r h => ⟨fun c => (h c).2, sem_eq_zero_of_no_sems (by decide) r.2⟩) (Cert.Reference4Ideal.Value.run m ρ)

/-- The projection: the ideal kernel and the reference end with the same array. -/
theorem equal2 : Cert.algebraic_Kernel2Ideal_Reference2Ideal (hKernel2Ideal := Cert.Kernel2Ideal.Gen.facts)
    (hReference2Ideal := Cert.Reference2Ideal.Gen.facts) := fun m ρ m' ρ' _ hm =>
  ⟨fun c => (Cert.Kernel2Ideal.Gen.dats m 0 c).arrAt 3 Cert.Kernel2Ideal.cfg0.N, Cert.Kernel2Ideal.Value.run_blocks m ρ,
    (θ_run _ _ _).mono (fun r h c => ⟨(h c).1.trans (by
      rw [(hm c).1, (hm c).2]
      exact (Cert.Reference2Ideal.Block.same m c).symm), (h c).2⟩) (Cert.Reference2Ideal.Value.run m' ρ')⟩

/-- The output product and its layer norm: the ideal kernel and the reference end with the same array. -/
theorem equal4 : Cert.algebraic_Kernel4Ideal_Reference4Ideal (hKernel4Ideal := Cert.Kernel4Ideal.Gen.facts)
    (hReference4Ideal := Cert.Reference4Ideal.Gen.facts) := fun m ρ m' ρ' _ hm =>
  ⟨fun c => (Cert.Kernel4Ideal.Gen.dats m 0 c).arrAt 6 Cert.Kernel4Ideal.cfg0.N, Cert.Kernel4Ideal.Value.run_blocks m ρ,
    (θ_run _ _ _).mono (fun r h c => ⟨(h c).1.trans (by
      unfold Cert.Reference4Ideal.Value.res_main_v32
      rw [(hm c).1, (hm c).2.1, (hm c).2.2.1, (hm c).2.2.2.1, (hm c).2.2.2.2]
      exact (Cert.Reference4Ideal.Block.same m c).symm), (h c).2⟩) (Cert.Reference4Ideal.Value.run m' ρ')⟩

/-- The frames of the attention's projection's and output product's references. -/
theorem frame_reference5 : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run m ρ)
theorem frame_reference6 : Cert.quiescent_Reference6Ideal (hReference6Ideal := Cert.Reference6Ideal.Gen.facts) := fun m ρ _ =>
  (θ_run _ _ _).mono (fun r h => ⟨fun c => (h c).2, sem_eq_zero_of_no_sems (by decide) r.2⟩) (Cert.Reference6Ideal.Value.run m ρ)

/-- The attention's projection: the ideal kernel and the reference end with the same array. -/
theorem equal5 : Cert.algebraic_Kernel5Ideal_Reference5Ideal (hKernel5Ideal := Cert.Kernel5Ideal.Gen.facts)
    (hReference5Ideal := Cert.Reference5Ideal.Gen.facts) := fun m ρ m' ρ' _ hm =>
  ⟨fun c => (Cert.Kernel5Ideal.Gen.dats m 0 c).arrAt 3 Cert.Kernel5Ideal.cfg0.N, Cert.Kernel5Ideal.Value.run_blocks m ρ,
    (θ_run _ _ _).mono (fun r h c => ⟨(h c).1.trans (by
      rw [(hm c).1, (hm c).2.1, (hm c).2.2]
      exact (Cert.Reference5Ideal.Block.same m c).symm), (h c).2⟩) (Cert.Reference5Ideal.Value.run m' ρ')⟩

/-- The attention's output product and its layer norm: the ideal kernel and the reference end with the same array. -/
theorem equal6 : Cert.algebraic_Kernel6Ideal_Reference6Ideal (hKernel6Ideal := Cert.Kernel6Ideal.Gen.facts)
    (hReference6Ideal := Cert.Reference6Ideal.Gen.facts) := fun m ρ m' ρ' _ hm =>
  ⟨fun c => (Cert.Kernel6Ideal.Gen.dats m 0 c).arrAt 6 Cert.Kernel6Ideal.cfg0.N, Cert.Kernel6Ideal.Value.run_blocks m ρ,
    (θ_run _ _ _).mono (fun r h c => ⟨(h c).1.trans (by
      unfold Cert.Reference6Ideal.Value.res_main_v36
      rw [(hm c).1, (hm c).2.1, (hm c).2.2.1, (hm c).2.2.2.1, (hm c).2.2.2.2.1, (hm c).2.2.2.2.2]
      exact (Cert.Reference6Ideal.Block.same m c).symm), (h c).2⟩) (Cert.Reference6Ideal.Value.run m' ρ')⟩

/-! The experts: the table is a plan wherever the predicate holds of it, and the run is the same at either values. -/

section Experts
open Cert.Kernel3Ideal.Hand

theorem plan {F : FTy → Type} [FloatOps F] (m : (ℓ : Loc Cert.Kernel3Ideal.nD Cert.Kernel3Ideal.τ Cert.Kernel3Ideal.sig) → Buf (Elt F) ℓ)
    (h : @Cert.Pre_planned.fn Cert.Pre_planned.Gen.facts F _ (m ((0 : Dev Cert.Kernel3Ideal.nD).tc.loc Cert.Kernel3Ideal.main_arg0)) (m ((0 : Dev Cert.Kernel3Ideal.nD).tc.loc Cert.Kernel3Ideal.main_arg1))
      (m ((0 : Dev Cert.Kernel3Ideal.nD).tc.loc Cert.Kernel3Ideal.main_arg2)) (m ((0 : Dev Cert.Kernel3Ideal.nD).tc.loc Cert.Kernel3Ideal.main_arg3))
      (m ((0 : Dev Cert.Kernel3Ideal.nD).tc.loc Cert.Kernel3Ideal.main_arg4)) (m ((0 : Dev Cert.Kernel3Ideal.nD).tc.loc Cert.Kernel3Ideal.main_arg5)) = fun _ => 1#1) : Plan (tab m) := by
  rw [tab_eq m]
  exact @planned_plan F _ Cert.Pre_planned.Gen.facts _ _ _ _ _ _ h

theorem frame_kernel3ideal : Cert.quiescent_Kernel3Ideal (hKernel3Ideal := Cert.Kernel3Ideal.Gen.facts) (hPre_planned := Cert.Pre_planned.Gen.facts) := fun m ρ hp =>
  (θ_run Cert.Kernel3Ideal.defs _ _).mono (fun _ h => h.1) (run_main (F := Ideal) m ρ (plan m (hp 0)) (blocks_ok m (plan m (hp 0))))

theorem frame_kernel3 : Cert.quiescent_Kernel3 (hKernel3 := Cert.Kernel3.Gen.facts) (hPre_planned := Cert.Pre_planned.Gen.facts) := fun m ρ hp =>
  run_same _ _ ((θ_run Cert.Kernel3Ideal.defs _ _).mono (fun _ h => h.1) (run_main (F := Bits) m ρ (plan m (hp 0)) (blocks_ok m (plan m (hp 0)))))

theorem frame_reference3 : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run m ρ)

/-- The experts: the ideal kernel and the reference end with the same array. -/
theorem equal3 : Cert.algebraic_Kernel3Ideal_Reference3Ideal (hKernel3Ideal := Cert.Kernel3Ideal.Gen.facts)
    (hReference3Ideal := Cert.Reference3Ideal.Gen.facts) (hPre_planned := Cert.Pre_planned.Gen.facts) := fun m ρ m' ρ' hp hm =>
  have P : Plan (tab m) := plan m (hp 0)
  ⟨fun c => res m c,
    (θ_run Cert.Kernel3Ideal.defs _ _).mono (fun _ h c => ⟨(h.2 c).trans (final m (blocks_ok m P) P c), h.1.1 c⟩) (run_main (F := Ideal) m ρ P (blocks_ok m P)),
    (θ_run _ _ _).mono (fun r h c => ⟨(h c).1.trans (by
      obtain rfl : c = 0 := Subsingleton.elim _ _
      refine Eq.trans ?_ (Cert.Reference3Ideal.Block.same m P 0)
      refine congrArg (fun x => shapeCast Cert.Reference3Ideal.S1179648x128 x Cert.Reference3Ideal.Gen.shapeCasts_S288x512x1024_S1179648x128)
        ((Cert.Reference3Ideal.Block.res_eq _).trans ?_)
      have h0 := (hm 0).1
      have ht := tab_eq m
      have h1 := (hm 0).2
      refine (congr (congr (congr (congr (congr (congrArg Cert.Reference3Ideal.Block.outR (h0.trans ht.symm)) h1.1) h1.2.1) h1.2.2.1) h1.2.2.2.1) h1.2.2.2.2)), (h c).2⟩)
      (Cert.Reference3Ideal.Value.run m' ρ')⟩

end Experts

/-- Everything that is claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.facts, Cert.Pre_planned.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  frame_kernel3, frame_kernel3ideal, frame_reference3, fun m ρ _ => frame_reference3 m ρ trivial,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  constants, equal, trivial, equal2, trivial, equal3, trivial, equal4, trivial, equal5, trivial, equal6⟩

end Cert.Proof

end
